-- ==== Defs.lean ====
def Pre_Kernel [hPre_offsets_cover : Cert.Pre_offsets_cover.Facts] (m : (ℓ : Loc Cert.Kernel.nD Cert.Kernel.τ Cert.Kernel.sig) → Buf (Elt Bits) ℓ) : Prop :=
  ∀ c : Dev Cert.Kernel.nD,
    (Cert.Pre_offsets_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_offsets_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_offsets_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2 = (fun _ => 1#1)

def Pre_KernelIdeal [hPre_offsets_cover : Cert.Pre_offsets_cover.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_offsets_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_offsets_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_cover [hPre_offsets_cover : Cert.Pre_offsets_cover.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_offsets_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_offsets_cover.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Second [hPre_offsets_cover_2 : Cert.Pre_offsets_cover_2.Facts] (m : (ℓ : Loc Cert.Second.nD Cert.Second.τ Cert.Second.sig) → Buf (Elt Bits) ℓ) : Prop :=
  ∀ c : Dev Cert.Second.nD,
    (Cert.Pre_offsets_cover_2.fn (F := Bits) (m ((c.tc : Thread Cert.Second.nD Cert.Second.τ).loc Cert.Second.main_arg0)) (m ((c.tc : Thread Cert.Second.nD Cert.Second.τ).loc Cert.Second.main_arg1)) (m ((c.tc : Thread Cert.Second.nD Cert.Second.τ).loc Cert.Second.main_arg2)) (m ((c.tc : Thread Cert.Second.nD Cert.Second.τ).loc Cert.Second.main_arg3)) (m ((c.tc : Thread Cert.Second.nD Cert.Second.τ).loc Cert.Second.main_arg4)) (m ((c.tc : Thread Cert.Second.nD Cert.Second.τ).loc Cert.Second.main_arg5)) (m ((c.tc : Thread Cert.Second.nD Cert.Second.τ).loc Cert.Second.main_arg6)) (m ((c.tc : Thread Cert.Second.nD Cert.Second.τ).loc Cert.Second.main_arg7)) (m ((c.tc : Thread Cert.Second.nD Cert.Second.τ).loc Cert.Second.main_arg8))).1 = (fun _ => 1#1)
    ∧ (Cert.Pre_offsets_cover_2.fn (F := Bits) (m ((c.tc : Thread Cert.Second.nD Cert.Second.τ).loc Cert.Second.main_arg0)) (m ((c.tc : Thread Cert.Second.nD Cert.Second.τ).loc Cert.Second.main_arg1)) (m ((c.tc : Thread Cert.Second.nD Cert.Second.τ).loc Cert.Second.main_arg2)) (m ((c.tc : Thread Cert.Second.nD Cert.Second.τ).loc Cert.Second.main_arg3)) (m ((c.tc : Thread Cert.Second.nD Cert.Second.τ).loc Cert.Second.main_arg4)) (m ((c.tc : Thread Cert.Second.nD Cert.Second.τ).loc Cert.Second.main_arg5)) (m ((c.tc : Thread Cert.Second.nD Cert.Second.τ).loc Cert.Second.main_arg6)) (m ((c.tc : Thread Cert.Second.nD Cert.Second.τ).loc Cert.Second.main_arg7)) (m ((c.tc : Thread Cert.Second.nD Cert.Second.τ).loc Cert.Second.main_arg8))).2.1 = (fun _ => 1#1)
    ∧ (Cert.Pre_offsets_cover_2.fn (F := Bits) (m ((c.tc : Thread Cert.Second.nD Cert.Second.τ).loc Cert.Second.main_arg0)) (m ((c.tc : Thread Cert.Second.nD Cert.Second.τ).loc Cert.Second.main_arg1)) (m ((c.tc : Thread Cert.Second.nD Cert.Second.τ).loc Cert.Second.main_arg2)) (m ((c.tc : Thread Cert.Second.nD Cert.Second.τ).loc Cert.Second.main_arg3)) (m ((c.tc : Thread Cert.Second.nD Cert.Second.τ).loc Cert.Second.main_arg4)) (m ((c.tc : Thread Cert.Second.nD Cert.Second.τ).loc Cert.Second.main_arg5)) (m ((c.tc : Thread Cert.Second.nD Cert.Second.τ).loc Cert.Second.main_arg6)) (m ((c.tc : Thread Cert.Second.nD Cert.Second.τ).loc Cert.Second.main_arg7)) (m ((c.tc : Thread Cert.Second.nD Cert.Second.τ).loc Cert.Second.main_arg8))).2.2 = (fun _ => 1#1)

def Pre_SecondIdeal [hPre_offsets_cover_2 : Cert.Pre_offsets_cover_2.Facts] (m : (ℓ : Loc Cert.SecondIdeal.nD Cert.SecondIdeal.τ Cert.SecondIdeal.sig) → Buf (Elt Ideal) ℓ) : Prop :=
  ∀ c : Dev Cert.SecondIdeal.nD,
    (Cert.Pre_offsets_cover_2.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).1 = (fun _ => 1#1)
    ∧ (Cert.Pre_offsets_cover_2.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.1 = (fun _ => 1#1)
    ∧ (Cert.Pre_offsets_cover_2.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7)) (m ((c.tc : Thread Cert.SecondIdeal.nD Cert.SecondIdeal.τ).loc Cert.SecondIdeal.main_arg8))).2.2 = (fun _ => 1#1)

def Pre_SecondRefIdeal (m : (ℓ : Loc Cert.SecondRefIdeal.nD Cert.SecondRefIdeal.τ Cert.SecondRefIdeal.sig) → Buf (Elt Ideal) ℓ) : Prop :=
  True

def Pre_SecondRefIdeal_offsets_cover_2 [hPre_offsets_cover_2 : Cert.Pre_offsets_cover_2.Facts] (m : (ℓ : Loc Cert.SecondRefIdeal.nD Cert.SecondRefIdeal.τ Cert.SecondRefIdeal.sig) → Buf (Elt Ideal) ℓ) : Prop :=
  ∀ c : Dev Cert.SecondRefIdeal.nD,
    (Cert.Pre_offsets_cover_2.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).1 = (fun _ => 1#1)
    ∧ (Cert.Pre_offsets_cover_2.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.1 = (fun _ => 1#1)
    ∧ (Cert.Pre_offsets_cover_2.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6)) (m ((c.tc : Thread Cert.SecondRefIdeal.nD Cert.SecondRefIdeal.τ).loc Cert.SecondRefIdeal.main_arg7)) (m ((c.tc : Thread Cert.SecondRefIdeal.nD Cert.SecondRefIdeal.τ).loc Cert.SecondRefIdeal.main_arg8))).2.2 = (fun _ => 1#1)

def Pre_Third [hPre_offsets_cover_3 : Cert.Pre_offsets_cover_3.Facts] (m : (ℓ : Loc Cert.Third.nD Cert.Third.τ Cert.Third.sig) → Buf (Elt Bits) ℓ) : Prop :=
  ∀ c : Dev Cert.Third.nD,
    (Cert.Pre_offsets_cover_3.fn (F := Bits) (m ((c.tc : Thread Cert.Third.nD Cert.Third.τ).loc Cert.Third.main_arg0)) (m ((c.tc : Thread Cert.Third.nD Cert.Third.τ).loc Cert.Third.main_arg1)) (m ((c.tc : Thread Cert.Third.nD Cert.Third.τ).loc Cert.Third.main_arg2)) (m ((c.tc : Thread Cert.Third.nD Cert.Third.τ).loc Cert.Third.main_arg3)) (m ((c.tc : Thread Cert.Third.nD Cert.Third.τ).loc Cert.Third.main_arg4)) (m ((c.tc : Thread Cert.Third.nD Cert.Third.τ).loc Cert.Third.main_arg5)) (m ((c.tc : Thread Cert.Third.nD Cert.Third.τ).loc Cert.Third.main_arg6)) (m ((c.tc : Thread Cert.Third.nD Cert.Third.τ).loc Cert.Third.main_arg7)) (m ((c.tc : Thread Cert.Third.nD Cert.Third.τ).loc Cert.Third.main_arg8))).1 = (fun _ => 1#1)
    ∧ (Cert.Pre_offsets_cover_3.fn (F := Bits) (m ((c.tc : Thread Cert.Third.nD Cert.Third.τ).loc Cert.Third.main_arg0)) (m ((c.tc : Thread Cert.Third.nD Cert.Third.τ).loc Cert.Third.main_arg1)) (m ((c.tc : Thread Cert.Third.nD Cert.Third.τ).loc Cert.Third.main_arg2)) (m ((c.tc : Thread Cert.Third.nD Cert.Third.τ).loc Cert.Third.main_arg3)) (m ((c.tc : Thread Cert.Third.nD Cert.Third.τ).loc Cert.Third.main_arg4)) (m ((c.tc : Thread Cert.Third.nD Cert.Third.τ).loc Cert.Third.main_arg5)) (m ((c.tc : Thread Cert.Third.nD Cert.Third.τ).loc Cert.Third.main_arg6)) (m ((c.tc : Thread Cert.Third.nD Cert.Third.τ).loc Cert.Third.main_arg7)) (m ((c.tc : Thread Cert.Third.nD Cert.Third.τ).loc Cert.Third.main_arg8))).2.1 = (fun _ => 1#1)
    ∧ (Cert.Pre_offsets_cover_3.fn (F := Bits) (m ((c.tc : Thread Cert.Third.nD Cert.Third.τ).loc Cert.Third.main_arg0)) (m ((c.tc : Thread Cert.Third.nD Cert.Third.τ).loc Cert.Third.main_arg1)) (m ((c.tc : Thread Cert.Third.nD Cert.Third.τ).loc Cert.Third.main_arg2)) (m ((c.tc : Thread Cert.Third.nD Cert.Third.τ).loc Cert.Third.main_arg3)) (m ((c.tc : Thread Cert.Third.nD Cert.Third.τ).loc Cert.Third.main_arg4)) (m ((c.tc : Thread Cert.Third.nD Cert.Third.τ).loc Cert.Third.main_arg5)) (m ((c.tc : Thread Cert.Third.nD Cert.Third.τ).loc Cert.Third.main_arg6)) (m ((c.tc : Thread Cert.Third.nD Cert.Third.τ).loc Cert.Third.main_arg7)) (m ((c.tc : Thread Cert.Third.nD Cert.Third.τ).loc Cert.Third.main_arg8))).2.2 = (fun _ => 1#1)

def Pre_ThirdIdeal [hPre_offsets_cover_3 : Cert.Pre_offsets_cover_3.Facts] (m : (ℓ : Loc Cert.ThirdIdeal.nD Cert.ThirdIdeal.τ Cert.ThirdIdeal.sig) → Buf (Elt Ideal) ℓ) : Prop :=
  ∀ c : Dev Cert.ThirdIdeal.nD,
    (Cert.Pre_offsets_cover_3.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8))).1 = (fun _ => 1#1)
    ∧ (Cert.Pre_offsets_cover_3.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8))).2.1 = (fun _ => 1#1)
    ∧ (Cert.Pre_offsets_cover_3.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8))).2.2 = (fun _ => 1#1)

def Pre_ThirdRefIdeal (m : (ℓ : Loc Cert.ThirdRefIdeal.nD Cert.ThirdRefIdeal.τ Cert.ThirdRefIdeal.sig) → Buf (Elt Ideal) ℓ) : Prop :=
  True

def Pre_ThirdRefIdeal_offsets_cover_3 [hPre_offsets_cover_3 : Cert.Pre_offsets_cover_3.Facts] (m : (ℓ : Loc Cert.ThirdRefIdeal.nD Cert.ThirdRefIdeal.τ Cert.ThirdRefIdeal.sig) → Buf (Elt Ideal) ℓ) : Prop :=
  ∀ c : Dev Cert.ThirdRefIdeal.nD,
    (Cert.Pre_offsets_cover_3.fn (F := Ideal) (m ((c.tc : Thread Cert.ThirdRefIdeal.nD Cert.ThirdRefIdeal.τ).loc Cert.ThirdRefIdeal.main_arg0)) (m ((c.tc : Thread Cert.ThirdRefIdeal.nD Cert.ThirdRefIdeal.τ).loc Cert.ThirdRefIdeal.main_arg1)) (m ((c.tc : Thread Cert.ThirdRefIdeal.nD Cert.ThirdRefIdeal.τ).loc Cert.ThirdRefIdeal.main_arg2)) (m ((c.tc : Thread Cert.ThirdRefIdeal.nD Cert.ThirdRefIdeal.τ).loc Cert.ThirdRefIdeal.main_arg3)) (m ((c.tc : Thread Cert.ThirdRefIdeal.nD Cert.ThirdRefIdeal.τ).loc Cert.ThirdRefIdeal.main_arg4)) (m ((c.tc : Thread Cert.ThirdRefIdeal.nD Cert.ThirdRefIdeal.τ).loc Cert.ThirdRefIdeal.main_arg5)) (m ((c.tc : Thread Cert.ThirdRefIdeal.nD Cert.ThirdRefIdeal.τ).loc Cert.ThirdRefIdeal.main_arg6)) (m ((c.tc : Thread Cert.ThirdRefIdeal.nD Cert.ThirdRefIdeal.τ).loc Cert.ThirdRefIdeal.main_arg7)) (m ((c.tc : Thread Cert.ThirdRefIdeal.nD Cert.ThirdRefIdeal.τ).loc Cert.ThirdRefIdeal.main_arg8))).1 = (fun _ => 1#1)
    ∧ (Cert.Pre_offsets_cover_3.fn (F := Ideal) (m ((c.tc : Thread Cert.ThirdRefIdeal.nD Cert.ThirdRefIdeal.τ).loc Cert.ThirdRefIdeal.main_arg0)) (m ((c.tc : Thread Cert.ThirdRefIdeal.nD Cert.ThirdRefIdeal.τ).loc Cert.ThirdRefIdeal.main_arg1)) (m ((c.tc : Thread Cert.ThirdRefIdeal.nD Cert.ThirdRefIdeal.τ).loc Cert.ThirdRefIdeal.main_arg2)) (m ((c.tc : Thread Cert.ThirdRefIdeal.nD Cert.ThirdRefIdeal.τ).loc Cert.ThirdRefIdeal.main_arg3)) (m ((c.tc : Thread Cert.ThirdRefIdeal.nD Cert.ThirdRefIdeal.τ).loc Cert.ThirdRefIdeal.main_arg4)) (m ((c.tc : Thread Cert.ThirdRefIdeal.nD Cert.ThirdRefIdeal.τ).loc Cert.ThirdRefIdeal.main_arg5)) (m ((c.tc : Thread Cert.ThirdRefIdeal.nD Cert.ThirdRefIdeal.τ).loc Cert.ThirdRefIdeal.main_arg6)) (m ((c.tc : Thread Cert.ThirdRefIdeal.nD Cert.ThirdRefIdeal.τ).loc Cert.ThirdRefIdeal.main_arg7)) (m ((c.tc : Thread Cert.ThirdRefIdeal.nD Cert.ThirdRefIdeal.τ).loc Cert.ThirdRefIdeal.main_arg8))).2.1 = (fun _ => 1#1)
    ∧ (Cert.Pre_offsets_cover_3.fn (F := Ideal) (m ((c.tc : Thread Cert.ThirdRefIdeal.nD Cert.ThirdRefIdeal.τ).loc Cert.ThirdRefIdeal.main_arg0)) (m ((c.tc : Thread Cert.ThirdRefIdeal.nD Cert.ThirdRefIdeal.τ).loc Cert.ThirdRefIdeal.main_arg1)) (m ((c.tc : Thread Cert.ThirdRefIdeal.nD Cert.ThirdRefIdeal.τ).loc Cert.ThirdRefIdeal.main_arg2)) (m ((c.tc : Thread Cert.ThirdRefIdeal.nD Cert.ThirdRefIdeal.τ).loc Cert.ThirdRefIdeal.main_arg3)) (m ((c.tc : Thread Cert.ThirdRefIdeal.nD Cert.ThirdRefIdeal.τ).loc Cert.ThirdRefIdeal.main_arg4)) (m ((c.tc : Thread Cert.ThirdRefIdeal.nD Cert.ThirdRefIdeal.τ).loc Cert.ThirdRefIdeal.main_arg5)) (m ((c.tc : Thread Cert.ThirdRefIdeal.nD Cert.ThirdRefIdeal.τ).loc Cert.ThirdRefIdeal.main_arg6)) (m ((c.tc : Thread Cert.ThirdRefIdeal.nD Cert.ThirdRefIdeal.τ).loc Cert.ThirdRefIdeal.main_arg7)) (m ((c.tc : Thread Cert.ThirdRefIdeal.nD Cert.ThirdRefIdeal.τ).loc Cert.ThirdRefIdeal.main_arg8))).2.2 = (fun _ => 1#1)

def Pre_Quant [hPre_row_maxima_normal : Cert.Pre_row_maxima_normal.Facts] (m : (ℓ : Loc Cert.Quant.nD Cert.Quant.τ Cert.Quant.sig) → Buf (Elt Bits) ℓ) : Prop :=
  ∀ c : Dev Cert.Quant.nD,
    (Cert.Pre_row_maxima_normal.fn (F := Bits) (m ((c.tc : Thread Cert.Quant.nD Cert.Quant.τ).loc Cert.Quant.main_arg0))) = (fun _ => 1#1)

def Pre_QuantRef [hPre_row_maxima_normal : Cert.Pre_row_maxima_normal.Facts] (m : (ℓ : Loc Cert.QuantRef.nD Cert.QuantRef.τ Cert.QuantRef.sig) → Buf (Elt Bits) ℓ) : Prop :=
  ∀ c : Dev Cert.QuantRef.nD,
    (Cert.Pre_row_maxima_normal.fn (F := Bits) (m ((c.tc : Thread Cert.QuantRef.nD Cert.QuantRef.τ).loc Cert.QuantRef.main_arg0))) = (fun _ => 1#1)

def Pre_Quant2 [hPre_row_maxima_normal_2 : Cert.Pre_row_maxima_normal_2.Facts] (m : (ℓ : Loc Cert.Quant2.nD Cert.Quant2.τ Cert.Quant2.sig) → Buf (Elt Bits) ℓ) : Prop :=
  ∀ c : Dev Cert.Quant2.nD,
    (Cert.Pre_row_maxima_normal_2.fn (F := Bits) (m ((c.tc : Thread Cert.Quant2.nD Cert.Quant2.τ).loc Cert.Quant2.main_arg0))) = (fun _ => 1#1)

def Pre_QuantRef2 [hPre_row_maxima_normal_2 : Cert.Pre_row_maxima_normal_2.Facts] (m : (ℓ : Loc Cert.QuantRef2.nD Cert.QuantRef2.τ Cert.QuantRef2.sig) → Buf (Elt Bits) ℓ) : Prop :=
  ∀ c : Dev Cert.QuantRef2.nD,
    (Cert.Pre_row_maxima_normal_2.fn (F := Bits) (m ((c.tc : Thread Cert.QuantRef2.nD Cert.QuantRef2.τ).loc Cert.QuantRef2.main_arg0))) = (fun _ => 1#1)

def quiescent_Kernel [hKernel : Cert.Kernel.Facts] [hPre_offsets_cover : Cert.Pre_offsets_cover.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_offsets_cover : Cert.Pre_offsets_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_offsets_cover [hReferenceIdeal : Cert.ReferenceIdeal.Facts] [hPre_offsets_cover : Cert.Pre_offsets_cover.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_cover m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Second [hSecond : Cert.Second.Facts] [hPre_offsets_cover_2 : Cert.Pre_offsets_cover_2.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8))
      ∧ r.2.sem = fun _ => 0)

def quiescent_SecondIdeal [hSecondIdeal : Cert.SecondIdeal.Facts] [hPre_offsets_cover_2 : Cert.Pre_offsets_cover_2.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6)
      ∧ r.2.mem ((c.tc : Thread Cert.SecondRefIdeal.nD Cert.SecondRefIdeal.τ).loc Cert.SecondRefIdeal.main_arg7) = m ((c.tc : Thread Cert.SecondRefIdeal.nD Cert.SecondRefIdeal.τ).loc Cert.SecondRefIdeal.main_arg7)
      ∧ r.2.mem ((c.tc : Thread Cert.SecondRefIdeal.nD Cert.SecondRefIdeal.τ).loc Cert.SecondRefIdeal.main_arg8) = m ((c.tc : Thread Cert.SecondRefIdeal.nD Cert.SecondRefIdeal.τ).loc Cert.SecondRefIdeal.main_arg8))
      ∧ r.2.sem = fun _ => 0)

def quiescent_SecondRefIdeal_pre_offsets_cover_2 [hSecondRefIdeal : Cert.SecondRefIdeal.Facts] [hPre_offsets_cover_2 : Cert.Pre_offsets_cover_2.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal_offsets_cover_2 m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6)
      ∧ r.2.mem ((c.tc : Thread Cert.SecondRefIdeal.nD Cert.SecondRefIdeal.τ).loc Cert.SecondRefIdeal.main_arg7) = m ((c.tc : Thread Cert.SecondRefIdeal.nD Cert.SecondRefIdeal.τ).loc Cert.SecondRefIdeal.main_arg7)
      ∧ r.2.mem ((c.tc : Thread Cert.SecondRefIdeal.nD Cert.SecondRefIdeal.τ).loc Cert.SecondRefIdeal.main_arg8) = m ((c.tc : Thread Cert.SecondRefIdeal.nD Cert.SecondRefIdeal.τ).loc Cert.SecondRefIdeal.main_arg8))
      ∧ r.2.sem = fun _ => 0)

def quiescent_Third [hThird : Cert.Third.Facts] [hPre_offsets_cover_3 : Cert.Pre_offsets_cover_3.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5)
      ∧ r.2.mem ((c.tc : Thread Cert.Third.nD Cert.Third.τ).loc Cert.Third.main_arg6) = m ((c.tc : Thread Cert.Third.nD Cert.Third.τ).loc Cert.Third.main_arg6)
      ∧ r.2.mem ((c.tc : Thread Cert.Third.nD Cert.Third.τ).loc Cert.Third.main_arg7) = m ((c.tc : Thread Cert.Third.nD Cert.Third.τ).loc Cert.Third.main_arg7)
      ∧ r.2.mem ((c.tc : Thread Cert.Third.nD Cert.Third.τ).loc Cert.Third.main_arg8) = m ((c.tc : Thread Cert.Third.nD Cert.Third.τ).loc Cert.Third.main_arg8))
      ∧ r.2.sem = fun _ => 0)

def quiescent_ThirdIdeal [hThirdIdeal : Cert.ThirdIdeal.Facts] [hPre_offsets_cover_3 : Cert.Pre_offsets_cover_3.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
      ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8))
      ∧ r.2.sem = fun _ => 0)

def quiescent_ThirdRefIdeal [hThirdRefIdeal : Cert.ThirdRefIdeal.Facts] : Prop :=
  ∀ (m : (ℓ : Loc Cert.ThirdRefIdeal.nD Cert.ThirdRefIdeal.τ Cert.ThirdRefIdeal.sig) → Buf (Elt Ideal) ℓ) (g : Dev Cert.ThirdRefIdeal.nD → PrngReg), Pre_ThirdRefIdeal m →
    θ_run (Cert.ThirdRefIdeal.defs (F := Ideal)) (onTc (τ := Cert.ThirdRefIdeal.τ) (Cert.ThirdRefIdeal.main (F := Ideal))) ⟨m, fun _ => 0, g⟩ (fun r => (∀ c : Dev Cert.ThirdRefIdeal.nD,
      r.2.mem ((c.tc : Thread Cert.ThirdRefIdeal.nD Cert.ThirdRefIdeal.τ).loc Cert.ThirdRefIdeal.main_arg0) = m ((c.tc : Thread Cert.ThirdRefIdeal.nD Cert.ThirdRefIdeal.τ).loc Cert.ThirdRefIdeal.main_arg0)
      ∧ r.2.mem ((c.tc : Thread Cert.ThirdRefIdeal.nD Cert.ThirdRefIdeal.τ).loc Cert.ThirdRefIdeal.main_arg1) = m ((c.tc : Thread Cert.ThirdRefIdeal.nD Cert.ThirdRefIdeal.τ).loc Cert.ThirdRefIdeal.main_arg1)
      ∧ r.2.mem ((c.tc : Thread Cert.ThirdRefIdeal.nD Cert.ThirdRefIdeal.τ).loc Cert.ThirdRefIdeal.main_arg2) = m ((c.tc : Thread Cert.ThirdRefIdeal.nD Cert.ThirdRefIdeal.τ).loc Cert.ThirdRefIdeal.main_arg2)
      ∧ r.2.mem ((c.tc : Thread Cert.ThirdRefIdeal.nD Cert.ThirdRefIdeal.τ).loc Cert.ThirdRefIdeal.main_arg3) = m ((c.tc : Thread Cert.ThirdRefIdeal.nD Cert.ThirdRefIdeal.τ).loc Cert.ThirdRefIdeal.main_arg3)
      ∧ r.2.mem ((c.tc : Thread Cert.ThirdRefIdeal.nD Cert.ThirdRefIdeal.τ).loc Cert.ThirdRefIdeal.main_arg4) = m ((c.tc : Thread Cert.ThirdRefIdeal.nD Cert.ThirdRefIdeal.τ).loc Cert.ThirdRefIdeal.main_arg4)
      ∧ r.2.mem ((c.tc : Thread Cert.ThirdRefIdeal.nD Cert.ThirdRefIdeal.τ).loc Cert.ThirdRefIdeal.main_arg5) = m ((c.tc : Thread Cert.ThirdRefIdeal.nD Cert.ThirdRefIdeal.τ).loc Cert.ThirdRefIdeal.main_arg5)
      ∧ r.2.mem ((c.tc : Thread Cert.ThirdRefIdeal.nD Cert.ThirdRefIdeal.τ).loc Cert.ThirdRefIdeal.main_arg6) = m ((c.tc : Thread Cert.ThirdRefIdeal.nD Cert.ThirdRefIdeal.τ).loc Cert.ThirdRefIdeal.main_arg6)
      ∧ r.2.mem ((c.tc : Thread Cert.ThirdRefIdeal.nD Cert.ThirdRefIdeal.τ).loc Cert.ThirdRefIdeal.main_arg7) = m ((c.tc : Thread Cert.ThirdRefIdeal.nD Cert.ThirdRefIdeal.τ).loc Cert.ThirdRefIdeal.main_arg7)
      ∧ r.2.mem ((c.tc : Thread Cert.ThirdRefIdeal.nD Cert.ThirdRefIdeal.τ).loc Cert.ThirdRefIdeal.main_arg8) = m ((c.tc : Thread Cert.ThirdRefIdeal.nD Cert.ThirdRefIdeal.τ).loc Cert.ThirdRefIdeal.main_arg8))
      ∧ r.2.sem = fun _ => 0)

def quiescent_ThirdRefIdeal_pre_offsets_cover_3 [hThirdRefIdeal : Cert.ThirdRefIdeal.Facts] [hPre_offsets_cover_3 : Cert.Pre_offsets_cover_3.Facts] : Prop :=
  ∀ (m : (ℓ : Loc Cert.ThirdRefIdeal.nD Cert.ThirdRefIdeal.τ Cert.ThirdRefIdeal.sig) → Buf (Elt Ideal) ℓ) (g : Dev Cert.ThirdRefIdeal.nD → PrngReg), Pre_ThirdRefIdeal_offsets_cover_3 m →
    θ_run (Cert.ThirdRefIdeal.defs (F := Ideal)) (onTc (τ := Cert.ThirdRefIdeal.τ) (Cert.ThirdRefIdeal.main (F := Ideal))) ⟨m, fun _ => 0, g⟩ (fun r => (∀ c : Dev Cert.ThirdRefIdeal.nD,
      r.2.mem ((c.tc : Thread Cert.ThirdRefIdeal.nD Cert.ThirdRefIdeal.τ).loc Cert.ThirdRefIdeal.main_arg0) = m ((c.tc : Thread Cert.ThirdRefIdeal.nD Cert.ThirdRefIdeal.τ).loc Cert.ThirdRefIdeal.main_arg0)
      ∧ r.2.mem ((c.tc : Thread Cert.ThirdRefIdeal.nD Cert.ThirdRefIdeal.τ).loc Cert.ThirdRefIdeal.main_arg1) = m ((c.tc : Thread Cert.ThirdRefIdeal.nD Cert.ThirdRefIdeal.τ).loc Cert.ThirdRefIdeal.main_arg1)
      ∧ r.2.mem ((c.tc : Thread Cert.ThirdRefIdeal.nD Cert.ThirdRefIdeal.τ).loc Cert.ThirdRefIdeal.main_arg2) = m ((c.tc : Thread Cert.ThirdRefIdeal.nD Cert.ThirdRefIdeal.τ).loc Cert.ThirdRefIdeal.main_arg2)
      ∧ r.2.mem ((c.tc : Thread Cert.ThirdRefIdeal.nD Cert.ThirdRefIdeal.τ).loc Cert.ThirdRefIdeal.main_arg3) = m ((c.tc : Thread Cert.ThirdRefIdeal.nD Cert.ThirdRefIdeal.τ).loc Cert.ThirdRefIdeal.main_arg3)
      ∧ r.2.mem ((c.tc : Thread Cert.ThirdRefIdeal.nD Cert.ThirdRefIdeal.τ).loc Cert.ThirdRefIdeal.main_arg4) = m ((c.tc : Thread Cert.ThirdRefIdeal.nD Cert.ThirdRefIdeal.τ).loc Cert.ThirdRefIdeal.main_arg4)
      ∧ r.2.mem ((c.tc : Thread Cert.ThirdRefIdeal.nD Cert.ThirdRefIdeal.τ).loc Cert.ThirdRefIdeal.main_arg5) = m ((c.tc : Thread Cert.ThirdRefIdeal.nD Cert.ThirdRefIdeal.τ).loc Cert.ThirdRefIdeal.main_arg5)
      ∧ r.2.mem ((c.tc : Thread Cert.ThirdRefIdeal.nD Cert.ThirdRefIdeal.τ).loc Cert.ThirdRefIdeal.main_arg6) = m ((c.tc : Thread Cert.ThirdRefIdeal.nD Cert.ThirdRefIdeal.τ).loc Cert.ThirdRefIdeal.main_arg6)
      ∧ r.2.mem ((c.tc : Thread Cert.ThirdRefIdeal.nD Cert.ThirdRefIdeal.τ).loc Cert.ThirdRefIdeal.main_arg7) = m ((c.tc : Thread Cert.ThirdRefIdeal.nD Cert.ThirdRefIdeal.τ).loc Cert.ThirdRefIdeal.main_arg7)
      ∧ r.2.mem ((c.tc : Thread Cert.ThirdRefIdeal.nD Cert.ThirdRefIdeal.τ).loc Cert.ThirdRefIdeal.main_arg8) = m ((c.tc : Thread Cert.ThirdRefIdeal.nD Cert.ThirdRefIdeal.τ).loc Cert.ThirdRefIdeal.main_arg8))
      ∧ r.2.sem = fun _ => 0)

def quiescent_Quant [hQuant : Cert.Quant.Facts] [hPre_row_maxima_normal : Cert.Pre_row_maxima_normal.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantRef [hQuantRef : Cert.QuantRef.Facts] [hPre_row_maxima_normal : Cert.Pre_row_maxima_normal.Facts] : Prop :=
  ∀ (m : (ℓ : Loc Cert.QuantRef.nD Cert.QuantRef.τ Cert.QuantRef.sig) → Buf (Elt Bits) ℓ) (g : Dev Cert.QuantRef.nD → PrngReg), Pre_QuantRef m →
    θ_run (Cert.QuantRef.defs (F := Bits)) (onTc (τ := Cert.QuantRef.τ) (Cert.QuantRef.main (F := Bits))) ⟨m, fun _ => 0, g⟩ (fun r => (∀ c : Dev Cert.QuantRef.nD,
      r.2.mem ((c.tc : Thread Cert.QuantRef.nD Cert.QuantRef.τ).loc Cert.QuantRef.main_arg0) = m ((c.tc : Thread Cert.QuantRef.nD Cert.QuantRef.τ).loc Cert.QuantRef.main_arg0))
      ∧ r.2.sem = fun _ => 0)

def quiescent_Quant2 [hQuant2 : Cert.Quant2.Facts] [hPre_row_maxima_normal_2 : Cert.Pre_row_maxima_normal_2.Facts] : Prop :=
  ∀ (m : (ℓ : Loc Cert.Quant2.nD Cert.Quant2.τ Cert.Quant2.sig) → Buf (Elt Bits) ℓ) (g : Dev Cert.Quant2.nD → PrngReg), Pre_Quant2 m →
    θ_run (Cert.Quant2.defs (F := Bits)) (onTc (τ := Cert.Quant2.τ) (Cert.Quant2.main (F := Bits))) ⟨m, fun _ => 0, g⟩ (fun r => (∀ c : Dev Cert.Quant2.nD,
      r.2.mem ((c.tc : Thread Cert.Quant2.nD Cert.Quant2.τ).loc Cert.Quant2.main_arg0) = m ((c.tc : Thread Cert.Quant2.nD Cert.Quant2.τ).loc Cert.Quant2.main_arg0))
      ∧ r.2.sem = fun _ => 0)

def quiescent_QuantRef2 [hQuantRef2 : Cert.QuantRef2.Facts] [hPre_row_maxima_normal_2 : Cert.Pre_row_maxima_normal_2.Facts] : Prop :=
  ∀ (m : (ℓ : Loc Cert.QuantRef2.nD Cert.QuantRef2.τ Cert.QuantRef2.sig) → Buf (Elt Bits) ℓ) (g : Dev Cert.QuantRef2.nD → PrngReg), Pre_QuantRef2 m →
    θ_run (Cert.QuantRef2.defs (F := Bits)) (onTc (τ := Cert.QuantRef2.τ) (Cert.QuantRef2.main (F := Bits))) ⟨m, fun _ => 0, g⟩ (fun r => (∀ c : Dev Cert.QuantRef2.nD,
      r.2.mem ((c.tc : Thread Cert.QuantRef2.nD Cert.QuantRef2.τ).loc Cert.QuantRef2.main_arg0) = m ((c.tc : Thread Cert.QuantRef2.nD Cert.QuantRef2.τ).loc Cert.QuantRef2.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_offsets_cover : Cert.Pre_offsets_cover.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Second_SecondIdeal : Prop :=
  True

def algebraic_SecondIdeal_SecondRefIdeal [hSecondIdeal : Cert.SecondIdeal.Facts] [hSecondRefIdeal : Cert.SecondRefIdeal.Facts] [hPre_offsets_cover_2 : Cert.Pre_offsets_cover_2.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)
      ∧ m' ((c.tc : Thread Cert.SecondRefIdeal.nD Cert.SecondRefIdeal.τ).loc Cert.SecondRefIdeal.main_arg4) = m ((c.tc : Thread Cert.SecondIdeal.nD Cert.SecondIdeal.τ).loc Cert.SecondIdeal.main_arg4)
      ∧ m' ((c.tc : Thread Cert.SecondRefIdeal.nD Cert.SecondRefIdeal.τ).loc Cert.SecondRefIdeal.main_arg5) = m ((c.tc : Thread Cert.SecondIdeal.nD Cert.SecondIdeal.τ).loc Cert.SecondIdeal.main_arg5)
      ∧ m' ((c.tc : Thread Cert.SecondRefIdeal.nD Cert.SecondRefIdeal.τ).loc Cert.SecondRefIdeal.main_arg6) = m ((c.tc : Thread Cert.SecondIdeal.nD Cert.SecondIdeal.τ).loc Cert.SecondIdeal.main_arg6)
      ∧ m' ((c.tc : Thread Cert.SecondRefIdeal.nD Cert.SecondRefIdeal.τ).loc Cert.SecondRefIdeal.main_arg7) = m ((c.tc : Thread Cert.SecondIdeal.nD Cert.SecondIdeal.τ).loc Cert.SecondIdeal.main_arg7)
      ∧ m' ((c.tc : Thread Cert.SecondRefIdeal.nD Cert.SecondRefIdeal.τ).loc Cert.SecondRefIdeal.main_arg8) = m ((c.tc : Thread Cert.SecondIdeal.nD Cert.SecondIdeal.τ).loc Cert.SecondIdeal.main_arg8)) →
    ∃ (v0 : (c : Dev Cert.SecondIdeal.nD) → Buf (Elt Ideal) ((c.tc : Thread Cert.SecondIdeal.nD Cert.SecondIdeal.τ).loc Cert.SecondIdeal.main_v47)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v47) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v8) = v0 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3)
          ∧ r.2.mem ((c.tc : Thread Cert.SecondRefIdeal.nD Cert.SecondRefIdeal.τ).loc Cert.SecondRefIdeal.main_arg4) = m' ((c.tc : Thread Cert.SecondRefIdeal.nD Cert.SecondRefIdeal.τ).loc Cert.SecondRefIdeal.main_arg4)
          ∧ r.2.mem ((c.tc : Thread Cert.SecondRefIdeal.nD Cert.SecondRefIdeal.τ).loc Cert.SecondRefIdeal.main_arg5) = m' ((c.tc : Thread Cert.SecondRefIdeal.nD Cert.SecondRefIdeal.τ).loc Cert.SecondRefIdeal.main_arg5)
          ∧ r.2.mem ((c.tc : Thread Cert.SecondRefIdeal.nD Cert.SecondRefIdeal.τ).loc Cert.SecondRefIdeal.main_arg6) = m' ((c.tc : Thread Cert.SecondRefIdeal.nD Cert.SecondRefIdeal.τ).loc Cert.SecondRefIdeal.main_arg6)
          ∧ r.2.mem ((c.tc : Thread Cert.SecondRefIdeal.nD Cert.SecondRefIdeal.τ).loc Cert.SecondRefIdeal.main_arg7) = m' ((c.tc : Thread Cert.SecondRefIdeal.nD Cert.SecondRefIdeal.τ).loc Cert.SecondRefIdeal.main_arg7)
          ∧ r.2.mem ((c.tc : Thread Cert.SecondRefIdeal.nD Cert.SecondRefIdeal.τ).loc Cert.SecondRefIdeal.main_arg8) = m' ((c.tc : Thread Cert.SecondRefIdeal.nD Cert.SecondRefIdeal.τ).loc Cert.SecondRefIdeal.main_arg8))

def preserves_Third_ThirdIdeal : Prop :=
  True

def algebraic_ThirdIdeal_ThirdRefIdeal [hThirdIdeal : Cert.ThirdIdeal.Facts] [hThirdRefIdeal : Cert.ThirdRefIdeal.Facts] [hPre_offsets_cover_3 : Cert.Pre_offsets_cover_3.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdRefIdeal.nD Cert.ThirdRefIdeal.τ Cert.ThirdRefIdeal.sig) → Buf (Elt Ideal) ℓ) (g' : Dev Cert.ThirdRefIdeal.nD → PrngReg), Pre_ThirdIdeal m →
    (∀ c : Dev Cert.ThirdIdeal.nD,
      m' ((c.tc : Thread Cert.ThirdRefIdeal.nD Cert.ThirdRefIdeal.τ).loc Cert.ThirdRefIdeal.main_arg0) = m ((c.tc : Thread Cert.ThirdIdeal.nD Cert.ThirdIdeal.τ).loc Cert.ThirdIdeal.main_arg0)
      ∧ m' ((c.tc : Thread Cert.ThirdRefIdeal.nD Cert.ThirdRefIdeal.τ).loc Cert.ThirdRefIdeal.main_arg1) = m ((c.tc : Thread Cert.ThirdIdeal.nD Cert.ThirdIdeal.τ).loc Cert.ThirdIdeal.main_arg1)
      ∧ m' ((c.tc : Thread Cert.ThirdRefIdeal.nD Cert.ThirdRefIdeal.τ).loc Cert.ThirdRefIdeal.main_arg2) = m ((c.tc : Thread Cert.ThirdIdeal.nD Cert.ThirdIdeal.τ).loc Cert.ThirdIdeal.main_arg2)
      ∧ m' ((c.tc : Thread Cert.ThirdRefIdeal.nD Cert.ThirdRefIdeal.τ).loc Cert.ThirdRefIdeal.main_arg3) = m ((c.tc : Thread Cert.ThirdIdeal.nD Cert.ThirdIdeal.τ).loc Cert.ThirdIdeal.main_arg3)
      ∧ m' ((c.tc : Thread Cert.ThirdRefIdeal.nD Cert.ThirdRefIdeal.τ).loc Cert.ThirdRefIdeal.main_arg4) = m ((c.tc : Thread Cert.ThirdIdeal.nD Cert.ThirdIdeal.τ).loc Cert.ThirdIdeal.main_arg4)
      ∧ m' ((c.tc : Thread Cert.ThirdRefIdeal.nD Cert.ThirdRefIdeal.τ).loc Cert.ThirdRefIdeal.main_arg5) = m ((c.tc : Thread Cert.ThirdIdeal.nD Cert.ThirdIdeal.τ).loc Cert.ThirdIdeal.main_arg5)
      ∧ m' ((c.tc : Thread Cert.ThirdRefIdeal.nD Cert.ThirdRefIdeal.τ).loc Cert.ThirdRefIdeal.main_arg6) = m ((c.tc : Thread Cert.ThirdIdeal.nD Cert.ThirdIdeal.τ).loc Cert.ThirdIdeal.main_arg6)
      ∧ m' ((c.tc : Thread Cert.ThirdRefIdeal.nD Cert.ThirdRefIdeal.τ).loc Cert.ThirdRefIdeal.main_arg7) = m ((c.tc : Thread Cert.ThirdIdeal.nD Cert.ThirdIdeal.τ).loc Cert.ThirdIdeal.main_arg7)
      ∧ m' ((c.tc : Thread Cert.ThirdRefIdeal.nD Cert.ThirdRefIdeal.τ).loc Cert.ThirdRefIdeal.main_arg8) = m ((c.tc : Thread Cert.ThirdIdeal.nD Cert.ThirdIdeal.τ).loc Cert.ThirdIdeal.main_arg8)) →
    ∃ (v0 : (c : Dev Cert.ThirdIdeal.nD) → Buf (Elt Ideal) ((c.tc : Thread Cert.ThirdIdeal.nD Cert.ThirdIdeal.τ).loc Cert.ThirdIdeal.main_v47)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v47) = v0 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
          ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
          ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8))
      ∧ θ_run (Cert.ThirdRefIdeal.defs (F := Ideal)) (onTc (τ := Cert.ThirdRefIdeal.τ) (Cert.ThirdRefIdeal.main (F := Ideal))) ⟨m', fun _ => 0, g'⟩ (fun r => ∀ c : Dev Cert.ThirdRefIdeal.nD,
          r.2.mem ((c.tc : Thread Cert.ThirdRefIdeal.nD Cert.ThirdRefIdeal.τ).loc Cert.ThirdRefIdeal.main_v8) = v0 c
          ∧ r.2.mem ((c.tc : Thread Cert.ThirdRefIdeal.nD Cert.ThirdRefIdeal.τ).loc Cert.ThirdRefIdeal.main_arg0) = m' ((c.tc : Thread Cert.ThirdRefIdeal.nD Cert.ThirdRefIdeal.τ).loc Cert.ThirdRefIdeal.main_arg0)
          ∧ r.2.mem ((c.tc : Thread Cert.ThirdRefIdeal.nD Cert.ThirdRefIdeal.τ).loc Cert.ThirdRefIdeal.main_arg1) = m' ((c.tc : Thread Cert.ThirdRefIdeal.nD Cert.ThirdRefIdeal.τ).loc Cert.ThirdRefIdeal.main_arg1)
          ∧ r.2.mem ((c.tc : Thread Cert.ThirdRefIdeal.nD Cert.ThirdRefIdeal.τ).loc Cert.ThirdRefIdeal.main_arg2) = m' ((c.tc : Thread Cert.ThirdRefIdeal.nD Cert.ThirdRefIdeal.τ).loc Cert.ThirdRefIdeal.main_arg2)
          ∧ r.2.mem ((c.tc : Thread Cert.ThirdRefIdeal.nD Cert.ThirdRefIdeal.τ).loc Cert.ThirdRefIdeal.main_arg3) = m' ((c.tc : Thread Cert.ThirdRefIdeal.nD Cert.ThirdRefIdeal.τ).loc Cert.ThirdRefIdeal.main_arg3)
          ∧ r.2.mem ((c.tc : Thread Cert.ThirdRefIdeal.nD Cert.ThirdRefIdeal.τ).loc Cert.ThirdRefIdeal.main_arg4) = m' ((c.tc : Thread Cert.ThirdRefIdeal.nD Cert.ThirdRefIdeal.τ).loc Cert.ThirdRefIdeal.main_arg4)
          ∧ r.2.mem ((c.tc : Thread Cert.ThirdRefIdeal.nD Cert.ThirdRefIdeal.τ).loc Cert.ThirdRefIdeal.main_arg5) = m' ((c.tc : Thread Cert.ThirdRefIdeal.nD Cert.ThirdRefIdeal.τ).loc Cert.ThirdRefIdeal.main_arg5)
          ∧ r.2.mem ((c.tc : Thread Cert.ThirdRefIdeal.nD Cert.ThirdRefIdeal.τ).loc Cert.ThirdRefIdeal.main_arg6) = m' ((c.tc : Thread Cert.ThirdRefIdeal.nD Cert.ThirdRefIdeal.τ).loc Cert.ThirdRefIdeal.main_arg6)
          ∧ r.2.mem ((c.tc : Thread Cert.ThirdRefIdeal.nD Cert.ThirdRefIdeal.τ).loc Cert.ThirdRefIdeal.main_arg7) = m' ((c.tc : Thread Cert.ThirdRefIdeal.nD Cert.ThirdRefIdeal.τ).loc Cert.ThirdRefIdeal.main_arg7)
          ∧ r.2.mem ((c.tc : Thread Cert.ThirdRefIdeal.nD Cert.ThirdRefIdeal.τ).loc Cert.ThirdRefIdeal.main_arg8) = m' ((c.tc : Thread Cert.ThirdRefIdeal.nD Cert.ThirdRefIdeal.τ).loc Cert.ThirdRefIdeal.main_arg8))

def bitexact_Quant_QuantRef [hQuant : Cert.Quant.Facts] [hQuantRef : Cert.QuantRef.Facts] [hPre_row_maxima_normal : Cert.Pre_row_maxima_normal.Facts] : Prop :=
  ∀ (m : (ℓ : Loc Cert.Quant.nD Cert.Quant.τ Cert.Quant.sig) → Buf (Elt Bits) ℓ) (g : Dev Cert.Quant.nD → PrngReg)
    (m' : (ℓ : Loc Cert.QuantRef.nD Cert.QuantRef.τ Cert.QuantRef.sig) → Buf (Elt Bits) ℓ) (g' : Dev Cert.QuantRef.nD → PrngReg), Pre_Quant m →
    (∀ c : Dev Cert.Quant.nD,
      m' ((c.tc : Thread Cert.QuantRef.nD Cert.QuantRef.τ).loc Cert.QuantRef.main_arg0) = m ((c.tc : Thread Cert.Quant.nD Cert.Quant.τ).loc Cert.Quant.main_arg0)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v0_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v0_1) = v1 c
          ∧ r.2.mem ((c.tc : Thread Cert.Quant.nD Cert.Quant.τ).loc Cert.Quant.main_arg0) = m ((c.tc : Thread Cert.Quant.nD Cert.Quant.τ).loc Cert.Quant.main_arg0))
      ∧ θ_run (Cert.QuantRef.defs (F := Bits)) (onTc (τ := Cert.QuantRef.τ) (Cert.QuantRef.main (F := Bits))) ⟨m', fun _ => 0, g'⟩ (fun r => ∀ c : Dev Cert.QuantRef.nD,
          r.2.mem ((c.tc : Thread Cert.QuantRef.nD Cert.QuantRef.τ).loc Cert.QuantRef.main_v0_0) = v0 c
          ∧ r.2.mem ((c.tc : Thread Cert.QuantRef.nD Cert.QuantRef.τ).loc Cert.QuantRef.main_v0_1) = v1 c
          ∧ r.2.mem ((c.tc : Thread Cert.QuantRef.nD Cert.QuantRef.τ).loc Cert.QuantRef.main_arg0) = m' ((c.tc : Thread Cert.QuantRef.nD Cert.QuantRef.τ).loc Cert.QuantRef.main_arg0))

def bitexact_Quant2_QuantRef2 [hQuant2 : Cert.Quant2.Facts] [hQuantRef2 : Cert.QuantRef2.Facts] [hPre_row_maxima_normal_2 : Cert.Pre_row_maxima_normal_2.Facts] : Prop :=
  ∀ (m : (ℓ : Loc Cert.Quant2.nD Cert.Quant2.τ Cert.Quant2.sig) → Buf (Elt Bits) ℓ) (g : Dev Cert.Quant2.nD → PrngReg)
    (m' : (ℓ : Loc Cert.QuantRef2.nD Cert.QuantRef2.τ Cert.QuantRef2.sig) → Buf (Elt Bits) ℓ) (g' : Dev Cert.QuantRef2.nD → PrngReg), Pre_Quant2 m →
    (∀ c : Dev Cert.Quant2.nD,
      m' ((c.tc : Thread Cert.QuantRef2.nD Cert.QuantRef2.τ).loc Cert.QuantRef2.main_arg0) = m ((c.tc : Thread Cert.Quant2.nD Cert.Quant2.τ).loc Cert.Quant2.main_arg0)) →
    ∃ (v0 : (c : Dev Cert.Quant2.nD) → Buf (Elt Bits) ((c.tc : Thread Cert.Quant2.nD Cert.Quant2.τ).loc Cert.Quant2.main_v0_0)) (v1 : (c : Dev Cert.Quant2.nD) → Buf (Elt Bits) ((c.tc : Thread Cert.Quant2.nD Cert.Quant2.τ).loc Cert.Quant2.main_v0_1)),
      θ_run (Cert.Quant2.defs (F := Bits)) (onTc (τ := Cert.Quant2.τ) (Cert.Quant2.main (F := Bits))) ⟨m, fun _ => 0, g⟩ (fun r => ∀ c : Dev Cert.Quant2.nD,
          r.2.mem ((c.tc : Thread Cert.Quant2.nD Cert.Quant2.τ).loc Cert.Quant2.main_v0_0) = v0 c
          ∧ r.2.mem ((c.tc : Thread Cert.Quant2.nD Cert.Quant2.τ).loc Cert.Quant2.main_v0_1) = v1 c
          ∧ r.2.mem ((c.tc : Thread Cert.Quant2.nD Cert.Quant2.τ).loc Cert.Quant2.main_arg0) = m ((c.tc : Thread Cert.Quant2.nD Cert.Quant2.τ).loc Cert.Quant2.main_arg0))
      ∧ θ_run (Cert.QuantRef2.defs (F := Bits)) (onTc (τ := Cert.QuantRef2.τ) (Cert.QuantRef2.main (F := Bits))) ⟨m', fun _ => 0, g'⟩ (fun r => ∀ c : Dev Cert.QuantRef2.nD,
          r.2.mem ((c.tc : Thread Cert.QuantRef2.nD Cert.QuantRef2.τ).loc Cert.QuantRef2.main_v0_0) = v0 c
          ∧ r.2.mem ((c.tc : Thread Cert.QuantRef2.nD Cert.QuantRef2.τ).loc Cert.QuantRef2.main_v0_1) = v1 c
          ∧ r.2.mem ((c.tc : Thread Cert.QuantRef2.nD Cert.QuantRef2.τ).loc Cert.QuantRef2.main_arg0) = m' ((c.tc : Thread Cert.QuantRef2.nD Cert.QuantRef2.τ).loc Cert.QuantRef2.main_arg0))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondRefIdeal : Cert.SecondRefIdeal.Facts) (hThird : Cert.Third.Facts) (hThirdIdeal : Cert.ThirdIdeal.Facts) (hThirdRefIdeal : Cert.ThirdRefIdeal.Facts) (hQuant : Cert.Quant.Facts) (hQuantRef : Cert.QuantRef.Facts) (hQuant2 : Cert.Quant2.Facts) (hQuantRef2 : Cert.QuantRef2.Facts) (hPre_offsets_cover : Cert.Pre_offsets_cover.Facts) (hPre_offsets_cover_2 : Cert.Pre_offsets_cover_2.Facts) (hPre_offsets_cover_3 : Cert.Pre_offsets_cover_3.Facts) (hPre_row_maxima_normal : Cert.Pre_row_maxima_normal.Facts) (hPre_row_maxima_normal_2 : Cert.Pre_row_maxima_normal_2.Facts),
    quiescent_Kernel (hKernel := hKernel) (hPre_offsets_cover := hPre_offsets_cover)
    ∧ quiescent_KernelIdeal (hKernelIdeal := hKernelIdeal) (hPre_offsets_cover := hPre_offsets_cover)
    ∧ quiescent_ReferenceIdeal (hReferenceIdeal := hReferenceIdeal)
    ∧ quiescent_ReferenceIdeal_pre_offsets_cover (hReferenceIdeal := hReferenceIdeal) (hPre_offsets_cover := hPre_offsets_cover)
    ∧ quiescent_Second (hSecond := hSecond) (hPre_offsets_cover_2 := hPre_offsets_cover_2)
    ∧ quiescent_SecondIdeal (hSecondIdeal := hSecondIdeal) (hPre_offsets_cover_2 := hPre_offsets_cover_2)
    ∧ quiescent_SecondRefIdeal (hSecondRefIdeal := hSecondRefIdeal)
    ∧ quiescent_SecondRefIdeal_pre_offsets_cover_2 (hSecondRefIdeal := hSecondRefIdeal) (hPre_offsets_cover_2 := hPre_offsets_cover_2)
    ∧ quiescent_Third (hThird := hThird) (hPre_offsets_cover_3 := hPre_offsets_cover_3)
    ∧ quiescent_ThirdIdeal (hThirdIdeal := hThirdIdeal) (hPre_offsets_cover_3 := hPre_offsets_cover_3)
    ∧ quiescent_ThirdRefIdeal (hThirdRefIdeal := hThirdRefIdeal)
    ∧ quiescent_ThirdRefIdeal_pre_offsets_cover_3 (hThirdRefIdeal := hThirdRefIdeal) (hPre_offsets_cover_3 := hPre_offsets_cover_3)
    ∧ quiescent_Quant (hQuant := hQuant) (hPre_row_maxima_normal := hPre_row_maxima_normal)
    ∧ quiescent_QuantRef (hQuantRef := hQuantRef) (hPre_row_maxima_normal := hPre_row_maxima_normal)
    ∧ quiescent_Quant2 (hQuant2 := hQuant2) (hPre_row_maxima_normal_2 := hPre_row_maxima_normal_2)
    ∧ quiescent_QuantRef2 (hQuantRef2 := hQuantRef2) (hPre_row_maxima_normal_2 := hPre_row_maxima_normal_2)
    ∧ preserves_Kernel_KernelIdeal
    ∧ algebraic_KernelIdeal_ReferenceIdeal (hKernelIdeal := hKernelIdeal) (hReferenceIdeal := hReferenceIdeal) (hPre_offsets_cover := hPre_offsets_cover)
    ∧ preserves_Second_SecondIdeal
    ∧ algebraic_SecondIdeal_SecondRefIdeal (hSecondIdeal := hSecondIdeal) (hSecondRefIdeal := hSecondRefIdeal) (hPre_offsets_cover_2 := hPre_offsets_cover_2)
    ∧ preserves_Third_ThirdIdeal
    ∧ algebraic_ThirdIdeal_ThirdRefIdeal (hThirdIdeal := hThirdIdeal) (hThirdRefIdeal := hThirdRefIdeal) (hPre_offsets_cover_3 := hPre_offsets_cover_3)
    ∧ bitexact_Quant_QuantRef (hQuant := hQuant) (hQuantRef := hQuantRef) (hPre_row_maxima_normal := hPre_row_maxima_normal)
    ∧ bitexact_Quant2_QuantRef2 (hQuant2 := hQuant2) (hQuantRef2 := hQuantRef2) (hPre_row_maxima_normal_2 := hPre_row_maxima_normal_2)
-- ==== Pre_offsets_cover.lean ====
abbrev S10 : Shape := ⟨1, ![10]⟩
abbrev S4096x7168 : Shape := ⟨2, ![4096, 7168]⟩
abbrev S4096x1 : Shape := ⟨2, ![4096, 1]⟩
abbrev S7168x1792 : Shape := ⟨2, ![7168, 1792]⟩
abbrev S1792 : Shape := ⟨1, ![1792]⟩
abbrev S9x7168x1792 : Shape := ⟨3, ![9, 7168, 1792]⟩
abbrev S9x1792 : Shape := ⟨2, ![9, 1792]⟩
abbrev S9 : Shape := ⟨1, ![9]⟩
abbrev S1 : Shape := ⟨1, ![1]⟩
abbrev S_ : Shape := ⟨0, ![]⟩

class Facts : Prop where
  slices_S10_S9_0 : S10.Slices ![0] S9
  slices_S10_S9_1 : S10.Slices ![1] S9
  slices_S10_S1_0 : S10.Slices ![0] S1
  shapeCasts_S1_S_ : S1.ShapeCasts S_
  slices_S10_S1_9 : S10.Slices ![9] S1

variable [Facts]

def fn {F : FTy → Type} [FloatOps F] (main_arg0 : IVec S10 32) (main_arg1 : FVec F S4096x7168 .fp8e4m3) (main_arg2 : FVec F S4096x1 .f32) (main_arg3 : FVec F S7168x1792 .fp8e4m3) (main_arg4 : FVec F S1792 .f32) (main_arg5 : FVec F S9x7168x1792 .fp8e4m3) (main_arg6 : FVec F S9x1792 .f32) (main_arg7 : FVec F S1792 .f32) (main_arg8 : FVec F S9x1792 .f32) : IVec S9 1 × IVec S_ 1 × IVec S_ 1 :=
  let main_v0 : IVec S9 32 := (extractStridedSlice S9 ![0] · slices_S10_S9_0) main_arg0
  let main_v1 : IVec S9 32 := (extractStridedSlice S9 ![1] · slices_S10_S9_1) main_arg0
  let main_v2 : IVec S9 1 := cmpi .sle main_v0 main_v1
  let main_v3 : IVec S1 32 := (extractStridedSlice S1 ![0] · slices_S10_S1_0) main_arg0
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![9] · slices_S10_S1_9) main_arg0
  let main_v7 : IVec S_ 32 := shapeCast S_ main_v6 shapeCasts_S1_S_
  let main_c_0 : IVec S_ 32 := constantI S_ 32 4096#32
  let main_v8 : IVec S_ 1 := cmpi .eq main_v7 main_c_0
  (main_v2, main_v5, main_v8)
-- ==== Pre_offsets_cover_2.lean ====
abbrev S10 : Shape := ⟨1, ![10]⟩
abbrev S4096x1792 : Shape := ⟨2, ![4096, 1792]⟩
abbrev S4096x1 : Shape := ⟨2, ![4096, 1]⟩
abbrev S1792x1152 : Shape := ⟨2, ![1792, 1152]⟩
abbrev S1152 : Shape := ⟨1, ![1152]⟩
abbrev S9x1792x1152 : Shape := ⟨3, ![9, 1792, 1152]⟩
abbrev S9x1152 : Shape := ⟨2, ![9, 1152]⟩
abbrev S9 : Shape := ⟨1, ![9]⟩
abbrev S1 : Shape := ⟨1, ![1]⟩
abbrev S_ : Shape := ⟨0, ![]⟩

class Facts : Prop where
  slices_S10_S9_0 : S10.Slices ![0] S9
  slices_S10_S9_1 : S10.Slices ![1] S9
  slices_S10_S1_0 : S10.Slices ![0] S1
  shapeCasts_S1_S_ : S1.ShapeCasts S_
  slices_S10_S1_9 : S10.Slices ![9] S1

variable [Facts]

def fn {F : FTy → Type} [FloatOps F] (main_arg0 : IVec S10 32) (main_arg1 : FVec F S4096x1792 .fp8e4m3) (main_arg2 : FVec F S4096x1 .f32) (main_arg3 : FVec F S1792x1152 .fp8e4m3) (main_arg4 : FVec F S1152 .f32) (main_arg5 : FVec F S9x1792x1152 .fp8e4m3) (main_arg6 : FVec F S9x1152 .f32) (main_arg7 : FVec F S1152 .f32) (main_arg8 : FVec F S9x1152 .f32) : IVec S9 1 × IVec S_ 1 × IVec S_ 1 :=
  let main_v0 : IVec S9 32 := (extractStridedSlice S9 ![0] · slices_S10_S9_0) main_arg0
  let main_v1 : IVec S9 32 := (extractStridedSlice S9 ![1] · slices_S10_S9_1) main_arg0
  let main_v2 : IVec S9 1 := cmpi .sle main_v0 main_v1
  let main_v3 : IVec S1 32 := (extractStridedSlice S1 ![0] · slices_S10_S1_0) main_arg0
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![9] · slices_S10_S1_9) main_arg0
  let main_v7 : IVec S_ 32 := shapeCast S_ main_v6 shapeCasts_S1_S_
  let main_c_0 : IVec S_ 32 := constantI S_ 32 4096#32
  let main_v8 : IVec S_ 1 := cmpi .eq main_v7 main_c_0
  (main_v2, main_v5, main_v8)
-- ==== Pre_offsets_cover_3.lean ====
abbrev S10 : Shape := ⟨1, ![10]⟩
abbrev S4096x1152 : Shape := ⟨2, ![4096, 1152]⟩
abbrev S4096x1 : Shape := ⟨2, ![4096, 1]⟩
abbrev S1152x320 : Shape := ⟨2, ![1152, 320]⟩
abbrev S320 : Shape := ⟨1, ![320]⟩
abbrev S9x1152x320 : Shape := ⟨3, ![9, 1152, 320]⟩
abbrev S9x320 : Shape := ⟨2, ![9, 320]⟩
abbrev S9 : Shape := ⟨1, ![9]⟩
abbrev S1 : Shape := ⟨1, ![1]⟩
abbrev S_ : Shape := ⟨0, ![]⟩

class Facts : Prop where
  slices_S10_S9_0 : S10.Slices ![0] S9
  slices_S10_S9_1 : S10.Slices ![1] S9
  slices_S10_S1_0 : S10.Slices ![0] S1
  shapeCasts_S1_S_ : S1.ShapeCasts S_
  slices_S10_S1_9 : S10.Slices ![9] S1

variable [Facts]

def fn {F : FTy → Type} [FloatOps F] (main_arg0 : IVec S10 32) (main_arg1 : FVec F S4096x1152 .fp8e4m3) (main_arg2 : FVec F S4096x1 .f32) (main_arg3 : FVec F S1152x320 .fp8e4m3) (main_arg4 : FVec F S320 .f32) (main_arg5 : FVec F S9x1152x320 .fp8e4m3) (main_arg6 : FVec F S9x320 .f32) (main_arg7 : FVec F S320 .f32) (main_arg8 : FVec F S9x320 .f32) : IVec S9 1 × IVec S_ 1 × IVec S_ 1 :=
  let main_v0 : IVec S9 32 := (extractStridedSlice S9 ![0] · slices_S10_S9_0) main_arg0
  let main_v1 : IVec S9 32 := (extractStridedSlice S9 ![1] · slices_S10_S9_1) main_arg0
  let main_v2 : IVec S9 1 := cmpi .sle main_v0 main_v1
  let main_v3 : IVec S1 32 := (extractStridedSlice S1 ![0] · slices_S10_S1_0) main_arg0
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![9] · slices_S10_S1_9) main_arg0
  let main_v7 : IVec S_ 32 := shapeCast S_ main_v6 shapeCasts_S1_S_
  let main_c_0 : IVec S_ 32 := constantI S_ 32 4096#32
  let main_v8 : IVec S_ 1 := cmpi .eq main_v7 main_c_0
  (main_v2, main_v5, main_v8)
-- ==== Pre_row_maxima_normal.lean ====
abbrev S4096x1792 : Shape := ⟨2, ![4096, 1792]⟩
abbrev S_ : Shape := ⟨0, ![]⟩
abbrev S4096 : Shape := ⟨1, ![4096]⟩

class Facts : Prop where
  reducesTo_S4096x1792_S4096_d1 : S4096x1792.ReducesTo [1] S4096
  h_S_ : 0 < S_.numel
  bcast_S_S4096 : S_.BroadcastsInDim S4096 (![] : Fin 0 → Fin S4096.rank)

variable [Facts]

def fn {F : FTy → Type} [BitOps F] (main_arg0 : FVec F S4096x1792 .f32) : IVec S4096 1 :=
  let main_v0 : FVec F S4096x1792 .f32 := Host.absf main_arg0
  let main_cst : FVec F S_ .f32 := constant S_ .f32 0xFF800000#32
  let main_v1 : FVec F S4096 .f32 := (fun x v => Host.reduce FloatOps.maximumf x v reducesTo_S4096x1792_S4096_d1 h_S_) main_v0 main_cst
  let main_cst_0 : FVec F S_ .f32 := constant S_ .f32 0x3B124925#32
  let main_v2 : FVec F S4096 .f32 := broadcastInDim S4096 ![] bcast_S_S4096 main_cst_0
  let main_v3 : FVec F S4096 .f32 := mulf main_v1 main_v2
  let main_v4 : IVec S4096 32 := bitcastToInt main_v3
  let main_c : IVec S_ 32 := constantI S_ 32 23#32
  let main_v5 : IVec S4096 32 := broadcastInDim S4096 ![] bcast_S_S4096 main_c
  let main_v6 : IVec S4096 32 := Host.shrui main_v4 main_v5
  let main_c_1 : IVec S_ 32 := constantI S_ 32 255#32
  let main_v7 : IVec S4096 32 := broadcastInDim S4096 ![] bcast_S_S4096 main_c_1
  let main_v8 : IVec S4096 32 := andi main_v6 main_v7
  let main_cst_2 : FVec F S_ .f32 := constant S_ .f32 0x00000000#32
  let main_v9 : FVec F S4096 .f32 := broadcastInDim S4096 ![] bcast_S_S4096 main_cst_2
  let main_v10 : IVec S4096 1 := cmpf .oeq main_v1 main_v9
  let main_c_3 : IVec S_ 32 := constantI S_ 32 1#32
  let main_v11 : IVec S4096 32 := broadcastInDim S4096 ![] bcast_S_S4096 main_c_3
  let main_v12 : IVec S4096 1 := cmpi .sge main_v8 main_v11
  let main_c_4 : IVec S_ 32 := constantI S_ 32 253#32
  let main_v13 : IVec S4096 32 := broadcastInDim S4096 ![] bcast_S_S4096 main_c_4
  let main_v14 : IVec S4096 1 := cmpi .sle main_v8 main_v13
  let main_v15 : IVec S4096 1 := andi main_v12 main_v14
  let main_v16 : IVec S4096 1 := ori main_v10 main_v15
  main_v16
-- ==== Pre_row_maxima_normal_2.lean ====
abbrev S4096x1152 : Shape := ⟨2, ![4096, 1152]⟩
abbrev S_ : Shape := ⟨0, ![]⟩
abbrev S4096 : Shape := ⟨1, ![4096]⟩

class Facts : Prop where
  reducesTo_S4096x1152_S4096_d1 : S4096x1152.ReducesTo [1] S4096
  h_S_ : 0 < S_.numel
  bcast_S_S4096 : S_.BroadcastsInDim S4096 (![] : Fin 0 → Fin S4096.rank)

variable [Facts]

def fn {F : FTy → Type} [BitOps F] (main_arg0 : FVec F S4096x1152 .f32) : IVec S4096 1 :=
  let main_v0 : FVec F S4096x1152 .f32 := Host.absf main_arg0
  let main_cst : FVec F S_ .f32 := constant S_ .f32 0xFF800000#32
  let main_v1 : FVec F S4096 .f32 := (fun x v => Host.reduce FloatOps.maximumf x v reducesTo_S4096x1152_S4096_d1 h_S_) main_v0 main_cst
  let main_cst_0 : FVec F S_ .f32 := constant S_ .f32 0x3B124925#32
  let main_v2 : FVec F S4096 .f32 := broadcastInDim S4096 ![] bcast_S_S4096 main_cst_0
  let main_v3 : FVec F S4096 .f32 := mulf main_v1 main_v2
  let main_v4 : IVec S4096 32 := bitcastToInt main_v3
  let main_c : IVec S_ 32 := constantI S_ 32 23#32
  let main_v5 : IVec S4096 32 := broadcastInDim S4096 ![] bcast_S_S4096 main_c
  let main_v6 : IVec S4096 32 := Host.shrui main_v4 main_v5
  let main_c_1 : IVec S_ 32 := constantI S_ 32 255#32
  let main_v7 : IVec S4096 32 := broadcastInDim S4096 ![] bcast_S_S4096 main_c_1
  let main_v8 : IVec S4096 32 := andi main_v6 main_v7
  let main_cst_2 : FVec F S_ .f32 := constant S_ .f32 0x00000000#32
  let main_v9 : FVec F S4096 .f32 := broadcastInDim S4096 ![] bcast_S_S4096 main_cst_2
  let main_v10 : IVec S4096 1 := cmpf .oeq main_v1 main_v9
  let main_c_3 : IVec S_ 32 := constantI S_ 32 1#32
  let main_v11 : IVec S4096 32 := broadcastInDim S4096 ![] bcast_S_S4096 main_c_3
  let main_v12 : IVec S4096 1 := cmpi .sge main_v8 main_v11
  let main_c_4 : IVec S_ 32 := constantI S_ 32 253#32
  let main_v13 : IVec S4096 32 := broadcastInDim S4096 ![] bcast_S_S4096 main_c_4
  let main_v14 : IVec S4096 1 := cmpi .sle main_v8 main_v13
  let main_v15 : IVec S4096 1 := andi main_v12 main_v14
  let main_v16 : IVec S4096 1 := ori main_v10 main_v15
  main_v16
-- ==== Kernel.lean ====
abbrev S10 : Shape := ⟨1, ![10]⟩
abbrev S4096x7168 : Shape := ⟨2, ![4096, 7168]⟩
abbrev S4096x1 : Shape := ⟨2, ![4096, 1]⟩
abbrev S7168x1792 : Shape := ⟨2, ![7168, 1792]⟩
abbrev S1792 : Shape := ⟨1, ![1792]⟩
abbrev S9x7168x1792 : Shape := ⟨3, ![9, 7168, 1792]⟩
abbrev S9x1792 : Shape := ⟨2, ![9, 1792]⟩
abbrev S9 : Shape := ⟨1, ![9]⟩
abbrev S_ : Shape := ⟨0, ![]⟩
abbrev S24 : Shape := ⟨1, ![24]⟩
abbrev S1 : Shape := ⟨1, ![1]⟩
abbrev S1x24 : Shape := ⟨2, ![1, 24]⟩
abbrev S9x1 : Shape := ⟨2, ![9, 1]⟩
abbrev S9x24 : Shape := ⟨2, ![9, 24]⟩
abbrev S24x1 : Shape := ⟨2, ![24, 1]⟩
abbrev S1x1792 : Shape := ⟨2, ![1, 1792]⟩
abbrev S9x1x1792 : Shape := ⟨3, ![9, 1, 1792]⟩
abbrev S4096x1792 : Shape := ⟨2, ![4096, 1792]⟩
abbrev S256x7168 : Shape := ⟨2, ![256, 7168]⟩
abbrev S256x1 : Shape := ⟨2, ![256, 1]⟩
abbrev S7168x256 : Shape := ⟨2, ![7168, 256]⟩
abbrev S1x256 : Shape := ⟨2, ![1, 256]⟩
abbrev S1x7168x256 : Shape := ⟨3, ![1, 7168, 256]⟩
abbrev S1x1x256 : Shape := ⟨3, ![1, 1, 256]⟩
abbrev S256x256 : Shape := ⟨2, ![256, 256]⟩

abbrev nBuf : Space → Nat
  | .hbm => 109
  | .vmem => 19
  | .smem => 3
  | _ => 0

abbrev bufTy : (tb : Table) → Fin (tcTables nBuf tb) → BufTy
  | .hbm, ⟨0, _⟩ => ⟨S4096x7168, .fp8e4m3⟩
  | .hbm, ⟨1, _⟩ => ⟨S4096x1, .f32⟩
  | .hbm, ⟨2, _⟩ => ⟨S7168x1792, .fp8e4m3⟩
  | .hbm, ⟨3, _⟩ => ⟨S1792, .f32⟩
  | .hbm, ⟨4, _⟩ => ⟨S9x7168x1792, .fp8e4m3⟩
  | .hbm, ⟨5, _⟩ => ⟨S9x1792, .f32⟩
  | .hbm, ⟨6, _⟩ => ⟨S1792, .f32⟩
  | .hbm, ⟨7, _⟩ => ⟨S9x1792, .f32⟩
  | .hbm, ⟨8, _⟩ => ⟨S9, .i32⟩
  | .hbm, ⟨9, _⟩ => ⟨S9, .i32⟩
  | .hbm, ⟨10, _⟩ => ⟨S_, .i32⟩
  | .hbm, ⟨11, _⟩ => ⟨S_, .i32⟩
  | .hbm, ⟨12, _⟩ => ⟨S9, .i32⟩
  | .hbm, ⟨13, _⟩ => ⟨S9, .i32⟩
  | .hbm, ⟨14, _⟩ => ⟨S9, .i32⟩
  | .hbm, ⟨15, _⟩ => ⟨S_, .i32⟩
  | .hbm, ⟨16, _⟩ => ⟨S9, .i32⟩
  | .hbm, ⟨17, _⟩ => ⟨S9, .i1⟩
  | .hbm, ⟨18, _⟩ => ⟨S9, .i32⟩
  | .hbm, ⟨19, _⟩ => ⟨S9, .i32⟩
  | .hbm, ⟨20, _⟩ => ⟨S_, .i32⟩
  | .hbm, ⟨21, _⟩ => ⟨S9, .i32⟩
  | .hbm, ⟨22, _⟩ => ⟨S9, .i1⟩
  | .hbm, ⟨23, _⟩ => ⟨S9, .i1⟩
  | .hbm, ⟨24, _⟩ => ⟨S_, .i32⟩
  | .hbm, ⟨25, _⟩ => ⟨S9, .i32⟩
  | .hbm, ⟨26, _⟩ => ⟨S9, .i32⟩
  | .hbm, ⟨27, _⟩ => ⟨S9, .i32⟩
  | .hbm, ⟨28, _⟩ => ⟨S9, .i1⟩
  | .hbm, ⟨29, _⟩ => ⟨S_, .i32⟩
  | .hbm, ⟨30, _⟩ => ⟨S9, .i32⟩
  | .hbm, ⟨31, _⟩ => ⟨S9, .i32⟩
  | .hbm, ⟨32, _⟩ => ⟨S_, .i32⟩
  | .hbm, ⟨33, _⟩ => ⟨S_, .i32⟩
  | .hbm, ⟨34, _⟩ => ⟨S9, .i32⟩
  | .hbm, ⟨35, _⟩ => ⟨S9, .i32⟩
  | .hbm, ⟨36, _⟩ => ⟨S9, .i32⟩
  | .hbm, ⟨37, _⟩ => ⟨S_, .i32⟩
  | .hbm, ⟨38, _⟩ => ⟨S9, .i32⟩
  | .hbm, ⟨39, _⟩ => ⟨S9, .i1⟩
  | .hbm, ⟨40, _⟩ => ⟨S9, .i32⟩
  | .hbm, ⟨41, _⟩ => ⟨S9, .i32⟩
  | .hbm, ⟨42, _⟩ => ⟨S_, .i32⟩
  | .hbm, ⟨43, _⟩ => ⟨S9, .i32⟩
  | .hbm, ⟨44, _⟩ => ⟨S9, .i1⟩
  | .hbm, ⟨45, _⟩ => ⟨S9, .i1⟩
  | .hbm, ⟨46, _⟩ => ⟨S_, .i32⟩
  | .hbm, ⟨47, _⟩ => ⟨S9, .i32⟩
  | .hbm, ⟨48, _⟩ => ⟨S9, .i32⟩
  | .hbm, ⟨49, _⟩ => ⟨S9, .i32⟩
  | .hbm, ⟨50, _⟩ => ⟨S9, .i32⟩
  | .hbm, ⟨51, _⟩ => ⟨S_, .i32⟩
  | .hbm, ⟨52, _⟩ => ⟨S9, .i32⟩
  | .hbm, ⟨53, _⟩ => ⟨S9, .i32⟩
  | .hbm, ⟨54, _⟩ => ⟨S_, .i32⟩
  | .hbm, ⟨55, _⟩ => ⟨S_, .i32⟩
  | .hbm, ⟨56, _⟩ => ⟨S9, .i32⟩
  | .hbm, ⟨57, _⟩ => ⟨S9, .i32⟩
  | .hbm, ⟨58, _⟩ => ⟨S_, .i32⟩
  | .hbm, ⟨59, _⟩ => ⟨S_, .i32⟩
  | .hbm, ⟨60, _⟩ => ⟨S9, .i32⟩
  | .hbm, ⟨61, _⟩ => ⟨S24, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S24, .i32⟩
  | .hbm, ⟨67, _⟩ => ⟨S24, .i32⟩
  | .hbm, ⟨68, _⟩ => ⟨S1x24, .i32⟩
  | .hbm, ⟨69, _⟩ => ⟨S9x1, .i32⟩
  | .hbm, ⟨70, _⟩ => ⟨S9x24, .i32⟩
  | .hbm, ⟨71, _⟩ => ⟨S9x24, .i32⟩
  | .hbm, ⟨72, _⟩ => ⟨S9x24, .i1⟩
  | .hbm, ⟨73, _⟩ => ⟨S9x24, .i32⟩
  | .hbm, ⟨74, _⟩ => ⟨S_, .i32⟩
  | .hbm, ⟨75, _⟩ => ⟨S_, .i32⟩
  | .hbm, ⟨76, _⟩ => ⟨S24, .i32⟩
  | .hbm, ⟨77, _⟩ => ⟨S24, .i1⟩
  | .hbm, ⟨78, _⟩ => ⟨S_, .i32⟩
  | .hbm, ⟨79, _⟩ => ⟨S24, .i32⟩
  | .hbm, ⟨80, _⟩ => ⟨S24, .i32⟩
  | .hbm, ⟨81, _⟩ => ⟨S24, .i32⟩
  | .hbm, ⟨82, _⟩ => ⟨S24x1, .i32⟩
  | .hbm, ⟨83, _⟩ => ⟨S24, .i32⟩
  | .hbm, ⟨84, _⟩ => ⟨S24, .i32⟩
  | .hbm, ⟨85, _⟩ => ⟨S_, .i32⟩
  | .hbm, ⟨86, _⟩ => ⟨S24, .i32⟩
  | .hbm, ⟨87, _⟩ => ⟨S24, .i1⟩
  | .hbm, ⟨88, _⟩ => ⟨S_, .i32⟩
  | .hbm, ⟨89, _⟩ => ⟨S24, .i32⟩
  | .hbm, ⟨90, _⟩ => ⟨S24, .i32⟩
  | .hbm, ⟨91, _⟩ => ⟨S24, .i32⟩
  | .hbm, ⟨92, _⟩ => ⟨S24x1, .i32⟩
  | .hbm, ⟨93, _⟩ => ⟨S24, .i32⟩
  | .hbm, ⟨94, _⟩ => ⟨S_, .i32⟩
  | .hbm, ⟨95, _⟩ => ⟨S24, .i32⟩
  | .hbm, ⟨96, _⟩ => ⟨S24, .i1⟩
  | .hbm, ⟨97, _⟩ => ⟨S_, .i32⟩
  | .hbm, ⟨98, _⟩ => ⟨S24, .i32⟩
  | .hbm, ⟨99, _⟩ => ⟨S24, .i32⟩
  | .hbm, ⟨100, _⟩ => ⟨S24, .i32⟩
  | .hbm, ⟨101, _⟩ => ⟨S24x1, .i32⟩
  | .hbm, ⟨102, _⟩ => ⟨S24, .i32⟩
  | .hbm, ⟨103, _⟩ => ⟨S24, .i32⟩
  | .hbm, ⟨104, _⟩ => ⟨S1x1792, .f32⟩
  | .hbm, ⟨105, _⟩ => ⟨S9x1x1792, .f32⟩
  | .hbm, ⟨106, _⟩ => ⟨S1x1792, .f32⟩
  | .hbm, ⟨107, _⟩ => ⟨S9x1x1792, .f32⟩
  | .hbm, ⟨108, _⟩ => ⟨S4096x1792, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x1, .f32⟩
  | .local _ .vmem, ⟨3, _⟩ => ⟨S256x1, .f32⟩
  | .local _ .vmem, ⟨4, _⟩ => ⟨S7168x256, .fp8e4m3⟩
  | .local _ .vmem, ⟨5, _⟩ => ⟨S7168x256, .fp8e4m3⟩
  | .local _ .vmem, ⟨6, _⟩ => ⟨S1x256, .f32⟩
  | .local _ .vmem, ⟨7, _⟩ => ⟨S1x256, .f32⟩
  | .local _ .vmem, ⟨8, _⟩ => ⟨S1x7168x256, .fp8e4m3⟩
  | .local _ .vmem, ⟨9, _⟩ => ⟨S1x7168x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x256, .f32⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | .local _ .vmem, ⟨16, _⟩ => ⟨S256x256, .f32⟩
  | .local _ .vmem, ⟨17, _⟩ => ⟨S256x256, .f32⟩
  | .local _ .vmem, ⟨18, _⟩ => ⟨S7168x256, .bf16⟩
  | .local _ .smem, ⟨0, _⟩ => ⟨S24, .i32⟩
  | .local _ .smem, ⟨1, _⟩ => ⟨S24, .i32⟩
  | .local _ .smem, ⟨2, _⟩ => ⟨S10, .i32⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v6 : Ref sig .tc := ⟨.hbm, 49, rfl⟩
abbrev main_v7 : Ref sig .tc := ⟨.hbm, 50, rfl⟩
abbrev main_c_2 : Ref sig .tc := ⟨.hbm, 51, rfl⟩
abbrev main_v8 : Ref sig .tc := ⟨.hbm, 52, rfl⟩
abbrev main_v9 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_v10 : Ref sig .tc := ⟨.hbm, 57, rfl⟩
abbrev main_call3_call0_c : Ref sig .tc := ⟨.hbm, 58, rfl⟩
abbrev main_call3_call0_v0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call4_call0_v0 : Ref sig .tc := ⟨.hbm, 68, rfl⟩
abbrev main_call4_call0_v1 : Ref sig .tc := ⟨.hbm, 69, rfl⟩
abbrev main_call4_call0_v2 : Ref sig .tc := ⟨.hbm, 70, rfl⟩
abbrev main_call4_call0_v3 : Ref sig .tc := ⟨.hbm, 71, rfl⟩
abbrev main_call4_call0_v4 : Ref sig .tc := ⟨.hbm, 72, rfl⟩
abbrev main_call4_call0_v5 : Ref sig .tc := ⟨.hbm, 73, rfl⟩
abbrev main_call4_call0_c : Ref sig .tc := ⟨.hbm, 74, rfl⟩
abbrev main_c_5 : Ref sig .tc := ⟨.hbm, 75, rfl⟩
abbrev main_v19 : Ref sig .tc := ⟨.hbm, 76, rfl⟩
abbrev main_v20 : Ref sig .tc := ⟨.hbm, 77, rfl⟩
abbrev main_c_6 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_7 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_c_9 : Ref sig .tc := ⟨.hbm, 94, rfl⟩
abbrev main_v34 : Ref sig .tc := ⟨.hbm, 95, rfl⟩
abbrev main_v35 : Ref sig .tc := ⟨.hbm, 96, rfl⟩
abbrev main_c_10 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v42 : Ref sig .tc := ⟨.smem, 0, rfl⟩
abbrev main_v18 : Ref sig .tc := ⟨.smem, 1, rfl⟩
abbrev main_arg0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![7, 24], ![false, false]⟩

abbrev pre0 : Pipeline.Prefetch sig := ⟨3, ![main_v42.idx, main_v18.idx, main_arg0.idx], fun | 0 => main_v42.names | 1 => main_v18.names | 2 => main_arg0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg1 : BitVec 32 := BitVec.ofNat 32 (i 1).val
  let v34 : Index := Scalar.indexCast arg1
  ![v34.toNat]
def k0_off4 (i : grid0.Coords) : Fin 1 → Nat :=
  let arg1 : BitVec 32 := BitVec.ofNat 32 (i 1).val
  let c1_i32_19 : BitVec 32 := 1#32
  let v43 : BitVec 32 := Scalar.subi arg1 c1_i32_19
  let c0_i32_20 : BitVec 32 := 0#32
  let v44 : BitVec 32 := Scalar.maxsi v43 c0_i32_20
  let v45 : Index := Scalar.indexCast v44
  ![v45.toNat]
def k0_off5 (v1 : BitVec 32) : Fin 1 → Nat :=
  let v54 : Index := Scalar.indexCast v1
  ![v54.toNat]
def k0_cond3 (i : grid0.Coords) (v42 : BitVec 32) (v46 : BitVec 32) : BitVec 1 :=
  let arg1 : BitVec 32 := BitVec.ofNat 32 (i 1).val
  let c0_i32_18 : BitVec 32 := 0#32
  let v40 : BitVec 1 := Scalar.cmpi .eq arg1 c0_i32_18
  let v47 : BitVec 1 := Scalar.cmpi .ne v42 v46
  let v48 : BitVec 1 := Scalar.ori v40 v47
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def k0_chk1 (i : grid0.Coords) (v1 : BitVec 32) (v42 : BitVec 32) (v46 : BitVec 32) : Prop :=
  (∀ (k0_h3 : k0_cond3 i v42 v46 = 1#1), ∀ a, (k0_off5 v1) a + S1.size a ≤ S10.size a)
theorem k0_off5_inb : ∀ (i : grid0.Coords) (v1 : BitVec 32) (v42 : BitVec 32) (v46 : BitVec 32) (k0_hw1 : k0_chk1 i v1 v42 v46), ∀ (k0_h3 : k0_cond3 i v42 v46 = 1#1), ∀ a, (k0_off5 v1) a + S1.size a ≤ S10.size a := fun i v1 v42 v46 k0_hw1 k0_h3 => k0_hw1 k0_h3

def k0_cond2 (i : grid0.Coords) (v42 : BitVec 32) (v46 : BitVec 32) : BitVec 1 :=
  let arg1 : BitVec 32 := BitVec.ofNat 32 (i 1).val
  let c0_i32_18 : BitVec 32 := 0#32
  let v40 : BitVec 1 := Scalar.cmpi .eq arg1 c0_i32_18
  let v47 : BitVec 1 := Scalar.cmpi .ne v42 v46
  let v48 : BitVec 1 := Scalar.ori v40 v47
  let v49 : BitVec 32 := Scalar.extui v48
  let c0_i32_21 : BitVec 32 := 0#32
  let v50 : BitVec 1 := Scalar.cmpi .ne v49 c0_i32_21
  v50

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  ![v1.toNat, arg0.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x7168x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S10 : Shape := ⟨1, ![10]⟩
abbrev S4096x7168 : Shape := ⟨2, ![4096, 7168]⟩
abbrev S4096x1 : Shape := ⟨2, ![4096, 1]⟩
abbrev S7168x1792 : Shape := ⟨2, ![7168, 1792]⟩
abbrev S1792 : Shape := ⟨1, ![1792]⟩
abbrev S9x7168x1792 : Shape := ⟨3, ![9, 7168, 1792]⟩
abbrev S9x1792 : Shape := ⟨2, ![9, 1792]⟩
abbrev S9 : Shape := ⟨1, ![9]⟩
abbrev S4096 : Shape := ⟨1, ![4096]⟩
abbrev S1x4096 : Shape := ⟨2, ![1, 4096]⟩
abbrev S9x1 : Shape := ⟨2, ![9, 1]⟩
abbrev S9x4096 : Shape := ⟨2, ![9, 4096]⟩
abbrev S_ : Shape := ⟨0, ![]⟩
abbrev S1x1792 : Shape := ⟨2, ![1, 1792]⟩
abbrev S9x1x1792 : Shape := ⟨3, ![9, 1, 1792]⟩
abbrev S4096x1792 : Shape := ⟨2, ![4096, 1792]⟩
abbrev S1x7168x1792 : Shape := ⟨3, ![1, 7168, 1792]⟩
abbrev S1x1x1792 : Shape := ⟨3, ![1, 1, 1792]⟩

abbrev nBuf : Space → Nat
  | .hbm => 25
  | .vmem => 10
  | .smem => 0
  | _ => 0

abbrev bufTy : (tb : Table) → Fin (tcTables nBuf tb) → BufTy
  | .hbm, ⟨0, _⟩ => ⟨S10, .i32⟩
  | .hbm, ⟨1, _⟩ => ⟨S4096x7168, .fp8e4m3⟩
  | .hbm, ⟨2, _⟩ => ⟨S4096x1, .f32⟩
  | .hbm, ⟨3, _⟩ => ⟨S7168x1792, .fp8e4m3⟩
  | .hbm, ⟨4, _⟩ => ⟨S1792, .f32⟩
  | .hbm, ⟨5, _⟩ => ⟨S9x7168x1792, .fp8e4m3⟩
  | .hbm, ⟨6, _⟩ => ⟨S9x1792, .f32⟩
  | .hbm, ⟨7, _⟩ => ⟨S1792, .f32⟩
  | .hbm, ⟨8, _⟩ => ⟨S9x1792, .f32⟩
  | .hbm, ⟨9, _⟩ => ⟨S9, .i32⟩
  | .hbm, ⟨10, _⟩ => ⟨S4096, .i32⟩
  | .hbm, ⟨11, _⟩ => ⟨S1x4096, .i32⟩
  | .hbm, ⟨12, _⟩ => ⟨S9x1, .i32⟩
  | .hbm, ⟨13, _⟩ => ⟨S9x4096, .i32⟩
  | .hbm, ⟨14, _⟩ => ⟨S9x4096, .i32⟩
  | .hbm, ⟨15, _⟩ => ⟨S9x4096, .i1⟩
  | .hbm, ⟨16, _⟩ => ⟨S9x4096, .i32⟩
  | .hbm, ⟨17, _⟩ => ⟨S_, .i32⟩
  | .hbm, ⟨18, _⟩ => ⟨S4096, .i32⟩
  | .hbm, ⟨19, _⟩ => ⟨S4096x1, .i32⟩
  | .hbm, ⟨20, _⟩ => ⟨S1x1792, .f32⟩
  | .hbm, ⟨21, _⟩ => ⟨S9x1x1792, .f32⟩
  | .hbm, ⟨22, _⟩ => ⟨S1x1792, .f32⟩
  | .hbm, ⟨23, _⟩ => ⟨S9x1x1792, .f32⟩
  | .hbm, ⟨24, _⟩ => ⟨S4096x1792, .f32⟩
  | .local _ .vmem, ⟨0, _⟩ => ⟨S4096x1, .i32⟩
  | .local _ .vmem, ⟨1, _⟩ => ⟨S4096x7168, .fp8e4m3⟩
  | .local _ .vmem, ⟨2, _⟩ => ⟨S4096x1, .f32⟩
  | .local _ .vmem, ⟨3, _⟩ => ⟨S7168x1792, .fp8e4m3⟩
  | .local _ .vmem, ⟨4, _⟩ => ⟨S1x1792, .f32⟩
  | .local _ .vmem, ⟨5, _⟩ => ⟨S9x7168x1792, .fp8e4m3⟩
  | .local _ .vmem, ⟨6, _⟩ => ⟨S9x1x1792, .f32⟩
  | .local _ .vmem, ⟨7, _⟩ => ⟨S1x1792, .f32⟩
  | .local _ .vmem, ⟨8, _⟩ => ⟨S9x1x1792, .f32⟩
  | .local _ .vmem, ⟨9, _⟩ => ⟨S4096x1792, .f32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x7168x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x1x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Second.lean ====
abbrev S10 : Shape := ⟨1, ![10]⟩
abbrev S4096x1792 : Shape := ⟨2, ![4096, 1792]⟩
abbrev S4096x1 : Shape := ⟨2, ![4096, 1]⟩
abbrev S1792x1152 : Shape := ⟨2, ![1792, 1152]⟩
abbrev S1152 : Shape := ⟨1, ![1152]⟩
abbrev S9x1792x1152 : Shape := ⟨3, ![9, 1792, 1152]⟩
abbrev S9x1152 : Shape := ⟨2, ![9, 1152]⟩
abbrev S9 : Shape := ⟨1, ![9]⟩
abbrev S_ : Shape := ⟨0, ![]⟩
abbrev S24 : Shape := ⟨1, ![24]⟩
abbrev S1 : Shape := ⟨1, ![1]⟩
abbrev S1x24 : Shape := ⟨2, ![1, 24]⟩
abbrev S9x1 : Shape := ⟨2, ![9, 1]⟩
abbrev S9x24 : Shape := ⟨2, ![9, 24]⟩
abbrev S24x1 : Shape := ⟨2, ![24, 1]⟩
abbrev S1x1152 : Shape := ⟨2, ![1, 1152]⟩
abbrev S9x1x1152 : Shape := ⟨3, ![9, 1, 1152]⟩
abbrev S4096x1152 : Shape := ⟨2, ![4096, 1152]⟩
abbrev S256x1792 : Shape := ⟨2, ![256, 1792]⟩
abbrev S256x1 : Shape := ⟨2, ![256, 1]⟩
abbrev S1792x384 : Shape := ⟨2, ![1792, 384]⟩
abbrev S1x384 : Shape := ⟨2, ![1, 384]⟩
abbrev S1x1792x384 : Shape := ⟨3, ![1, 1792, 384]⟩
abbrev S1x1x384 : Shape := ⟨3, ![1, 1, 384]⟩
abbrev S256x384 : Shape := ⟨2, ![256, 384]⟩

abbrev nBuf : Space → Nat
  | .hbm => 109
  | .vmem => 19
  | .smem => 3
  | _ => 0

abbrev bufTy : (tb : Table) → Fin (tcTables nBuf tb) → BufTy
  | .hbm, ⟨0, _⟩ => ⟨S4096x1792, .fp8e4m3⟩
  | .hbm, ⟨1, _⟩ => ⟨S4096x1, .f32⟩
  | .hbm, ⟨2, _⟩ => ⟨S1792x1152, .fp8e4m3⟩
  | .hbm, ⟨3, _⟩ => ⟨S1152, .f32⟩
  | .hbm, ⟨4, _⟩ => ⟨S9x1792x1152, .fp8e4m3⟩
  | .hbm, ⟨5, _⟩ => ⟨S9x1152, .f32⟩
  | .hbm, ⟨6, _⟩ => ⟨S1152, .f32⟩
  | .hbm, ⟨7, _⟩ => ⟨S9x1152, .f32⟩
  | .hbm, ⟨8, _⟩ => ⟨S9, .i32⟩
  | .hbm, ⟨9, _⟩ => ⟨S9, .i32⟩
  | .hbm, ⟨10, _⟩ => ⟨S_, .i32⟩
  | .hbm, ⟨11, _⟩ => ⟨S_, .i32⟩
  | .hbm, ⟨12, _⟩ => ⟨S9, .i32⟩
  | .hbm, ⟨13, _⟩ => ⟨S9, .i32⟩
  | .hbm, ⟨14, _⟩ => ⟨S9, .i32⟩
  | .hbm, ⟨15, _⟩ => ⟨S_, .i32⟩
  | .hbm, ⟨16, _⟩ => ⟨S9, .i32⟩
  | .hbm, ⟨17, _⟩ => ⟨S9, .i1⟩
  | .hbm, ⟨18, _⟩ => ⟨S9, .i32⟩
  | .hbm, ⟨19, _⟩ => ⟨S9, .i32⟩
  | .hbm, ⟨20, _⟩ => ⟨S_, .i32⟩
  | .hbm, ⟨21, _⟩ => ⟨S9, .i32⟩
  | .hbm, ⟨22, _⟩ => ⟨S9, .i1⟩
  | .hbm, ⟨23, _⟩ => ⟨S9, .i1⟩
  | .hbm, ⟨24, _⟩ => ⟨S_, .i32⟩
  | .hbm, ⟨25, _⟩ => ⟨S9, .i32⟩
  | .hbm, ⟨26, _⟩ => ⟨S9, .i32⟩
  | .hbm, ⟨27, _⟩ => ⟨S9, .i32⟩
  | .hbm, ⟨28, _⟩ => ⟨S9, .i1⟩
  | .hbm, ⟨29, _⟩ => ⟨S_, .i32⟩
  | .hbm, ⟨30, _⟩ => ⟨S9, .i32⟩
  | .hbm, ⟨31, _⟩ => ⟨S9, .i32⟩
  | .hbm, ⟨32, _⟩ => ⟨S_, .i32⟩
  | .hbm, ⟨33, _⟩ => ⟨S_, .i32⟩
  | .hbm, ⟨34, _⟩ => ⟨S9, .i32⟩
  | .hbm, ⟨35, _⟩ => ⟨S9, .i32⟩
  | .hbm, ⟨36, _⟩ => ⟨S9, .i32⟩
  | .hbm, ⟨37, _⟩ => ⟨S_, .i32⟩
  | .hbm, ⟨38, _⟩ => ⟨S9, .i32⟩
  | .hbm, ⟨39, _⟩ => ⟨S9, .i1⟩
  | .hbm, ⟨40, _⟩ => ⟨S9, .i32⟩
  | .hbm, ⟨41, _⟩ => ⟨S9, .i32⟩
  | .hbm, ⟨42, _⟩ => ⟨S_, .i32⟩
  | .hbm, ⟨43, _⟩ => ⟨S9, .i32⟩
  | .hbm, ⟨44, _⟩ => ⟨S9, .i1⟩
  | .hbm, ⟨45, _⟩ => ⟨S9, .i1⟩
  | .hbm, ⟨46, _⟩ => ⟨S_, .i32⟩
  | .hbm, ⟨47, _⟩ => ⟨S9, .i32⟩
  | .hbm, ⟨48, _⟩ => ⟨S9, .i32⟩
  | .hbm, ⟨49, _⟩ => ⟨S9, .i32⟩
  | .hbm, ⟨50, _⟩ => ⟨S9, .i32⟩
  | .hbm, ⟨51, _⟩ => ⟨S_, .i32⟩
  | .hbm, ⟨52, _⟩ => ⟨S9, .i32⟩
  | .hbm, ⟨53, _⟩ => ⟨S9, .i32⟩
  | .hbm, ⟨54, _⟩ => ⟨S_, .i32⟩
  | .hbm, ⟨55, _⟩ => ⟨S_, .i32⟩
  | .hbm, ⟨56, _⟩ => ⟨S9, .i32⟩
  | .hbm, ⟨57, _⟩ => ⟨S9, .i32⟩
  | .hbm, ⟨58, _⟩ => ⟨S_, .i32⟩
  | .hbm, ⟨59, _⟩ => ⟨S_, .i32⟩
  | .hbm, ⟨60, _⟩ => ⟨S9, .i32⟩
  | .hbm, ⟨61, _⟩ => ⟨S24, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S24, .i32⟩
  | .hbm, ⟨67, _⟩ => ⟨S24, .i32⟩
  | .hbm, ⟨68, _⟩ => ⟨S1x24, .i32⟩
  | .hbm, ⟨69, _⟩ => ⟨S9x1, .i32⟩
  | .hbm, ⟨70, _⟩ => ⟨S9x24, .i32⟩
  | .hbm, ⟨71, _⟩ => ⟨S9x24, .i32⟩
  | .hbm, ⟨72, _⟩ => ⟨S9x24, .i1⟩
  | .hbm, ⟨73, _⟩ => ⟨S9x24, .i32⟩
  | .hbm, ⟨74, _⟩ => ⟨S_, .i32⟩
  | .hbm, ⟨75, _⟩ => ⟨S_, .i32⟩
  | .hbm, ⟨76, _⟩ => ⟨S24, .i32⟩
  | .hbm, ⟨77, _⟩ => ⟨S24, .i1⟩
  | .hbm, ⟨78, _⟩ => ⟨S_, .i32⟩
  | .hbm, ⟨79, _⟩ => ⟨S24, .i32⟩
  | .hbm, ⟨80, _⟩ => ⟨S24, .i32⟩
  | .hbm, ⟨81, _⟩ => ⟨S24, .i32⟩
  | .hbm, ⟨82, _⟩ => ⟨S24x1, .i32⟩
  | .hbm, ⟨83, _⟩ => ⟨S24, .i32⟩
  | .hbm, ⟨84, _⟩ => ⟨S24, .i32⟩
  | .hbm, ⟨85, _⟩ => ⟨S_, .i32⟩
  | .hbm, ⟨86, _⟩ => ⟨S24, .i32⟩
  | .hbm, ⟨87, _⟩ => ⟨S24, .i1⟩
  | .hbm, ⟨88, _⟩ => ⟨S_, .i32⟩
  | .hbm, ⟨89, _⟩ => ⟨S24, .i32⟩
  | .hbm, ⟨90, _⟩ => ⟨S24, .i32⟩
  | .hbm, ⟨91, _⟩ => ⟨S24, .i32⟩
  | .hbm, ⟨92, _⟩ => ⟨S24x1, .i32⟩
  | .hbm, ⟨93, _⟩ => ⟨S24, .i32⟩
  | .hbm, ⟨94, _⟩ => ⟨S_, .i32⟩
  | .hbm, ⟨95, _⟩ => ⟨S24, .i32⟩
  | .hbm, ⟨96, _⟩ => ⟨S24, .i1⟩
  | .hbm, ⟨97, _⟩ => ⟨S_, .i32⟩
  | .hbm, ⟨98, _⟩ => ⟨S24, .i32⟩
  | .hbm, ⟨99, _⟩ => ⟨S24, .i32⟩
  | .hbm, ⟨100, _⟩ => ⟨S24, .i32⟩
  | .hbm, ⟨101, _⟩ => ⟨S24x1, .i32⟩
  | .hbm, ⟨102, _⟩ => ⟨S24, .i32⟩
  | .hbm, ⟨103, _⟩ => ⟨S24, .i32⟩
  | .hbm, ⟨104, _⟩ => ⟨S1x1152, .f32⟩
  | .hbm, ⟨105, _⟩ => ⟨S9x1x1152, .f32⟩
  | .hbm, ⟨106, _⟩ => ⟨S1x1152, .f32⟩
  | .hbm, ⟨107, _⟩ => ⟨S9x1x1152, .f32⟩
  | .hbm, ⟨108, _⟩ => ⟨S4096x1152, .f32⟩
  | .local _ .vmem, ⟨0, _⟩ => ⟨S256x1792, .fp8e4m3⟩
  | .local _ .vmem, ⟨1, _⟩ => ⟨S256x1792, .fp8e4m3⟩
  | .local _ .vmem, ⟨2, _⟩ => ⟨S256x1, .f32⟩
  | .local _ .vmem, ⟨3, _⟩ => ⟨S256x1, .f32⟩
  | .local _ .vmem, ⟨4, _⟩ => ⟨S1792x384, .fp8e4m3⟩
  | .local _ .vmem, ⟨5, _⟩ => ⟨S1792x384, .fp8e4m3⟩
  | .local _ .vmem, ⟨6, _⟩ => ⟨S1x384, .f32⟩
  | .local _ .vmem, ⟨7, _⟩ => ⟨S1x384, .f32⟩
  | .local _ .vmem, ⟨8, _⟩ => ⟨S1x1792x384, .fp8e4m3⟩
  | .local _ .vmem, ⟨9, _⟩ => ⟨S1x1792x384, .fp8e4m3⟩
  | .local _ .vmem, ⟨10, _⟩ => ⟨S1x1x384, .f32⟩
  | .local _ .vmem, ⟨11, _⟩ => ⟨S1x1x384, .f32⟩
  | .local _ .vmem, ⟨12, _⟩ => ⟨S1x384, .f32⟩
  | .local _ .vmem, ⟨13, _⟩ => ⟨S1x384, .f32⟩
  | .local _ .vmem, ⟨14, _⟩ => ⟨S1x1x384, .f32⟩
  | .local _ .vmem, ⟨15, _⟩ => ⟨S1x1x384, .f32⟩
  | .local _ .vmem, ⟨16, _⟩ => ⟨S256x384, .f32⟩
  | .local _ .vmem, ⟨17, _⟩ => ⟨S256x384, .f32⟩
  | .local _ .vmem, ⟨18, _⟩ => ⟨S1792x384, .bf16⟩
  | .local _ .smem, ⟨0, _⟩ => ⟨S24, .i32⟩
  | .local _ .smem, ⟨1, _⟩ => ⟨S24, .i32⟩
  | .local _ .smem, ⟨2, _⟩ => ⟨S10, .i32⟩
  | _, _ => ⟨S4096x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v6 : Ref sig .tc := ⟨.hbm, 49, rfl⟩
abbrev main_v7 : Ref sig .tc := ⟨.hbm, 50, rfl⟩
abbrev main_c_2 : Ref sig .tc := ⟨.hbm, 51, rfl⟩
abbrev main_v8 : Ref sig .tc := ⟨.hbm, 52, rfl⟩
abbrev main_v9 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_v10 : Ref sig .tc := ⟨.hbm, 57, rfl⟩
abbrev main_call3_call0_c : Ref sig .tc := ⟨.hbm, 58, rfl⟩
abbrev main_call3_call0_v0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call4_call0_v0 : Ref sig .tc := ⟨.hbm, 68, rfl⟩
abbrev main_call4_call0_v1 : Ref sig .tc := ⟨.hbm, 69, rfl⟩
abbrev main_call4_call0_v2 : Ref sig .tc := ⟨.hbm, 70, rfl⟩
abbrev main_call4_call0_v3 : Ref sig .tc := ⟨.hbm, 71, rfl⟩
abbrev main_call4_call0_v4 : Ref sig .tc := ⟨.hbm, 72, rfl⟩
abbrev main_call4_call0_v5 : Ref sig .tc := ⟨.hbm, 73, rfl⟩
abbrev main_call4_call0_c : Ref sig .tc := ⟨.hbm, 74, rfl⟩
abbrev main_c_5 : Ref sig .tc := ⟨.hbm, 75, rfl⟩
abbrev main_v19 : Ref sig .tc := ⟨.hbm, 76, rfl⟩
abbrev main_v20 : Ref sig .tc := ⟨.hbm, 77, rfl⟩
abbrev main_c_6 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_7 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_c_9 : Ref sig .tc := ⟨.hbm, 94, rfl⟩
abbrev main_v34 : Ref sig .tc := ⟨.hbm, 95, rfl⟩
abbrev main_v35 : Ref sig .tc := ⟨.hbm, 96, rfl⟩
abbrev main_c_10 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v42 : Ref sig .tc := ⟨.smem, 0, rfl⟩
abbrev main_v18 : Ref sig .tc := ⟨.smem, 1, rfl⟩
abbrev main_arg0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 24], ![false, false]⟩

abbrev pre0 : Pipeline.Prefetch sig := ⟨3, ![main_v42.idx, main_v18.idx, main_arg0.idx], fun | 0 => main_v42.names | 1 => main_v18.names | 2 => main_arg0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg1 : BitVec 32 := BitVec.ofNat 32 (i 1).val
  let v34 : Index := Scalar.indexCast arg1
  ![v34.toNat]
def k0_off4 (i : grid0.Coords) : Fin 1 → Nat :=
  let arg1 : BitVec 32 := BitVec.ofNat 32 (i 1).val
  let c1_i32_19 : BitVec 32 := 1#32
  let v43 : BitVec 32 := Scalar.subi arg1 c1_i32_19
  let c0_i32_20 : BitVec 32 := 0#32
  let v44 : BitVec 32 := Scalar.maxsi v43 c0_i32_20
  let v45 : Index := Scalar.indexCast v44
  ![v45.toNat]
def k0_off5 (v1 : BitVec 32) : Fin 1 → Nat :=
  let v54 : Index := Scalar.indexCast v1
  ![v54.toNat]
def k0_cond3 (i : grid0.Coords) (v42 : BitVec 32) (v46 : BitVec 32) : BitVec 1 :=
  let arg1 : BitVec 32 := BitVec.ofNat 32 (i 1).val
  let c0_i32_18 : BitVec 32 := 0#32
  let v40 : BitVec 1 := Scalar.cmpi .eq arg1 c0_i32_18
  let v47 : BitVec 1 := Scalar.cmpi .ne v42 v46
  let v48 : BitVec 1 := Scalar.ori v40 v47
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def k0_chk1 (i : grid0.Coords) (v1 : BitVec 32) (v42 : BitVec 32) (v46 : BitVec 32) : Prop :=
  (∀ (k0_h3 : k0_cond3 i v42 v46 = 1#1), ∀ a, (k0_off5 v1) a + S1.size a ≤ S10.size a)
theorem k0_off5_inb : ∀ (i : grid0.Coords) (v1 : BitVec 32) (v42 : BitVec 32) (v46 : BitVec 32) (k0_hw1 : k0_chk1 i v1 v42 v46), ∀ (k0_h3 : k0_cond3 i v42 v46 = 1#1), ∀ a, (k0_off5 v1) a + S1.size a ≤ S10.size a := fun i v1 v42 v46 k0_hw1 k0_h3 => k0_hw1 k0_h3

def k0_cond2 (i : grid0.Coords) (v42 : BitVec 32) (v46 : BitVec 32) : BitVec 1 :=
  let arg1 : BitVec 32 := BitVec.ofNat 32 (i 1).val
  let c0_i32_18 : BitVec 32 := 0#32
  let v40 : BitVec 1 := Scalar.cmpi .eq arg1 c0_i32_18
  let v47 : BitVec 1 := Scalar.cmpi .ne v42 v46
  let v48 : BitVec 1 := Scalar.ori v40 v47
  let v49 : BitVec 32 := Scalar.extui v48
  let c0_i32_21 : BitVec 32 := 0#32
  let v50 : BitVec 1 := Scalar.cmpi .ne v49 c0_i32_21
  v50

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  ![v1.toNat, arg0.toNat]

abbrev stage0_0 : Fin 2 → Memref sig .tc .vmem S256x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1792x384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SecondRefIdeal.lean ====
abbrev S10 : Shape := ⟨1, ![10]⟩
abbrev S4096x1792 : Shape := ⟨2, ![4096, 1792]⟩
abbrev S4096x1 : Shape := ⟨2, ![4096, 1]⟩
abbrev S1792x1152 : Shape := ⟨2, ![1792, 1152]⟩
abbrev S1152 : Shape := ⟨1, ![1152]⟩
abbrev S9x1792x1152 : Shape := ⟨3, ![9, 1792, 1152]⟩
abbrev S9x1152 : Shape := ⟨2, ![9, 1152]⟩
abbrev S9 : Shape := ⟨1, ![9]⟩
abbrev S4096 : Shape := ⟨1, ![4096]⟩
abbrev S1x4096 : Shape := ⟨2, ![1, 4096]⟩
abbrev S9x1 : Shape := ⟨2, ![9, 1]⟩
abbrev S9x4096 : Shape := ⟨2, ![9, 4096]⟩
abbrev S_ : Shape := ⟨0, ![]⟩
abbrev S1x1152 : Shape := ⟨2, ![1, 1152]⟩
abbrev S9x1x1152 : Shape := ⟨3, ![9, 1, 1152]⟩
abbrev S4096x1152 : Shape := ⟨2, ![4096, 1152]⟩
abbrev S1x1792x1152 : Shape := ⟨3, ![1, 1792, 1152]⟩
abbrev S1x1x1152 : Shape := ⟨3, ![1, 1, 1152]⟩

abbrev nBuf : Space → Nat
  | .hbm => 25
  | .vmem => 10
  | .smem => 0
  | _ => 0

abbrev bufTy : (tb : Table) → Fin (tcTables nBuf tb) → BufTy
  | .hbm, ⟨0, _⟩ => ⟨S10, .i32⟩
  | .hbm, ⟨1, _⟩ => ⟨S4096x1792, .fp8e4m3⟩
  | .hbm, ⟨2, _⟩ => ⟨S4096x1, .f32⟩
  | .hbm, ⟨3, _⟩ => ⟨S1792x1152, .fp8e4m3⟩
  | .hbm, ⟨4, _⟩ => ⟨S1152, .f32⟩
  | .hbm, ⟨5, _⟩ => ⟨S9x1792x1152, .fp8e4m3⟩
  | .hbm, ⟨6, _⟩ => ⟨S9x1152, .f32⟩
  | .hbm, ⟨7, _⟩ => ⟨S1152, .f32⟩
  | .hbm, ⟨8, _⟩ => ⟨S9x1152, .f32⟩
  | .hbm, ⟨9, _⟩ => ⟨S9, .i32⟩
  | .hbm, ⟨10, _⟩ => ⟨S4096, .i32⟩
  | .hbm, ⟨11, _⟩ => ⟨S1x4096, .i32⟩
  | .hbm, ⟨12, _⟩ => ⟨S9x1, .i32⟩
  | .hbm, ⟨13, _⟩ => ⟨S9x4096, .i32⟩
  | .hbm, ⟨14, _⟩ => ⟨S9x4096, .i32⟩
  | .hbm, ⟨15, _⟩ => ⟨S9x4096, .i1⟩
  | .hbm, ⟨16, _⟩ => ⟨S9x4096, .i32⟩
  | .hbm, ⟨17, _⟩ => ⟨S_, .i32⟩
  | .hbm, ⟨18, _⟩ => ⟨S4096, .i32⟩
  | .hbm, ⟨19, _⟩ => ⟨S4096x1, .i32⟩
  | .hbm, ⟨20, _⟩ => ⟨S1x1152, .f32⟩
  | .hbm, ⟨21, _⟩ => ⟨S9x1x1152, .f32⟩
  | .hbm, ⟨22, _⟩ => ⟨S1x1152, .f32⟩
  | .hbm, ⟨23, _⟩ => ⟨S9x1x1152, .f32⟩
  | .hbm, ⟨24, _⟩ => ⟨S4096x1152, .f32⟩
  | .local _ .vmem, ⟨0, _⟩ => ⟨S4096x1, .i32⟩
  | .local _ .vmem, ⟨1, _⟩ => ⟨S4096x1792, .fp8e4m3⟩
  | .local _ .vmem, ⟨2, _⟩ => ⟨S4096x1, .f32⟩
  | .local _ .vmem, ⟨3, _⟩ => ⟨S1792x1152, .fp8e4m3⟩
  | .local _ .vmem, ⟨4, _⟩ => ⟨S1x1152, .f32⟩
  | .local _ .vmem, ⟨5, _⟩ => ⟨S9x1792x1152, .fp8e4m3⟩
  | .local _ .vmem, ⟨6, _⟩ => ⟨S9x1x1152, .f32⟩
  | .local _ .vmem, ⟨7, _⟩ => ⟨S1x1152, .f32⟩
  | .local _ .vmem, ⟨8, _⟩ => ⟨S9x1x1152, .f32⟩
  | .local _ .vmem, ⟨9, _⟩ => ⟨S4096x1152, .f32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x1792x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x1x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Third.lean ====
abbrev S10 : Shape := ⟨1, ![10]⟩
abbrev S4096x1152 : Shape := ⟨2, ![4096, 1152]⟩
abbrev S4096x1 : Shape := ⟨2, ![4096, 1]⟩
abbrev S1152x320 : Shape := ⟨2, ![1152, 320]⟩
abbrev S320 : Shape := ⟨1, ![320]⟩
abbrev S9x1152x320 : Shape := ⟨3, ![9, 1152, 320]⟩
abbrev S9x320 : Shape := ⟨2, ![9, 320]⟩
abbrev S9 : Shape := ⟨1, ![9]⟩
abbrev S_ : Shape := ⟨0, ![]⟩
abbrev S24 : Shape := ⟨1, ![24]⟩
abbrev S1 : Shape := ⟨1, ![1]⟩
abbrev S1x24 : Shape := ⟨2, ![1, 24]⟩
abbrev S9x1 : Shape := ⟨2, ![9, 1]⟩
abbrev S9x24 : Shape := ⟨2, ![9, 24]⟩
abbrev S24x1 : Shape := ⟨2, ![24, 1]⟩
abbrev S1x320 : Shape := ⟨2, ![1, 320]⟩
abbrev S9x1x320 : Shape := ⟨3, ![9, 1, 320]⟩
abbrev S4096x320 : Shape := ⟨2, ![4096, 320]⟩
abbrev S256x1152 : Shape := ⟨2, ![256, 1152]⟩
abbrev S256x1 : Shape := ⟨2, ![256, 1]⟩
abbrev S1x1152x320 : Shape := ⟨3, ![1, 1152, 320]⟩
abbrev S1x1x320 : Shape := ⟨3, ![1, 1, 320]⟩
abbrev S256x320 : Shape := ⟨2, ![256, 320]⟩

abbrev nBuf : Space → Nat
  | .hbm => 109
  | .vmem => 16
  | .smem => 3
  | _ => 0

abbrev bufTy : (tb : Table) → Fin (tcTables nBuf tb) → BufTy
  | .hbm, ⟨0, _⟩ => ⟨S4096x1152, .fp8e4m3⟩
  | .hbm, ⟨1, _⟩ => ⟨S4096x1, .f32⟩
  | .hbm, ⟨2, _⟩ => ⟨S1152x320, .fp8e4m3⟩
  | .hbm, ⟨3, _⟩ => ⟨S320, .f32⟩
  | .hbm, ⟨4, _⟩ => ⟨S9x1152x320, .fp8e4m3⟩
  | .hbm, ⟨5, _⟩ => ⟨S9x320, .f32⟩
  | .hbm, ⟨6, _⟩ => ⟨S320, .f32⟩
  | .hbm, ⟨7, _⟩ => ⟨S9x320, .f32⟩
  | .hbm, ⟨8, _⟩ => ⟨S9, .i32⟩
  | .hbm, ⟨9, _⟩ => ⟨S9, .i32⟩
  | .hbm, ⟨10, _⟩ => ⟨S_, .i32⟩
  | .hbm, ⟨11, _⟩ => ⟨S_, .i32⟩
  | .hbm, ⟨12, _⟩ => ⟨S9, .i32⟩
  | .hbm, ⟨13, _⟩ => ⟨S9, .i32⟩
  | .hbm, ⟨14, _⟩ => ⟨S9, .i32⟩
  | .hbm, ⟨15, _⟩ => ⟨S_, .i32⟩
  | .hbm, ⟨16, _⟩ => ⟨S9, .i32⟩
  | .hbm, ⟨17, _⟩ => ⟨S9, .i1⟩
  | .hbm, ⟨18, _⟩ => ⟨S9, .i32⟩
  | .hbm, ⟨19, _⟩ => ⟨S9, .i32⟩
  | .hbm, ⟨20, _⟩ => ⟨S_, .i32⟩
  | .hbm, ⟨21, _⟩ => ⟨S9, .i32⟩
  | .hbm, ⟨22, _⟩ => ⟨S9, .i1⟩
  | .hbm, ⟨23, _⟩ => ⟨S9, .i1⟩
  | .hbm, ⟨24, _⟩ => ⟨S_, .i32⟩
  | .hbm, ⟨25, _⟩ => ⟨S9, .i32⟩
  | .hbm, ⟨26, _⟩ => ⟨S9, .i32⟩
  | .hbm, ⟨27, _⟩ => ⟨S9, .i32⟩
  | .hbm, ⟨28, _⟩ => ⟨S9, .i1⟩
  | .hbm, ⟨29, _⟩ => ⟨S_, .i32⟩
  | .hbm, ⟨30, _⟩ => ⟨S9, .i32⟩
  | .hbm, ⟨31, _⟩ => ⟨S9, .i32⟩
  | .hbm, ⟨32, _⟩ => ⟨S_, .i32⟩
  | .hbm, ⟨33, _⟩ => ⟨S_, .i32⟩
  | .hbm, ⟨34, _⟩ => ⟨S9, .i32⟩
  | .hbm, ⟨35, _⟩ => ⟨S9, .i32⟩
  | .hbm, ⟨36, _⟩ => ⟨S9, .i32⟩
  | .hbm, ⟨37, _⟩ => ⟨S_, .i32⟩
  | .hbm, ⟨38, _⟩ => ⟨S9, .i32⟩
  | .hbm, ⟨39, _⟩ => ⟨S9, .i1⟩
  | .hbm, ⟨40, _⟩ => ⟨S9, .i32⟩
  | .hbm, ⟨41, _⟩ => ⟨S9, .i32⟩
  | .hbm, ⟨42, _⟩ => ⟨S_, .i32⟩
  | .hbm, ⟨43, _⟩ => ⟨S9, .i32⟩
  | .hbm, ⟨44, _⟩ => ⟨S9, .i1⟩
  | .hbm, ⟨45, _⟩ => ⟨S9, .i1⟩
  | .hbm, ⟨46, _⟩ => ⟨S_, .i32⟩
  | .hbm, ⟨47, _⟩ => ⟨S9, .i32⟩
  | .hbm, ⟨48, _⟩ => ⟨S9, .i32⟩
  | .hbm, ⟨49, _⟩ => ⟨S9, .i32⟩
  | .hbm, ⟨50, _⟩ => ⟨S9, .i32⟩
  | .hbm, ⟨51, _⟩ => ⟨S_, .i32⟩
  | .hbm, ⟨52, _⟩ => ⟨S9, .i32⟩
  | .hbm, ⟨53, _⟩ => ⟨S9, .i32⟩
  | .hbm, ⟨54, _⟩ => ⟨S_, .i32⟩
  | .hbm, ⟨55, _⟩ => ⟨S_, .i32⟩
  | .hbm, ⟨56, _⟩ => ⟨S9, .i32⟩
  | .hbm, ⟨57, _⟩ => ⟨S9, .i32⟩
  | .hbm, ⟨58, _⟩ => ⟨S_, .i32⟩
  | .hbm, ⟨59, _⟩ => ⟨S_, .i32⟩
  | .hbm, ⟨60, _⟩ => ⟨S9, .i32⟩
  | .hbm, ⟨61, _⟩ => ⟨S24, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S24, .i32⟩
  | .hbm, ⟨67, _⟩ => ⟨S24, .i32⟩
  | .hbm, ⟨68, _⟩ => ⟨S1x24, .i32⟩
  | .hbm, ⟨69, _⟩ => ⟨S9x1, .i32⟩
  | .hbm, ⟨70, _⟩ => ⟨S9x24, .i32⟩
  | .hbm, ⟨71, _⟩ => ⟨S9x24, .i32⟩
  | .hbm, ⟨72, _⟩ => ⟨S9x24, .i1⟩
  | .hbm, ⟨73, _⟩ => ⟨S9x24, .i32⟩
  | .hbm, ⟨74, _⟩ => ⟨S_, .i32⟩
  | .hbm, ⟨75, _⟩ => ⟨S_, .i32⟩
  | .hbm, ⟨76, _⟩ => ⟨S24, .i32⟩
  | .hbm, ⟨77, _⟩ => ⟨S24, .i1⟩
  | .hbm, ⟨78, _⟩ => ⟨S_, .i32⟩
  | .hbm, ⟨79, _⟩ => ⟨S24, .i32⟩
  | .hbm, ⟨80, _⟩ => ⟨S24, .i32⟩
  | .hbm, ⟨81, _⟩ => ⟨S24, .i32⟩
  | .hbm, ⟨82, _⟩ => ⟨S24x1, .i32⟩
  | .hbm, ⟨83, _⟩ => ⟨S24, .i32⟩
  | .hbm, ⟨84, _⟩ => ⟨S24, .i32⟩
  | .hbm, ⟨85, _⟩ => ⟨S_, .i32⟩
  | .hbm, ⟨86, _⟩ => ⟨S24, .i32⟩
  | .hbm, ⟨87, _⟩ => ⟨S24, .i1⟩
  | .hbm, ⟨88, _⟩ => ⟨S_, .i32⟩
  | .hbm, ⟨89, _⟩ => ⟨S24, .i32⟩
  | .hbm, ⟨90, _⟩ => ⟨S24, .i32⟩
  | .hbm, ⟨91, _⟩ => ⟨S24, .i32⟩
  | .hbm, ⟨92, _⟩ => ⟨S24x1, .i32⟩
  | .hbm, ⟨93, _⟩ => ⟨S24, .i32⟩
  | .hbm, ⟨94, _⟩ => ⟨S_, .i32⟩
  | .hbm, ⟨95, _⟩ => ⟨S24, .i32⟩
  | .hbm, ⟨96, _⟩ => ⟨S24, .i1⟩
  | .hbm, ⟨97, _⟩ => ⟨S_, .i32⟩
  | .hbm, ⟨98, _⟩ => ⟨S24, .i32⟩
  | .hbm, ⟨99, _⟩ => ⟨S24, .i32⟩
  | .hbm, ⟨100, _⟩ => ⟨S24, .i32⟩
  | .hbm, ⟨101, _⟩ => ⟨S24x1, .i32⟩
  | .hbm, ⟨102, _⟩ => ⟨S24, .i32⟩
  | .hbm, ⟨103, _⟩ => ⟨S24, .i32⟩
  | .hbm, ⟨104, _⟩ => ⟨S1x320, .f32⟩
  | .hbm, ⟨105, _⟩ => ⟨S9x1x320, .f32⟩
  | .hbm, ⟨106, _⟩ => ⟨S1x320, .f32⟩
  | .hbm, ⟨107, _⟩ => ⟨S9x1x320, .f32⟩
  | .hbm, ⟨108, _⟩ => ⟨S4096x320, .bf16⟩
  | .local _ .vmem, ⟨0, _⟩ => ⟨S256x1152, .fp8e4m3⟩
  | .local _ .vmem, ⟨1, _⟩ => ⟨S256x1152, .fp8e4m3⟩
  | .local _ .vmem, ⟨2, _⟩ => ⟨S256x1, .f32⟩
  | .local _ .vmem, ⟨3, _⟩ => ⟨S256x1, .f32⟩
  | .local _ .vmem, ⟨4, _⟩ => ⟨S1152x320, .fp8e4m3⟩
  | .local _ .vmem, ⟨5, _⟩ => ⟨S1x320, .f32⟩
  | .local _ .vmem, ⟨6, _⟩ => ⟨S1x1152x320, .fp8e4m3⟩
  | .local _ .vmem, ⟨7, _⟩ => ⟨S1x1152x320, .fp8e4m3⟩
  | .local _ .vmem, ⟨8, _⟩ => ⟨S1x1x320, .f32⟩
  | .local _ .vmem, ⟨9, _⟩ => ⟨S1x1x320, .f32⟩
  | .local _ .vmem, ⟨10, _⟩ => ⟨S1x320, .f32⟩
  | .local _ .vmem, ⟨11, _⟩ => ⟨S1x1x320, .f32⟩
  | .local _ .vmem, ⟨12, _⟩ => ⟨S1x1x320, .f32⟩
  | .local _ .vmem, ⟨13, _⟩ => ⟨S256x320, .bf16⟩
  | .local _ .vmem, ⟨14, _⟩ => ⟨S256x320, .bf16⟩
  | .local _ .vmem, ⟨15, _⟩ => ⟨S1152x320, .bf16⟩
  | .local _ .smem, ⟨0, _⟩ => ⟨S24, .i32⟩
  | .local _ .smem, ⟨1, _⟩ => ⟨S24, .i32⟩
  | .local _ .smem, ⟨2, _⟩ => ⟨S10, .i32⟩
  | _, _ => ⟨S4096x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v6 : Ref sig .tc := ⟨.hbm, 49, rfl⟩
abbrev main_v7 : Ref sig .tc := ⟨.hbm, 50, rfl⟩
abbrev main_c_2 : Ref sig .tc := ⟨.hbm, 51, rfl⟩
abbrev main_v8 : Ref sig .tc := ⟨.hbm, 52, rfl⟩
abbrev main_v9 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_v10 : Ref sig .tc := ⟨.hbm, 57, rfl⟩
abbrev main_call3_call0_c : Ref sig .tc := ⟨.hbm, 58, rfl⟩
abbrev main_call3_call0_v0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call4_call0_v0 : Ref sig .tc := ⟨.hbm, 68, rfl⟩
abbrev main_call4_call0_v1 : Ref sig .tc := ⟨.hbm, 69, rfl⟩
abbrev main_call4_call0_v2 : Ref sig .tc := ⟨.hbm, 70, rfl⟩
abbrev main_call4_call0_v3 : Ref sig .tc := ⟨.hbm, 71, rfl⟩
abbrev main_call4_call0_v4 : Ref sig .tc := ⟨.hbm, 72, rfl⟩
abbrev main_call4_call0_v5 : Ref sig .tc := ⟨.hbm, 73, rfl⟩
abbrev main_call4_call0_c : Ref sig .tc := ⟨.hbm, 74, rfl⟩
abbrev main_c_5 : Ref sig .tc := ⟨.hbm, 75, rfl⟩
abbrev main_v19 : Ref sig .tc := ⟨.hbm, 76, rfl⟩
abbrev main_v20 : Ref sig .tc := ⟨.hbm, 77, rfl⟩
abbrev main_c_6 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_7 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_c_9 : Ref sig .tc := ⟨.hbm, 94, rfl⟩
abbrev main_v34 : Ref sig .tc := ⟨.hbm, 95, rfl⟩
abbrev main_v35 : Ref sig .tc := ⟨.hbm, 96, rfl⟩
abbrev main_c_10 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v42 : Ref sig .tc := ⟨.smem, 0, rfl⟩
abbrev main_v18 : Ref sig .tc := ⟨.smem, 1, rfl⟩
abbrev main_arg0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 24], ![false, false]⟩

abbrev pre0 : Pipeline.Prefetch sig := ⟨3, ![main_v42.idx, main_v18.idx, main_arg0.idx], fun | 0 => main_v42.names | 1 => main_v18.names | 2 => main_arg0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg1 : BitVec 32 := BitVec.ofNat 32 (i 1).val
  let v32 : Index := Scalar.indexCast arg1
  ![v32.toNat]
def k0_off4 (i : grid0.Coords) : Fin 1 → Nat :=
  let arg1 : BitVec 32 := BitVec.ofNat 32 (i 1).val
  let c1_i32_18 : BitVec 32 := 1#32
  let v41 : BitVec 32 := Scalar.subi arg1 c1_i32_18
  let c0_i32_19 : BitVec 32 := 0#32
  let v42 : BitVec 32 := Scalar.maxsi v41 c0_i32_19
  let v43 : Index := Scalar.indexCast v42
  ![v43.toNat]
def k0_off5 (v1 : BitVec 32) : Fin 1 → Nat :=
  let v52 : Index := Scalar.indexCast v1
  ![v52.toNat]
def k0_cond3 (i : grid0.Coords) (v40 : BitVec 32) (v44 : BitVec 32) : BitVec 1 :=
  let arg1 : BitVec 32 := BitVec.ofNat 32 (i 1).val
  let c0_i32_17 : BitVec 32 := 0#32
  let v38 : BitVec 1 := Scalar.cmpi .eq arg1 c0_i32_17
  let v45 : BitVec 1 := Scalar.cmpi .ne v40 v44
  let v46 : BitVec 1 := Scalar.ori v38 v45
  let v_true : BitVec 1 := 1#1
  let v49 : BitVec 1 := Scalar.xori v46 v_true
  let v50 : BitVec 32 := Scalar.extui v49
  let c0_i32_21 : BitVec 32 := 0#32
  let v51 : BitVec 1 := Scalar.cmpi .ne v50 c0_i32_21
  v51

def k0_chk1 (i : grid0.Coords) (v1 : BitVec 32) (v40 : BitVec 32) (v44 : BitVec 32) : Prop :=
  (∀ (k0_h3 : k0_cond3 i v40 v44 = 1#1), ∀ a, (k0_off5 v1) a + S1.size a ≤ S10.size a)
theorem k0_off5_inb : ∀ (i : grid0.Coords) (v1 : BitVec 32) (v40 : BitVec 32) (v44 : BitVec 32) (k0_hw1 : k0_chk1 i v1 v40 v44), ∀ (k0_h3 : k0_cond3 i v40 v44 = 1#1), ∀ a, (k0_off5 v1) a + S1.size a ≤ S10.size a := fun i v1 v40 v44 k0_hw1 k0_h3 => k0_hw1 k0_h3

def k0_cond2 (i : grid0.Coords) (v40 : BitVec 32) (v44 : BitVec 32) : BitVec 1 :=
  let arg1 : BitVec 32 := BitVec.ofNat 32 (i 1).val
  let c0_i32_17 : BitVec 32 := 0#32
  let v38 : BitVec 1 := Scalar.cmpi .eq arg1 c0_i32_17
  let v45 : BitVec 1 := Scalar.cmpi .ne v40 v44
  let v46 : BitVec 1 := Scalar.ori v38 v45
  let v47 : BitVec 32 := Scalar.extui v46
  let c0_i32_20 : BitVec 32 := 0#32
  let v48 : BitVec 1 := Scalar.cmpi .ne v47 c0_i32_20
  v48

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c0_i32 : BitVec 32 := 0#32
  ![v1.toNat, arg0.toNat]

abbrev stage0_0 : Fin 2 → Memref sig .tc .vmem S256x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1152x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1152x320 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x320 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ThirdRefIdeal.lean ====
abbrev S10 : Shape := ⟨1, ![10]⟩
abbrev S4096x1152 : Shape := ⟨2, ![4096, 1152]⟩
abbrev S4096x1 : Shape := ⟨2, ![4096, 1]⟩
abbrev S1152x320 : Shape := ⟨2, ![1152, 320]⟩
abbrev S320 : Shape := ⟨1, ![320]⟩
abbrev S9x1152x320 : Shape := ⟨3, ![9, 1152, 320]⟩
abbrev S9x320 : Shape := ⟨2, ![9, 320]⟩
abbrev S9 : Shape := ⟨1, ![9]⟩
abbrev S4096 : Shape := ⟨1, ![4096]⟩
abbrev S1x4096 : Shape := ⟨2, ![1, 4096]⟩
abbrev S9x1 : Shape := ⟨2, ![9, 1]⟩
abbrev S9x4096 : Shape := ⟨2, ![9, 4096]⟩
abbrev S_ : Shape := ⟨0, ![]⟩
abbrev S1x320 : Shape := ⟨2, ![1, 320]⟩
abbrev S9x1x320 : Shape := ⟨3, ![9, 1, 320]⟩
abbrev S4096x320 : Shape := ⟨2, ![4096, 320]⟩
abbrev S1x1152x320 : Shape := ⟨3, ![1, 1152, 320]⟩
abbrev S1x1x320 : Shape := ⟨3, ![1, 1, 320]⟩

abbrev nBuf : Space → Nat
  | .hbm => 25
  | .vmem => 10
  | .smem => 0
  | _ => 0

abbrev bufTy : (tb : Table) → Fin (tcTables nBuf tb) → BufTy
  | .hbm, ⟨0, _⟩ => ⟨S10, .i32⟩
  | .hbm, ⟨1, _⟩ => ⟨S4096x1152, .fp8e4m3⟩
  | .hbm, ⟨2, _⟩ => ⟨S4096x1, .f32⟩
  | .hbm, ⟨3, _⟩ => ⟨S1152x320, .fp8e4m3⟩
  | .hbm, ⟨4, _⟩ => ⟨S320, .f32⟩
  | .hbm, ⟨5, _⟩ => ⟨S9x1152x320, .fp8e4m3⟩
  | .hbm, ⟨6, _⟩ => ⟨S9x320, .f32⟩
  | .hbm, ⟨7, _⟩ => ⟨S320, .f32⟩
  | .hbm, ⟨8, _⟩ => ⟨S9x320, .f32⟩
  | .hbm, ⟨9, _⟩ => ⟨S9, .i32⟩
  | .hbm, ⟨10, _⟩ => ⟨S4096, .i32⟩
  | .hbm, ⟨11, _⟩ => ⟨S1x4096, .i32⟩
  | .hbm, ⟨12, _⟩ => ⟨S9x1, .i32⟩
  | .hbm, ⟨13, _⟩ => ⟨S9x4096, .i32⟩
  | .hbm, ⟨14, _⟩ => ⟨S9x4096, .i32⟩
  | .hbm, ⟨15, _⟩ => ⟨S9x4096, .i1⟩
  | .hbm, ⟨16, _⟩ => ⟨S9x4096, .i32⟩
  | .hbm, ⟨17, _⟩ => ⟨S_, .i32⟩
  | .hbm, ⟨18, _⟩ => ⟨S4096, .i32⟩
  | .hbm, ⟨19, _⟩ => ⟨S4096x1, .i32⟩
  | .hbm, ⟨20, _⟩ => ⟨S1x320, .f32⟩
  | .hbm, ⟨21, _⟩ => ⟨S9x1x320, .f32⟩
  | .hbm, ⟨22, _⟩ => ⟨S1x320, .f32⟩
  | .hbm, ⟨23, _⟩ => ⟨S9x1x320, .f32⟩
  | .hbm, ⟨24, _⟩ => ⟨S4096x320, .bf16⟩
  | .local _ .vmem, ⟨0, _⟩ => ⟨S4096x1, .i32⟩
  | .local _ .vmem, ⟨1, _⟩ => ⟨S4096x1152, .fp8e4m3⟩
  | .local _ .vmem, ⟨2, _⟩ => ⟨S4096x1, .f32⟩
  | .local _ .vmem, ⟨3, _⟩ => ⟨S1152x320, .fp8e4m3⟩
  | .local _ .vmem, ⟨4, _⟩ => ⟨S1x320, .f32⟩
  | .local _ .vmem, ⟨5, _⟩ => ⟨S9x1152x320, .fp8e4m3⟩
  | .local _ .vmem, ⟨6, _⟩ => ⟨S9x1x320, .f32⟩
  | .local _ .vmem, ⟨7, _⟩ => ⟨S1x320, .f32⟩
  | .local _ .vmem, ⟨8, _⟩ => ⟨S9x1x320, .f32⟩
  | .local _ .vmem, ⟨9, _⟩ => ⟨S4096x320, .bf16⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x320 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x1152x320 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x1x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x320 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Quant.lean ====
abbrev S4096x1792 : Shape := ⟨2, ![4096, 1792]⟩
abbrev S4096x1 : Shape := ⟨2, ![4096, 1]⟩
abbrev S256x1792 : Shape := ⟨2, ![256, 1792]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1792, .f32⟩
  | .hbm, ⟨1, _⟩ => ⟨S4096x1792, .fp8e4m3⟩
  | .hbm, ⟨2, _⟩ => ⟨S4096x1, .f32⟩
  | .local _ .vmem, ⟨0, _⟩ => ⟨S256x1792, .f32⟩
  | .local _ .vmem, ⟨1, _⟩ => ⟨S256x1792, .f32⟩
  | .local _ .vmem, ⟨2, _⟩ => ⟨S256x1792, .fp8e4m3⟩
  | .local _ .vmem, ⟨3, _⟩ => ⟨S256x1792, .fp8e4m3⟩
  | .local _ .vmem, ⟨4, _⟩ => ⟨S256x1, .f32⟩
  | .local _ .vmem, ⟨5, _⟩ => ⟨S256x1, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRef.lean ====
abbrev S4096x1792 : Shape := ⟨2, ![4096, 1792]⟩
abbrev S4096x1 : Shape := ⟨2, ![4096, 1]⟩
abbrev S4096 : Shape := ⟨1, ![4096]⟩

abbrev nBuf : Space → Nat
  | .hbm => 3
  | .vmem => 3
  | .smem => 0
  | _ => 0

abbrev bufTy : (tb : Table) → Fin (tcTables nBuf tb) → BufTy
  | .hbm, ⟨0, _⟩ => ⟨S4096x1792, .f32⟩
  | .hbm, ⟨1, _⟩ => ⟨S4096x1792, .fp8e4m3⟩
  | .hbm, ⟨2, _⟩ => ⟨S4096x1, .f32⟩
  | .local _ .vmem, ⟨0, _⟩ => ⟨S4096x1792, .f32⟩
  | .local _ .vmem, ⟨1, _⟩ => ⟨S4096x1792, .fp8e4m3⟩
  | .local _ .vmem, ⟨2, _⟩ => ⟨S4096x1, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S4096x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Quant2.lean ====
abbrev S4096x1152 : Shape := ⟨2, ![4096, 1152]⟩
abbrev S4096x1 : Shape := ⟨2, ![4096, 1]⟩
abbrev S256x1152 : Shape := ⟨2, ![256, 1152]⟩
abbrev S256x1 : Shape := ⟨2, ![256, 1]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1152, .f32⟩
  | .hbm, ⟨1, _⟩ => ⟨S4096x1152, .fp8e4m3⟩
  | .hbm, ⟨2, _⟩ => ⟨S4096x1, .f32⟩
  | .local _ .vmem, ⟨0, _⟩ => ⟨S256x1152, .f32⟩
  | .local _ .vmem, ⟨1, _⟩ => ⟨S256x1152, .f32⟩
  | .local _ .vmem, ⟨2, _⟩ => ⟨S256x1152, .fp8e4m3⟩
  | .local _ .vmem, ⟨3, _⟩ => ⟨S256x1152, .fp8e4m3⟩
  | .local _ .vmem, ⟨4, _⟩ => ⟨S256x1, .f32⟩
  | .local _ .vmem, ⟨5, _⟩ => ⟨S256x1, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRef2.lean ====
abbrev S4096x1152 : Shape := ⟨2, ![4096, 1152]⟩
abbrev S4096x1 : Shape := ⟨2, ![4096, 1]⟩
abbrev S4096 : Shape := ⟨1, ![4096]⟩

abbrev nBuf : Space → Nat
  | .hbm => 3
  | .vmem => 3
  | .smem => 0
  | _ => 0

abbrev bufTy : (tb : Table) → Fin (tcTables nBuf tb) → BufTy
  | .hbm, ⟨0, _⟩ => ⟨S4096x1152, .f32⟩
  | .hbm, ⟨1, _⟩ => ⟨S4096x1152, .fp8e4m3⟩
  | .hbm, ⟨2, _⟩ => ⟨S4096x1, .f32⟩
  | .local _ .vmem, ⟨0, _⟩ => ⟨S4096x1152, .f32⟩
  | .local _ .vmem, ⟨1, _⟩ => ⟨S4096x1152, .fp8e4m3⟩
  | .local _ .vmem, ⟨2, _⟩ => ⟨S4096x1, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S4096x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Kit.lean ====
/-
  The set-up of `KernelIdeal`'s certificate: the memory when the pipelined region is entered (`V`: the launch memory after
  the host operations that build the work list), the three tables of the work list (`tbl`), the windows' blocks, the
  staging and scratch buffers, and the words the body reads from the tables.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, then every host operation's result written. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

set_option maxHeartbeats 1600000 in
/-- @main up to the region runs the host operations and leaves `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

/-- The host operations write no argument. -/
theorem V_arg (c : Dev nD) (b : Ref sig .tc) (hb : b ∈ [main_arg0, main_arg1, main_arg2, main_arg3, main_arg4, main_arg5, main_arg6, main_arg7, main_arg8]) :
    V m c b = m ((c : Thread nD τ).loc b) := by
  refine StableHlo.after_of_forall_not_mem (b := Proc.devRef .tc b) _ _ (List.forall_iff_forall_mem.mp ?_)
  simp only [List.mem_cons, List.not_mem_nil, or_false] at hb
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl | rfl | rfl | rfl <;> repeat' apply And.intro
  all_goals exact StableHlo.devRef_ne_of_ne (by decide)

theorem V_main_arg0 (c : Dev nD) : V m c main_arg0 = m ((c : Thread nD τ).loc main_arg0) := V_arg m c _ (by simp)
theorem V_main_arg1 (c : Dev nD) : V m c main_arg1 = m ((c : Thread nD τ).loc main_arg1) := V_arg m c _ (by simp)
theorem V_main_arg2 (c : Dev nD) : V m c main_arg2 = m ((c : Thread nD τ).loc main_arg2) := V_arg m c _ (by simp)
theorem V_main_arg3 (c : Dev nD) : V m c main_arg3 = m ((c : Thread nD τ).loc main_arg3) := V_arg m c _ (by simp)
theorem V_main_arg4 (c : Dev nD) : V m c main_arg4 = m ((c : Thread nD τ).loc main_arg4) := V_arg m c _ (by simp)
theorem V_main_arg5 (c : Dev nD) : V m c main_arg5 = m ((c : Thread nD τ).loc main_arg5) := V_arg m c _ (by simp)
theorem V_main_arg6 (c : Dev nD) : V m c main_arg6 = m ((c : Thread nD τ).loc main_arg6) := V_arg m c _ (by simp)
theorem V_main_arg7 (c : Dev nD) : V m c main_arg7 = m ((c : Thread nD τ).loc main_arg7) := V_arg m c _ (by simp)
theorem V_main_arg8 (c : Dev nD) : V m c main_arg8 = m ((c : Thread nD τ).loc main_arg8) := V_arg m c _ (by simp)

/-! ## The tables -/

/-- The tables' contents when the region is entered. -/
def tbl : pre0.Contents (Elt F) := fun j => V m (0 : Dev nD) (pre0.ref j)
/-- There is one device, so the tables hold those contents on every device. -/
theorem V_pre (c : Dev nD) (j : Fin 3) : V m c (pre0.ref j) = tbl m j := by
  obtain rfl : c = 0 := Subsingleton.elim _ _; rfl
/-- Every window's block lies inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tbl_def (j : Fin 3) : tbl m j = V m (0 : Dev nD) (pre0.ref j) := rfl

abbrev tbM0_0 : Memref sig .tc .smem S24 .i32 := Memref.whole main_v42
abbrev htbM0_0 : tbM0_0.IsWhole := Memref.isWhole_whole _
abbrev tbM0_1 : Memref sig .tc .smem S24 .i32 := Memref.whole main_v18
abbrev htbM0_1 : tbM0_1.IsWhole := Memref.isWhole_whole _
abbrev tbM0_2 : Memref sig .tc .smem S10 .i32 := Memref.whole main_arg0
abbrev htbM0_2 : tbM0_2.IsWhole := Memref.isWhole_whole _

abbrev TbBuf0 (c : Dev nD) {S : Shape} {e : EltTy} (M : Memref sig .tc .smem S e) : Type := Buf (Elt F) (M.view.loc (c : Thread nD τ))
/-- A table held at half the full share. -/
abbrev tbPt0 (c : Dev nD) {S : Shape} {e : EltTy} (M : Memref sig .tc .smem S e) (f : TbBuf0 (F := F) c M) : sProp 𝕄 :=
  M.view.loc (c : Thread nD τ) ↦{fullShare.right} f

theorem V_def (c : Dev nD) (b : Ref sig .tc) : V m c b = StableHlo.after (List.flatten [hostOps0, hostOps0_1, hostOps0_2, hostOps0_3, hostOps0_4, hostOps0_5, hostOps0_6, hostOps0_7, hostOps0_8, hostOps0_9]) (fun b => m (c, b)) b := rfl

attribute [irreducible] V tbl

/-- The tables as the body's memrefs hold them: tiles, domains, offsets. -/
def tb0 : (tbM0_0).view.ty.Contents (Elt F) := tbl m 0
def tb1 : (tbM0_1).view.ty.Contents (Elt F) := tbl m 1
def tb2 : (tbM0_2).view.ty.Contents (Elt F) := tbl m 2

/-- The tables' halves the region hands the body, table by table. -/
theorem PhiT0_eq (c : Dev nD) : (Pipeline.ΦT pre0 (tbl m) c : sProp 𝕄) = iprop(tbPt0 c tbM0_0 (tb0 m) ∗ tbPt0 c tbM0_1 (tb1 m) ∗ tbPt0 c tbM0_2 (tb2 m)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The words the body reads -/

section Words
variable (i : grid0.Coords)
/-- The tile of the work item. -/
abbrev wTile (xt : (tbM0_0).view.ty.Contents (Elt F)) : BitVec 32 :=
  tbM0_0.view.readAt (Elt F) (Rect.unit (s := S24) (k0_off3 i) S1.size (k0_off3_inb i)).toLoadRect xt (Shape.Idx.first (numel1_S1.symm ▸ Nat.one_pos))
/-- The tile of the work item before it. -/
abbrev wTileP (xt : (tbM0_0).view.ty.Contents (Elt F)) : BitVec 32 :=
  tbM0_0.view.readAt (Elt F) (Rect.unit (s := S24) (k0_off4 i) S1.size (k0_off4_inb i)).toLoadRect xt (Shape.Idx.first (numel1_S1.symm ▸ Nat.one_pos))
/-- The domain of the work item. -/
abbrev wDom (xt : (tbM0_1).view.ty.Contents (Elt F)) : BitVec 32 :=
  tbM0_1.view.readAt (Elt F) (Rect.unit (s := S24) (k0_off1 i) S1.size (k0_off1_inb i)).toLoadRect xt (Shape.Idx.first (numel1_S1.symm ▸ Nat.one_pos))
/-- The domain of the work item before it. -/
abbrev wDomP (xt : (tbM0_1).view.ty.Contents (Elt F)) : BitVec 32 :=
  tbM0_1.view.readAt (Elt F) (Rect.unit (s := S24) (k0_off2 i) S1.size (k0_off2_inb i)).toLoadRect xt (Shape.Idx.first (numel1_S1.symm ▸ Nat.one_pos))
/-- The first row of domain `v`. -/
abbrev wOff (v : BitVec 32) (h : ∀ a, k0_off5 v a + S1.size a ≤ S10.size a) (xt : (tbM0_2).view.ty.Contents (Elt F)) : BitVec 32 :=
  tbM0_2.view.readAt (Elt F) (Rect.unit (s := S10) (k0_off5 v) S1.size h).toLoadRect xt (Shape.Idx.first (numel1_S1.symm ▸ Nat.one_pos))
end Words

/-- The condition under which the body forms the weight product anew. -/
abbrev cond0_0 (i : grid0.Coords) (v1 : BitVec 32) (v5 : BitVec 32) : Prop := (Scalar.cmpi .ne (Scalar.extui (Scalar.ori (Scalar.cmpi .eq (BitVec.ofNat 32 (i 1).val) 0#32) (Scalar.cmpi .ne v1 v5))) 0#32) = 1#1

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch buffers -/

abbrev ms0_0 (hO : Ok m) (t : Fin (cfgM m hO).N) : Memref sig .tc .vmem S256x7168 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S7168x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x7168x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x256 .f32 := spec0_8.stage ((cfgM m hO).slots t 8)
abbrev hs0_8 (hO : Ok m) (t : Fin (cfgM m hO).N) : (ms0_8 m hO t).IsWhole := hstage0_8 (((cfgM m hO).slots t 8).cast nbuf0_8)

/-- The scratch that holds the weight product. -/
abbrev scM0_0 : Memref sig .tc .vmem S7168x256 .bf16 := Memref.whole cc0_scratch0

/-- The scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_star_fc (grid0.coords t) (Memref.whole main_v42) (Memref.isWhole_whole _) (Memref.whole main_v18) (Memref.isWhole_whole _) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.KernelIdeal.Gen

end
-- ==== Proof.KernelIdeal.Words.lean ====
/-
  The words the body and the index maps read, as entries of the tables, and the body's branch conditions over them.
-/
module

public import proofs.«01_k».proof.Proof.KernelIdeal.Kit
public import Idealize.ShloMosaic.Lib.Routing.Ops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

omit [FloatOps F] in
theorem unit1_emb {n : ℕ} (off : Fin 1 → ℕ) (h : ∀ a, off a + S1.size a ≤ (⟨1, ![n]⟩ : Shape).size a) (k : Fin n) (hk : off 0 = k.val) (y : S1.Idx) :
    (Rect.unit (s := (⟨1, ![n]⟩ : Shape)) off S1.size h).emb y = ix1 k := by
  funext a
  fin_cases a
  apply Fin.ext
  have hy : (y 0).val = 0 := by have := (y 0).isLt; simp only [S1] at this; exact Nat.lt_one_iff.mp this
  show off 0 + 1 * (y 0).val = k.val
  omega

theorem off1_val (i : grid0.Coords) : k0_off1 i 0 = (i 1).val := by
  have h : (i 1).val < 24 := (i 1).isLt
  show (BitVec.ofNat 32 (i 1).val).toNat = _
  rw [BitVec.toNat_ofNat]; omega
theorem off3_val (i : grid0.Coords) : k0_off3 i 0 = (i 1).val := off1_val i
theorem off2_val (i : grid0.Coords) : k0_off2 i 0 = (i 1).val - 1 := by
  have h : (i 1).val < 24 := (i 1).isLt
  unfold k0_off2
  generalize (i 1).val = n at h
  interval_cases n <;> decide
theorem off4_val (i : grid0.Coords) : k0_off4 i 0 = (i 1).val - 1 := off2_val i

/-- The entry before entry `k` of a table of 24. -/
abbrev prev24 (k : Fin 24) : Fin 24 := ⟨k.val - 1, by omega⟩

theorem wTile_eq (i : grid0.Coords) (x : (tbM0_0).view.ty.Contents (Elt F)) : wTile i x = x (ix1 (i 1)) :=
  congrArg x (unit1_emb _ (k0_off3_inb i) (i 1) (off3_val i) _)
theorem wTileP_eq (i : grid0.Coords) (x : (tbM0_0).view.ty.Contents (Elt F)) : wTileP i x = x (ix1 (prev24 (i 1))) :=
  congrArg x (unit1_emb _ (k0_off4_inb i) (prev24 (i 1)) (off4_val i) _)
theorem wDom_eq (i : grid0.Coords) (x : (tbM0_1).view.ty.Contents (Elt F)) : wDom i x = x (ix1 (i 1)) :=
  congrArg x (unit1_emb _ (k0_off1_inb i) (i 1) (off1_val i) _)
theorem wDomP_eq (i : grid0.Coords) (x : (tbM0_1).view.ty.Contents (Elt F)) : wDomP i x = x (ix1 (prev24 (i 1))) :=
  congrArg x (unit1_emb _ (k0_off2_inb i) (prev24 (i 1)) (off2_val i) _)
theorem wOff_eq (v : BitVec 32) (h : ∀ a, k0_off5 v a + S1.size a ≤ S10.size a) (x : (tbM0_2).view.ty.Contents (Elt F)) (k : Fin 10) (hk : v.toNat = k.val) :
    wOff v h x = x (ix1 k) :=
  congrArg x (unit1_emb _ h k hk _)

theorem tr0_eq (pf : pre0.Contents (Elt F)) (i : grid0.Coords) : cc0_transform_0 k0_off1_inb numel1_S1 pf i = ![((pf 0 : S24.Idx → BitVec 32) (ix1 (i 1))).toNat, 0] := by
  have h := congrArg (pf 0 : S24.Idx → BitVec 32) (unit1_emb _ (k0_off1_inb i) (i 1) (off1_val i) (Shape.Idx.first (numel1_S1.symm ▸ Nat.one_pos)))
  exact congrArg (fun v : BitVec 32 => ![v.toNat, 0]) h
theorem tr1_eq (pf : pre0.Contents (Elt F)) (i : grid0.Coords) : cc0_transform_1 k0_off1_inb numel1_S1 pf i = ![((pf 0 : S24.Idx → BitVec 32) (ix1 (i 1))).toNat, 0] := tr0_eq pf i
theorem ofNat7 (i : grid0.Coords) : (BitVec.ofNat 32 (i 0).val).toNat = (i 0).val := by
  have h : (i 0).val < 7 := (i 0).isLt
  rw [BitVec.toNat_ofNat]; omega
theorem tr8_eq (pf : pre0.Contents (Elt F)) (i : grid0.Coords) : cc0_transform_8 k0_off1_inb numel1_S1 pf i = ![((pf 0 : S24.Idx → BitVec 32) (ix1 (i 1))).toNat, (i 0).val] := by
  have h := congrArg (pf 0 : S24.Idx → BitVec 32) (unit1_emb _ (k0_off1_inb i) (i 1) (off1_val i) (Shape.Idx.first (numel1_S1.symm ▸ Nat.one_pos)))
  exact (congrArg (fun v : BitVec 32 => ![v.toNat, (BitVec.ofNat 32 (i 0).val).toNat]) h).trans (by rw [ofNat7])
theorem tr4_eq (pf : pre0.Contents (Elt F)) (i : grid0.Coords) : cc0_transform_4 k0_off1_inb numel1_S1 pf i = ![((pf 1 : S24.Idx → BitVec 32) (ix1 (i 1))).toNat, 0, (i 0).val] := by
  have h := congrArg (pf 1 : S24.Idx → BitVec 32) (unit1_emb _ (k0_off1_inb i) (i 1) (off1_val i) (Shape.Idx.first (numel1_S1.symm ▸ Nat.one_pos)))
  exact (congrArg (fun v : BitVec 32 => ![v.toNat, 0, (BitVec.ofNat 32 (i 0).val).toNat]) h).trans (by rw [ofNat7])
theorem tr5_eq (pf : pre0.Contents (Elt F)) (i : grid0.Coords) : cc0_transform_5 k0_off1_inb numel1_S1 pf i = ![((pf 1 : S24.Idx → BitVec 32) (ix1 (i 1))).toNat, 0, (i 0).val] := tr4_eq pf i
theorem tr7_eq (pf : pre0.Contents (Elt F)) (i : grid0.Coords) : cc0_transform_7 k0_off1_inb numel1_S1 pf i = ![((pf 1 : S24.Idx → BitVec 32) (ix1 (i 1))).toNat, 0, (i 0).val] := tr4_eq pf i
/-- Two points of one strip whose items have one tile have one output block, of one domain one weight block. -/
theorem tr8_congr (pf : pre0.Contents (Elt F)) (i i' : grid0.Coords) (h0 : i 0 = i' 0)
    (h : (pf 0 : S24.Idx → BitVec 32) (ix1 (i 1)) = (pf 0 : S24.Idx → BitVec 32) (ix1 (i' 1))) :
    cc0_transform_8 k0_off1_inb numel1_S1 pf i = cc0_transform_8 k0_off1_inb numel1_S1 pf i' := by
  rw [tr8_eq, tr8_eq, h0, h]
theorem tr4_congr (pf : pre0.Contents (Elt F)) (i i' : grid0.Coords) (h0 : i 0 = i' 0)
    (h : (pf 1 : S24.Idx → BitVec 32) (ix1 (i 1)) = (pf 1 : S24.Idx → BitVec 32) (ix1 (i' 1))) :
    cc0_transform_4 k0_off1_inb numel1_S1 pf i = cc0_transform_4 k0_off1_inb numel1_S1 pf i' := by
  rw [tr4_eq, tr4_eq, h0, h]
theorem tr2_eq (i : grid0.Coords) : cc0_transform_2 i = ![0, (i 0).val] :=
  congrArg (fun n => ![0, n]) (ofNat7 i)
theorem tr3_eq (i : grid0.Coords) : cc0_transform_3 i = ![0, (i 0).val] := tr2_eq i
theorem tr6_eq (i : grid0.Coords) : cc0_transform_6 i = ![0, (i 0).val] := tr2_eq i

theorem ofNat_eq_zero (i : grid0.Coords) : BitVec.ofNat 32 (i 1).val = 0#32 ↔ (i 1).val = 0 := by
  have h : (i 1).val < 24 := (i 1).isLt
  constructor
  · intro e
    have := congrArg BitVec.toNat e
    rw [BitVec.toNat_ofNat] at this
    have h0 : (0#32).toNat = 0 := rfl
    omega
  · intro e; rw [e]

theorem cond0_iff (i : grid0.Coords) (a b : BitVec 32) : cond0_0 i a b ↔ ((i 1).val = 0 ∨ a ≠ b) := by
  rw [← ofNat_eq_zero i]
  unfold cond0_0
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide
theorem cond2_iff (i : grid0.Coords) (a b : BitVec 32) : k0_cond2 i a b = 1#1 ↔ ((i 1).val = 0 ∨ a ≠ b) := cond0_iff i a b
theorem cond3_iff (i : grid0.Coords) (a b : BitVec 32) : k0_cond3 i a b = 1#1 ↔ ¬((i 1).val = 0 ∨ a ≠ b) := by
  rw [← ofNat_eq_zero i]
  unfold k0_cond3
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide

/-! ## The points of the grid -/

theorem coords0 : ∀ t : Fin grid0.N, (grid0.coords t 0).val = t.val / 24 := by decide +kernel
theorem coords1 : ∀ t : Fin grid0.N, (grid0.coords t 1).val = t.val % 24 := by decide +kernel

end Cert.KernelIdeal.Gen

end
-- ==== Proof.WorkList.lean ====
module

public import Idealize.ShloMosaic.Lib.Routing.OpsSearch

/-!
# The work list, on natural numbers

The kernel walks a list of 24 work items.  Row offsets `o 0 ≤ o 1 ≤ … ≤ o 9` cut the 4096 rows into nine
domains; rows also come in 16 tiles of 256.  A work item is a pair (domain, tile) whose row sets meet, in
order.  The host builds the list from per-domain tile counts, their running sums and a clamped position;
this file states that construction on natural numbers and proves the facts the kernel rests on.
-/

@[expose] public section

namespace Cert.WorkList

/-- The offsets: nondecreasing, from `0` to `4096`. -/
structure Offs (o : ℕ → ℕ) : Prop where
  mono : ∀ d, d < 9 → o d ≤ o (d + 1)
  zero : o 0 = 0
  last : o 9 = 4096

/-- How many tiles the rows of domain `d` meet. -/
def cnt (o : ℕ → ℕ) (d : ℕ) : ℕ := if o d < o (d + 1) then (o (d + 1) - 1) / 256 - o d / 256 + 1 else 0

/-- The running sum of `cnt` through domain `d`. -/
def cend (o : ℕ → ℕ) (d : ℕ) : ℕ := ((List.range (d + 1)).map (cnt o)).sum

/-- The position in the list of item `w`; the items behind the last one repeat it. -/
def pos (o : ℕ → ℕ) (w : ℕ) : ℕ := min w (cend o 8 - 1)

/-- The domain of item `w`. -/
def dom (o : ℕ → ℕ) (w : ℕ) : ℕ := Nat.count (fun d => cend o d ≤ pos o w) 9

/-- The tile of item `w`. -/
def tile (o : ℕ → ℕ) (w : ℕ) : ℕ := o (dom o w) / 256 + pos o w - (cend o (dom o w) - cnt o (dom o w))

/-- The domain of row `r`. -/
def rowDom (o : ℕ → ℕ) (r : ℕ) : ℕ := Nat.count (fun d => o (d + 1) ≤ r) 9

theorem cend_zero (o : ℕ → ℕ) : cend o 0 = cnt o 0 := by simp [cend]
theorem cend_succ (o : ℕ → ℕ) (d : ℕ) : cend o (d + 1) = cend o d + cnt o (d + 1) := by
  unfold cend; rw [List.range_succ (n := d + 1)]; simp

/-- Counting an initial segment. -/
theorem count_lt (p : ℕ → Prop) [DecidablePred p] (k n : ℕ) (h : ∀ d, d < n → (p d ↔ d < k)) :
    Nat.count p n = min n k := by
  induction n with
  | zero => simp
  | succ n ih =>
    rw [Nat.count_succ, ih fun d hd => h d (by omega)]
    have := h n (by omega)
    by_cases hp : p n
    · rw [if_pos hp]; have := this.1 hp; omega
    · rw [if_neg hp]; have : ¬ n < k := fun h' => hp (this.2 h'); omega

section
variable {o : ℕ → ℕ} (ho : Offs o)
include ho

theorem o_le {a b : ℕ} (hab : a ≤ b) (hb : b ≤ 9) : o a ≤ o b := by
  induction b with
  | zero => have : a = 0 := by omega
            subst this; exact le_rfl
  | succ b ih =>
    rcases Nat.lt_or_ge b a with h | h
    · have : a = b + 1 := by omega
      subst this; exact le_rfl
    · exact (ih h (by omega)).trans (ho.mono b (by omega))

theorem o_le_last {d : ℕ} (hd : d ≤ 9) : o d ≤ 4096 := ho.last ▸ o_le ho hd le_rfl

/-- A row between two consecutive offsets has that domain. -/
theorem rowDom_eq {r d : ℕ} (hd : d < 9) (h1 : o d ≤ r) (h2 : r < o (d + 1)) : rowDom o r = d := by
  unfold rowDom
  rw [count_lt _ d 9]
  · omega
  · intro e he
    constructor
    · intro h
      by_contra hc
      have := o_le ho (show d + 1 ≤ e + 1 by omega) (by omega)
      omega
    · intro h
      exact (o_le ho (show e + 1 ≤ d by omega) (by omega)).trans h1

omit ho in
theorem cend_mono {a b : ℕ} (hab : a ≤ b) : cend o a ≤ cend o b := by
  induction b with
  | zero => have : a = 0 := by omega
            subst this; exact le_rfl
  | succ b ih =>
    rcases Nat.lt_or_ge b a with h | h
    · have : a = b + 1 := by omega
      subst this; exact le_rfl
    · have := ih h
      rw [cend_succ]; omega

theorem cend_bounds (d : ℕ) (hd : d ≤ 8) :
    (o (d + 1) = 0 → cend o d = 0) ∧ cend o d ≤ (o (d + 1) - 1) / 256 + 1 + d ∧ (o (d + 1) + 255) / 256 ≤ cend o d := by
  induction d with
  | zero =>
    rw [cend_zero]; unfold cnt
    simp only [ho.zero]
    split <;> omega
  | succ d ih =>
    have h := ih (by omega)
    have hm := ho.mono (d + 1) (by omega)
    rw [cend_succ]; unfold cnt
    split <;> omega

theorem cend8 : 16 ≤ cend o 8 ∧ cend o 8 ≤ 24 := by
  have h := cend_bounds ho 8 le_rfl
  have := ho.last
  simp only [this] at h
  omega

/-- No tiles between two domains: their rows are empty, the offsets agree. -/
theorem o_eq_of_cend {a b : ℕ} (hab : a ≤ b) (hb : b ≤ 8) (h : cend o b ≤ cend o a) : o (a + 1) = o (b + 1) := by
  induction b with
  | zero => have : a = 0 := by omega
            subst this; rfl
  | succ b ih =>
    rcases Nat.lt_or_ge b a with h' | h'
    · have : a = b + 1 := by omega
      subst this; rfl
    · have h1 := cend_succ o b
      have h2 := cend_mono (o := o) h'
      have h3 := ih h' (by omega) (by omega)
      have hc : cnt o (b + 1) = 0 := by omega
      unfold cnt at hc
      have := ho.mono (b + 1) (by omega)
      split at hc <;> omega

theorem pos_lt (w : ℕ) : pos o w < cend o 8 := by
  have := (cend8 ho).1
  unfold pos; omega

/-- The domain of an item is the first whose running sum passes its position. -/
theorem dom_spec (w : ℕ) : dom o w ≤ 8 ∧ pos o w < cend o (dom o w) ∧ ∀ e, e < dom o w → cend o e ≤ pos o w := by
  classical
  have hex : ∃ k, pos o w < cend o k := ⟨8, pos_lt ho w⟩
  have hk : dom o w = Nat.find hex := by
    unfold dom
    have h8 : Nat.find hex ≤ 8 := Nat.find_min' hex (pos_lt ho w)
    rw [count_lt _ (Nat.find hex) 9]
    · omega
    · intro d _
      constructor
      · intro h
        by_contra hc
        have h1 := Nat.find_spec hex
        have h2 := cend_mono (o := o) (show Nat.find hex ≤ d by omega)
        omega
      · intro h
        have := Nat.find_min hex h
        omega
  rw [hk]
  refine ⟨Nat.find_min' hex (pos_lt ho w), Nat.find_spec hex, fun e he => ?_⟩
  have := Nat.find_min hex he
  omega

/-- An item in terms of its domain: the domain has rows, its first item is at `s`, and the item's tile is as many tiles
behind the domain's first. -/
theorem item (w : ℕ) : ∃ s, dom o w ≤ 8 ∧ cend o (dom o w) = s + cnt o (dom o w) ∧ s ≤ pos o w ∧ pos o w < s + cnt o (dom o w)
    ∧ (∀ e, e + 1 = dom o w → s = cend o e) ∧ (dom o w = 0 → s = 0)
    ∧ o (dom o w) < o (dom o w + 1) ∧ cnt o (dom o w) = (o (dom o w + 1) - 1) / 256 - o (dom o w) / 256 + 1
    ∧ tile o w = o (dom o w) / 256 + (pos o w - s) := by
  obtain ⟨h8, hlt, hge⟩ := dom_spec ho w
  have key : ∃ s, cend o (dom o w) = s + cnt o (dom o w) ∧ s ≤ pos o w ∧ (∀ e, e + 1 = dom o w → s = cend o e) ∧ (dom o w = 0 → s = 0) := by
    rcases Nat.eq_zero_or_pos (dom o w) with h | h
    · refine ⟨0, ?_, Nat.zero_le _, fun e he => by omega, fun _ => rfl⟩
      rw [h, cend_zero]; omega
    · obtain ⟨e, he⟩ : ∃ e, dom o w = e + 1 := ⟨dom o w - 1, by omega⟩
      refine ⟨cend o e, ?_, hge e (by omega), fun e' he' => ?_, fun h0 => by omega⟩
      · rw [he, cend_succ]
      · have : e' = e := by omega
        rw [this]
  obtain ⟨s, hs, hsp, hse, hs0⟩ := key
  have hpos : 0 < cnt o (dom o w) := by omega
  have ho1 : o (dom o w) < o (dom o w + 1) := by
    unfold cnt at hpos
    split at hpos <;> omega
  refine ⟨s, h8, hs, hsp, by omega, hse, hs0, ho1, ?_, ?_⟩
  · unfold cnt; rw [if_pos ho1]
  · unfold tile; omega

/-- Every item names one of the nine domains and one of the sixteen tiles. -/
theorem dom_lt (w : ℕ) : dom o w < 9 := by
  have := (dom_spec ho w).1
  omega

theorem tile_lt (w : ℕ) : tile o w < 16 := by
  obtain ⟨s, h8, h1, h2, h3, _, _, h4, h5, h6⟩ := item ho w
  have := o_le_last ho (show dom o w + 1 ≤ 9 by omega)
  omega

/-- From one item to the next: the same item again, the next tile of the same domain, or the first tile of the next domain
that has rows. -/
theorem next (w : ℕ) : (dom o (w + 1) = dom o w ∧ tile o (w + 1) = tile o w)
    ∨ (dom o (w + 1) = dom o w ∧ tile o (w + 1) = tile o w + 1 ∧ o (dom o w) < 256 * tile o (w + 1) ∧ 256 * tile o (w + 1) < o (dom o w + 1))
    ∨ (o (dom o (w + 1)) = o (dom o w + 1) ∧ tile o w = (o (dom o w + 1) - 1) / 256 ∧ tile o (w + 1) = o (dom o w + 1) / 256) := by
  have hp : pos o (w + 1) = pos o w ∨ pos o (w + 1) = pos o w + 1 := by unfold pos; omega
  rcases hp with hp | hp
  · left
    have hd : dom o (w + 1) = dom o w := by unfold dom; rw [hp]
    refine ⟨hd, ?_⟩
    unfold tile; rw [hd, hp]
  · right
    obtain ⟨h8', hlt', hge'⟩ := dom_spec ho (w + 1)
    obtain ⟨h8d, hltd, hged⟩ := dom_spec ho w
    obtain ⟨s, h8, h1, h2, h3, hse, hs0, h4, h5, h6⟩ := item ho w
    obtain ⟨s', g8, g1, g2, g3, gse, gs0, g4, g5, g6⟩ := item ho (w + 1)
    have hle : dom o w ≤ dom o (w + 1) := by
      by_contra hc
      have := hged (dom o (w + 1)) (by omega)
      omega
    rcases Nat.eq_or_lt_of_le hle with he | hlt
    · left
      rw [← he] at g1 g3 g4 g5 g6
      have hss : s = s' := by omega
      refine ⟨he.symm, by omega, by omega, by omega⟩
    · right
      obtain ⟨e, he⟩ : ∃ e, dom o (w + 1) = e + 1 := ⟨dom o (w + 1) - 1, by omega⟩
      have hs' := gse e he.symm
      have hce := hge' e (by omega)
      have hcd := hge' (dom o w) hlt
      have hoe := o_eq_of_cend ho (show dom o w ≤ e by omega) (by omega) (by omega)
      have hm := cend_mono (o := o) (show dom o w ≤ e by omega)
      have hod : o (dom o (w + 1)) = o (dom o w + 1) := by rw [he, hoe]
      rw [hod] at g6
      exact ⟨hod, by omega, by omega⟩

/-- The first item starts at row `0`. -/
theorem first : o (dom o 0) = 0 ∧ tile o 0 = 0 := by
  have hp : pos o 0 = 0 := by unfold pos; omega
  obtain ⟨s, h8, h1, h2, h3, hse, hs0, h4, h5, h6⟩ := item ho 0
  have h0 : o (dom o 0) = 0 := by
    rcases Nat.eq_zero_or_pos (dom o 0) with h | h
    · rw [h, ho.zero]
    · obtain ⟨e, he⟩ : ∃ e, dom o 0 = e + 1 := ⟨dom o 0 - 1, by omega⟩
      have hb := (cend_bounds ho e (by omega)).2.2
      have := hse e he.symm
      rw [he]; omega
  refine ⟨h0, ?_⟩
  rw [h0] at h6; omega

/-- The last item reaches the last row. -/
theorem final : o (dom o 23 + 1) = 4096 ∧ tile o 23 = 15 := by
  have h16 := cend8 ho
  have hp : pos o 23 = cend o 8 - 1 := by unfold pos; omega
  obtain ⟨s, h8, h1, h2, h3, hse, hs0, h4, h5, h6⟩ := item ho 23
  have hm := cend_mono (o := o) h8
  have h9 := o_eq_of_cend ho h8 le_rfl (by omega)
  have hl := ho.last
  have h9' : o (dom o 23 + 1) = 4096 := h9.trans hl
  refine ⟨h9', ?_⟩
  rw [h9'] at h5 h4
  omega

/-- An item whose tile is new starts no later than the tile. -/
theorem new_tile (w : ℕ) (h : w = 0 ∨ ∃ v, w = v + 1 ∧ tile o w ≠ tile o v) : o (dom o w) ≤ 256 * tile o w := by
  rcases h with h | ⟨v, rfl, h⟩
  · subst h; have := first ho; omega
  · rcases next ho v with ⟨_, h2⟩ | ⟨h1, h2, h3, _⟩ | ⟨h1, h2, h3⟩
    · exact absurd h2 h
    · rw [h1]; omega
    · rw [h1]; omega

/-- An item starts no later than the one before it ends. -/
theorem old_tile (w : ℕ) : o (dom o (w + 1)) ≤ o (dom o w + 1) := by
  have hm := ho.mono (dom o w) (dom_lt ho w)
  rcases next ho w with ⟨h1, _⟩ | ⟨h1, _⟩ | ⟨h1, _⟩ <;> (rw [h1]; try omega)

/-- The last item of a tile reaches the end of the tile. -/
theorem done_tile (w : ℕ) (h : w = 23 ∨ tile o (w + 1) ≠ tile o w) : 256 * (tile o w + 1) ≤ o (dom o w + 1) := by
  rcases h with h | h
  · subst h; have := final ho; omega
  · obtain ⟨s, _, _, _, _, _, _, h4, _, _⟩ := item ho w
    rcases next ho w with ⟨_, h2⟩ | ⟨h1, h2, h3, _⟩ | ⟨h1, h2, h3⟩
    · exact absurd h2 h
    · omega
    · omega

/-- Every tile has a last item. -/
theorem cover (i : ℕ) (hi : i < 16) : ∃ w, w < 24 ∧ tile o w = i ∧ (w = 23 ∨ tile o (w + 1) ≠ tile o w) := by
  by_contra hc
  push Not at hc
  have hstep : ∀ w, tile o (w + 1) ≤ tile o w + 1 := by
    intro w
    rcases next ho w with ⟨_, h2⟩ | ⟨h1, h2, h3, _⟩ | ⟨h1, h2, h3⟩ <;> omega
  have hall : ∀ w, w < 24 → tile o w ≤ i := by
    intro w
    induction w with
    | zero => intro _; have := first ho; omega
    | succ w ih =>
      intro hw
      have h1 := ih (by omega)
      rcases Nat.eq_or_lt_of_le h1 with h2 | h2
      · have h3 := hc w (by omega) h2
        omega
      · have := hstep w; omega
  have h15 := final ho
  have h23 := hall 23 (by omega)
  have := hc 23 (by omega) (by omega)
  omega

end

end Cert.WorkList
-- ==== Proof.HostWords.lean ====
module

public import Idealize.ShloMosaic.Lib.Routing.OpsSearch
public import Idealize.ShloMosaic.Lib.Routing.OpsPair
public import Idealize.ShloMosaic.Lib.Routing.OpsSet
public import Idealize.ShloMosaic.Lib.PlanTiles.Rows
public import proofs.«01_k».proof.Proof.WorkList

/-!
# The host's words

The host builds the work list with operations on vectors of 32-bit words.  Each theorem here reads one of
those operations entry by entry: where the operands hold the words of natural numbers, so does the result, and
the natural number is the one of `WorkList.lean`.
-/

@[expose] public section

set_option maxRecDepth 16384

namespace Cert.HostWords

open Idealize.ShloMosaic Idealize.ShloMosaic.ValueIdx Idealize.ShloMosaic.Routing Idealize.ShloMosaic.WordCmp Cert.WorkList

/-- The word of a natural number. -/
abbrev wd (n : ℕ) : BitVec 32 := BitVec.ofNat 32 n

theorem ix1_eta9 {n : ℕ} (i : (shape1 n).Idx) : i = ix1 (i 0) := by
  funext a
  match a with
  | ⟨0, _⟩ => rfl

variable {o : ℕ → ℕ}

theorem sgt_word (x y : IVec (shape1 9) 32) (d : Fin 9) {a b : ℕ} (hx : x (ix1 d) = wd a) (hy : y (ix1 d) = wd b)
    (ha : a < 2 ^ 31) (hb : b < 2 ^ 31) : cmpi .sgt x y (ix1 d) = BitVec.ofBool (decide (b < a)) := by
  show IntOp.cmpi .sgt (x (ix1 d)) (y (ix1 d)) = _
  rw [hx, hy]
  exact cmpi_sgt_ofNat (w := 32) ha hb

theorem pred_word (hb : shape0.BroadcastsInDim (shape1 9) (![] : Fin 0 → Fin (shape1 9).rank)) (x : IVec (shape1 9) 32) (d : Fin 9)
    {a : ℕ} (hx : x (ix1 d) = wd a) (ha : 0 < a) :
    subi x (broadcastInDim (shape1 9) ![] hb (constantI shape0 32 1#32)) (ix1 d) = wd (a - 1) := by
  rw [subi_ap, bc0, hx]
  exact ofNat32_sub ha

/-- The count of tiles: the select of the host. -/
theorem count_word (hb : shape0.BroadcastsInDim (shape1 9) (![] : Fin 0 → Fin (shape1 9).rank)) (ho : Offs o)
    (x3 : IVec (shape1 9) 1) (x2 x6 : IVec (shape1 9) 32) (d : Fin 9)
    (h3 : x3 (ix1 d) = BitVec.ofBool (decide (o d < o (d + 1)))) (h2 : x2 (ix1 d) = wd (o d / 256))
    (h6 : 0 < o (d + 1) → x6 (ix1 d) = wd ((o (d + 1) - 1) / 256)) :
    select x3 (addi (subi x6 x2) (broadcastInDim (shape1 9) ![] hb (constantI shape0 32 1#32)))
      (broadcastInDim (shape1 9) ![] hb (constantI shape0 32 0#32)) (ix1 d) = wd (cnt o d) := by
  show Scalar.select (x3 (ix1 d)) (x6 (ix1 d) - x2 (ix1 d) + broadcastInDim (shape1 9) ![] hb (constantI shape0 32 1#32) (ix1 d))
    (broadcastInDim (shape1 9) ![] hb (constantI shape0 32 0#32) (ix1 d)) = _
  rw [bc0, bc0, h3, h2, select_decide]
  unfold cnt
  by_cases h : o d < o (d + 1)
  · rw [if_pos h, if_pos h, h6 (by omega), ofNat32_sub (Nat.div_le_div_right (by omega))]
    show wd _ + wd 1 = _
    rw [BitVec.ofNat_add_ofNat]
  · rw [if_neg h, if_neg h]; rfl

/-- The clamped position. -/
theorem pos_word (ho : Offs o) (hc : (shape1 1).ShapeCasts shape0) (hs : (shape1 9).Slices ![8] (shape1 1))
    (hb : shape0.BroadcastsInDim (shape1 24) (![] : Fin 0 → Fin (shape1 24).rank)) (x : IVec (shape1 9) 32)
    (hx : x (ix1 8) = wd (cend o 8)) (w : Fin 24) :
    minsi (iotaInDim (shape1 24) 32 0)
      (broadcastInDim (shape1 24) ![] hb (subi (shapeCast shape0 (extractStridedSlice (shape1 1) ![8] x hs) hc) (constantI shape0 32 1#32))) (ix1 w)
      = wd (pos o w) := by
  have h16 := cend8 ho
  have e : shapeCast shape0 (extractStridedSlice (shape1 1) ![8] x hs) hc ix0 = wd (cend o 8) := by
    have e1 : shapeCast shape0 (extractStridedSlice (shape1 1) ![8] x hs) hc ix0 = extractStridedSlice (shape1 1) ![8] x hs (ix1 (0 : Fin 1)) :=
      shapeCast_apply _ hc _ _ (by rw [Shape.rowMajor_val_one]; exact (Nat.lt_one_iff.1 (lt_of_lt_of_eq (Fin.isLt _) (by decide))).symm)
    rw [e1, slice1 8 x hs 0 (by decide)]
    exact hx
  show IntOp.minsi _ _ = _
  rw [bc0, iota1_ap, subi_ap, e]
  show IntOp.minsi (wd w) (wd (cend o 8) - wd 1) = _
  rw [ofNat32_sub (by omega), PlanTiles.minsi_word (by omega) (by omega), Nat.min_comm]
  rfl

/-- The domain of an item: how many running sums do not pass its position. -/
theorem dom_word (h1 : (shape1 9).BroadcastsInDim (shape2 9 1) (![0] : Fin 1 → Fin (shape2 9 1).rank))
    (h2 : (shape2 9 1).BroadcastsInDim (shape2 9 24) (![0, 1] : Fin 2 → Fin (shape2 9 24).rank))
    (h3 : (shape1 24).BroadcastsInDim (shape2 1 24) (![1] : Fin 1 → Fin (shape2 1 24).rank))
    (h4 : (shape2 1 24).BroadcastsInDim (shape2 9 24) (![0, 1] : Fin 2 → Fin (shape2 9 24).rank))
    (hw : 1 < 32) (hr : (shape2 9 24).ReducesTo [0] (shape1 24)) (hu : 0 < shape0.numel) (ho : Offs o)
    (x : IVec (shape1 9) 32) (y : IVec (shape1 24) 32) (hx : ∀ d : Fin 9, x (ix1 d) = wd (cend o d)) (hy : ∀ w : Fin 24, y (ix1 w) = wd (pos o w)) (w : Fin 24) :
    Host.reduce IntOp.addi (extui 32 (cmpi .sle (broadcastInDim (shape2 9 24) ![0, 1] h2 (broadcastInDim (shape2 9 1) ![0] h1 x))
      (broadcastInDim (shape2 9 24) ![0, 1] h4 (broadcastInDim (shape2 1 24) ![1] h3 y))) hw) (constantI shape0 32 0#32) hr hu (ix1 w) = wd (dom o w) := by
  apply BitVec.eq_of_toNat_eq
  rw [StableHlo.Predicate.toNat_reduce_count_rows (by decide) _ hw hr hu (ix1 w)]
  have hd := dom_lt ho w
  rw [BitVec.toNat_ofNat, Nat.mod_eq_of_lt (by omega)]
  unfold dom
  rw [← card_filter_fin 9]
  refine congrArg Finset.card (Finset.filter_congr fun d _ => ?_)
  have h16 := cend8 ho
  have hm := cend_mono (o := o) (show d.val ≤ 8 by omega)
  have hp := pos_lt ho w
  rw [ij_eq_ix2]
  show IntOp.cmpi .sle (broadcastInDim (shape2 9 24) ![0, 1] h2 (broadcastInDim (shape2 9 1) ![0] h1 x) (ix2 d w))
    (broadcastInDim (shape2 9 24) ![0, 1] h4 (broadcastInDim (shape2 1 24) ![1] h3 y) (ix2 d w)) = 1#1 ↔ _
  rw [bcRows h1 h2 x d w, bcCols h3 h4 y d w, hx, hy]
  exact cmpi_sle_ofNat_eq_one_iff (w := 32) (by omega) (by omega)

/-- The domain of a row: how many offsets after the first do not pass it. -/
theorem row_word (h1 : (shape1 9).BroadcastsInDim (shape2 9 1) (![0] : Fin 1 → Fin (shape2 9 1).rank))
    (h2 : (shape2 9 1).BroadcastsInDim (shape2 9 4096) (![0, 1] : Fin 2 → Fin (shape2 9 4096).rank))
    (h3 : (shape1 4096).BroadcastsInDim (shape2 1 4096) (![1] : Fin 1 → Fin (shape2 1 4096).rank))
    (h4 : (shape2 1 4096).BroadcastsInDim (shape2 9 4096) (![0, 1] : Fin 2 → Fin (shape2 9 4096).rank))
    (hw : 1 < 32) (hr : (shape2 9 4096).ReducesTo [0] (shape1 4096)) (hu : 0 < shape0.numel) (ho : Offs o)
    (x : IVec (shape1 9) 32) (y : IVec (shape1 4096) 32) (hx : ∀ d : Fin 9, x (ix1 d) = wd (o (d + 1))) (hy : ∀ r : Fin 4096, y (ix1 r) = wd r) (r : Fin 4096) :
    Host.reduce IntOp.addi (extui 32 (cmpi .sle (broadcastInDim (shape2 9 4096) ![0, 1] h2 (broadcastInDim (shape2 9 1) ![0] h1 x))
      (broadcastInDim (shape2 9 4096) ![0, 1] h4 (broadcastInDim (shape2 1 4096) ![1] h3 y))) hw) (constantI shape0 32 0#32) hr hu (ix1 r) = wd (rowDom o r) := by
  apply BitVec.eq_of_toNat_eq
  rw [StableHlo.Predicate.toNat_reduce_count_rows (by decide) _ hw hr hu (ix1 r)]
  have hd : rowDom o r ≤ 9 := Nat.count_le _
  rw [BitVec.toNat_ofNat, Nat.mod_eq_of_lt (by omega)]
  unfold rowDom
  rw [← card_filter_fin 9]
  refine congrArg Finset.card (Finset.filter_congr fun d _ => ?_)
  have hl := o_le_last ho (show d.val + 1 ≤ 9 by omega)
  rw [ij_eq_ix2]
  show IntOp.cmpi .sle (broadcastInDim (shape2 9 4096) ![0, 1] h2 (broadcastInDim (shape2 9 1) ![0] h1 x) (ix2 d r))
    (broadcastInDim (shape2 9 4096) ![0, 1] h4 (broadcastInDim (shape2 1 4096) ![1] h3 y) (ix2 d r)) = 1#1 ↔ _
  rw [bcRows h1 h2 x d r, bcCols h3 h4 y d r, hx, hy]
  exact cmpi_sle_ofNat_eq_one_iff (w := 32) (by omega) (by omega)

/-- Every row has a domain. -/
theorem rowDom_lt (ho : Offs o) (r : Fin 4096) : rowDom o r < 9 := by
  have hl := o_le_last ho (show 8 + 1 ≤ 9 by omega)
  have h9 : o (8 + 1) = 4096 := ho.last
  unfold rowDom
  rw [Nat.count_succ, if_neg (by omega)]
  have := Nat.count_le (fun d => o (d + 1) ≤ r.val) (n := 8)
  omega

/-- An entry picked by the domain of an item: the index passes the wrap of negative indices unchanged. -/
theorem pick_word {α : Type} (g : GatherDims (shape1 9) (shape2 24 1) (shape1 24)) (hcoll : g.collapsedSliceDims = [0])
    (hob : g.operandBatchingDims = []) (hsim : g.startIndexMap = [0]) (hivd : g.indexVectorDim = 1)
    (hb : shape0.BroadcastsInDim (shape1 24) (![] : Fin 0 → Fin (shape1 24).rank))
    (h1 : (shape1 24).BroadcastsInDim (shape2 24 1) (![0] : Fin 1 → Fin (shape2 24 1).rank))
    (x : (shape1 9).Idx → α) (y : IVec (shape1 24) 32) (w : Fin 24) {d : ℕ} (hd : d < 9) (hy : y (ix1 w) = wd d) :
    Host.gather g x (broadcastInDim (shape2 24 1) ![0] h1
      (select (cmpi .slt y (broadcastInDim (shape1 24) ![] hb (constantI shape0 32 0#32)))
        (addi y (broadcastInDim (shape1 24) ![] hb (constantI shape0 32 9#32))) y)) (ix1 w) = x (ix1 ⟨d, hd⟩) := by
  refine gather_take1 g hcoll hob hsim hivd x _ w ⟨d, hd⟩ ?_ (by decide)
  rw [bcCol]
  show Scalar.select (IntOp.cmpi .slt (y (ix1 w)) (broadcastInDim (shape1 24) ![] hb (constantI shape0 32 0#32) (ix1 w))) _ (y (ix1 w)) = _
  rw [bc0, hy]
  exact wrap_of_lt _ _ (by rw [BitVec.toNat_ofNat, Nat.mod_eq_of_lt (by omega)]; omega)

/-- The tile of an item from the three picked entries. -/
theorem tile_word (ho : Offs o) (a b c p : IVec (shape1 24) 32) (w : Fin 24) (ha : a (ix1 w) = wd (o (dom o w) / 256))
    (hp : p (ix1 w) = wd (pos o w)) (hb : b (ix1 w) = wd (cend o (dom o w))) (hc : c (ix1 w) = wd (cnt o (dom o w))) :
    subi (addi a p) (subi b c) (ix1 w) = wd (tile o w) := by
  obtain ⟨s, _, h1, h2, _⟩ := item ho w
  rw [subi_ap, subi_ap, addi_ap, ha, hp, hb, hc, ofNat32_sub (by omega), BitVec.ofNat_add_ofNat, ofNat32_sub (by omega)]
  rfl

/-- The offsets as natural numbers. -/
def offs (x : IVec (shape1 10) 32) (d : ℕ) : ℕ := if h : d < 10 then (x (ix1 ⟨d, h⟩)).toNat else 0

theorem offs_word (x : IVec (shape1 10) 32) (d : Fin 10) : x (ix1 d) = wd (offs x d) := by
  unfold offs
  rw [dif_pos d.isLt]
  exact BitVec.eq_of_toNat_eq (by rw [BitVec.toNat_ofNat, Nat.mod_eq_of_lt (BitVec.isLt _)])

/-- What the precondition says of the offsets: signed comparisons of consecutive entries, and the two ends. -/
theorem offs_of_pre (hs0 : (shape1 10).Slices ![0] (shape1 9)) (hs1 : (shape1 10).Slices ![1] (shape1 9))
    (hs2 : (shape1 10).Slices ![0] (shape1 1)) (hs3 : (shape1 10).Slices ![9] (shape1 1)) (hc : (shape1 1).ShapeCasts shape0)
    (x : IVec (shape1 10) 32)
    (h1 : cmpi .sle (extractStridedSlice (shape1 9) ![0] x hs0) (extractStridedSlice (shape1 9) ![1] x hs1) = fun _ => 1#1)
    (h2 : cmpi .eq (shapeCast shape0 (extractStridedSlice (shape1 1) ![0] x hs2) hc) (constantI shape0 32 0#32) = fun _ => 1#1)
    (h3 : cmpi .eq (shapeCast shape0 (extractStridedSlice (shape1 1) ![9] x hs3) hc) (constantI shape0 32 4096#32) = fun _ => 1#1) :
    Offs (offs x) := by
  have cast0 : ∀ y : IVec (shape1 1) 32, shapeCast shape0 y hc ix0 = y (ix1 (0 : Fin 1)) := fun y =>
    shapeCast_apply _ hc _ _ (by rw [Shape.rowMajor_val_one]; exact (Nat.lt_one_iff.1 (lt_of_lt_of_eq (Fin.isLt _) (by decide))).symm)
  have e0 : x (ix1 0) = 0#32 := by
    have := congrFun h2 ix0
    have e : IntOp.cmpi .eq (shapeCast shape0 (extractStridedSlice (shape1 1) ![0] x hs2) hc ix0) 0#32 = 1#1 := this
    rw [cast0, slice1 0 x hs2 0 (by decide)] at e
    exact StableHlo.Predicate.cmpi_eq_iff.1 e
  have e9 : x (ix1 9) = 4096#32 := by
    have := congrFun h3 ix0
    have e : IntOp.cmpi .eq (shapeCast shape0 (extractStridedSlice (shape1 1) ![9] x hs3) hc ix0) 4096#32 = 1#1 := this
    rw [cast0, slice1 9 x hs3 0 (by decide)] at e
    exact StableHlo.Predicate.cmpi_eq_iff.1 e
  have hle : ∀ d : Fin 9, (x (ix1 d.castSucc)).toInt ≤ (x (ix1 d.succ)).toInt := by
    intro d
    have := congrFun h1 (ix1 d)
    have e : IntOp.cmpi .sle (extractStridedSlice (shape1 9) ![0] x hs0 (ix1 d)) (extractStridedSlice (shape1 9) ![1] x hs1 (ix1 d)) = 1#1 := this
    rw [slice1 0 x hs0 d (by omega), slice1 1 x hs1 d (by omega)] at e
    have h := (by rw [cmpi_sle_eq] at e; exact (ofBool_decide_eq_one_iff _).1 e : (x (ix1 ⟨0 + d.val, by omega⟩)).toInt ≤ (x (ix1 ⟨1 + d.val, by omega⟩)).toInt)
    have i0 : (⟨0 + d.val, by omega⟩ : Fin 10) = d.castSucc := Fin.ext (by simp)
    have i1 : (⟨1 + d.val, by omega⟩ : Fin 10) = d.succ := Fin.ext (by simp; omega)
    rw [i0, i1] at h
    exact h
  have hi : ∀ n, (hn : n < 10) → 0 ≤ (x (ix1 ⟨n, hn⟩)).toInt := by
    intro n
    induction n with
    | zero => intro _; show 0 ≤ (x (ix1 0)).toInt; rw [e0]; decide
    | succ n ih => intro hn; exact (ih (by omega)).trans (hle ⟨n, by omega⟩)
  have hn : ∀ n, (hn : n < 10) → (x (ix1 ⟨n, hn⟩)).toInt = (offs x n : ℤ) := by
    intro n hn
    have h0 := hi n hn
    unfold offs
    rw [dif_pos hn]
    rw [BitVec.toInt_eq_toNat_cond] at h0 ⊢
    split at h0 <;> (have := (x (ix1 ⟨n, hn⟩)).isLt; split <;> omega)
  refine ⟨fun d hd => ?_, ?_, ?_⟩
  · have h := hle ⟨d, hd⟩
    have a1 := hn d (by omega)
    have a2 := hn (d + 1) (by omega)
    have h' : (x (ix1 ⟨d, by omega⟩)).toInt ≤ (x (ix1 ⟨d + 1, by omega⟩)).toInt := h
    omega
  · have : offs x 0 = (x (ix1 0)).toNat := by unfold offs; rw [dif_pos (by omega)]; rfl
    rw [this, e0]; rfl
  · have : offs x 9 = (x (ix1 9)).toNat := by unfold offs; rw [dif_pos (by omega)]; rfl
    rw [this, e9]; rfl

end Cert.HostWords
-- ==== Proof.KernelIdeal.Host.lean ====
/-
  The host's work list, stretch by stretch: what each stretch of host operations leaves in the buffers the later ones read.
-/
module

public import proofs.«01_k».proof.Proof.KernelIdeal.Words
public import proofs.«01_k».proof.Proof.HostWords

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (X : Valuation τ sig (Elt F))
theorem keep1_main_v0 : StableHlo.after hostOps0_1 X main_v0 = X main_v0 :=
  StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_v1 : StableHlo.after hostOps0_1 X main_v1 = X main_v1 :=
  StableHlo.after_of_forall_not_mem (b := Proc.devRef .tc main_v1) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg0 : StableHlo.after hostOps0_1 X main_arg0 = X main_arg0 :=
  StableHlo.after_of_forall_not_mem (b := Proc.devRef .tc main_arg0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v0 : StableHlo.after hostOps0_2 X main_v0 = X main_v0 :=
  StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v1 : StableHlo.after hostOps0_2 X main_v1 = X main_v1 :=
  StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v2 : StableHlo.after hostOps0_2 X main_v2 = X main_v2 :=
  StableHlo.after_of_forall_not_mem (b := Proc.devRef .tc main_v2) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v2 : StableHlo.after hostOps0_3 X main_v2 = X main_v2 :=
  StableHlo.after_of_forall_not_mem (b := Proc.devRef .tc main_v2) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v3 : StableHlo.after hostOps0_3 X main_v3 = X main_v3 :=
  StableHlo.after_of_forall_not_mem (b := Proc.devRef .tc main_v3) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v2 : StableHlo.after hostOps0_4 X main_v2 = X main_v2 :=
  StableHlo.after_of_forall_not_mem (b := Proc.devRef .tc main_v2) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v3 : StableHlo.after hostOps0_4 X main_v3 = X main_v3 :=
  StableHlo.after_of_forall_not_mem (b := Proc.devRef .tc main_v3) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_v2 : StableHlo.after hostOps0_5 X main_v2 = X main_v2 :=
  StableHlo.after_of_forall_not_mem (b := Proc.devRef .tc main_v2) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v2 : StableHlo.after hostOps0_6 X main_v2 = X main_v2 :=
  StableHlo.after_of_forall_not_mem (b := Proc.devRef .tc main_v2) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v10 : StableHlo.after hostOps0_6 X main_v10 = X main_v10 :=
  StableHlo.after_of_forall_not_mem (b := Proc.devRef .tc main_v10) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v2 : StableHlo.after hostOps0_7 X main_v2 = X main_v2 :=
  StableHlo.after_of_forall_not_mem (b := Proc.devRef .tc main_v2) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v10 : StableHlo.after hostOps0_7 X main_v10 = X main_v10 :=
  StableHlo.after_of_forall_not_mem (b := Proc.devRef .tc main_v10) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v11 : StableHlo.after hostOps0_7 X main_v11 = X main_v11 :=
  StableHlo.after_of_forall_not_mem (b := Proc.devRef .tc main_v11) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v2 : StableHlo.after hostOps0_8 X main_v2 = X main_v2 :=
  StableHlo.after_of_forall_not_mem (b := Proc.devRef .tc main_v2) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v10 : StableHlo.after hostOps0_8 X main_v10 = X main_v10 :=
  StableHlo.after_of_forall_not_mem (b := Proc.devRef .tc main_v10) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v11 : StableHlo.after hostOps0_8 X main_v11 = X main_v11 :=
  StableHlo.after_of_forall_not_mem (b := Proc.devRef .tc main_v11) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v17 : StableHlo.after hostOps0_8 X main_v17 = X main_v17 :=
  StableHlo.after_of_forall_not_mem (b := Proc.devRef .tc main_v17) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st0_main_v0 : StableHlo.after hostOps0 X main_v0 = extractStridedSlice S9 ![0] (X main_arg0) slices_S10_S9_0 := by
  after_results_simp
  all_goals rfl

theorem st0_main_v1 : StableHlo.after hostOps0 X main_v1 = extractStridedSlice S9 ![1] (X main_arg0) slices_S10_S9_1 := by
  after_results_simp
  all_goals rfl

theorem st0_main_c : StableHlo.after hostOps0 X main_c = constantI S_ 32 256#32 := by
  after_results_simp
  all_goals rfl

theorem st1_main_v2 : StableHlo.after hostOps0_1 X main_v2 = Routing.pyDiv bcast_S_S9 (X main_v0) (X main_c) := by
  after_results_simp
  all_goals rfl

theorem st2_main_v3 : StableHlo.after hostOps0_2 X main_v3 = cmpi .sgt (X main_v1 : IVec S9 32) (X main_v0) := by
  after_results_simp
  all_goals rfl

theorem st2_main_v5 : StableHlo.after hostOps0_2 X main_v5 = subi (X main_v1 : IVec S9 32) (broadcastInDim S9 ![] bcast_S_S9 (constantI S_ 32 1#32)) := by
  after_results_simp
  all_goals rfl

theorem st2_main_c_1 : StableHlo.after hostOps0_2 X main_c_1 = constantI S_ 32 256#32 := by
  after_results_simp
  all_goals rfl

theorem st3_main_v6 : StableHlo.after hostOps0_3 X main_v6 = Routing.pyDiv bcast_S_S9 (X main_v5) (X main_c_1) := by
  after_results_simp
  all_goals rfl

theorem st4_main_v9 : StableHlo.after hostOps0_4 X main_v9 = addi (subi (X main_v6 : IVec S9 32) (X main_v2)) (broadcastInDim S9 ![] bcast_S_S9 (constantI S_ 32 1#32)) := by
  after_results_simp
  all_goals rfl

theorem st4_main_c_3 : StableHlo.after hostOps0_4 X main_c_3 = constantI S_ 32 0#32 := by
  after_results_simp
  all_goals rfl

theorem st5_main_v10 : StableHlo.after hostOps0_5 X main_v10 = select (X main_v3 : IVec S9 1) (X main_v9 : IVec S9 32) (broadcastInDim S9 ![] bcast_S_S9 (X main_c_3)) := by
  after_results_simp
  all_goals rfl

theorem st6_main_v11 : StableHlo.after hostOps0_6 X main_v11 = Host.reduceWindow IntOp.addi ![9] ![1] ![8] ![0] (X main_v10 : IVec S9 32) (broadcastInDim S_ ![] bcast_S_S_ (constantI S_ 32 0#32)) reduceWindows_S9_S9_w9s1p8_0 h_S_ := by
  after_results_simp
  simp only [StableHlo.TRef.toBuf, StableHlo.TRef.ofBuf, cast_eq]
  all_goals rfl

theorem st7_main_v17 : StableHlo.after hostOps0_7 X main_v17 = minsi (iotaInDim S24 32 0) (broadcastInDim S24 ![] bcast_S_S24 (subi (shapeCast S_ (extractStridedSlice S1 ![8] (X main_v11) slices_S9_S1_8) shapeCasts_S1_S_) (constantI S_ 32 1#32))) := by
  after_results_simp
  all_goals rfl

theorem st8_main_v18 : StableHlo.after hostOps0_8 X main_v18 = Host.reduce IntOp.addi (extui 32 (cmpi .sle (broadcastInDim S9x24 ![0, 1] bcast_S9x1_S9x24_0_1 (broadcastInDim S9x1 ![0] bcast_S9_S9x1_0 (X main_v11 : IVec S9 32))) (broadcastInDim S9x24 ![0, 1] bcast_S1x24_S9x24_0_1 (broadcastInDim S1x24 ![1] bcast_S24_S1x24_1 (X main_v17 : IVec S24 32)))) natLt_1_32) (constantI S_ 32 0#32) reducesTo_S9x24_S24_d0 h_S_ := by
  after_results_simp
  all_goals rfl

/-- The wrap of negative indices, which the domains pass unchanged. -/
def wrapDom (x : IVec S24 32) : IVec S24x1 32 :=
  broadcastInDim S24x1 ![0] bcast_S24_S24x1_0 (select (cmpi .slt x (broadcastInDim S24 ![] bcast_S_S24 (constantI S_ 32 0#32)))
    (addi x (broadcastInDim S24 ![] bcast_S_S24 (constantI S_ 32 9#32))) x)

theorem st9_main_v42 : StableHlo.after hostOps0_9 X main_v42 = subi (addi (Host.gather gather_S9_S24x1_S24_n_0_n_n_0_1_1 (X main_v2 : IVec S9 32) (wrapDom (X main_v18))) (X main_v17 : IVec S24 32)) (subi (Host.gather gather_S9_S24x1_S24_n_0_n_n_0_1_1 (X main_v11 : IVec S9 32) (wrapDom (X main_v18))) (Host.gather gather_S9_S24x1_S24_n_0_n_n_0_1_1 (X main_v10 : IVec S9 32) (wrapDom (X main_v18)))) := by
  after_results_simp
  all_goals rfl

theorem keep9_main_v18 : StableHlo.after hostOps0_9 X main_v18 = X main_v18 :=
  StableHlo.after_of_forall_not_mem (b := Proc.devRef .tc main_v18) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st9_main_v43 : StableHlo.after hostOps0_9 X main_v43 = broadcastInDim S1x1792 ![1] bcast_S1792_S1x1792_1 (X main_arg4) := by
  after_results_simp
  all_goals rfl

theorem st9_main_v44 : StableHlo.after hostOps0_9 X main_v44 = broadcastInDim S9x1x1792 ![0, 2] bcast_S9x1792_S9x1x1792_0_2 (X main_arg6) := by
  after_results_simp
  all_goals rfl

theorem st9_main_v45 : StableHlo.after hostOps0_9 X main_v45 = broadcastInDim S1x1792 ![1] bcast_S1792_S1x1792_1 (X main_arg7) := by
  after_results_simp
  all_goals rfl

theorem st9_main_v46 : StableHlo.after hostOps0_9 X main_v46 = broadcastInDim S9x1x1792 ![0, 2] bcast_S9x1792_S9x1x1792_0_2 (X main_arg8) := by
  after_results_simp
  all_goals rfl
end

/-! ## The stretches in order -/

variable (m : (ℓ : Loc nD τ sig) → Buf (Elt F) ℓ) (c : Dev nD)

/-- The buffers before the first stretch, and after each of the first nine. -/
def X0 : Valuation τ sig (Elt F) := fun b => m (c, b)
def X1 : Valuation τ sig (Elt F) := StableHlo.after hostOps0 (X0 m c)
def X2 : Valuation τ sig (Elt F) := StableHlo.after hostOps0_1 (X1 m c)
def X3 : Valuation τ sig (Elt F) := StableHlo.after hostOps0_2 (X2 m c)
def X4 : Valuation τ sig (Elt F) := StableHlo.after hostOps0_3 (X3 m c)
def X5 : Valuation τ sig (Elt F) := StableHlo.after hostOps0_4 (X4 m c)
def X6 : Valuation τ sig (Elt F) := StableHlo.after hostOps0_5 (X5 m c)
def X7 : Valuation τ sig (Elt F) := StableHlo.after hostOps0_6 (X6 m c)
def X8 : Valuation τ sig (Elt F) := StableHlo.after hostOps0_7 (X7 m c)
def X9 : Valuation τ sig (Elt F) := StableHlo.after hostOps0_8 (X8 m c)

theorem V_eq (b : Ref sig .tc) : V m c b = StableHlo.after hostOps0_9 (X9 m c) b := by
  rw [V_def]
  simp only [List.flatten_cons, List.flatten_nil, List.append_nil, StableHlo.after_append]
  rfl

/-- The offsets given, as natural numbers. -/
abbrev offsM : ℕ → ℕ := offs (m ((c : Thread nD τ).loc main_arg0) : IVec S10 32)

theorem word_v0 (d : Fin 9) : (X1 m c main_v0 : IVec S9 32) (ix1 d) = wd (offsM m c d) := by
  unfold X1
  rw [st0_main_v0]
  refine (Routing.slice1 0 _ slices_S10_S9_0 d (by omega)).trans ?_
  refine (offs_word _ _).trans (congrArg (fun n => wd (offsM m c n)) ?_)
  show 0 + d.val = d.val
  omega
theorem word_v1 (d : Fin 9) : (X1 m c main_v1 : IVec S9 32) (ix1 d) = wd (offsM m c (d + 1)) := by
  unfold X1
  rw [st0_main_v1]
  refine (Routing.slice1 1 _ slices_S10_S9_1 d (by omega)).trans ?_
  refine (offs_word _ _).trans (congrArg (fun n => wd (offsM m c n)) ?_)
  show 1 + d.val = d.val + 1
  omega

variable (ho : Offs (offsM m c))
include ho

theorem word_v2 (d : Fin 9) : (X2 m c main_v2 : IVec S9 32) (ix1 d) = wd (offsM m c d / 256) := by
  have hl := o_le_last ho (show d.val ≤ 9 by omega)
  unfold X2
  rw [st1_main_v2]
  refine Routing.pyDiv_ap bcast_S_S9 _ _ (ix1 d) (word_v0 m c d) ?_ (by omega) (by decide) (by decide)
  unfold X1
  rw [st0_main_c]
  rfl
theorem word_v3 (d : Fin 9) : (X3 m c main_v3 : IVec S9 1) (ix1 d) = BitVec.ofBool (decide (offsM m c d < offsM m c (d + 1))) := by
  have hl := o_le_last ho (show d.val ≤ 9 by omega)
  have hl' := o_le_last ho (show d.val + 1 ≤ 9 by omega)
  unfold X3
  rw [st2_main_v3]
  refine sgt_word _ _ d ?_ ?_ (by omega) (by omega)
  · unfold X2; rw [keep1_main_v1]; exact word_v1 m c d
  · unfold X2; rw [keep1_main_v0]; exact word_v0 m c d
theorem word_v6 (d : Fin 9) (h0 : 0 < offsM m c (d + 1)) : (X4 m c main_v6 : IVec S9 32) (ix1 d) = wd ((offsM m c (d + 1) - 1) / 256) := by
  have hl := o_le_last ho (show d.val + 1 ≤ 9 by omega)
  unfold X4
  rw [st3_main_v6]
  refine Routing.pyDiv_ap bcast_S_S9 _ _ (ix1 d) ?_ ?_ (by omega) (by decide) (by decide)
  · unfold X3
    rw [st2_main_v5]
    refine pred_word bcast_S_S9 _ d ?_ h0
    unfold X2; rw [keep1_main_v1]; exact word_v1 m c d
  · unfold X3
    rw [st2_main_c_1]
    rfl
theorem word_v10 (d : Fin 9) : (X6 m c main_v10 : IVec S9 32) (ix1 d) = wd (cnt (offsM m c) d) := by
  unfold X6
  rw [st5_main_v10]
  unfold X5
  rw [st4_main_v9, st4_main_c_3, keep4_main_v3]
  refine count_word bcast_S_S9 ho _ _ _ d ?_ ?_ fun h0 => word_v6 m c ho d h0
  · unfold X4; rw [keep3_main_v3]; exact word_v3 m c ho d
  · unfold X4 X3; rw [keep3_main_v2, keep2_main_v2]; exact word_v2 m c ho d
theorem word_v11 (d : Fin 9) : (X7 m c main_v11 : IVec S9 32) (ix1 d) = wd (cend (offsM m c) d) := by
  unfold X7
  rw [st6_main_v11]
  exact Routing.cumsum1 (by decide) _ (cnt (offsM m c)) (word_v10 m c ho) _ rfl reduceWindows_S9_S9_w9s1p8_0 h_S_ d
theorem word_v17 (w : Fin 24) : (X8 m c main_v17 : IVec S24 32) (ix1 w) = wd (pos (offsM m c) w) := by
  unfold X8
  rw [st7_main_v17]
  exact pos_word ho shapeCasts_S1_S_ slices_S9_S1_8 bcast_S_S24 _ (word_v11 m c ho 8) w
theorem word_v18 (w : Fin 24) : (X9 m c main_v18 : IVec S24 32) (ix1 w) = wd (dom (offsM m c) w) := by
  unfold X9
  rw [st8_main_v18]
  refine dom_word bcast_S9_S9x1_0 bcast_S9x1_S9x24_0_1 bcast_S24_S1x24_1 bcast_S1x24_S9x24_0_1 natLt_1_32 reducesTo_S9x24_S24_d0 h_S_ ho _ _ ?_ (word_v17 m c ho) w
  intro d; unfold X8; rw [keep7_main_v11]; exact word_v11 m c ho d

/-- An entry picked by the domain of an item. -/
theorem pick (x : IVec S9 32) (w : Fin 24) :
    Host.gather gather_S9_S24x1_S24_n_0_n_n_0_1_1 x (wrapDom (X9 m c main_v18)) (ix1 w) = x (ix1 ⟨dom (offsM m c) w, dom_lt ho w⟩) :=
  pick_word gather_S9_S24x1_S24_n_0_n_n_0_1_1 rfl rfl rfl rfl bcast_S_S24 bcast_S24_S24x1_0 x _ w (dom_lt ho w) (word_v18 m c ho w)

theorem word_v42 (w : Fin 24) : (StableHlo.after hostOps0_9 (X9 m c) main_v42 : IVec S24 32) (ix1 w) = wd (tile (offsM m c) w) := by
  rw [st9_main_v42]
  refine tile_word ho _ _ _ _ w ((pick m c ho _ w).trans ?_) ?_ ((pick m c ho _ w).trans ?_) ((pick m c ho _ w).trans ?_)
  · unfold X9 X8 X7 X6 X5 X4 X3
    rw [keep8_main_v2, keep7_main_v2, keep6_main_v2, keep5_main_v2, keep4_main_v2, keep3_main_v2, keep2_main_v2]
    exact word_v2 m c ho _
  · unfold X9; rw [keep8_main_v17]; exact word_v17 m c ho w
  · unfold X9 X8; rw [keep8_main_v11, keep7_main_v11]; exact word_v11 m c ho _
  · unfold X9 X8 X7; rw [keep8_main_v10, keep7_main_v10, keep6_main_v10]; exact word_v10 m c ho _

/-- The table of tiles. -/
theorem V_tile (w : Fin 24) : (V m c main_v42 : IVec S24 32) (ix1 w) = wd (tile (offsM m c) w) := by
  rw [V_eq]; exact word_v42 m c ho w
/-- The table of domains. -/
theorem V_dom (w : Fin 24) : (V m c main_v18 : IVec S24 32) (ix1 w) = wd (dom (offsM m c) w) := by
  rw [V_eq, keep9_main_v18]; exact word_v18 m c ho w

end Cert.KernelIdeal.Gen

end
-- ==== Proof.KernelIdeal.Body.lean ====
/-
  The kernel body run at one point, in each of its four cases: whether the weight product is formed anew, and whether
  the item is the first of its output tile. Each run states what the body leaves in the scratch and in the output block.
-/
module

public import proofs.«01_k».proof.Proof.KernelIdeal.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer read whole: its contents. -/
theorem rd {sp : Space} {s : Shape} {e : EltTy} {M : Memref sig .tc sp s e} (h : M.IsWhole) (x : s.Idx → Elt F e) {off : Fin s.rank → ℕ}
    (inb : ∀ a, off a + s.size a ≤ s.size a) : M.view.readAt (Elt F) (Rect.unit off s.size inb).toLoadRect (h.unread x) = x :=
  (View.readAt_full _ _ inb).trans (h.read_unread x)

theorem pay1_congr {a a' : FVec F S256x256 .f32} {u v : BitVec 32} {b b' : Vec F S256x256 .f32} (ha : a = a') (hb : b = b') :
    k0_pay1 a u v b = k0_pay1 a' u v b' := by subst ha hb; rfl
theorem pay2_congr {a a' : Vec F S7168x256 .fp8e4m3} {b b' : Vec F S1x7168x256 .fp8e4m3} (ha : a = a') (hb : b = b') :
    k0_pay2 (F := F) a b = k0_pay2 a' b' := by subst ha hb; rfl
theorem pay3_congr {a a' : Vec F S256x7168 .fp8e4m3} {b b' : Vec F S7168x256 .bf16} {c c' : Vec F S256x1 .f32} {d d' : Vec F S1x256 .f32}
    {e e' : Vec F S1x1x256 .f32} {f f' : Vec F S1x256 .f32} {g g' : Vec F S1x1x256 .f32}
    (ha : a = a') (hb : b = b') (hc : c = c') (hd : d = d') (he : e = e') (hf : f = f') (hg : g = g') :
    k0_pay3 a b c d e f g = k0_pay3 a' b' c' d' e' f' g' := by subst ha hb hc hd he hf hg; rfl

set_option maxHeartbeats 2000000 in
/-- The weight product is formed anew; the item is the first of its tile. -/
theorem runNewFirst (c : Dev nD) (i : grid0.Coords) (arg5 : Memref sig .tc .vmem S256x7168 .fp8e4m3) (harg5 : arg5.IsWhole) (arg6 : Memref sig .tc .vmem S256x1 .f32) (harg6 : arg6.IsWhole) (arg7 : Memref sig .tc .vmem S7168x256 .fp8e4m3) (harg7 : arg7.IsWhole) (arg8 : Memref sig .tc .vmem S1x256 .f32) (harg8 : arg8.IsWhole) (arg9 : Memref sig .tc .vmem S1x7168x256 .fp8e4m3) (harg9 : arg9.IsWhole) (arg10 : Memref sig .tc .vmem S1x1x256 .f32) (harg10 : arg10.IsWhole) (arg11 : Memref sig .tc .vmem S1x256 .f32) (harg11 : arg11.IsWhole) (arg12 : Memref sig .tc .vmem S1x1x256 .f32) (harg12 : arg12.IsWhole) (arg13 : Memref sig .tc .vmem S256x256 .f32) (harg13 : arg13.IsWhole) (arg14 : Memref sig .tc .vmem S7168x256 .bf16) (harg14 : arg14.IsWhole)
    (x0 : Vec F S256x7168 .fp8e4m3) (x1 : Vec F S256x1 .f32) (x2 : Vec F S7168x256 .fp8e4m3) (x3 : Vec F S1x256 .f32) (x4 : Vec F S1x7168x256 .fp8e4m3) (x5 : Vec F S1x1x256 .f32) (x6 : Vec F S1x256 .f32) (x7 : Vec F S1x1x256 .f32) (x8 : Vec F S256x256 .f32) (P : Vec F S7168x256 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay3 x0 (k0_pay2 x2 x4) x1 x3 x5 x6 x7) ∗ owns (c : Thread nD τ) arg14 fullShare (k0_pay2 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _))
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is formed anew; the item is not the first of its tile. -/
theorem runNewNext (c : Dev nD) (i : grid0.Coords) (arg5 : Memref sig .tc .vmem S256x7168 .fp8e4m3) (harg5 : arg5.IsWhole) (arg6 : Memref sig .tc .vmem S256x1 .f32) (harg6 : arg6.IsWhole) (arg7 : Memref sig .tc .vmem S7168x256 .fp8e4m3) (harg7 : arg7.IsWhole) (arg8 : Memref sig .tc .vmem S1x256 .f32) (harg8 : arg8.IsWhole) (arg9 : Memref sig .tc .vmem S1x7168x256 .fp8e4m3) (harg9 : arg9.IsWhole) (arg10 : Memref sig .tc .vmem S1x1x256 .f32) (harg10 : arg10.IsWhole) (arg11 : Memref sig .tc .vmem S1x256 .f32) (harg11 : arg11.IsWhole) (arg12 : Memref sig .tc .vmem S1x1x256 .f32) (harg12 : arg12.IsWhole) (arg13 : Memref sig .tc .vmem S256x256 .f32) (harg13 : arg13.IsWhole) (arg14 : Memref sig .tc .vmem S7168x256 .bf16) (harg14 : arg14.IsWhole)
    (x0 : Vec F S256x7168 .fp8e4m3) (x1 : Vec F S256x1 .f32) (x2 : Vec F S7168x256 .fp8e4m3) (x3 : Vec F S1x256 .f32) (x4 : Vec F S1x7168x256 .fp8e4m3) (x5 : Vec F S1x1x256 .f32) (x6 : Vec F S1x256 .f32) (x7 : Vec F S1x1x256 .f32) (x8 : Vec F S256x256 .f32) (P : Vec F S7168x256 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay3 x0 (k0_pay2 x2 x4) x1 x3 x5 x6 x7) (wTile i xt0) (wOff (wDom i xt1) (k0_off5_inb i _ _ _ hw hc3) xt2) x8) ∗ owns (c : Thread nD τ) arg14 fullShare (k0_pay2 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _)) (rd harg13 x8 _)
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is kept; the item is the first of its tile. -/
theorem runOldFirst (c : Dev nD) (i : grid0.Coords) (arg5 : Memref sig .tc .vmem S256x7168 .fp8e4m3) (harg5 : arg5.IsWhole) (arg6 : Memref sig .tc .vmem S256x1 .f32) (harg6 : arg6.IsWhole) (arg7 : Memref sig .tc .vmem S7168x256 .fp8e4m3) (harg7 : arg7.IsWhole) (arg8 : Memref sig .tc .vmem S1x256 .f32) (harg8 : arg8.IsWhole) (arg9 : Memref sig .tc .vmem S1x7168x256 .fp8e4m3) (harg9 : arg9.IsWhole) (arg10 : Memref sig .tc .vmem S1x1x256 .f32) (harg10 : arg10.IsWhole) (arg11 : Memref sig .tc .vmem S1x256 .f32) (harg11 : arg11.IsWhole) (arg12 : Memref sig .tc .vmem S1x1x256 .f32) (harg12 : arg12.IsWhole) (arg13 : Memref sig .tc .vmem S256x256 .f32) (harg13 : arg13.IsWhole) (arg14 : Memref sig .tc .vmem S7168x256 .bf16) (harg14 : arg14.IsWhole)
    (x0 : Vec F S256x7168 .fp8e4m3) (x1 : Vec F S256x1 .f32) (x2 : Vec F S7168x256 .fp8e4m3) (x3 : Vec F S1x256 .f32) (x4 : Vec F S1x7168x256 .fp8e4m3) (x5 : Vec F S1x1x256 .f32) (x6 : Vec F S1x256 .f32) (x7 : Vec F S1x1x256 .f32) (x8 : Vec F S256x256 .f32) (P : Vec F S7168x256 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay3 x0 P x1 x3 x5 x6 x7) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact (pay3_congr (rd harg5 x0 _) (rd harg14 P _) (rd harg6 x1 _) (rd harg8 x3 _) (rd harg10 x5 _) (rd harg11 x6 _) (rd harg12 x7 _))
    isplitl [H9]
    · iexists _; isplitr; swap; · iexact H9
      ipureintro
      exact harg14.read_unread _
    isplitl [HT0]; · iexact HT0
    isplitl [HT1]; · iexact HT1
    iexact HT2

set_option maxHeartbeats 2000000 in
/-- The weight product is kept; the item is not the first of its tile. -/
theorem runOldNext (c : Dev nD) (i : grid0.Coords) (arg5 : Memref sig .tc .vmem S256x7168 .fp8e4m3) (harg5 : arg5.IsWhole) (arg6 : Memref sig .tc .vmem S256x1 .f32) (harg6 : arg6.IsWhole) (arg7 : Memref sig .tc .vmem S7168x256 .fp8e4m3) (harg7 : arg7.IsWhole) (arg8 : Memref sig .tc .vmem S1x256 .f32) (harg8 : arg8.IsWhole) (arg9 : Memref sig .tc .vmem S1x7168x256 .fp8e4m3) (harg9 : arg9.IsWhole) (arg10 : Memref sig .tc .vmem S1x1x256 .f32) (harg10 : arg10.IsWhole) (arg11 : Memref sig .tc .vmem S1x256 .f32) (harg11 : arg11.IsWhole) (arg12 : Memref sig .tc .vmem S1x1x256 .f32) (harg12 : arg12.IsWhole) (arg13 : Memref sig .tc .vmem S256x256 .f32) (harg13 : arg13.IsWhole) (arg14 : Memref sig .tc .vmem S7168x256 .bf16) (harg14 : arg14.IsWhole)
    (x0 : Vec F S256x7168 .fp8e4m3) (x1 : Vec F S256x1 .f32) (x2 : Vec F S7168x256 .fp8e4m3) (x3 : Vec F S1x256 .f32) (x4 : Vec F S1x7168x256 .fp8e4m3) (x5 : Vec F S1x1x256 .f32) (x6 : Vec F S1x256 .f32) (x7 : Vec F S1x1x256 .f32) (x8 : Vec F S256x256 .f32) (P : Vec F S7168x256 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay3 x0 P x1 x3 x5 x6 x7) (wTile i xt0) (wOff (wDom i xt1) (k0_off5_inb i _ _ _ hw hc3) xt2) x8) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) (rd harg14 P _) (rd harg6 x1 _) (rd harg8 x3 _) (rd harg10 x5 _) (rd harg11 x6 _) (rd harg12 x7 _)) (rd harg13 x8 _)
    isplitl [H9]
    · iexists _; isplitr; swap; · iexact H9
      ipureintro
      exact harg14.read_unread _
    isplitl [HT0]; · iexact HT0
    isplitl [HT1]; · iexact HT1
    iexact HT2

end Cert.KernelIdeal.Gen

end
-- ==== Proof.KernelIdeal.Data.lean ====
/-
  The run of the whole grid. What the body leaves at a point is named by recursion on the point (`aft`): the product rows
  of the item (`rowsAt`), or, where the item is not the first of its tile, those rows from the domain's first row on and
  the rows left before above them. The scratch holds the weight product of the last point's blocks (`scrOK`).
-/
module

public import proofs.«01_k».proof.Proof.KernelIdeal.Body
public import proofs.«01_k».proof.Proof.KernelIdeal.Words

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side condition the body assumes at every point: the domain it reads the offset of lies in the table. -/
def Hyps (hO : Ok m) : Prop :=
  ∀ t : Fin (cfgM m hO).N, k0_chk1 (grid0.coords t) (wDom (grid0.coords t) (tb1 m)) (wTile (grid0.coords t) (tb0 m)) (wTileP (grid0.coords t) (tb0 m))

/-- The weight product of point `t`'s blocks. -/
def prodAt (hO : Ok m) (c : Dev nD) (t : Fin (cfgM m hO).N) : FVec F S7168x256 .bf16 := k0_pay2 (iblk m hO c 2 t) (iblk m hO c 4 t)

/-- The rows the body computes at point `t`. -/
def rowsAt (hO : Ok m) (c : Dev nD) (t : Fin (cfgM m hO).N) : FVec F S256x256 .f32 :=
  k0_pay3 (iblk m hO c 0 t) (prodAt m hO c t) (iblk m hO c 1 t) (iblk m hO c 3 t) (iblk m hO c 5 t) (iblk m hO c 6 t) (iblk m hO c 7 t)

/-- What the output block holds after a point that finds `old` in it. -/
def stepAt (hO : Ok m) (hH : Hyps m hO) (c : Dev nD) (t : Fin (cfgM m hO).N) (old : FVec F S256x256 .f32) : FVec F S256x256 .f32 :=
  if h : k0_cond3 (grid0.coords t) (wTile (grid0.coords t) (tb0 m)) (wTileP (grid0.coords t) (tb0 m)) = 1#1 then
    k0_pay1 (rowsAt m hO c t) (wTile (grid0.coords t) (tb0 m)) (wOff (wDom (grid0.coords t) (tb1 m)) (k0_off5_inb (grid0.coords t) _ _ _ (hH t) h) (tb2 m)) old
  else rowsAt m hO c t

/-- What the output block holds after point `n`. -/
def aft (hO : Ok m) (hH : Hyps m hO) (c : Dev nD) : (n : ℕ) → (hn : n < (cfgM m hO).N) → FVec F S256x256 .f32
  | 0, hn => rowsAt m hO c ⟨0, hn⟩
  | n + 1, hn => stepAt m hO hH c ⟨n + 1, hn⟩ (aft hO hH c n (Nat.lt_of_succ_lt hn))

/-- What the scratch holds before point `t`: after the first point, the product of the last point's blocks. -/
def scrOK (hO : Ok m) (c : Dev nD) (t : ℕ) (P : FVec F S7168x256 .bf16) : Prop :=
  ∀ n (hn : n < (cfgM m hO).N), n + 1 = t → P = prodAt m hO c ⟨n, hn⟩

/-- The invariant before point `n`: the scratch as `scrOK` says, the generator register, the tables' halves. -/
def PhiAt (hO : Ok m) (c : Dev nD) (n : ℕ) : sProp 𝕄 :=
  iprop(iprop((∃ P, ⌜scrOK m hO c n P⌝ ∗ owns (c : Thread nD τ) scM0_0 fullShare P) ∗ (∃ r, prngReg c r)) ∗ Pipeline.ΦT pre0 (tbl m) c)

/-- The pipeline's proof data. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => aft m hO hH c t.val t.isLt
  Φ t := PhiAt m hO c t.val
  q _ := fullShare
  owed _ := 0

theorem A_eq (hO : Ok m) (hH : Hyps m hO) (c : Dev nD) (w : Fin (cfgM m hO).W) : (dats m hO hH 0 c).A w = V m c (Pipeline.arrRef spec0 w) := by
  dsimp only [dats]
theorem Phi_eq (hO : Ok m) (hH : Hyps m hO) (c : Dev nD) (t) : (dats m hO hH 0 c).Φ t = PhiAt m hO c t.val := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = aft m hO hH c t.val t.isLt := by dsimp only [dats]; try rfl
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## Consecutive points of one output tile, and of one domain -/

theorem fetched_iblk2 (hO : Ok m) (hH : Hyps m hO) (c : Dev nD) (t : Fin (cfgM m hO).N) (d) : (dats m hO hH 0 c).fetched 2 t d = iblk m hO c 2 t := by
  unfold Dat.fetched Dat.blockOf iblk; rw [A_eq m hO hH c 2]; try rfl
theorem fetched_iblk4 (hO : Ok m) (hH : Hyps m hO) (c : Dev nD) (t : Fin (cfgM m hO).N) (d) : (dats m hO hH 0 c).fetched 4 t d = iblk m hO c 4 t := by
  unfold Dat.fetched Dat.blockOf iblk; rw [A_eq m hO hH c 4]; try rfl

/-- Where the weight product is kept, it is the product of the point's own blocks. -/
theorem prodAt_eq (hO : Ok m) (hH : Hyps m hO) (c : Dev nD) (n : ℕ) (hn : n + 1 < (cfgM m hO).N)
    (h : ¬cond0_0 (grid0.coords ⟨n + 1, hn⟩) (wDom (grid0.coords ⟨n + 1, hn⟩) (tb1 m)) (wDomP (grid0.coords ⟨n + 1, hn⟩) (tb1 m))) :
    prodAt m hO c ⟨n + 1, hn⟩ = prodAt m hO c ⟨n, Nat.lt_of_succ_lt hn⟩ := by
  rw [cond0_iff, wDom_eq, wDomP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i2 : ((cfgM m hO).win 2).index ⟨n + 1, hn⟩ = ((cfgM m hO).win 2).index ⟨n, Nat.lt_of_succ_lt hn⟩ := by
    show cc0_transform_2 (grid0.coords ⟨n + 1, hn⟩) = cc0_transform_2 (grid0.coords ⟨n, Nat.lt_of_succ_lt hn⟩)
    rw [tr2_eq, tr2_eq, h0]
  have i4 : ((cfgM m hO).win 4).index ⟨n + 1, hn⟩ = ((cfgM m hO).win 4).index ⟨n, Nat.lt_of_succ_lt hn⟩ := by
    show cc0_transform_4 k0_off1_inb numel1_S1 (tbl m) (grid0.coords ⟨n + 1, hn⟩) = cc0_transform_4 k0_off1_inb numel1_S1 (tbl m) (grid0.coords ⟨n, Nat.lt_of_succ_lt hn⟩)
    exact tr4_congr (tbl m) _ _ h0 h2
  have b2 : iblk m hO c 2 ⟨n + 1, hn⟩ = iblk m hO c 2 ⟨n, Nat.lt_of_succ_lt hn⟩ :=
    (fetched_iblk2 m hO hH c _ (iblk m hO c 2 ⟨n, Nat.lt_of_succ_lt hn⟩)).symm.trans
      (((dats m hO hH 0 c).fetched_congr 2 i2 rfl _).trans (fetched_iblk2 m hO hH c _ _))
  have b4 : iblk m hO c 4 ⟨n + 1, hn⟩ = iblk m hO c 4 ⟨n, Nat.lt_of_succ_lt hn⟩ :=
    (fetched_iblk4 m hO hH c _ (iblk m hO c 4 ⟨n, Nat.lt_of_succ_lt hn⟩)).symm.trans
      (((dats m hO hH 0 c).fetched_congr 4 i4 rfl _).trans (fetched_iblk4 m hO hH c _ _))
  exact pay2_congr b2 b4

theorem cond3_pos (hO : Ok m) (t : Fin (cfgM m hO).N)
    (h : k0_cond3 (grid0.coords t) (wTile (grid0.coords t) (tb0 m)) (wTileP (grid0.coords t) (tb0 m)) = 1#1) : t.val ≠ 0 := by
  rw [cond3_iff] at h
  intro e
  refine h (.inl ?_)
  rw [coords1 t, e]

/-- Where the item is not the first of its tile, the output block is the one of the point before. -/
theorem flush_false (hO : Ok m) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) :
    ((cfgM m hO).win 8).flush ⟨n, Nat.lt_of_succ_lt hn⟩ = false := by
  rw [cond3_iff, wTile_eq, wTileP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i8 : ((cfgM m hO).win 8).index ⟨n + 1, hn⟩ = ((cfgM m hO).win 8).index ⟨n, Nat.lt_of_succ_lt hn⟩ := by
    show cc0_transform_8 k0_off1_inb numel1_S1 (tbl m) (grid0.coords ⟨n + 1, hn⟩) = cc0_transform_8 k0_off1_inb numel1_S1 (tbl m) (grid0.coords ⟨n, Nat.lt_of_succ_lt hn⟩)
    exact tr8_congr (tbl m) _ _ h0 h2
  have hd : ¬ (n + 1 = (cfgM m hO).grid.N) := Nat.ne_of_lt hn
  unfold Pipeline.Window.flush
  rw [decide_eq_false hd, decide_eq_false (fun ⟨_, e⟩ => e i8)]
  exact Bool.and_false _

theorem idle_bits (i : grid0.Coords) (a b : BitVec 32) : (!(k0_cond2 i a b == 1#1) && !(k0_cond3 i a b == 1#1)) = false := by
  by_cases h : (i 1).val = 0 ∨ a ≠ b
  · rw [(cond2_iff i a b).mpr h]; rfl
  · rw [(cond3_iff i a b).mpr h]; exact Bool.and_false _
theorem idle8 (hO : Ok m) (i : grid0.Coords) : (cfgM m hO).idle 8 i = false := idle_bits i _ _

/-- Where the item is not the first of its tile the output block holds what the point before left. -/
theorem before0_8 (hO : Ok m) (hH : Hyps m hO) (c : Dev nD) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) (d) :
    (dats m hO hH 0 c).before 8 ⟨n + 1, hn⟩ d = aft m hO hH c n (Nat.lt_of_succ_lt hn) :=
  ((dats m hO hH 0 c).before_out_kept 8 rfl ⟨n + 1, hn⟩ (Nat.succ_ne_zero n) (flush_false m hO n hn h) (idle8 m hO) (fun _ _ => rfl) d).trans
    (after0_8 m hO hH c _)

theorem aft_step (hO : Ok m) (hH : Hyps m hO) (c : Dev nD) (t : Fin (cfgM m hO).N) (d) :
    stepAt m hO hH c t ((dats m hO hH 0 c).before 8 t d) = aft m hO hH c t.val t.isLt := by
  obtain ⟨n, hn⟩ := t
  cases n with
  | zero =>
    unfold stepAt
    rw [dif_neg (fun h => cond3_pos m hO ⟨0, hn⟩ h rfl)]
    rfl
  | succ n =>
    show _ = stepAt m hO hH c ⟨n + 1, hn⟩ (aft m hO hH c n (Nat.lt_of_succ_lt hn))
    by_cases h : k0_cond3 (grid0.coords ⟨n + 1, hn⟩) (wTile (grid0.coords ⟨n + 1, hn⟩) (tb0 m)) (wTileP (grid0.coords ⟨n + 1, hn⟩) (tb0 m)) = 1#1
    · rw [before0_8 m hO hH c n hn h d]
    · unfold stepAt; rw [dif_neg h, dif_neg h]

/-- Where the weight product is kept, the scratch holds the point's own product. -/
theorem scr_kept (hO : Ok m) (hH : Hyps m hO) (c : Dev nD) (t : Fin (cfgM m hO).N) (P : FVec F S7168x256 .bf16) (hP : scrOK m hO c t.val P)
    (h : ¬cond0_0 (grid0.coords t) (wDom (grid0.coords t) (tb1 m)) (wDomP (grid0.coords t) (tb1 m))) : P = prodAt m hO c t := by
  obtain ⟨n, hn⟩ := t
  cases n with
  | zero => exact absurd ((cond0_iff _ _ _).mpr (.inl (coords1 ⟨0, hn⟩))) h
  | succ n => exact (hP n (Nat.lt_of_succ_lt hn) rfl).trans (prodAt_eq m hO hH c n hn h).symm

theorem scr_next (hO : Ok m) (c : Dev nD) (t : Fin (cfgM m hO).N) : scrOK m hO c (t.val + 1) (prodAt m hO c t) := by
  intro n hn e
  obtain rfl : n = t.val := Nat.succ.inj e
  rfl

end Cert.KernelIdeal.Gen

end
-- ==== Proof.KernelIdeal.Tables.lean ====
/-
  The tables the kernel prefetches, as numbers; every block they name lies in its array, and the side condition the
  body assumes holds, once the offsets are nondecreasing from 0 to 4096.
-/
module

public import proofs.«01_k».proof.Proof.KernelIdeal.Host
public import proofs.«01_k».proof.Proof.KernelIdeal.Data

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ho : Offs (offsM m 0))
include ho

theorem tb0_word (w : Fin 24) : tb0 m (ix1 w) = wd (tile (offsM m 0) w) :=
  (congrFun (tbl_def m 0) _).trans (V_tile m 0 ho w)
theorem tb1_word (w : Fin 24) : tb1 m (ix1 w) = wd (dom (offsM m 0) w) :=
  (congrFun (tbl_def m 1) _).trans (V_dom m 0 ho w)
omit ho in
theorem tb2_word (d : Fin 10) : tb2 m (ix1 d) = wd (offsM m 0 d) :=
  (congrFun ((tbl_def m 2).trans (V_main_arg0 m 0)) _).trans (offs_word _ d)

omit ho [FloatOps F] in
theorem toNat_wd (n : ℕ) (h : n < 2 ^ 32) : (wd n).toNat = n := by
  rw [BitVec.toNat_ofNat, Nat.mod_eq_of_lt h]

/-- The tile and the domain the index maps read at a point. -/
theorem tile_at (w : Fin 24) : ((tbl m 0 : S24.Idx → BitVec 32) (ix1 w)).toNat = tile (offsM m 0) w := by
  have h := tile_lt ho w
  exact (congrArg BitVec.toNat (tb0_word m ho w)).trans (toNat_wd _ (by omega))
theorem dom_at (w : Fin 24) : ((tbl m 1 : S24.Idx → BitVec 32) (ix1 w)).toNat = dom (offsM m 0) w := by
  have h := dom_lt ho w
  exact (congrArg BitVec.toNat (tb1_word m ho w)).trans (toNat_wd _ (by omega))

theorem blocks_ok : Ok m := by
  have key : ∀ i : grid0.Coords, ((tbl m 0 : S24.Idx → BitVec 32) (ix1 (i 1))).toNat = tile (offsM m 0) (i 1)
      ∧ ((tbl m 1 : S24.Idx → BitVec 32) (ix1 (i 1))).toNat = dom (offsM m 0) (i 1)
      ∧ tile (offsM m 0) (i 1) < 16 ∧ dom (offsM m 0) (i 1) < 9 ∧ (i 0).val < 7 :=
    fun i => ⟨tile_at m ho (i 1), dom_at m ho (i 1), tile_lt ho _, dom_lt ho _, (i 0).isLt⟩
  refine ⟨fun i => ?_, fun i => ?_, fun i => ?_, fun i => ?_, fun i => ?_, fun i => ?_⟩ <;> obtain ⟨hTile, hDom, h16, h9, h7⟩ := key i
  · refine ⟨?_, .inr (.inl (.inr ⟨by decide, rfl, .inl ⟨Dvd.dvd.mul_left (show (4 : ℕ) ∣ 256 by decide) _, by show (4 : ℕ) ∣ 256; decide⟩⟩))⟩
    · intro a
      rw [tr0_eq, hTile]
      match a with
      | ⟨0, _⟩ => show (tile (offsM m 0) (i 1) + 1) * 256 ≤ 4096; omega
      | ⟨1, _⟩ => show (0 + 1) * 7168 ≤ 7168; omega
  · refine ⟨?_, .inl rfl⟩
    · intro a
      rw [tr1_eq, hTile]
      match a with
      | ⟨0, _⟩ => show (tile (offsM m 0) (i 1) + 1) * 256 ≤ 4096; omega
      | ⟨1, _⟩ => show (0 + 1) * 1 ≤ 1; omega
  · refine ⟨?_, .inr (.inl (.inr ⟨by decide, rfl, .inl ⟨Dvd.dvd.mul_left (show (4 : ℕ) ∣ 7168 by decide) _, by show (4 : ℕ) ∣ 7168; decide⟩⟩))⟩
    · intro a
      rw [tr4_eq, hDom]
      match a with
      | ⟨0, _⟩ => show (dom (offsM m 0) (i 1) + 1) * 1 ≤ 9; omega
      | ⟨1, _⟩ => show (0 + 1) * 7168 ≤ 7168; omega
      | ⟨2, _⟩ => show ((i 0).val + 1) * 256 ≤ 1792; omega
  · refine ⟨?_, .inl rfl⟩
    · intro a
      rw [tr5_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 256 ≤ 1792; omega
  · refine ⟨?_, .inl rfl⟩
    · intro a
      rw [tr7_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 256 ≤ 1792; omega
  · refine ⟨?_, .inl rfl⟩
    · intro a
      rw [tr8_eq, hTile]
      match a with
      | ⟨0, _⟩ => show (tile (offsM m 0) (i 1) + 1) * 256 ≤ 4096; omega
      | ⟨1, _⟩ => show ((i 0).val + 1) * 256 ≤ 1792; omega

theorem side_ok (hO : Ok m) : Hyps m hO := by
  intro t
  unfold k0_chk1
  intro _ a
  have h := dom_lt ho ((grid0.coords t 1).val)
  have e : (wDom (grid0.coords t) (tb1 m)).toNat = dom (offsM m 0) (grid0.coords t 1) := by
    exact (congrArg BitVec.toNat ((wDom_eq _ _).trans (tb1_word m ho _))).trans (toNat_wd _ (by omega))
  match a with
  | ⟨0, _⟩ =>
    show (wDom (grid0.coords t) (tb1 m)).toNat + 1 ≤ 10
    omega

end Cert.KernelIdeal.Gen

end
-- ==== Proof.KernelIdeal.Point.lean ====
/-
  The body run at any point of the grid: the four cases of the body put together.
-/
module

public import proofs.«01_k».proof.Proof.KernelIdeal.Data

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 3200000 in
/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl,
    after0_0, after0_1, after0_2, after0_3, after0_4, after0_5, after0_6, after0_7, after0_8]
  rw [Phi_eq, Phi_eq, Fin.val_castSucc, Fin.val_succ]
  unfold PhiAt
  rw [PhiT0_eq]
  iintro ⟨⟨⟨⟨%P, %hP, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← aft_step m hO hH c t d8]
  by_cases hc1 : cond0_0 (grid0.coords t) (wDom (grid0.coords t) (tb1 m)) (wDomP (grid0.coords t) (tb1 m)) <;>
  by_cases hc3 : k0_cond3 (grid0.coords t) (wTile (grid0.coords t) (tb0 m)) (wTileP (grid0.coords t) (tb0 m)) = 1#1
  · have hc2 : ¬k0_cond2 (grid0.coords t) (wTile (grid0.coords t) (tb0 m)) (wTileP (grid0.coords t) (tb0 m)) = 1#1 := by
      rw [cond2_iff]; rw [cond3_iff] at hc3; exact hc3
    rw [show stepAt m hO hH c t ((dats m hO hH 0 c).before 8 t d8) = _ from dif_pos hc3]
    iapply ((runNewNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    rw [show stepAt m hO hH c t ((dats m hO hH 0 c).before 8 t d8) = _ from dif_neg hc3]
    iapply ((runNewFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : ¬k0_cond2 (grid0.coords t) (wTile (grid0.coords t) (tb0 m)) (wTileP (grid0.coords t) (tb0 m)) = 1#1 := by
      rw [cond2_iff]; rw [cond3_iff] at hc3; exact hc3
    obtain rfl := scr_kept m hO hH c t P hP hc1
    rw [show stepAt m hO hH c t ((dats m hO hH 0 c).before 8 t d8) = _ from dif_pos hc3]
    iapply ((runOldNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    obtain rfl := scr_kept m hO hH c t P hP hc1
    rw [show stepAt m hO hH c t ((dats m hO hH 0 c).before 8 t d8) = _ from dif_neg hc3]
    iapply ((runOldFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Gen

end
-- ==== Proof.KernelIdeal.Run.lean ====
/-
  The launch: the run of the program, its arguments unchanged and its result as the write-backs leave it.
-/
module

public import proofs.«01_k».proof.Proof.KernelIdeal.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  refine triple_restated (sound_body m hO hH c t) rfl .rfl fun _ => ?_
  dsimp only
  generalize hb : idle0 (tbl m) 8 _ = b
  obtain rfl : b = false := hb.symm.trans (idle8 m hO _)
  exact .rfl

/-! ## The launch -/

/-- The scratch, whatever it holds, is as the region begins with it. -/
theorem Phi_in (hO : Ok m) (hH : Hyps m hO) (c : Dev nD) :
    iprop(Pipeline.ΦA spec0 c ∗ Pipeline.ΦT pre0 (tbl m) c) ⊢ (dats m hO hH 0 c).Φ 0 := by
  rw [Phi_eq]; unfold PhiAt; rw [PhiA0_eq]
  iintro ⟨⟨⟨%P, HS⟩, Hg⟩, HT⟩
  isplitl [HS Hg]
  · isplitl [HS]
    · iexists P; isplitr; swap; · iexact HS
      ipureintro; exact fun n hn e => absurd e (Nat.succ_ne_zero n)
    iexact Hg
  iexact HT

theorem Phi_out (hO : Ok m) (hH : Hyps m hO) (c : Dev nD) :
    (dats m hO hH 0 c).Φ (Fin.last (cfgM m hO).N) ⊢ Pipeline.ΦA spec0 c := by
  rw [Phi_eq]; unfold PhiAt; rw [PhiA0_eq]
  iintro ⟨⟨⟨%P, %hP, HS⟩, Hg⟩, HT⟩
  iclear HT
  isplitl [HS]
  · iexists P; iexact HS
  iexact Hg

set_option maxHeartbeats 1600000 in
set_option backward.isDefEq.respectTransparency.types false in
theorem run_main (hO : Ok m) (hH : Hyps m hO) : θ_run defs (onTc (τ := τ) (main (F := F))) (s₀ m ρ)
    (fun r => Pipeline.FramePost (Pipeline.pin pcfgs fun _ => adm m hO) (dats m hO hH) (0 : Fin 1) (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := Phi_in m hO hH) (hout := Phi_out m hO hH)

theorem rest_main_arg0 : main_arg0 ∈ Pipeline.restRefs sig spec0 := Pipeline.mem_restRefs_of main_arg0 (by decide) (by decide)
theorem rest_main_arg4 : main_arg4 ∈ Pipeline.restRefs sig spec0 := Pipeline.mem_restRefs_of main_arg4 (by decide) (by decide)
theorem rest_main_arg6 : main_arg6 ∈ Pipeline.restRefs sig spec0 := Pipeline.mem_restRefs_of main_arg6 (by decide) (by decide)
theorem rest_main_arg7 : main_arg7 ∈ Pipeline.restRefs sig spec0 := Pipeline.mem_restRefs_of main_arg7 (by decide) (by decide)
theorem rest_main_arg8 : main_arg8 ∈ Pipeline.restRefs sig spec0 := Pipeline.mem_restRefs_of main_arg8 (by decide) (by decide)
/-- The run: the arguments end as they were, the result as the write-backs leave it, every counter at zero. -/
theorem run_result (hO : Ok m) (hH : Hyps m hO) : θ_run defs (onTc (τ := τ) (main (F := F))) ⟨m, fun _ => 0, ρ⟩ (fun r => (∀ c : Dev nD,
      r.2.mem ((c.tc : Thread nD τ).loc main_v47) = (dats m hO hH 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 8, ((h.1 c).2 main_arg0 rest_main_arg0).trans (V_main_arg0 m c), ((h.1 c).1 0).trans (((dats m hO hH 0 c).arrAt_in 0 rfl _).trans ((A_eq m hO hH c 0).trans (V_main_arg1 m c))), ((h.1 c).1 1).trans (((dats m hO hH 0 c).arrAt_in 1 rfl _).trans ((A_eq m hO hH c 1).trans (V_main_arg2 m c))), ((h.1 c).1 2).trans (((dats m hO hH 0 c).arrAt_in 2 rfl _).trans ((A_eq m hO hH c 2).trans (V_main_arg3 m c))), ((h.1 c).2 main_arg4 rest_main_arg4).trans (V_main_arg4 m c), ((h.1 c).1 4).trans (((dats m hO hH 0 c).arrAt_in 4 rfl _).trans ((A_eq m hO hH c 4).trans (V_main_arg5 m c))), ((h.1 c).2 main_arg6 rest_main_arg6).trans (V_main_arg6 m c), ((h.1 c).2 main_arg7 rest_main_arg7).trans (V_main_arg7 m c), ((h.1 c).2 main_arg8 rest_main_arg8).trans (V_main_arg8 m c)⟩, h.2⟩) (run_main m ρ hO hH)

end Cert.KernelIdeal.Gen

end
-- ==== Proof.KernelIdeal.Frame.lean ====
module

public import proofs.«01_k».proof.Defs
public import proofs.«01_k».proof.Proof.Gen.Kernel
public import proofs.«01_k».proof.Proof.Gen.Pre_offsets_cover
public import proofs.«01_k».proof.Proof.KernelIdeal.Tables
public import proofs.«01_k».proof.Proof.KernelIdeal.Run

/-!
# The runs of `Kernel` and `KernelIdeal`

From the precondition on the offsets: the program terminates without a fault, leaves its arguments as they were, and every
semaphore counter ends at zero. `Kernel` is the text of `KernelIdeal` printed a second time, since the ideal pass rewrote nothing,
so the run proved for any float type serves both.
-/

@[expose] public section

set_option maxRecDepth 16384

noncomputable section

namespace Cert.Frames

open Idealize.ShloMosaic Idealize.SL.Sem Cert.HostWords Cert.WorkList

theorem offs_KernelIdeal (m : (ℓ : Loc Cert.KernelIdeal.nD Cert.KernelIdeal.τ Cert.KernelIdeal.sig) → Buf (Elt Ideal) ℓ)
    (h : @Cert.Pre_KernelIdeal Cert.Pre_offsets_cover.Gen.facts m) (c : Dev Cert.KernelIdeal.nD) : Offs (Cert.KernelIdeal.Gen.offsM m c) :=
  letI := Cert.Pre_offsets_cover.Gen.facts
  offs_of_pre _ _ _ _ _ _ (h c).1 (h c).2.1 (h c).2.2

theorem frame_KernelIdeal : @Cert.quiescent_KernelIdeal Cert.KernelIdeal.Gen.facts Cert.Pre_offsets_cover.Gen.facts := fun m g hp =>
  have ho := offs_KernelIdeal m hp 0
  have hO := Cert.KernelIdeal.Gen.blocks_ok m ho
  (θ_run _ _ _).mono (fun _ h => ⟨fun c => (h.1 c).2, h.2⟩) (Cert.KernelIdeal.Gen.run_result m g hO (Cert.KernelIdeal.Gen.side_ok m ho hO))

theorem offs_Kernel (m : (ℓ : Loc Cert.Kernel.nD Cert.Kernel.τ Cert.Kernel.sig) → Buf (Elt Bits) ℓ) (h : @Cert.Pre_Kernel Cert.Pre_offsets_cover.Gen.facts m)
    (c : Dev Cert.Kernel.nD) : Offs (Cert.KernelIdeal.Gen.offsM (F := Bits) m c) :=
  letI := Cert.Pre_offsets_cover.Gen.facts
  offs_of_pre _ _ _ _ _ _ (h c).1 (h c).2.1 (h c).2.2

theorem same_Kernel : @Cert.quiescent_Kernel Cert.Kernel.Gen.facts Cert.Pre_offsets_cover.Gen.facts
    = ∀ (m : (ℓ : Loc KernelIdeal.nD KernelIdeal.τ KernelIdeal.sig) → Buf (Elt Bits) ℓ) (g : Dev KernelIdeal.nD → PrngReg), @Cert.Pre_Kernel Cert.Pre_offsets_cover.Gen.facts m →
      θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8))
      ∧ r.2.sem = fun _ => 0) := by
  chain_rfl

theorem frame_Kernel : @Cert.quiescent_Kernel Cert.Kernel.Gen.facts Cert.Pre_offsets_cover.Gen.facts := by
  rw [same_Kernel]
  intro m g hp
  have ho := offs_Kernel m hp 0
  have hO := Cert.KernelIdeal.Gen.blocks_ok m ho
  exact (θ_run _ _ _).mono (fun _ h => ⟨fun c => (h.1 c).2, h.2⟩) (Cert.KernelIdeal.Gen.run_result (F := Bits) m g hO (Cert.KernelIdeal.Gen.side_ok m ho hO))

end Cert.Frames

end
-- ==== Proof.SecondIdeal.Kit.lean ====
/-
  The set-up of `SecondIdeal`'s certificate: the memory when the pipelined region is entered (`V`: the launch memory after
  the host operations that build the work list), the three tables of the work list (`tbl`), the windows' blocks, the
  staging and scratch buffers, and the words the body reads from the tables.
-/
module

public import proofs.«01_k».proof.Proof.Gen.SecondIdeal.Launch
public import proofs.«01_k».proof.Proof.Gen.SecondIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, then every host operation's result written. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

set_option maxHeartbeats 1600000 in
/-- @main up to the region runs the host operations and leaves `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

/-- The host operations write no argument. -/
theorem V_arg (c : Dev nD) (b : Ref sig .tc) (hb : b ∈ [main_arg0, main_arg1, main_arg2, main_arg3, main_arg4, main_arg5, main_arg6, main_arg7, main_arg8]) :
    V m c b = m ((c : Thread nD τ).loc b) := by
  refine StableHlo.after_of_forall_not_mem (b := Proc.devRef .tc b) _ _ (List.forall_iff_forall_mem.mp ?_)
  simp only [List.mem_cons, List.not_mem_nil, or_false] at hb
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl | rfl | rfl | rfl <;> repeat' apply And.intro
  all_goals exact StableHlo.devRef_ne_of_ne (by decide)

theorem V_main_arg0 (c : Dev nD) : V m c main_arg0 = m ((c : Thread nD τ).loc main_arg0) := V_arg m c _ (by simp)
theorem V_main_arg1 (c : Dev nD) : V m c main_arg1 = m ((c : Thread nD τ).loc main_arg1) := V_arg m c _ (by simp)
theorem V_main_arg2 (c : Dev nD) : V m c main_arg2 = m ((c : Thread nD τ).loc main_arg2) := V_arg m c _ (by simp)
theorem V_main_arg3 (c : Dev nD) : V m c main_arg3 = m ((c : Thread nD τ).loc main_arg3) := V_arg m c _ (by simp)
theorem V_main_arg4 (c : Dev nD) : V m c main_arg4 = m ((c : Thread nD τ).loc main_arg4) := V_arg m c _ (by simp)
theorem V_main_arg5 (c : Dev nD) : V m c main_arg5 = m ((c : Thread nD τ).loc main_arg5) := V_arg m c _ (by simp)
theorem V_main_arg6 (c : Dev nD) : V m c main_arg6 = m ((c : Thread nD τ).loc main_arg6) := V_arg m c _ (by simp)
theorem V_main_arg7 (c : Dev nD) : V m c main_arg7 = m ((c : Thread nD τ).loc main_arg7) := V_arg m c _ (by simp)
theorem V_main_arg8 (c : Dev nD) : V m c main_arg8 = m ((c : Thread nD τ).loc main_arg8) := V_arg m c _ (by simp)

/-! ## The tables -/

/-- The tables' contents when the region is entered. -/
def tbl : pre0.Contents (Elt F) := fun j => V m (0 : Dev nD) (pre0.ref j)
/-- There is one device, so the tables hold those contents on every device. -/
theorem V_pre (c : Dev nD) (j : Fin 3) : V m c (pre0.ref j) = tbl m j := by
  obtain rfl : c = 0 := Subsingleton.elim _ _; rfl
/-- Every window's block lies inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tbl_def (j : Fin 3) : tbl m j = V m (0 : Dev nD) (pre0.ref j) := rfl

abbrev tbM0_0 : Memref sig .tc .smem S24 .i32 := Memref.whole main_v42
abbrev htbM0_0 : tbM0_0.IsWhole := Memref.isWhole_whole _
abbrev tbM0_1 : Memref sig .tc .smem S24 .i32 := Memref.whole main_v18
abbrev htbM0_1 : tbM0_1.IsWhole := Memref.isWhole_whole _
abbrev tbM0_2 : Memref sig .tc .smem S10 .i32 := Memref.whole main_arg0
abbrev htbM0_2 : tbM0_2.IsWhole := Memref.isWhole_whole _

abbrev TbBuf0 (c : Dev nD) {S : Shape} {e : EltTy} (M : Memref sig .tc .smem S e) : Type := Buf (Elt F) (M.view.loc (c : Thread nD τ))
/-- A table held at half the full share. -/
abbrev tbPt0 (c : Dev nD) {S : Shape} {e : EltTy} (M : Memref sig .tc .smem S e) (f : TbBuf0 (F := F) c M) : sProp 𝕄 :=
  M.view.loc (c : Thread nD τ) ↦{fullShare.right} f

theorem V_def (c : Dev nD) (b : Ref sig .tc) : V m c b = StableHlo.after (List.flatten [hostOps0, hostOps0_1, hostOps0_2, hostOps0_3, hostOps0_4, hostOps0_5, hostOps0_6, hostOps0_7, hostOps0_8, hostOps0_9]) (fun b => m (c, b)) b := rfl

attribute [irreducible] V tbl

/-- The tables as the body's memrefs hold them: tiles, domains, offsets. -/
def tb0 : (tbM0_0).view.ty.Contents (Elt F) := tbl m 0
def tb1 : (tbM0_1).view.ty.Contents (Elt F) := tbl m 1
def tb2 : (tbM0_2).view.ty.Contents (Elt F) := tbl m 2

/-- The tables' halves the region hands the body, table by table. -/
theorem PhiT0_eq (c : Dev nD) : (Pipeline.ΦT pre0 (tbl m) c : sProp 𝕄) = iprop(tbPt0 c tbM0_0 (tb0 m) ∗ tbPt0 c tbM0_1 (tb1 m) ∗ tbPt0 c tbM0_2 (tb2 m)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The words the body reads -/

section Words
variable (i : grid0.Coords)
/-- The tile of the work item. -/
abbrev wTile (xt : (tbM0_0).view.ty.Contents (Elt F)) : BitVec 32 :=
  tbM0_0.view.readAt (Elt F) (Rect.unit (s := S24) (k0_off3 i) S1.size (k0_off3_inb i)).toLoadRect xt (Shape.Idx.first (numel1_S1.symm ▸ Nat.one_pos))
/-- The tile of the work item before it. -/
abbrev wTileP (xt : (tbM0_0).view.ty.Contents (Elt F)) : BitVec 32 :=
  tbM0_0.view.readAt (Elt F) (Rect.unit (s := S24) (k0_off4 i) S1.size (k0_off4_inb i)).toLoadRect xt (Shape.Idx.first (numel1_S1.symm ▸ Nat.one_pos))
/-- The domain of the work item. -/
abbrev wDom (xt : (tbM0_1).view.ty.Contents (Elt F)) : BitVec 32 :=
  tbM0_1.view.readAt (Elt F) (Rect.unit (s := S24) (k0_off1 i) S1.size (k0_off1_inb i)).toLoadRect xt (Shape.Idx.first (numel1_S1.symm ▸ Nat.one_pos))
/-- The domain of the work item before it. -/
abbrev wDomP (xt : (tbM0_1).view.ty.Contents (Elt F)) : BitVec 32 :=
  tbM0_1.view.readAt (Elt F) (Rect.unit (s := S24) (k0_off2 i) S1.size (k0_off2_inb i)).toLoadRect xt (Shape.Idx.first (numel1_S1.symm ▸ Nat.one_pos))
/-- The first row of domain `v`. -/
abbrev wOff (v : BitVec 32) (h : ∀ a, k0_off5 v a + S1.size a ≤ S10.size a) (xt : (tbM0_2).view.ty.Contents (Elt F)) : BitVec 32 :=
  tbM0_2.view.readAt (Elt F) (Rect.unit (s := S10) (k0_off5 v) S1.size h).toLoadRect xt (Shape.Idx.first (numel1_S1.symm ▸ Nat.one_pos))
end Words

/-- The condition under which the body forms the weight product anew. -/
abbrev cond0_0 (i : grid0.Coords) (v1 : BitVec 32) (v5 : BitVec 32) : Prop := (Scalar.cmpi .ne (Scalar.extui (Scalar.ori (Scalar.cmpi .eq (BitVec.ofNat 32 (i 1).val) 0#32) (Scalar.cmpi .ne v1 v5))) 0#32) = 1#1

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch buffers -/

abbrev ms0_0 (hO : Ok m) (t : Fin (cfgM m hO).N) : Memref sig .tc .vmem S256x1792 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1792x384 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x384 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1792x384 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x384 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x384 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x384 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x384 .f32 := spec0_8.stage ((cfgM m hO).slots t 8)
abbrev hs0_8 (hO : Ok m) (t : Fin (cfgM m hO).N) : (ms0_8 m hO t).IsWhole := hstage0_8 (((cfgM m hO).slots t 8).cast nbuf0_8)

/-- The scratch that holds the weight product. -/
abbrev scM0_0 : Memref sig .tc .vmem S1792x384 .bf16 := Memref.whole cc0_scratch0

/-- The scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_star_fc (grid0.coords t) (Memref.whole main_v42) (Memref.isWhole_whole _) (Memref.whole main_v18) (Memref.isWhole_whole _) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.SecondIdeal.Gen

end
-- ==== Proof.SecondIdeal.Words.lean ====
/-
  The words the body and the index maps read, as entries of the tables, and the body's branch conditions over them.
-/
module

public import proofs.«01_k».proof.Proof.SecondIdeal.Kit
public import Idealize.ShloMosaic.Lib.Routing.Ops

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

omit [FloatOps F] in
theorem unit1_emb {n : ℕ} (off : Fin 1 → ℕ) (h : ∀ a, off a + S1.size a ≤ (⟨1, ![n]⟩ : Shape).size a) (k : Fin n) (hk : off 0 = k.val) (y : S1.Idx) :
    (Rect.unit (s := (⟨1, ![n]⟩ : Shape)) off S1.size h).emb y = ix1 k := by
  funext a
  fin_cases a
  apply Fin.ext
  have hy : (y 0).val = 0 := by have := (y 0).isLt; simp only [S1] at this; exact Nat.lt_one_iff.mp this
  show off 0 + 1 * (y 0).val = k.val
  omega

theorem off1_val (i : grid0.Coords) : k0_off1 i 0 = (i 1).val := by
  have h : (i 1).val < 24 := (i 1).isLt
  show (BitVec.ofNat 32 (i 1).val).toNat = _
  rw [BitVec.toNat_ofNat]; omega
theorem off3_val (i : grid0.Coords) : k0_off3 i 0 = (i 1).val := off1_val i
theorem off2_val (i : grid0.Coords) : k0_off2 i 0 = (i 1).val - 1 := by
  have h : (i 1).val < 24 := (i 1).isLt
  unfold k0_off2
  generalize (i 1).val = n at h
  interval_cases n <;> decide
theorem off4_val (i : grid0.Coords) : k0_off4 i 0 = (i 1).val - 1 := off2_val i

/-- The entry before entry `k` of a table of 24. -/
abbrev prev24 (k : Fin 24) : Fin 24 := ⟨k.val - 1, by omega⟩

theorem wTile_eq (i : grid0.Coords) (x : (tbM0_0).view.ty.Contents (Elt F)) : wTile i x = x (ix1 (i 1)) :=
  congrArg x (unit1_emb _ (k0_off3_inb i) (i 1) (off3_val i) _)
theorem wTileP_eq (i : grid0.Coords) (x : (tbM0_0).view.ty.Contents (Elt F)) : wTileP i x = x (ix1 (prev24 (i 1))) :=
  congrArg x (unit1_emb _ (k0_off4_inb i) (prev24 (i 1)) (off4_val i) _)
theorem wDom_eq (i : grid0.Coords) (x : (tbM0_1).view.ty.Contents (Elt F)) : wDom i x = x (ix1 (i 1)) :=
  congrArg x (unit1_emb _ (k0_off1_inb i) (i 1) (off1_val i) _)
theorem wDomP_eq (i : grid0.Coords) (x : (tbM0_1).view.ty.Contents (Elt F)) : wDomP i x = x (ix1 (prev24 (i 1))) :=
  congrArg x (unit1_emb _ (k0_off2_inb i) (prev24 (i 1)) (off2_val i) _)
theorem wOff_eq (v : BitVec 32) (h : ∀ a, k0_off5 v a + S1.size a ≤ S10.size a) (x : (tbM0_2).view.ty.Contents (Elt F)) (k : Fin 10) (hk : v.toNat = k.val) :
    wOff v h x = x (ix1 k) :=
  congrArg x (unit1_emb _ h k hk _)

theorem tr0_eq (pf : pre0.Contents (Elt F)) (i : grid0.Coords) : cc0_transform_0 k0_off1_inb numel1_S1 pf i = ![((pf 0 : S24.Idx → BitVec 32) (ix1 (i 1))).toNat, 0] := by
  have h := congrArg (pf 0 : S24.Idx → BitVec 32) (unit1_emb _ (k0_off1_inb i) (i 1) (off1_val i) (Shape.Idx.first (numel1_S1.symm ▸ Nat.one_pos)))
  exact congrArg (fun v : BitVec 32 => ![v.toNat, 0]) h
theorem tr1_eq (pf : pre0.Contents (Elt F)) (i : grid0.Coords) : cc0_transform_1 k0_off1_inb numel1_S1 pf i = ![((pf 0 : S24.Idx → BitVec 32) (ix1 (i 1))).toNat, 0] := tr0_eq pf i
theorem ofNat7 (i : grid0.Coords) : (BitVec.ofNat 32 (i 0).val).toNat = (i 0).val := by
  have h : (i 0).val < 3 := (i 0).isLt
  rw [BitVec.toNat_ofNat]; omega
theorem tr8_eq (pf : pre0.Contents (Elt F)) (i : grid0.Coords) : cc0_transform_8 k0_off1_inb numel1_S1 pf i = ![((pf 0 : S24.Idx → BitVec 32) (ix1 (i 1))).toNat, (i 0).val] := by
  have h := congrArg (pf 0 : S24.Idx → BitVec 32) (unit1_emb _ (k0_off1_inb i) (i 1) (off1_val i) (Shape.Idx.first (numel1_S1.symm ▸ Nat.one_pos)))
  exact (congrArg (fun v : BitVec 32 => ![v.toNat, (BitVec.ofNat 32 (i 0).val).toNat]) h).trans (by rw [ofNat7])
theorem tr4_eq (pf : pre0.Contents (Elt F)) (i : grid0.Coords) : cc0_transform_4 k0_off1_inb numel1_S1 pf i = ![((pf 1 : S24.Idx → BitVec 32) (ix1 (i 1))).toNat, 0, (i 0).val] := by
  have h := congrArg (pf 1 : S24.Idx → BitVec 32) (unit1_emb _ (k0_off1_inb i) (i 1) (off1_val i) (Shape.Idx.first (numel1_S1.symm ▸ Nat.one_pos)))
  exact (congrArg (fun v : BitVec 32 => ![v.toNat, 0, (BitVec.ofNat 32 (i 0).val).toNat]) h).trans (by rw [ofNat7])
theorem tr5_eq (pf : pre0.Contents (Elt F)) (i : grid0.Coords) : cc0_transform_5 k0_off1_inb numel1_S1 pf i = ![((pf 1 : S24.Idx → BitVec 32) (ix1 (i 1))).toNat, 0, (i 0).val] := tr4_eq pf i
theorem tr7_eq (pf : pre0.Contents (Elt F)) (i : grid0.Coords) : cc0_transform_7 k0_off1_inb numel1_S1 pf i = ![((pf 1 : S24.Idx → BitVec 32) (ix1 (i 1))).toNat, 0, (i 0).val] := tr4_eq pf i
/-- Two points of one strip whose items have one tile have one output block, of one domain one weight block. -/
theorem tr8_congr (pf : pre0.Contents (Elt F)) (i i' : grid0.Coords) (h0 : i 0 = i' 0)
    (h : (pf 0 : S24.Idx → BitVec 32) (ix1 (i 1)) = (pf 0 : S24.Idx → BitVec 32) (ix1 (i' 1))) :
    cc0_transform_8 k0_off1_inb numel1_S1 pf i = cc0_transform_8 k0_off1_inb numel1_S1 pf i' := by
  rw [tr8_eq, tr8_eq, h0, h]
theorem tr4_congr (pf : pre0.Contents (Elt F)) (i i' : grid0.Coords) (h0 : i 0 = i' 0)
    (h : (pf 1 : S24.Idx → BitVec 32) (ix1 (i 1)) = (pf 1 : S24.Idx → BitVec 32) (ix1 (i' 1))) :
    cc0_transform_4 k0_off1_inb numel1_S1 pf i = cc0_transform_4 k0_off1_inb numel1_S1 pf i' := by
  rw [tr4_eq, tr4_eq, h0, h]
theorem tr2_eq (i : grid0.Coords) : cc0_transform_2 i = ![0, (i 0).val] :=
  congrArg (fun n => ![0, n]) (ofNat7 i)
theorem tr3_eq (i : grid0.Coords) : cc0_transform_3 i = ![0, (i 0).val] := tr2_eq i
theorem tr6_eq (i : grid0.Coords) : cc0_transform_6 i = ![0, (i 0).val] := tr2_eq i

theorem ofNat_eq_zero (i : grid0.Coords) : BitVec.ofNat 32 (i 1).val = 0#32 ↔ (i 1).val = 0 := by
  have h : (i 1).val < 24 := (i 1).isLt
  constructor
  · intro e
    have := congrArg BitVec.toNat e
    rw [BitVec.toNat_ofNat] at this
    have h0 : (0#32).toNat = 0 := rfl
    omega
  · intro e; rw [e]

theorem cond0_iff (i : grid0.Coords) (a b : BitVec 32) : cond0_0 i a b ↔ ((i 1).val = 0 ∨ a ≠ b) := by
  rw [← ofNat_eq_zero i]
  unfold cond0_0
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide
theorem cond2_iff (i : grid0.Coords) (a b : BitVec 32) : k0_cond2 i a b = 1#1 ↔ ((i 1).val = 0 ∨ a ≠ b) := cond0_iff i a b
theorem cond3_iff (i : grid0.Coords) (a b : BitVec 32) : k0_cond3 i a b = 1#1 ↔ ¬((i 1).val = 0 ∨ a ≠ b) := by
  rw [← ofNat_eq_zero i]
  unfold k0_cond3
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide

/-! ## The points of the grid -/

theorem coords0 : ∀ t : Fin grid0.N, (grid0.coords t 0).val = t.val / 24 := by decide +kernel
theorem coords1 : ∀ t : Fin grid0.N, (grid0.coords t 1).val = t.val % 24 := by decide +kernel

end Cert.SecondIdeal.Gen

end
-- ==== Proof.SecondIdeal.Host.lean ====
/-
  The host's work list, stretch by stretch: what each stretch of host operations leaves in the buffers the later ones read.
-/
module

public import proofs.«01_k».proof.Proof.SecondIdeal.Words
public import proofs.«01_k».proof.Proof.HostWords

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (X : Valuation τ sig (Elt F))
theorem keep1_main_v0 : StableHlo.after hostOps0_1 X main_v0 = X main_v0 :=
  StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_v1 : StableHlo.after hostOps0_1 X main_v1 = X main_v1 :=
  StableHlo.after_of_forall_not_mem (b := Proc.devRef .tc main_v1) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg0 : StableHlo.after hostOps0_1 X main_arg0 = X main_arg0 :=
  StableHlo.after_of_forall_not_mem (b := Proc.devRef .tc main_arg0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v0 : StableHlo.after hostOps0_2 X main_v0 = X main_v0 :=
  StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v1 : StableHlo.after hostOps0_2 X main_v1 = X main_v1 :=
  StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v2 : StableHlo.after hostOps0_2 X main_v2 = X main_v2 :=
  StableHlo.after_of_forall_not_mem (b := Proc.devRef .tc main_v2) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v2 : StableHlo.after hostOps0_3 X main_v2 = X main_v2 :=
  StableHlo.after_of_forall_not_mem (b := Proc.devRef .tc main_v2) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v3 : StableHlo.after hostOps0_3 X main_v3 = X main_v3 :=
  StableHlo.after_of_forall_not_mem (b := Proc.devRef .tc main_v3) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v2 : StableHlo.after hostOps0_4 X main_v2 = X main_v2 :=
  StableHlo.after_of_forall_not_mem (b := Proc.devRef .tc main_v2) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v3 : StableHlo.after hostOps0_4 X main_v3 = X main_v3 :=
  StableHlo.after_of_forall_not_mem (b := Proc.devRef .tc main_v3) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_v2 : StableHlo.after hostOps0_5 X main_v2 = X main_v2 :=
  StableHlo.after_of_forall_not_mem (b := Proc.devRef .tc main_v2) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v2 : StableHlo.after hostOps0_6 X main_v2 = X main_v2 :=
  StableHlo.after_of_forall_not_mem (b := Proc.devRef .tc main_v2) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v10 : StableHlo.after hostOps0_6 X main_v10 = X main_v10 :=
  StableHlo.after_of_forall_not_mem (b := Proc.devRef .tc main_v10) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v2 : StableHlo.after hostOps0_7 X main_v2 = X main_v2 :=
  StableHlo.after_of_forall_not_mem (b := Proc.devRef .tc main_v2) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v10 : StableHlo.after hostOps0_7 X main_v10 = X main_v10 :=
  StableHlo.after_of_forall_not_mem (b := Proc.devRef .tc main_v10) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v11 : StableHlo.after hostOps0_7 X main_v11 = X main_v11 :=
  StableHlo.after_of_forall_not_mem (b := Proc.devRef .tc main_v11) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v2 : StableHlo.after hostOps0_8 X main_v2 = X main_v2 :=
  StableHlo.after_of_forall_not_mem (b := Proc.devRef .tc main_v2) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v10 : StableHlo.after hostOps0_8 X main_v10 = X main_v10 :=
  StableHlo.after_of_forall_not_mem (b := Proc.devRef .tc main_v10) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v11 : StableHlo.after hostOps0_8 X main_v11 = X main_v11 :=
  StableHlo.after_of_forall_not_mem (b := Proc.devRef .tc main_v11) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v17 : StableHlo.after hostOps0_8 X main_v17 = X main_v17 :=
  StableHlo.after_of_forall_not_mem (b := Proc.devRef .tc main_v17) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st0_main_v0 : StableHlo.after hostOps0 X main_v0 = extractStridedSlice S9 ![0] (X main_arg0) slices_S10_S9_0 := by
  after_results_simp
  all_goals rfl

theorem st0_main_v1 : StableHlo.after hostOps0 X main_v1 = extractStridedSlice S9 ![1] (X main_arg0) slices_S10_S9_1 := by
  after_results_simp
  all_goals rfl

theorem st0_main_c : StableHlo.after hostOps0 X main_c = constantI S_ 32 256#32 := by
  after_results_simp
  all_goals rfl

theorem st1_main_v2 : StableHlo.after hostOps0_1 X main_v2 = Routing.pyDiv bcast_S_S9 (X main_v0) (X main_c) := by
  after_results_simp
  all_goals rfl

theorem st2_main_v3 : StableHlo.after hostOps0_2 X main_v3 = cmpi .sgt (X main_v1 : IVec S9 32) (X main_v0) := by
  after_results_simp
  all_goals rfl

theorem st2_main_v5 : StableHlo.after hostOps0_2 X main_v5 = subi (X main_v1 : IVec S9 32) (broadcastInDim S9 ![] bcast_S_S9 (constantI S_ 32 1#32)) := by
  after_results_simp
  all_goals rfl

theorem st2_main_c_1 : StableHlo.after hostOps0_2 X main_c_1 = constantI S_ 32 256#32 := by
  after_results_simp
  all_goals rfl

theorem st3_main_v6 : StableHlo.after hostOps0_3 X main_v6 = Routing.pyDiv bcast_S_S9 (X main_v5) (X main_c_1) := by
  after_results_simp
  all_goals rfl

theorem st4_main_v9 : StableHlo.after hostOps0_4 X main_v9 = addi (subi (X main_v6 : IVec S9 32) (X main_v2)) (broadcastInDim S9 ![] bcast_S_S9 (constantI S_ 32 1#32)) := by
  after_results_simp
  all_goals rfl

theorem st4_main_c_3 : StableHlo.after hostOps0_4 X main_c_3 = constantI S_ 32 0#32 := by
  after_results_simp
  all_goals rfl

theorem st5_main_v10 : StableHlo.after hostOps0_5 X main_v10 = select (X main_v3 : IVec S9 1) (X main_v9 : IVec S9 32) (broadcastInDim S9 ![] bcast_S_S9 (X main_c_3)) := by
  after_results_simp
  all_goals rfl

theorem st6_main_v11 : StableHlo.after hostOps0_6 X main_v11 = Host.reduceWindow IntOp.addi ![9] ![1] ![8] ![0] (X main_v10 : IVec S9 32) (broadcastInDim S_ ![] bcast_S_S_ (constantI S_ 32 0#32)) reduceWindows_S9_S9_w9s1p8_0 h_S_ := by
  after_results_simp
  simp only [StableHlo.TRef.toBuf, StableHlo.TRef.ofBuf, cast_eq]
  all_goals rfl

theorem st7_main_v17 : StableHlo.after hostOps0_7 X main_v17 = minsi (iotaInDim S24 32 0) (broadcastInDim S24 ![] bcast_S_S24 (subi (shapeCast S_ (extractStridedSlice S1 ![8] (X main_v11) slices_S9_S1_8) shapeCasts_S1_S_) (constantI S_ 32 1#32))) := by
  after_results_simp
  all_goals rfl

theorem st8_main_v18 : StableHlo.after hostOps0_8 X main_v18 = Host.reduce IntOp.addi (extui 32 (cmpi .sle (broadcastInDim S9x24 ![0, 1] bcast_S9x1_S9x24_0_1 (broadcastInDim S9x1 ![0] bcast_S9_S9x1_0 (X main_v11 : IVec S9 32))) (broadcastInDim S9x24 ![0, 1] bcast_S1x24_S9x24_0_1 (broadcastInDim S1x24 ![1] bcast_S24_S1x24_1 (X main_v17 : IVec S24 32)))) natLt_1_32) (constantI S_ 32 0#32) reducesTo_S9x24_S24_d0 h_S_ := by
  after_results_simp
  all_goals rfl

/-- The wrap of negative indices, which the domains pass unchanged. -/
def wrapDom (x : IVec S24 32) : IVec S24x1 32 :=
  broadcastInDim S24x1 ![0] bcast_S24_S24x1_0 (select (cmpi .slt x (broadcastInDim S24 ![] bcast_S_S24 (constantI S_ 32 0#32)))
    (addi x (broadcastInDim S24 ![] bcast_S_S24 (constantI S_ 32 9#32))) x)

theorem st9_main_v42 : StableHlo.after hostOps0_9 X main_v42 = subi (addi (Host.gather gather_S9_S24x1_S24_n_0_n_n_0_1_1 (X main_v2 : IVec S9 32) (wrapDom (X main_v18))) (X main_v17 : IVec S24 32)) (subi (Host.gather gather_S9_S24x1_S24_n_0_n_n_0_1_1 (X main_v11 : IVec S9 32) (wrapDom (X main_v18))) (Host.gather gather_S9_S24x1_S24_n_0_n_n_0_1_1 (X main_v10 : IVec S9 32) (wrapDom (X main_v18)))) := by
  after_results_simp
  all_goals rfl

theorem keep9_main_v18 : StableHlo.after hostOps0_9 X main_v18 = X main_v18 :=
  StableHlo.after_of_forall_not_mem (b := Proc.devRef .tc main_v18) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st9_main_v43 : StableHlo.after hostOps0_9 X main_v43 = broadcastInDim S1x1152 ![1] bcast_S1152_S1x1152_1 (X main_arg4) := by
  after_results_simp
  all_goals rfl

theorem st9_main_v44 : StableHlo.after hostOps0_9 X main_v44 = broadcastInDim S9x1x1152 ![0, 2] bcast_S9x1152_S9x1x1152_0_2 (X main_arg6) := by
  after_results_simp
  all_goals rfl

theorem st9_main_v45 : StableHlo.after hostOps0_9 X main_v45 = broadcastInDim S1x1152 ![1] bcast_S1152_S1x1152_1 (X main_arg7) := by
  after_results_simp
  all_goals rfl

theorem st9_main_v46 : StableHlo.after hostOps0_9 X main_v46 = broadcastInDim S9x1x1152 ![0, 2] bcast_S9x1152_S9x1x1152_0_2 (X main_arg8) := by
  after_results_simp
  all_goals rfl
end

/-! ## The stretches in order -/

variable (m : (ℓ : Loc nD τ sig) → Buf (Elt F) ℓ) (c : Dev nD)

/-- The buffers before the first stretch, and after each of the first nine. -/
def X0 : Valuation τ sig (Elt F) := fun b => m (c, b)
def X1 : Valuation τ sig (Elt F) := StableHlo.after hostOps0 (X0 m c)
def X2 : Valuation τ sig (Elt F) := StableHlo.after hostOps0_1 (X1 m c)
def X3 : Valuation τ sig (Elt F) := StableHlo.after hostOps0_2 (X2 m c)
def X4 : Valuation τ sig (Elt F) := StableHlo.after hostOps0_3 (X3 m c)
def X5 : Valuation τ sig (Elt F) := StableHlo.after hostOps0_4 (X4 m c)
def X6 : Valuation τ sig (Elt F) := StableHlo.after hostOps0_5 (X5 m c)
def X7 : Valuation τ sig (Elt F) := StableHlo.after hostOps0_6 (X6 m c)
def X8 : Valuation τ sig (Elt F) := StableHlo.after hostOps0_7 (X7 m c)
def X9 : Valuation τ sig (Elt F) := StableHlo.after hostOps0_8 (X8 m c)

theorem V_eq (b : Ref sig .tc) : V m c b = StableHlo.after hostOps0_9 (X9 m c) b := by
  rw [V_def]
  simp only [List.flatten_cons, List.flatten_nil, List.append_nil, StableHlo.after_append]
  rfl

/-- The offsets given, as natural numbers. -/
abbrev offsM : ℕ → ℕ := offs (m ((c : Thread nD τ).loc main_arg0) : IVec S10 32)

theorem word_v0 (d : Fin 9) : (X1 m c main_v0 : IVec S9 32) (ix1 d) = wd (offsM m c d) := by
  unfold X1
  rw [st0_main_v0]
  refine (Routing.slice1 0 _ slices_S10_S9_0 d (by omega)).trans ?_
  refine (offs_word _ _).trans (congrArg (fun n => wd (offsM m c n)) ?_)
  show 0 + d.val = d.val
  omega
theorem word_v1 (d : Fin 9) : (X1 m c main_v1 : IVec S9 32) (ix1 d) = wd (offsM m c (d + 1)) := by
  unfold X1
  rw [st0_main_v1]
  refine (Routing.slice1 1 _ slices_S10_S9_1 d (by omega)).trans ?_
  refine (offs_word _ _).trans (congrArg (fun n => wd (offsM m c n)) ?_)
  show 1 + d.val = d.val + 1
  omega

variable (ho : Offs (offsM m c))
include ho

theorem word_v2 (d : Fin 9) : (X2 m c main_v2 : IVec S9 32) (ix1 d) = wd (offsM m c d / 256) := by
  have hl := o_le_last ho (show d.val ≤ 9 by omega)
  unfold X2
  rw [st1_main_v2]
  refine Routing.pyDiv_ap bcast_S_S9 _ _ (ix1 d) (word_v0 m c d) ?_ (by omega) (by decide) (by decide)
  unfold X1
  rw [st0_main_c]
  rfl
theorem word_v3 (d : Fin 9) : (X3 m c main_v3 : IVec S9 1) (ix1 d) = BitVec.ofBool (decide (offsM m c d < offsM m c (d + 1))) := by
  have hl := o_le_last ho (show d.val ≤ 9 by omega)
  have hl' := o_le_last ho (show d.val + 1 ≤ 9 by omega)
  unfold X3
  rw [st2_main_v3]
  refine sgt_word _ _ d ?_ ?_ (by omega) (by omega)
  · unfold X2; rw [keep1_main_v1]; exact word_v1 m c d
  · unfold X2; rw [keep1_main_v0]; exact word_v0 m c d
theorem word_v6 (d : Fin 9) (h0 : 0 < offsM m c (d + 1)) : (X4 m c main_v6 : IVec S9 32) (ix1 d) = wd ((offsM m c (d + 1) - 1) / 256) := by
  have hl := o_le_last ho (show d.val + 1 ≤ 9 by omega)
  unfold X4
  rw [st3_main_v6]
  refine Routing.pyDiv_ap bcast_S_S9 _ _ (ix1 d) ?_ ?_ (by omega) (by decide) (by decide)
  · unfold X3
    rw [st2_main_v5]
    refine pred_word bcast_S_S9 _ d ?_ h0
    unfold X2; rw [keep1_main_v1]; exact word_v1 m c d
  · unfold X3
    rw [st2_main_c_1]
    rfl
theorem word_v10 (d : Fin 9) : (X6 m c main_v10 : IVec S9 32) (ix1 d) = wd (cnt (offsM m c) d) := by
  unfold X6
  rw [st5_main_v10]
  unfold X5
  rw [st4_main_v9, st4_main_c_3, keep4_main_v3]
  refine count_word bcast_S_S9 ho _ _ _ d ?_ ?_ fun h0 => word_v6 m c ho d h0
  · unfold X4; rw [keep3_main_v3]; exact word_v3 m c ho d
  · unfold X4 X3; rw [keep3_main_v2, keep2_main_v2]; exact word_v2 m c ho d
theorem word_v11 (d : Fin 9) : (X7 m c main_v11 : IVec S9 32) (ix1 d) = wd (cend (offsM m c) d) := by
  unfold X7
  rw [st6_main_v11]
  exact Routing.cumsum1 (by decide) _ (cnt (offsM m c)) (word_v10 m c ho) _ rfl reduceWindows_S9_S9_w9s1p8_0 h_S_ d
theorem word_v17 (w : Fin 24) : (X8 m c main_v17 : IVec S24 32) (ix1 w) = wd (pos (offsM m c) w) := by
  unfold X8
  rw [st7_main_v17]
  exact pos_word ho shapeCasts_S1_S_ slices_S9_S1_8 bcast_S_S24 _ (word_v11 m c ho 8) w
theorem word_v18 (w : Fin 24) : (X9 m c main_v18 : IVec S24 32) (ix1 w) = wd (dom (offsM m c) w) := by
  unfold X9
  rw [st8_main_v18]
  refine dom_word bcast_S9_S9x1_0 bcast_S9x1_S9x24_0_1 bcast_S24_S1x24_1 bcast_S1x24_S9x24_0_1 natLt_1_32 reducesTo_S9x24_S24_d0 h_S_ ho _ _ ?_ (word_v17 m c ho) w
  intro d; unfold X8; rw [keep7_main_v11]; exact word_v11 m c ho d

/-- An entry picked by the domain of an item. -/
theorem pick (x : IVec S9 32) (w : Fin 24) :
    Host.gather gather_S9_S24x1_S24_n_0_n_n_0_1_1 x (wrapDom (X9 m c main_v18)) (ix1 w) = x (ix1 ⟨dom (offsM m c) w, dom_lt ho w⟩) :=
  pick_word gather_S9_S24x1_S24_n_0_n_n_0_1_1 rfl rfl rfl rfl bcast_S_S24 bcast_S24_S24x1_0 x _ w (dom_lt ho w) (word_v18 m c ho w)

theorem word_v42 (w : Fin 24) : (StableHlo.after hostOps0_9 (X9 m c) main_v42 : IVec S24 32) (ix1 w) = wd (tile (offsM m c) w) := by
  rw [st9_main_v42]
  refine tile_word ho _ _ _ _ w ((pick m c ho _ w).trans ?_) ?_ ((pick m c ho _ w).trans ?_) ((pick m c ho _ w).trans ?_)
  · unfold X9 X8 X7 X6 X5 X4 X3
    rw [keep8_main_v2, keep7_main_v2, keep6_main_v2, keep5_main_v2, keep4_main_v2, keep3_main_v2, keep2_main_v2]
    exact word_v2 m c ho _
  · unfold X9; rw [keep8_main_v17]; exact word_v17 m c ho w
  · unfold X9 X8; rw [keep8_main_v11, keep7_main_v11]; exact word_v11 m c ho _
  · unfold X9 X8 X7; rw [keep8_main_v10, keep7_main_v10, keep6_main_v10]; exact word_v10 m c ho _

/-- The table of tiles. -/
theorem V_tile (w : Fin 24) : (V m c main_v42 : IVec S24 32) (ix1 w) = wd (tile (offsM m c) w) := by
  rw [V_eq]; exact word_v42 m c ho w
/-- The table of domains. -/
theorem V_dom (w : Fin 24) : (V m c main_v18 : IVec S24 32) (ix1 w) = wd (dom (offsM m c) w) := by
  rw [V_eq, keep9_main_v18]; exact word_v18 m c ho w

end Cert.SecondIdeal.Gen

end
-- ==== Proof.SecondIdeal.Body.lean ====
/-
  The kernel body run at one point, in each of its four cases: whether the weight product is formed anew, and whether
  the item is the first of its output tile. Each run states what the body leaves in the scratch and in the output block.
-/
module

public import proofs.«01_k».proof.Proof.SecondIdeal.Kit

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer read whole: its contents. -/
theorem rd {sp : Space} {s : Shape} {e : EltTy} {M : Memref sig .tc sp s e} (h : M.IsWhole) (x : s.Idx → Elt F e) {off : Fin s.rank → ℕ}
    (inb : ∀ a, off a + s.size a ≤ s.size a) : M.view.readAt (Elt F) (Rect.unit off s.size inb).toLoadRect (h.unread x) = x :=
  (View.readAt_full _ _ inb).trans (h.read_unread x)

theorem pay1_congr {a a' : FVec F S256x384 .f32} {u v : BitVec 32} {b b' : Vec F S256x384 .f32} (ha : a = a') (hb : b = b') :
    k0_pay1 a u v b = k0_pay1 a' u v b' := by subst ha hb; rfl
theorem pay2_congr {a a' : Vec F S1792x384 .fp8e4m3} {b b' : Vec F S1x1792x384 .fp8e4m3} (ha : a = a') (hb : b = b') :
    k0_pay2 (F := F) a b = k0_pay2 a' b' := by subst ha hb; rfl
theorem pay3_congr {a a' : Vec F S256x1792 .fp8e4m3} {b b' : Vec F S1792x384 .bf16} {c c' : Vec F S256x1 .f32} {d d' : Vec F S1x384 .f32}
    {e e' : Vec F S1x1x384 .f32} {f f' : Vec F S1x384 .f32} {g g' : Vec F S1x1x384 .f32}
    (ha : a = a') (hb : b = b') (hc : c = c') (hd : d = d') (he : e = e') (hf : f = f') (hg : g = g') :
    k0_pay3 a b c d e f g = k0_pay3 a' b' c' d' e' f' g' := by subst ha hb hc hd he hf hg; rfl

set_option maxHeartbeats 2000000 in
/-- The weight product is formed anew; the item is the first of its tile. -/
theorem runNewFirst (c : Dev nD) (i : grid0.Coords) (arg5 : Memref sig .tc .vmem S256x1792 .fp8e4m3) (harg5 : arg5.IsWhole) (arg6 : Memref sig .tc .vmem S256x1 .f32) (harg6 : arg6.IsWhole) (arg7 : Memref sig .tc .vmem S1792x384 .fp8e4m3) (harg7 : arg7.IsWhole) (arg8 : Memref sig .tc .vmem S1x384 .f32) (harg8 : arg8.IsWhole) (arg9 : Memref sig .tc .vmem S1x1792x384 .fp8e4m3) (harg9 : arg9.IsWhole) (arg10 : Memref sig .tc .vmem S1x1x384 .f32) (harg10 : arg10.IsWhole) (arg11 : Memref sig .tc .vmem S1x384 .f32) (harg11 : arg11.IsWhole) (arg12 : Memref sig .tc .vmem S1x1x384 .f32) (harg12 : arg12.IsWhole) (arg13 : Memref sig .tc .vmem S256x384 .f32) (harg13 : arg13.IsWhole) (arg14 : Memref sig .tc .vmem S1792x384 .bf16) (harg14 : arg14.IsWhole)
    (x0 : Vec F S256x1792 .fp8e4m3) (x1 : Vec F S256x1 .f32) (x2 : Vec F S1792x384 .fp8e4m3) (x3 : Vec F S1x384 .f32) (x4 : Vec F S1x1792x384 .fp8e4m3) (x5 : Vec F S1x1x384 .f32) (x6 : Vec F S1x384 .f32) (x7 : Vec F S1x1x384 .f32) (x8 : Vec F S256x384 .f32) (P : Vec F S1792x384 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay3 x0 (k0_pay2 x2 x4) x1 x3 x5 x6 x7) ∗ owns (c : Thread nD τ) arg14 fullShare (k0_pay2 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _))
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is formed anew; the item is not the first of its tile. -/
theorem runNewNext (c : Dev nD) (i : grid0.Coords) (arg5 : Memref sig .tc .vmem S256x1792 .fp8e4m3) (harg5 : arg5.IsWhole) (arg6 : Memref sig .tc .vmem S256x1 .f32) (harg6 : arg6.IsWhole) (arg7 : Memref sig .tc .vmem S1792x384 .fp8e4m3) (harg7 : arg7.IsWhole) (arg8 : Memref sig .tc .vmem S1x384 .f32) (harg8 : arg8.IsWhole) (arg9 : Memref sig .tc .vmem S1x1792x384 .fp8e4m3) (harg9 : arg9.IsWhole) (arg10 : Memref sig .tc .vmem S1x1x384 .f32) (harg10 : arg10.IsWhole) (arg11 : Memref sig .tc .vmem S1x384 .f32) (harg11 : arg11.IsWhole) (arg12 : Memref sig .tc .vmem S1x1x384 .f32) (harg12 : arg12.IsWhole) (arg13 : Memref sig .tc .vmem S256x384 .f32) (harg13 : arg13.IsWhole) (arg14 : Memref sig .tc .vmem S1792x384 .bf16) (harg14 : arg14.IsWhole)
    (x0 : Vec F S256x1792 .fp8e4m3) (x1 : Vec F S256x1 .f32) (x2 : Vec F S1792x384 .fp8e4m3) (x3 : Vec F S1x384 .f32) (x4 : Vec F S1x1792x384 .fp8e4m3) (x5 : Vec F S1x1x384 .f32) (x6 : Vec F S1x384 .f32) (x7 : Vec F S1x1x384 .f32) (x8 : Vec F S256x384 .f32) (P : Vec F S1792x384 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay3 x0 (k0_pay2 x2 x4) x1 x3 x5 x6 x7) (wTile i xt0) (wOff (wDom i xt1) (k0_off5_inb i _ _ _ hw hc3) xt2) x8) ∗ owns (c : Thread nD τ) arg14 fullShare (k0_pay2 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _)) (rd harg13 x8 _)
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is kept; the item is the first of its tile. -/
theorem runOldFirst (c : Dev nD) (i : grid0.Coords) (arg5 : Memref sig .tc .vmem S256x1792 .fp8e4m3) (harg5 : arg5.IsWhole) (arg6 : Memref sig .tc .vmem S256x1 .f32) (harg6 : arg6.IsWhole) (arg7 : Memref sig .tc .vmem S1792x384 .fp8e4m3) (harg7 : arg7.IsWhole) (arg8 : Memref sig .tc .vmem S1x384 .f32) (harg8 : arg8.IsWhole) (arg9 : Memref sig .tc .vmem S1x1792x384 .fp8e4m3) (harg9 : arg9.IsWhole) (arg10 : Memref sig .tc .vmem S1x1x384 .f32) (harg10 : arg10.IsWhole) (arg11 : Memref sig .tc .vmem S1x384 .f32) (harg11 : arg11.IsWhole) (arg12 : Memref sig .tc .vmem S1x1x384 .f32) (harg12 : arg12.IsWhole) (arg13 : Memref sig .tc .vmem S256x384 .f32) (harg13 : arg13.IsWhole) (arg14 : Memref sig .tc .vmem S1792x384 .bf16) (harg14 : arg14.IsWhole)
    (x0 : Vec F S256x1792 .fp8e4m3) (x1 : Vec F S256x1 .f32) (x2 : Vec F S1792x384 .fp8e4m3) (x3 : Vec F S1x384 .f32) (x4 : Vec F S1x1792x384 .fp8e4m3) (x5 : Vec F S1x1x384 .f32) (x6 : Vec F S1x384 .f32) (x7 : Vec F S1x1x384 .f32) (x8 : Vec F S256x384 .f32) (P : Vec F S1792x384 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay3 x0 P x1 x3 x5 x6 x7) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact (pay3_congr (rd harg5 x0 _) (rd harg14 P _) (rd harg6 x1 _) (rd harg8 x3 _) (rd harg10 x5 _) (rd harg11 x6 _) (rd harg12 x7 _))
    isplitl [H9]
    · iexists _; isplitr; swap; · iexact H9
      ipureintro
      exact harg14.read_unread _
    isplitl [HT0]; · iexact HT0
    isplitl [HT1]; · iexact HT1
    iexact HT2

set_option maxHeartbeats 2000000 in
/-- The weight product is kept; the item is not the first of its tile. -/
theorem runOldNext (c : Dev nD) (i : grid0.Coords) (arg5 : Memref sig .tc .vmem S256x1792 .fp8e4m3) (harg5 : arg5.IsWhole) (arg6 : Memref sig .tc .vmem S256x1 .f32) (harg6 : arg6.IsWhole) (arg7 : Memref sig .tc .vmem S1792x384 .fp8e4m3) (harg7 : arg7.IsWhole) (arg8 : Memref sig .tc .vmem S1x384 .f32) (harg8 : arg8.IsWhole) (arg9 : Memref sig .tc .vmem S1x1792x384 .fp8e4m3) (harg9 : arg9.IsWhole) (arg10 : Memref sig .tc .vmem S1x1x384 .f32) (harg10 : arg10.IsWhole) (arg11 : Memref sig .tc .vmem S1x384 .f32) (harg11 : arg11.IsWhole) (arg12 : Memref sig .tc .vmem S1x1x384 .f32) (harg12 : arg12.IsWhole) (arg13 : Memref sig .tc .vmem S256x384 .f32) (harg13 : arg13.IsWhole) (arg14 : Memref sig .tc .vmem S1792x384 .bf16) (harg14 : arg14.IsWhole)
    (x0 : Vec F S256x1792 .fp8e4m3) (x1 : Vec F S256x1 .f32) (x2 : Vec F S1792x384 .fp8e4m3) (x3 : Vec F S1x384 .f32) (x4 : Vec F S1x1792x384 .fp8e4m3) (x5 : Vec F S1x1x384 .f32) (x6 : Vec F S1x384 .f32) (x7 : Vec F S1x1x384 .f32) (x8 : Vec F S256x384 .f32) (P : Vec F S1792x384 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay3 x0 P x1 x3 x5 x6 x7) (wTile i xt0) (wOff (wDom i xt1) (k0_off5_inb i _ _ _ hw hc3) xt2) x8) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) (rd harg14 P _) (rd harg6 x1 _) (rd harg8 x3 _) (rd harg10 x5 _) (rd harg11 x6 _) (rd harg12 x7 _)) (rd harg13 x8 _)
    isplitl [H9]
    · iexists _; isplitr; swap; · iexact H9
      ipureintro
      exact harg14.read_unread _
    isplitl [HT0]; · iexact HT0
    isplitl [HT1]; · iexact HT1
    iexact HT2

end Cert.SecondIdeal.Gen

end
-- ==== Proof.SecondIdeal.Data.lean ====
/-
  The run of the whole grid. What the body leaves at a point is named by recursion on the point (`aft`): the product rows
  of the item (`rowsAt`), or, where the item is not the first of its tile, those rows from the domain's first row on and
  the rows left before above them. The scratch holds the weight product of the last point's blocks (`scrOK`).
-/
module

public import proofs.«01_k».proof.Proof.SecondIdeal.Body
public import proofs.«01_k».proof.Proof.SecondIdeal.Words

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side condition the body assumes at every point: the domain it reads the offset of lies in the table. -/
def Hyps (hO : Ok m) : Prop :=
  ∀ t : Fin (cfgM m hO).N, k0_chk1 (grid0.coords t) (wDom (grid0.coords t) (tb1 m)) (wTile (grid0.coords t) (tb0 m)) (wTileP (grid0.coords t) (tb0 m))

/-- The weight product of point `t`'s blocks. -/
def prodAt (hO : Ok m) (c : Dev nD) (t : Fin (cfgM m hO).N) : FVec F S1792x384 .bf16 := k0_pay2 (iblk m hO c 2 t) (iblk m hO c 4 t)

/-- The rows the body computes at point `t`. -/
def rowsAt (hO : Ok m) (c : Dev nD) (t : Fin (cfgM m hO).N) : FVec F S256x384 .f32 :=
  k0_pay3 (iblk m hO c 0 t) (prodAt m hO c t) (iblk m hO c 1 t) (iblk m hO c 3 t) (iblk m hO c 5 t) (iblk m hO c 6 t) (iblk m hO c 7 t)

/-- What the output block holds after a point that finds `old` in it. -/
def stepAt (hO : Ok m) (hH : Hyps m hO) (c : Dev nD) (t : Fin (cfgM m hO).N) (old : FVec F S256x384 .f32) : FVec F S256x384 .f32 :=
  if h : k0_cond3 (grid0.coords t) (wTile (grid0.coords t) (tb0 m)) (wTileP (grid0.coords t) (tb0 m)) = 1#1 then
    k0_pay1 (rowsAt m hO c t) (wTile (grid0.coords t) (tb0 m)) (wOff (wDom (grid0.coords t) (tb1 m)) (k0_off5_inb (grid0.coords t) _ _ _ (hH t) h) (tb2 m)) old
  else rowsAt m hO c t

/-- What the output block holds after point `n`. -/
def aft (hO : Ok m) (hH : Hyps m hO) (c : Dev nD) : (n : ℕ) → (hn : n < (cfgM m hO).N) → FVec F S256x384 .f32
  | 0, hn => rowsAt m hO c ⟨0, hn⟩
  | n + 1, hn => stepAt m hO hH c ⟨n + 1, hn⟩ (aft hO hH c n (Nat.lt_of_succ_lt hn))

/-- What the scratch holds before point `t`: after the first point, the product of the last point's blocks. -/
def scrOK (hO : Ok m) (c : Dev nD) (t : ℕ) (P : FVec F S1792x384 .bf16) : Prop :=
  ∀ n (hn : n < (cfgM m hO).N), n + 1 = t → P = prodAt m hO c ⟨n, hn⟩

/-- The invariant before point `n`: the scratch as `scrOK` says, the generator register, the tables' halves. -/
def PhiAt (hO : Ok m) (c : Dev nD) (n : ℕ) : sProp 𝕄 :=
  iprop(iprop((∃ P, ⌜scrOK m hO c n P⌝ ∗ owns (c : Thread nD τ) scM0_0 fullShare P) ∗ (∃ r, prngReg c r)) ∗ Pipeline.ΦT pre0 (tbl m) c)

/-- The pipeline's proof data. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => aft m hO hH c t.val t.isLt
  Φ t := PhiAt m hO c t.val
  q _ := fullShare
  owed _ := 0

theorem A_eq (hO : Ok m) (hH : Hyps m hO) (c : Dev nD) (w : Fin (cfgM m hO).W) : (dats m hO hH 0 c).A w = V m c (Pipeline.arrRef spec0 w) := by
  dsimp only [dats]
theorem Phi_eq (hO : Ok m) (hH : Hyps m hO) (c : Dev nD) (t) : (dats m hO hH 0 c).Φ t = PhiAt m hO c t.val := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = aft m hO hH c t.val t.isLt := by dsimp only [dats]; try rfl
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## Consecutive points of one output tile, and of one domain -/

theorem fetched_iblk2 (hO : Ok m) (hH : Hyps m hO) (c : Dev nD) (t : Fin (cfgM m hO).N) (d) : (dats m hO hH 0 c).fetched 2 t d = iblk m hO c 2 t := by
  unfold Dat.fetched Dat.blockOf iblk; rw [A_eq m hO hH c 2]; try rfl
theorem fetched_iblk4 (hO : Ok m) (hH : Hyps m hO) (c : Dev nD) (t : Fin (cfgM m hO).N) (d) : (dats m hO hH 0 c).fetched 4 t d = iblk m hO c 4 t := by
  unfold Dat.fetched Dat.blockOf iblk; rw [A_eq m hO hH c 4]; try rfl

/-- Where the weight product is kept, it is the product of the point's own blocks. -/
theorem prodAt_eq (hO : Ok m) (hH : Hyps m hO) (c : Dev nD) (n : ℕ) (hn : n + 1 < (cfgM m hO).N)
    (h : ¬cond0_0 (grid0.coords ⟨n + 1, hn⟩) (wDom (grid0.coords ⟨n + 1, hn⟩) (tb1 m)) (wDomP (grid0.coords ⟨n + 1, hn⟩) (tb1 m))) :
    prodAt m hO c ⟨n + 1, hn⟩ = prodAt m hO c ⟨n, Nat.lt_of_succ_lt hn⟩ := by
  rw [cond0_iff, wDom_eq, wDomP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i2 : ((cfgM m hO).win 2).index ⟨n + 1, hn⟩ = ((cfgM m hO).win 2).index ⟨n, Nat.lt_of_succ_lt hn⟩ := by
    show cc0_transform_2 (grid0.coords ⟨n + 1, hn⟩) = cc0_transform_2 (grid0.coords ⟨n, Nat.lt_of_succ_lt hn⟩)
    rw [tr2_eq, tr2_eq, h0]
  have i4 : ((cfgM m hO).win 4).index ⟨n + 1, hn⟩ = ((cfgM m hO).win 4).index ⟨n, Nat.lt_of_succ_lt hn⟩ := by
    show cc0_transform_4 k0_off1_inb numel1_S1 (tbl m) (grid0.coords ⟨n + 1, hn⟩) = cc0_transform_4 k0_off1_inb numel1_S1 (tbl m) (grid0.coords ⟨n, Nat.lt_of_succ_lt hn⟩)
    exact tr4_congr (tbl m) _ _ h0 h2
  have b2 : iblk m hO c 2 ⟨n + 1, hn⟩ = iblk m hO c 2 ⟨n, Nat.lt_of_succ_lt hn⟩ :=
    (fetched_iblk2 m hO hH c _ (iblk m hO c 2 ⟨n, Nat.lt_of_succ_lt hn⟩)).symm.trans
      (((dats m hO hH 0 c).fetched_congr 2 i2 rfl _).trans (fetched_iblk2 m hO hH c _ _))
  have b4 : iblk m hO c 4 ⟨n + 1, hn⟩ = iblk m hO c 4 ⟨n, Nat.lt_of_succ_lt hn⟩ :=
    (fetched_iblk4 m hO hH c _ (iblk m hO c 4 ⟨n, Nat.lt_of_succ_lt hn⟩)).symm.trans
      (((dats m hO hH 0 c).fetched_congr 4 i4 rfl _).trans (fetched_iblk4 m hO hH c _ _))
  exact pay2_congr b2 b4

theorem cond3_pos (hO : Ok m) (t : Fin (cfgM m hO).N)
    (h : k0_cond3 (grid0.coords t) (wTile (grid0.coords t) (tb0 m)) (wTileP (grid0.coords t) (tb0 m)) = 1#1) : t.val ≠ 0 := by
  rw [cond3_iff] at h
  intro e
  refine h (.inl ?_)
  rw [coords1 t, e]

/-- Where the item is not the first of its tile, the output block is the one of the point before. -/
theorem flush_false (hO : Ok m) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) :
    ((cfgM m hO).win 8).flush ⟨n, Nat.lt_of_succ_lt hn⟩ = false := by
  rw [cond3_iff, wTile_eq, wTileP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i8 : ((cfgM m hO).win 8).index ⟨n + 1, hn⟩ = ((cfgM m hO).win 8).index ⟨n, Nat.lt_of_succ_lt hn⟩ := by
    show cc0_transform_8 k0_off1_inb numel1_S1 (tbl m) (grid0.coords ⟨n + 1, hn⟩) = cc0_transform_8 k0_off1_inb numel1_S1 (tbl m) (grid0.coords ⟨n, Nat.lt_of_succ_lt hn⟩)
    exact tr8_congr (tbl m) _ _ h0 h2
  have hd : ¬ (n + 1 = (cfgM m hO).grid.N) := Nat.ne_of_lt hn
  unfold Pipeline.Window.flush
  rw [decide_eq_false hd, decide_eq_false (fun ⟨_, e⟩ => e i8)]
  exact Bool.and_false _

theorem idle_bits (i : grid0.Coords) (a b : BitVec 32) : (!(k0_cond2 i a b == 1#1) && !(k0_cond3 i a b == 1#1)) = false := by
  by_cases h : (i 1).val = 0 ∨ a ≠ b
  · rw [(cond2_iff i a b).mpr h]; rfl
  · rw [(cond3_iff i a b).mpr h]; exact Bool.and_false _
theorem idle8 (hO : Ok m) (i : grid0.Coords) : (cfgM m hO).idle 8 i = false := idle_bits i _ _

/-- Where the item is not the first of its tile the output block holds what the point before left. -/
theorem before0_8 (hO : Ok m) (hH : Hyps m hO) (c : Dev nD) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) (d) :
    (dats m hO hH 0 c).before 8 ⟨n + 1, hn⟩ d = aft m hO hH c n (Nat.lt_of_succ_lt hn) :=
  ((dats m hO hH 0 c).before_out_kept 8 rfl ⟨n + 1, hn⟩ (Nat.succ_ne_zero n) (flush_false m hO n hn h) (idle8 m hO) (fun _ _ => rfl) d).trans
    (after0_8 m hO hH c _)

theorem aft_step (hO : Ok m) (hH : Hyps m hO) (c : Dev nD) (t : Fin (cfgM m hO).N) (d) :
    stepAt m hO hH c t ((dats m hO hH 0 c).before 8 t d) = aft m hO hH c t.val t.isLt := by
  obtain ⟨n, hn⟩ := t
  cases n with
  | zero =>
    unfold stepAt
    rw [dif_neg (fun h => cond3_pos m hO ⟨0, hn⟩ h rfl)]
    rfl
  | succ n =>
    show _ = stepAt m hO hH c ⟨n + 1, hn⟩ (aft m hO hH c n (Nat.lt_of_succ_lt hn))
    by_cases h : k0_cond3 (grid0.coords ⟨n + 1, hn⟩) (wTile (grid0.coords ⟨n + 1, hn⟩) (tb0 m)) (wTileP (grid0.coords ⟨n + 1, hn⟩) (tb0 m)) = 1#1
    · rw [before0_8 m hO hH c n hn h d]
    · unfold stepAt; rw [dif_neg h, dif_neg h]

/-- Where the weight product is kept, the scratch holds the point's own product. -/
theorem scr_kept (hO : Ok m) (hH : Hyps m hO) (c : Dev nD) (t : Fin (cfgM m hO).N) (P : FVec F S1792x384 .bf16) (hP : scrOK m hO c t.val P)
    (h : ¬cond0_0 (grid0.coords t) (wDom (grid0.coords t) (tb1 m)) (wDomP (grid0.coords t) (tb1 m))) : P = prodAt m hO c t := by
  obtain ⟨n, hn⟩ := t
  cases n with
  | zero => exact absurd ((cond0_iff _ _ _).mpr (.inl (coords1 ⟨0, hn⟩))) h
  | succ n => exact (hP n (Nat.lt_of_succ_lt hn) rfl).trans (prodAt_eq m hO hH c n hn h).symm

theorem scr_next (hO : Ok m) (c : Dev nD) (t : Fin (cfgM m hO).N) : scrOK m hO c (t.val + 1) (prodAt m hO c t) := by
  intro n hn e
  obtain rfl : n = t.val := Nat.succ.inj e
  rfl

end Cert.SecondIdeal.Gen

end
-- ==== Proof.SecondIdeal.Tables.lean ====
/-
  The tables the kernel prefetches, as numbers; every block they name lies in its array, and the side condition the
  body assumes holds, once the offsets are nondecreasing from 0 to 4096.
-/
module

public import proofs.«01_k».proof.Proof.SecondIdeal.Host
public import proofs.«01_k».proof.Proof.SecondIdeal.Data

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ho : Offs (offsM m 0))
include ho

theorem tb0_word (w : Fin 24) : tb0 m (ix1 w) = wd (tile (offsM m 0) w) :=
  (congrFun (tbl_def m 0) _).trans (V_tile m 0 ho w)
theorem tb1_word (w : Fin 24) : tb1 m (ix1 w) = wd (dom (offsM m 0) w) :=
  (congrFun (tbl_def m 1) _).trans (V_dom m 0 ho w)
omit ho in
theorem tb2_word (d : Fin 10) : tb2 m (ix1 d) = wd (offsM m 0 d) :=
  (congrFun ((tbl_def m 2).trans (V_main_arg0 m 0)) _).trans (offs_word _ d)

omit ho [FloatOps F] in
theorem toNat_wd (n : ℕ) (h : n < 2 ^ 32) : (wd n).toNat = n := by
  rw [BitVec.toNat_ofNat, Nat.mod_eq_of_lt h]

/-- The tile and the domain the index maps read at a point. -/
theorem tile_at (w : Fin 24) : ((tbl m 0 : S24.Idx → BitVec 32) (ix1 w)).toNat = tile (offsM m 0) w := by
  have h := tile_lt ho w
  exact (congrArg BitVec.toNat (tb0_word m ho w)).trans (toNat_wd _ (by omega))
theorem dom_at (w : Fin 24) : ((tbl m 1 : S24.Idx → BitVec 32) (ix1 w)).toNat = dom (offsM m 0) w := by
  have h := dom_lt ho w
  exact (congrArg BitVec.toNat (tb1_word m ho w)).trans (toNat_wd _ (by omega))

theorem blocks_ok : Ok m := by
  have key : ∀ i : grid0.Coords, ((tbl m 0 : S24.Idx → BitVec 32) (ix1 (i 1))).toNat = tile (offsM m 0) (i 1)
      ∧ ((tbl m 1 : S24.Idx → BitVec 32) (ix1 (i 1))).toNat = dom (offsM m 0) (i 1)
      ∧ tile (offsM m 0) (i 1) < 16 ∧ dom (offsM m 0) (i 1) < 9 ∧ (i 0).val < 3 :=
    fun i => ⟨tile_at m ho (i 1), dom_at m ho (i 1), tile_lt ho _, dom_lt ho _, (i 0).isLt⟩
  refine ⟨fun i => ?_, fun i => ?_, fun i => ?_, fun i => ?_, fun i => ?_, fun i => ?_⟩ <;> obtain ⟨hTile, hDom, h16, h9, h7⟩ := key i
  · refine ⟨?_, .inr (.inl (.inr ⟨by decide, rfl, .inl ⟨Dvd.dvd.mul_left (show (4 : ℕ) ∣ 256 by decide) _, by show (4 : ℕ) ∣ 256; decide⟩⟩))⟩
    · intro a
      rw [tr0_eq, hTile]
      match a with
      | ⟨0, _⟩ => show (tile (offsM m 0) (i 1) + 1) * 256 ≤ 4096; omega
      | ⟨1, _⟩ => show (0 + 1) * 1792 ≤ 1792; omega
  · refine ⟨?_, .inl rfl⟩
    · intro a
      rw [tr1_eq, hTile]
      match a with
      | ⟨0, _⟩ => show (tile (offsM m 0) (i 1) + 1) * 256 ≤ 4096; omega
      | ⟨1, _⟩ => show (0 + 1) * 1 ≤ 1; omega
  · refine ⟨?_, .inr (.inl (.inr ⟨by decide, rfl, .inl ⟨Dvd.dvd.mul_left (show (4 : ℕ) ∣ 1792 by decide) _, by show (4 : ℕ) ∣ 1792; decide⟩⟩))⟩
    · intro a
      rw [tr4_eq, hDom]
      match a with
      | ⟨0, _⟩ => show (dom (offsM m 0) (i 1) + 1) * 1 ≤ 9; omega
      | ⟨1, _⟩ => show (0 + 1) * 1792 ≤ 1792; omega
      | ⟨2, _⟩ => show ((i 0).val + 1) * 384 ≤ 1152; omega
  · refine ⟨?_, .inl rfl⟩
    · intro a
      rw [tr5_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 384 ≤ 1152; omega
  · refine ⟨?_, .inl rfl⟩
    · intro a
      rw [tr7_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 384 ≤ 1152; omega
  · refine ⟨?_, .inl rfl⟩
    · intro a
      rw [tr8_eq, hTile]
      match a with
      | ⟨0, _⟩ => show (tile (offsM m 0) (i 1) + 1) * 256 ≤ 4096; omega
      | ⟨1, _⟩ => show ((i 0).val + 1) * 384 ≤ 1152; omega

theorem side_ok (hO : Ok m) : Hyps m hO := by
  intro t
  unfold k0_chk1
  intro _ a
  have h := dom_lt ho ((grid0.coords t 1).val)
  have e : (wDom (grid0.coords t) (tb1 m)).toNat = dom (offsM m 0) (grid0.coords t 1) := by
    exact (congrArg BitVec.toNat ((wDom_eq _ _).trans (tb1_word m ho _))).trans (toNat_wd _ (by omega))
  match a with
  | ⟨0, _⟩ =>
    show (wDom (grid0.coords t) (tb1 m)).toNat + 1 ≤ 10
    omega

end Cert.SecondIdeal.Gen

end
-- ==== Proof.SecondIdeal.Point.lean ====
/-
  The body run at any point of the grid: the four cases of the body put together.
-/
module

public import proofs.«01_k».proof.Proof.SecondIdeal.Data

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 3200000 in
/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl,
    after0_0, after0_1, after0_2, after0_3, after0_4, after0_5, after0_6, after0_7, after0_8]
  rw [Phi_eq, Phi_eq, Fin.val_castSucc, Fin.val_succ]
  unfold PhiAt
  rw [PhiT0_eq]
  iintro ⟨⟨⟨⟨%P, %hP, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← aft_step m hO hH c t d8]
  by_cases hc1 : cond0_0 (grid0.coords t) (wDom (grid0.coords t) (tb1 m)) (wDomP (grid0.coords t) (tb1 m)) <;>
  by_cases hc3 : k0_cond3 (grid0.coords t) (wTile (grid0.coords t) (tb0 m)) (wTileP (grid0.coords t) (tb0 m)) = 1#1
  · have hc2 : ¬k0_cond2 (grid0.coords t) (wTile (grid0.coords t) (tb0 m)) (wTileP (grid0.coords t) (tb0 m)) = 1#1 := by
      rw [cond2_iff]; rw [cond3_iff] at hc3; exact hc3
    rw [show stepAt m hO hH c t ((dats m hO hH 0 c).before 8 t d8) = _ from dif_pos hc3]
    iapply ((runNewNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    rw [show stepAt m hO hH c t ((dats m hO hH 0 c).before 8 t d8) = _ from dif_neg hc3]
    iapply ((runNewFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : ¬k0_cond2 (grid0.coords t) (wTile (grid0.coords t) (tb0 m)) (wTileP (grid0.coords t) (tb0 m)) = 1#1 := by
      rw [cond2_iff]; rw [cond3_iff] at hc3; exact hc3
    obtain rfl := scr_kept m hO hH c t P hP hc1
    rw [show stepAt m hO hH c t ((dats m hO hH 0 c).before 8 t d8) = _ from dif_pos hc3]
    iapply ((runOldNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    obtain rfl := scr_kept m hO hH c t P hP hc1
    rw [show stepAt m hO hH c t ((dats m hO hH 0 c).before 8 t d8) = _ from dif_neg hc3]
    iapply ((runOldFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.SecondIdeal.Gen

end
-- ==== Proof.SecondIdeal.Run.lean ====
/-
  The launch: the run of the program, its arguments unchanged and its result as the write-backs leave it.
-/
module

public import proofs.«01_k».proof.Proof.SecondIdeal.Point

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  refine triple_restated (sound_body m hO hH c t) rfl .rfl fun _ => ?_
  dsimp only
  generalize hb : idle0 (tbl m) 8 _ = b
  obtain rfl : b = false := hb.symm.trans (idle8 m hO _)
  exact .rfl

/-! ## The launch -/

/-- The scratch, whatever it holds, is as the region begins with it. -/
theorem Phi_in (hO : Ok m) (hH : Hyps m hO) (c : Dev nD) :
    iprop(Pipeline.ΦA spec0 c ∗ Pipeline.ΦT pre0 (tbl m) c) ⊢ (dats m hO hH 0 c).Φ 0 := by
  rw [Phi_eq]; unfold PhiAt; rw [PhiA0_eq]
  iintro ⟨⟨⟨%P, HS⟩, Hg⟩, HT⟩
  isplitl [HS Hg]
  · isplitl [HS]
    · iexists P; isplitr; swap; · iexact HS
      ipureintro; exact fun n hn e => absurd e (Nat.succ_ne_zero n)
    iexact Hg
  iexact HT

theorem Phi_out (hO : Ok m) (hH : Hyps m hO) (c : Dev nD) :
    (dats m hO hH 0 c).Φ (Fin.last (cfgM m hO).N) ⊢ Pipeline.ΦA spec0 c := by
  rw [Phi_eq]; unfold PhiAt; rw [PhiA0_eq]
  iintro ⟨⟨⟨%P, %hP, HS⟩, Hg⟩, HT⟩
  iclear HT
  isplitl [HS]
  · iexists P; iexact HS
  iexact Hg

set_option maxHeartbeats 1600000 in
set_option backward.isDefEq.respectTransparency.types false in
theorem run_main (hO : Ok m) (hH : Hyps m hO) : θ_run defs (onTc (τ := τ) (main (F := F))) (s₀ m ρ)
    (fun r => Pipeline.FramePost (Pipeline.pin pcfgs fun _ => adm m hO) (dats m hO hH) (0 : Fin 1) (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := Phi_in m hO hH) (hout := Phi_out m hO hH)

theorem rest_main_arg0 : main_arg0 ∈ Pipeline.restRefs sig spec0 := Pipeline.mem_restRefs_of main_arg0 (by decide) (by decide)
theorem rest_main_arg4 : main_arg4 ∈ Pipeline.restRefs sig spec0 := Pipeline.mem_restRefs_of main_arg4 (by decide) (by decide)
theorem rest_main_arg6 : main_arg6 ∈ Pipeline.restRefs sig spec0 := Pipeline.mem_restRefs_of main_arg6 (by decide) (by decide)
theorem rest_main_arg7 : main_arg7 ∈ Pipeline.restRefs sig spec0 := Pipeline.mem_restRefs_of main_arg7 (by decide) (by decide)
theorem rest_main_arg8 : main_arg8 ∈ Pipeline.restRefs sig spec0 := Pipeline.mem_restRefs_of main_arg8 (by decide) (by decide)
/-- The run: the arguments end as they were, the result as the write-backs leave it, every counter at zero. -/
theorem run_result (hO : Ok m) (hH : Hyps m hO) : θ_run defs (onTc (τ := τ) (main (F := F))) ⟨m, fun _ => 0, ρ⟩ (fun r => (∀ c : Dev nD,
      r.2.mem ((c.tc : Thread nD τ).loc main_v47) = (dats m hO hH 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 8, ((h.1 c).2 main_arg0 rest_main_arg0).trans (V_main_arg0 m c), ((h.1 c).1 0).trans (((dats m hO hH 0 c).arrAt_in 0 rfl _).trans ((A_eq m hO hH c 0).trans (V_main_arg1 m c))), ((h.1 c).1 1).trans (((dats m hO hH 0 c).arrAt_in 1 rfl _).trans ((A_eq m hO hH c 1).trans (V_main_arg2 m c))), ((h.1 c).1 2).trans (((dats m hO hH 0 c).arrAt_in 2 rfl _).trans ((A_eq m hO hH c 2).trans (V_main_arg3 m c))), ((h.1 c).2 main_arg4 rest_main_arg4).trans (V_main_arg4 m c), ((h.1 c).1 4).trans (((dats m hO hH 0 c).arrAt_in 4 rfl _).trans ((A_eq m hO hH c 4).trans (V_main_arg5 m c))), ((h.1 c).2 main_arg6 rest_main_arg6).trans (V_main_arg6 m c), ((h.1 c).2 main_arg7 rest_main_arg7).trans (V_main_arg7 m c), ((h.1 c).2 main_arg8 rest_main_arg8).trans (V_main_arg8 m c)⟩, h.2⟩) (run_main m ρ hO hH)

end Cert.SecondIdeal.Gen

end
-- ==== Proof.SecondIdeal.Frame.lean ====
module

public import proofs.«01_k».proof.Defs
public import proofs.«01_k».proof.Proof.Gen.Second
public import proofs.«01_k».proof.Proof.Gen.Pre_offsets_cover_2
public import proofs.«01_k».proof.Proof.SecondIdeal.Tables
public import proofs.«01_k».proof.Proof.SecondIdeal.Run

/-!
# The runs of `Second` and `SecondIdeal`

From the precondition on the offsets: the program terminates without a fault, leaves its arguments as they were, and every
semaphore counter ends at zero. `Second` is the text of `SecondIdeal` printed a second time, since the ideal pass rewrote nothing,
so the run proved for any float type serves both.
-/

@[expose] public section

set_option maxRecDepth 16384

noncomputable section

namespace Cert.Frames

open Idealize.ShloMosaic Idealize.SL.Sem Cert.HostWords Cert.WorkList

theorem offs_SecondIdeal (m : (ℓ : Loc Cert.SecondIdeal.nD Cert.SecondIdeal.τ Cert.SecondIdeal.sig) → Buf (Elt Ideal) ℓ)
    (h : @Cert.Pre_SecondIdeal Cert.Pre_offsets_cover_2.Gen.facts m) (c : Dev Cert.SecondIdeal.nD) : Offs (Cert.SecondIdeal.Gen.offsM m c) :=
  letI := Cert.Pre_offsets_cover_2.Gen.facts
  offs_of_pre _ _ _ _ _ _ (h c).1 (h c).2.1 (h c).2.2

theorem frame_SecondIdeal : @Cert.quiescent_SecondIdeal Cert.SecondIdeal.Gen.facts Cert.Pre_offsets_cover_2.Gen.facts := fun m g hp =>
  have ho := offs_SecondIdeal m hp 0
  have hO := Cert.SecondIdeal.Gen.blocks_ok m ho
  (θ_run _ _ _).mono (fun _ h => ⟨fun c => (h.1 c).2, h.2⟩) (Cert.SecondIdeal.Gen.run_result m g hO (Cert.SecondIdeal.Gen.side_ok m ho hO))

theorem offs_Second (m : (ℓ : Loc Cert.Second.nD Cert.Second.τ Cert.Second.sig) → Buf (Elt Bits) ℓ) (h : @Cert.Pre_Second Cert.Pre_offsets_cover_2.Gen.facts m)
    (c : Dev Cert.Second.nD) : Offs (Cert.SecondIdeal.Gen.offsM (F := Bits) m c) :=
  letI := Cert.Pre_offsets_cover_2.Gen.facts
  offs_of_pre _ _ _ _ _ _ (h c).1 (h c).2.1 (h c).2.2

theorem same_Second : @Cert.quiescent_Second Cert.Second.Gen.facts Cert.Pre_offsets_cover_2.Gen.facts
    = ∀ (m : (ℓ : Loc SecondIdeal.nD SecondIdeal.τ SecondIdeal.sig) → Buf (Elt Bits) ℓ) (g : Dev SecondIdeal.nD → PrngReg), @Cert.Pre_Second Cert.Pre_offsets_cover_2.Gen.facts m →
      θ_run (SecondIdeal.defs (F := Bits)) (onTc (τ := SecondIdeal.τ) (SecondIdeal.main (F := Bits))) ⟨m, fun _ => 0, g⟩ (fun r => (∀ c : Dev SecondIdeal.nD,
      r.2.mem ((c.tc : Thread SecondIdeal.nD SecondIdeal.τ).loc SecondIdeal.main_arg0) = m ((c.tc : Thread SecondIdeal.nD SecondIdeal.τ).loc SecondIdeal.main_arg0)
      ∧ r.2.mem ((c.tc : Thread SecondIdeal.nD SecondIdeal.τ).loc SecondIdeal.main_arg1) = m ((c.tc : Thread SecondIdeal.nD SecondIdeal.τ).loc SecondIdeal.main_arg1)
      ∧ r.2.mem ((c.tc : Thread SecondIdeal.nD SecondIdeal.τ).loc SecondIdeal.main_arg2) = m ((c.tc : Thread SecondIdeal.nD SecondIdeal.τ).loc SecondIdeal.main_arg2)
      ∧ r.2.mem ((c.tc : Thread SecondIdeal.nD SecondIdeal.τ).loc SecondIdeal.main_arg3) = m ((c.tc : Thread SecondIdeal.nD SecondIdeal.τ).loc SecondIdeal.main_arg3)
      ∧ r.2.mem ((c.tc : Thread SecondIdeal.nD SecondIdeal.τ).loc SecondIdeal.main_arg4) = m ((c.tc : Thread SecondIdeal.nD SecondIdeal.τ).loc SecondIdeal.main_arg4)
      ∧ r.2.mem ((c.tc : Thread SecondIdeal.nD SecondIdeal.τ).loc SecondIdeal.main_arg5) = m ((c.tc : Thread SecondIdeal.nD SecondIdeal.τ).loc SecondIdeal.main_arg5)
      ∧ r.2.mem ((c.tc : Thread SecondIdeal.nD SecondIdeal.τ).loc SecondIdeal.main_arg6) = m ((c.tc : Thread SecondIdeal.nD SecondIdeal.τ).loc SecondIdeal.main_arg6)
      ∧ r.2.mem ((c.tc : Thread SecondIdeal.nD SecondIdeal.τ).loc SecondIdeal.main_arg7) = m ((c.tc : Thread SecondIdeal.nD SecondIdeal.τ).loc SecondIdeal.main_arg7)
      ∧ r.2.mem ((c.tc : Thread SecondIdeal.nD SecondIdeal.τ).loc SecondIdeal.main_arg8) = m ((c.tc : Thread SecondIdeal.nD SecondIdeal.τ).loc SecondIdeal.main_arg8))
      ∧ r.2.sem = fun _ => 0) := by
  chain_rfl

theorem frame_Second : @Cert.quiescent_Second Cert.Second.Gen.facts Cert.Pre_offsets_cover_2.Gen.facts := by
  rw [same_Second]
  intro m g hp
  have ho := offs_Second m hp 0
  have hO := Cert.SecondIdeal.Gen.blocks_ok m ho
  exact (θ_run _ _ _).mono (fun _ h => ⟨fun c => (h.1 c).2, h.2⟩) (Cert.SecondIdeal.Gen.run_result (F := Bits) m g hO (Cert.SecondIdeal.Gen.side_ok m ho hO))

end Cert.Frames

end
-- ==== Proof.ThirdIdeal.Kit.lean ====
/-
  The set-up of `ThirdIdeal`'s certificate: the memory when the pipelined region is entered (`V`: the launch memory after
  the host operations that build the work list), the three tables of the work list (`tbl`), the windows' blocks, the
  staging and scratch buffers, and the words the body reads from the tables.
-/
module

public import proofs.«01_k».proof.Proof.Gen.ThirdIdeal.Launch
public import proofs.«01_k».proof.Proof.Gen.ThirdIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, then every host operation's result written. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

set_option maxHeartbeats 1600000 in
/-- @main up to the region runs the host operations and leaves `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

/-- The host operations write no argument. -/
theorem V_arg (c : Dev nD) (b : Ref sig .tc) (hb : b ∈ [main_arg0, main_arg1, main_arg2, main_arg3, main_arg4, main_arg5, main_arg6, main_arg7, main_arg8]) :
    V m c b = m ((c : Thread nD τ).loc b) := by
  refine StableHlo.after_of_forall_not_mem (b := Proc.devRef .tc b) _ _ (List.forall_iff_forall_mem.mp ?_)
  simp only [List.mem_cons, List.not_mem_nil, or_false] at hb
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl | rfl | rfl | rfl <;> repeat' apply And.intro
  all_goals exact StableHlo.devRef_ne_of_ne (by decide)

theorem V_main_arg0 (c : Dev nD) : V m c main_arg0 = m ((c : Thread nD τ).loc main_arg0) := V_arg m c _ (by simp)
theorem V_main_arg1 (c : Dev nD) : V m c main_arg1 = m ((c : Thread nD τ).loc main_arg1) := V_arg m c _ (by simp)
theorem V_main_arg2 (c : Dev nD) : V m c main_arg2 = m ((c : Thread nD τ).loc main_arg2) := V_arg m c _ (by simp)
theorem V_main_arg3 (c : Dev nD) : V m c main_arg3 = m ((c : Thread nD τ).loc main_arg3) := V_arg m c _ (by simp)
theorem V_main_arg4 (c : Dev nD) : V m c main_arg4 = m ((c : Thread nD τ).loc main_arg4) := V_arg m c _ (by simp)
theorem V_main_arg5 (c : Dev nD) : V m c main_arg5 = m ((c : Thread nD τ).loc main_arg5) := V_arg m c _ (by simp)
theorem V_main_arg6 (c : Dev nD) : V m c main_arg6 = m ((c : Thread nD τ).loc main_arg6) := V_arg m c _ (by simp)
theorem V_main_arg7 (c : Dev nD) : V m c main_arg7 = m ((c : Thread nD τ).loc main_arg7) := V_arg m c _ (by simp)
theorem V_main_arg8 (c : Dev nD) : V m c main_arg8 = m ((c : Thread nD τ).loc main_arg8) := V_arg m c _ (by simp)

/-! ## The tables -/

/-- The tables' contents when the region is entered. -/
def tbl : pre0.Contents (Elt F) := fun j => V m (0 : Dev nD) (pre0.ref j)
/-- There is one device, so the tables hold those contents on every device. -/
theorem V_pre (c : Dev nD) (j : Fin 3) : V m c (pre0.ref j) = tbl m j := by
  obtain rfl : c = 0 := Subsingleton.elim _ _; rfl
/-- Every window's block lies inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tbl_def (j : Fin 3) : tbl m j = V m (0 : Dev nD) (pre0.ref j) := rfl

abbrev tbM0_0 : Memref sig .tc .smem S24 .i32 := Memref.whole main_v42
abbrev htbM0_0 : tbM0_0.IsWhole := Memref.isWhole_whole _
abbrev tbM0_1 : Memref sig .tc .smem S24 .i32 := Memref.whole main_v18
abbrev htbM0_1 : tbM0_1.IsWhole := Memref.isWhole_whole _
abbrev tbM0_2 : Memref sig .tc .smem S10 .i32 := Memref.whole main_arg0
abbrev htbM0_2 : tbM0_2.IsWhole := Memref.isWhole_whole _

abbrev TbBuf0 (c : Dev nD) {S : Shape} {e : EltTy} (M : Memref sig .tc .smem S e) : Type := Buf (Elt F) (M.view.loc (c : Thread nD τ))
/-- A table held at half the full share. -/
abbrev tbPt0 (c : Dev nD) {S : Shape} {e : EltTy} (M : Memref sig .tc .smem S e) (f : TbBuf0 (F := F) c M) : sProp 𝕄 :=
  M.view.loc (c : Thread nD τ) ↦{fullShare.right} f

theorem V_def (c : Dev nD) (b : Ref sig .tc) : V m c b = StableHlo.after (List.flatten [hostOps0, hostOps0_1, hostOps0_2, hostOps0_3, hostOps0_4, hostOps0_5, hostOps0_6, hostOps0_7, hostOps0_8, hostOps0_9]) (fun b => m (c, b)) b := rfl

attribute [irreducible] V tbl

/-- The tables as the body's memrefs hold them: tiles, domains, offsets. -/
def tb0 : (tbM0_0).view.ty.Contents (Elt F) := tbl m 0
def tb1 : (tbM0_1).view.ty.Contents (Elt F) := tbl m 1
def tb2 : (tbM0_2).view.ty.Contents (Elt F) := tbl m 2

/-- The tables' halves the region hands the body, table by table. -/
theorem PhiT0_eq (c : Dev nD) : (Pipeline.ΦT pre0 (tbl m) c : sProp 𝕄) = iprop(tbPt0 c tbM0_0 (tb0 m) ∗ tbPt0 c tbM0_1 (tb1 m) ∗ tbPt0 c tbM0_2 (tb2 m)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The words the body reads -/

section Words
variable (i : grid0.Coords)
/-- The tile of the work item. -/
abbrev wTile (xt : (tbM0_0).view.ty.Contents (Elt F)) : BitVec 32 :=
  tbM0_0.view.readAt (Elt F) (Rect.unit (s := S24) (k0_off3 i) S1.size (k0_off3_inb i)).toLoadRect xt (Shape.Idx.first (numel1_S1.symm ▸ Nat.one_pos))
/-- The tile of the work item before it. -/
abbrev wTileP (xt : (tbM0_0).view.ty.Contents (Elt F)) : BitVec 32 :=
  tbM0_0.view.readAt (Elt F) (Rect.unit (s := S24) (k0_off4 i) S1.size (k0_off4_inb i)).toLoadRect xt (Shape.Idx.first (numel1_S1.symm ▸ Nat.one_pos))
/-- The domain of the work item. -/
abbrev wDom (xt : (tbM0_1).view.ty.Contents (Elt F)) : BitVec 32 :=
  tbM0_1.view.readAt (Elt F) (Rect.unit (s := S24) (k0_off1 i) S1.size (k0_off1_inb i)).toLoadRect xt (Shape.Idx.first (numel1_S1.symm ▸ Nat.one_pos))
/-- The domain of the work item before it. -/
abbrev wDomP (xt : (tbM0_1).view.ty.Contents (Elt F)) : BitVec 32 :=
  tbM0_1.view.readAt (Elt F) (Rect.unit (s := S24) (k0_off2 i) S1.size (k0_off2_inb i)).toLoadRect xt (Shape.Idx.first (numel1_S1.symm ▸ Nat.one_pos))
/-- The first row of domain `v`. -/
abbrev wOff (v : BitVec 32) (h : ∀ a, k0_off5 v a + S1.size a ≤ S10.size a) (xt : (tbM0_2).view.ty.Contents (Elt F)) : BitVec 32 :=
  tbM0_2.view.readAt (Elt F) (Rect.unit (s := S10) (k0_off5 v) S1.size h).toLoadRect xt (Shape.Idx.first (numel1_S1.symm ▸ Nat.one_pos))
end Words

/-- The condition under which the body forms the weight product anew. -/
abbrev cond0_0 (i : grid0.Coords) (v1 : BitVec 32) (v5 : BitVec 32) : Prop := (Scalar.cmpi .ne (Scalar.extui (Scalar.ori (Scalar.cmpi .eq (BitVec.ofNat 32 (i 1).val) 0#32) (Scalar.cmpi .ne v1 v5))) 0#32) = 1#1

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging and scratch buffers -/

abbrev ms0_0 (hO : Ok m) (t : Fin (cfgM m hO).N) : Memref sig .tc .vmem S256x1152 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1152x320 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x320 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1152x320 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x320 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x320 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x320 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x320 .bf16 := spec0_8.stage ((cfgM m hO).slots t 8)
abbrev hs0_8 (hO : Ok m) (t : Fin (cfgM m hO).N) : (ms0_8 m hO t).IsWhole := hstage0_8 (((cfgM m hO).slots t 8).cast nbuf0_8)

/-- The scratch that holds the weight product. -/
abbrev scM0_0 : Memref sig .tc .vmem S1152x320 .bf16 := Memref.whole cc0_scratch0

/-- The scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_star_fc (grid0.coords t) (Memref.whole main_v42) (Memref.isWhole_whole _) (Memref.whole main_v18) (Memref.isWhole_whole _) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.ThirdIdeal.Gen

end
-- ==== Proof.ThirdIdeal.Words.lean ====
/-
  The words the body and the index maps read, as entries of the tables, and the body's branch conditions over them.
-/
module

public import proofs.«01_k».proof.Proof.ThirdIdeal.Kit
public import Idealize.ShloMosaic.Lib.Routing.Ops

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

omit [FloatOps F] in
theorem unit1_emb {n : ℕ} (off : Fin 1 → ℕ) (h : ∀ a, off a + S1.size a ≤ (⟨1, ![n]⟩ : Shape).size a) (k : Fin n) (hk : off 0 = k.val) (y : S1.Idx) :
    (Rect.unit (s := (⟨1, ![n]⟩ : Shape)) off S1.size h).emb y = ix1 k := by
  funext a
  fin_cases a
  apply Fin.ext
  have hy : (y 0).val = 0 := by have := (y 0).isLt; simp only [S1] at this; exact Nat.lt_one_iff.mp this
  show off 0 + 1 * (y 0).val = k.val
  omega

theorem off1_val (i : grid0.Coords) : k0_off1 i 0 = (i 1).val := by
  have h : (i 1).val < 24 := (i 1).isLt
  show (BitVec.ofNat 32 (i 1).val).toNat = _
  rw [BitVec.toNat_ofNat]; omega
theorem off3_val (i : grid0.Coords) : k0_off3 i 0 = (i 1).val := off1_val i
theorem off2_val (i : grid0.Coords) : k0_off2 i 0 = (i 1).val - 1 := by
  have h : (i 1).val < 24 := (i 1).isLt
  unfold k0_off2
  generalize (i 1).val = n at h
  interval_cases n <;> decide
theorem off4_val (i : grid0.Coords) : k0_off4 i 0 = (i 1).val - 1 := off2_val i

/-- The entry before entry `k` of a table of 24. -/
abbrev prev24 (k : Fin 24) : Fin 24 := ⟨k.val - 1, by omega⟩

theorem wTile_eq (i : grid0.Coords) (x : (tbM0_0).view.ty.Contents (Elt F)) : wTile i x = x (ix1 (i 1)) :=
  congrArg x (unit1_emb _ (k0_off3_inb i) (i 1) (off3_val i) _)
theorem wTileP_eq (i : grid0.Coords) (x : (tbM0_0).view.ty.Contents (Elt F)) : wTileP i x = x (ix1 (prev24 (i 1))) :=
  congrArg x (unit1_emb _ (k0_off4_inb i) (prev24 (i 1)) (off4_val i) _)
theorem wDom_eq (i : grid0.Coords) (x : (tbM0_1).view.ty.Contents (Elt F)) : wDom i x = x (ix1 (i 1)) :=
  congrArg x (unit1_emb _ (k0_off1_inb i) (i 1) (off1_val i) _)
theorem wDomP_eq (i : grid0.Coords) (x : (tbM0_1).view.ty.Contents (Elt F)) : wDomP i x = x (ix1 (prev24 (i 1))) :=
  congrArg x (unit1_emb _ (k0_off2_inb i) (prev24 (i 1)) (off2_val i) _)
theorem wOff_eq (v : BitVec 32) (h : ∀ a, k0_off5 v a + S1.size a ≤ S10.size a) (x : (tbM0_2).view.ty.Contents (Elt F)) (k : Fin 10) (hk : v.toNat = k.val) :
    wOff v h x = x (ix1 k) :=
  congrArg x (unit1_emb _ h k hk _)

theorem tr0_eq (pf : pre0.Contents (Elt F)) (i : grid0.Coords) : cc0_transform_0 k0_off1_inb numel1_S1 pf i = ![((pf 0 : S24.Idx → BitVec 32) (ix1 (i 1))).toNat, 0] := by
  have h := congrArg (pf 0 : S24.Idx → BitVec 32) (unit1_emb _ (k0_off1_inb i) (i 1) (off1_val i) (Shape.Idx.first (numel1_S1.symm ▸ Nat.one_pos)))
  exact congrArg (fun v : BitVec 32 => ![v.toNat, 0]) h
theorem tr1_eq (pf : pre0.Contents (Elt F)) (i : grid0.Coords) : cc0_transform_1 k0_off1_inb numel1_S1 pf i = ![((pf 0 : S24.Idx → BitVec 32) (ix1 (i 1))).toNat, 0] := tr0_eq pf i
theorem ofNat7 (i : grid0.Coords) : (BitVec.ofNat 32 (i 0).val).toNat = (i 0).val := by
  have h : (i 0).val < 1 := (i 0).isLt
  rw [BitVec.toNat_ofNat]; omega
theorem tr8_eq (pf : pre0.Contents (Elt F)) (i : grid0.Coords) : cc0_transform_8 k0_off1_inb numel1_S1 pf i = ![((pf 0 : S24.Idx → BitVec 32) (ix1 (i 1))).toNat, (i 0).val] := by
  have h := congrArg (pf 0 : S24.Idx → BitVec 32) (unit1_emb _ (k0_off1_inb i) (i 1) (off1_val i) (Shape.Idx.first (numel1_S1.symm ▸ Nat.one_pos)))
  exact (congrArg (fun v : BitVec 32 => ![v.toNat, (BitVec.ofNat 32 (i 0).val).toNat]) h).trans (by rw [ofNat7])
theorem tr4_eq (pf : pre0.Contents (Elt F)) (i : grid0.Coords) : cc0_transform_4 k0_off1_inb numel1_S1 pf i = ![((pf 1 : S24.Idx → BitVec 32) (ix1 (i 1))).toNat, 0, (i 0).val] := by
  have h := congrArg (pf 1 : S24.Idx → BitVec 32) (unit1_emb _ (k0_off1_inb i) (i 1) (off1_val i) (Shape.Idx.first (numel1_S1.symm ▸ Nat.one_pos)))
  exact (congrArg (fun v : BitVec 32 => ![v.toNat, 0, (BitVec.ofNat 32 (i 0).val).toNat]) h).trans (by rw [ofNat7])
theorem tr5_eq (pf : pre0.Contents (Elt F)) (i : grid0.Coords) : cc0_transform_5 k0_off1_inb numel1_S1 pf i = ![((pf 1 : S24.Idx → BitVec 32) (ix1 (i 1))).toNat, 0, (i 0).val] := tr4_eq pf i
theorem tr7_eq (pf : pre0.Contents (Elt F)) (i : grid0.Coords) : cc0_transform_7 k0_off1_inb numel1_S1 pf i = ![((pf 1 : S24.Idx → BitVec 32) (ix1 (i 1))).toNat, 0, (i 0).val] := tr4_eq pf i
/-- Two points of one strip whose items have one tile have one output block, of one domain one weight block. -/
theorem tr8_congr (pf : pre0.Contents (Elt F)) (i i' : grid0.Coords) (h0 : i 0 = i' 0)
    (h : (pf 0 : S24.Idx → BitVec 32) (ix1 (i 1)) = (pf 0 : S24.Idx → BitVec 32) (ix1 (i' 1))) :
    cc0_transform_8 k0_off1_inb numel1_S1 pf i = cc0_transform_8 k0_off1_inb numel1_S1 pf i' := by
  rw [tr8_eq, tr8_eq, h0, h]
theorem tr4_congr (pf : pre0.Contents (Elt F)) (i i' : grid0.Coords) (h0 : i 0 = i' 0)
    (h : (pf 1 : S24.Idx → BitVec 32) (ix1 (i 1)) = (pf 1 : S24.Idx → BitVec 32) (ix1 (i' 1))) :
    cc0_transform_4 k0_off1_inb numel1_S1 pf i = cc0_transform_4 k0_off1_inb numel1_S1 pf i' := by
  rw [tr4_eq, tr4_eq, h0, h]
theorem tr2_eq (i : grid0.Coords) : cc0_transform_2 i = ![0, (i 0).val] :=
  congrArg (fun n => ![0, n]) (ofNat7 i)
theorem tr3_eq (i : grid0.Coords) : cc0_transform_3 i = ![0, (i 0).val] := tr2_eq i
theorem tr6_eq (i : grid0.Coords) : cc0_transform_6 i = ![0, (i 0).val] := tr2_eq i

theorem ofNat_eq_zero (i : grid0.Coords) : BitVec.ofNat 32 (i 1).val = 0#32 ↔ (i 1).val = 0 := by
  have h : (i 1).val < 24 := (i 1).isLt
  constructor
  · intro e
    have := congrArg BitVec.toNat e
    rw [BitVec.toNat_ofNat] at this
    have h0 : (0#32).toNat = 0 := rfl
    omega
  · intro e; rw [e]

theorem cond0_iff (i : grid0.Coords) (a b : BitVec 32) : cond0_0 i a b ↔ ((i 1).val = 0 ∨ a ≠ b) := by
  rw [← ofNat_eq_zero i]
  unfold cond0_0
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide
theorem cond2_iff (i : grid0.Coords) (a b : BitVec 32) : k0_cond2 i a b = 1#1 ↔ ((i 1).val = 0 ∨ a ≠ b) := cond0_iff i a b
theorem cond3_iff (i : grid0.Coords) (a b : BitVec 32) : k0_cond3 i a b = 1#1 ↔ ¬((i 1).val = 0 ∨ a ≠ b) := by
  rw [← ofNat_eq_zero i]
  unfold k0_cond3
  generalize BitVec.ofNat 32 (i 1).val = x
  have h1 : (x == 0#32) = decide (x = 0#32) := rfl
  have h2 : (a != b) = !decide (a = b) := rfl
  simp only [Scalar.cmpi, IntOp.cmpi, h1, h2]
  by_cases hx : x = 0#32 <;> by_cases hab : a = b <;> simp only [hx, hab, decide_true, decide_false, Bool.not_true, Bool.not_false, ne_eq, not_true_eq_false, not_false_eq_true, or_false, or_true, true_or, false_or] <;> decide

/-! ## The points of the grid -/

theorem coords0 : ∀ t : Fin grid0.N, (grid0.coords t 0).val = t.val / 24 := by decide +kernel
theorem coords1 : ∀ t : Fin grid0.N, (grid0.coords t 1).val = t.val % 24 := by decide +kernel

end Cert.ThirdIdeal.Gen

end
-- ==== Proof.ThirdIdeal.Host.lean ====
/-
  The host's work list, stretch by stretch: what each stretch of host operations leaves in the buffers the later ones read.
-/
module

public import proofs.«01_k».proof.Proof.ThirdIdeal.Words
public import proofs.«01_k».proof.Proof.HostWords

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (X : Valuation τ sig (Elt F))
theorem keep1_main_v0 : StableHlo.after hostOps0_1 X main_v0 = X main_v0 :=
  StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_v1 : StableHlo.after hostOps0_1 X main_v1 = X main_v1 :=
  StableHlo.after_of_forall_not_mem (b := Proc.devRef .tc main_v1) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_arg0 : StableHlo.after hostOps0_1 X main_arg0 = X main_arg0 :=
  StableHlo.after_of_forall_not_mem (b := Proc.devRef .tc main_arg0) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v0 : StableHlo.after hostOps0_2 X main_v0 = X main_v0 :=
  StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v1 : StableHlo.after hostOps0_2 X main_v1 = X main_v1 :=
  StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v2 : StableHlo.after hostOps0_2 X main_v2 = X main_v2 :=
  StableHlo.after_of_forall_not_mem (b := Proc.devRef .tc main_v2) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v2 : StableHlo.after hostOps0_3 X main_v2 = X main_v2 :=
  StableHlo.after_of_forall_not_mem (b := Proc.devRef .tc main_v2) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_v3 : StableHlo.after hostOps0_3 X main_v3 = X main_v3 :=
  StableHlo.after_of_forall_not_mem (b := Proc.devRef .tc main_v3) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v2 : StableHlo.after hostOps0_4 X main_v2 = X main_v2 :=
  StableHlo.after_of_forall_not_mem (b := Proc.devRef .tc main_v2) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_v3 : StableHlo.after hostOps0_4 X main_v3 = X main_v3 :=
  StableHlo.after_of_forall_not_mem (b := Proc.devRef .tc main_v3) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_v2 : StableHlo.after hostOps0_5 X main_v2 = X main_v2 :=
  StableHlo.after_of_forall_not_mem (b := Proc.devRef .tc main_v2) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v2 : StableHlo.after hostOps0_6 X main_v2 = X main_v2 :=
  StableHlo.after_of_forall_not_mem (b := Proc.devRef .tc main_v2) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v10 : StableHlo.after hostOps0_6 X main_v10 = X main_v10 :=
  StableHlo.after_of_forall_not_mem (b := Proc.devRef .tc main_v10) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v2 : StableHlo.after hostOps0_7 X main_v2 = X main_v2 :=
  StableHlo.after_of_forall_not_mem (b := Proc.devRef .tc main_v2) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v10 : StableHlo.after hostOps0_7 X main_v10 = X main_v10 :=
  StableHlo.after_of_forall_not_mem (b := Proc.devRef .tc main_v10) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_v11 : StableHlo.after hostOps0_7 X main_v11 = X main_v11 :=
  StableHlo.after_of_forall_not_mem (b := Proc.devRef .tc main_v11) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v2 : StableHlo.after hostOps0_8 X main_v2 = X main_v2 :=
  StableHlo.after_of_forall_not_mem (b := Proc.devRef .tc main_v2) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v10 : StableHlo.after hostOps0_8 X main_v10 = X main_v10 :=
  StableHlo.after_of_forall_not_mem (b := Proc.devRef .tc main_v10) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v11 : StableHlo.after hostOps0_8 X main_v11 = X main_v11 :=
  StableHlo.after_of_forall_not_mem (b := Proc.devRef .tc main_v11) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v17 : StableHlo.after hostOps0_8 X main_v17 = X main_v17 :=
  StableHlo.after_of_forall_not_mem (b := Proc.devRef .tc main_v17) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st0_main_v0 : StableHlo.after hostOps0 X main_v0 = extractStridedSlice S9 ![0] (X main_arg0) slices_S10_S9_0 := by
  after_results_simp
  all_goals rfl

theorem st0_main_v1 : StableHlo.after hostOps0 X main_v1 = extractStridedSlice S9 ![1] (X main_arg0) slices_S10_S9_1 := by
  after_results_simp
  all_goals rfl

theorem st0_main_c : StableHlo.after hostOps0 X main_c = constantI S_ 32 256#32 := by
  after_results_simp
  all_goals rfl

theorem st1_main_v2 : StableHlo.after hostOps0_1 X main_v2 = Routing.pyDiv bcast_S_S9 (X main_v0) (X main_c) := by
  after_results_simp
  all_goals rfl

theorem st2_main_v3 : StableHlo.after hostOps0_2 X main_v3 = cmpi .sgt (X main_v1 : IVec S9 32) (X main_v0) := by
  after_results_simp
  all_goals rfl

theorem st2_main_v5 : StableHlo.after hostOps0_2 X main_v5 = subi (X main_v1 : IVec S9 32) (broadcastInDim S9 ![] bcast_S_S9 (constantI S_ 32 1#32)) := by
  after_results_simp
  all_goals rfl

theorem st2_main_c_1 : StableHlo.after hostOps0_2 X main_c_1 = constantI S_ 32 256#32 := by
  after_results_simp
  all_goals rfl

theorem st3_main_v6 : StableHlo.after hostOps0_3 X main_v6 = Routing.pyDiv bcast_S_S9 (X main_v5) (X main_c_1) := by
  after_results_simp
  all_goals rfl

theorem st4_main_v9 : StableHlo.after hostOps0_4 X main_v9 = addi (subi (X main_v6 : IVec S9 32) (X main_v2)) (broadcastInDim S9 ![] bcast_S_S9 (constantI S_ 32 1#32)) := by
  after_results_simp
  all_goals rfl

theorem st4_main_c_3 : StableHlo.after hostOps0_4 X main_c_3 = constantI S_ 32 0#32 := by
  after_results_simp
  all_goals rfl

theorem st5_main_v10 : StableHlo.after hostOps0_5 X main_v10 = select (X main_v3 : IVec S9 1) (X main_v9 : IVec S9 32) (broadcastInDim S9 ![] bcast_S_S9 (X main_c_3)) := by
  after_results_simp
  all_goals rfl

theorem st6_main_v11 : StableHlo.after hostOps0_6 X main_v11 = Host.reduceWindow IntOp.addi ![9] ![1] ![8] ![0] (X main_v10 : IVec S9 32) (broadcastInDim S_ ![] bcast_S_S_ (constantI S_ 32 0#32)) reduceWindows_S9_S9_w9s1p8_0 h_S_ := by
  after_results_simp
  simp only [StableHlo.TRef.toBuf, StableHlo.TRef.ofBuf, cast_eq]
  all_goals rfl

theorem st7_main_v17 : StableHlo.after hostOps0_7 X main_v17 = minsi (iotaInDim S24 32 0) (broadcastInDim S24 ![] bcast_S_S24 (subi (shapeCast S_ (extractStridedSlice S1 ![8] (X main_v11) slices_S9_S1_8) shapeCasts_S1_S_) (constantI S_ 32 1#32))) := by
  after_results_simp
  all_goals rfl

theorem st8_main_v18 : StableHlo.after hostOps0_8 X main_v18 = Host.reduce IntOp.addi (extui 32 (cmpi .sle (broadcastInDim S9x24 ![0, 1] bcast_S9x1_S9x24_0_1 (broadcastInDim S9x1 ![0] bcast_S9_S9x1_0 (X main_v11 : IVec S9 32))) (broadcastInDim S9x24 ![0, 1] bcast_S1x24_S9x24_0_1 (broadcastInDim S1x24 ![1] bcast_S24_S1x24_1 (X main_v17 : IVec S24 32)))) natLt_1_32) (constantI S_ 32 0#32) reducesTo_S9x24_S24_d0 h_S_ := by
  after_results_simp
  all_goals rfl

/-- The wrap of negative indices, which the domains pass unchanged. -/
def wrapDom (x : IVec S24 32) : IVec S24x1 32 :=
  broadcastInDim S24x1 ![0] bcast_S24_S24x1_0 (select (cmpi .slt x (broadcastInDim S24 ![] bcast_S_S24 (constantI S_ 32 0#32)))
    (addi x (broadcastInDim S24 ![] bcast_S_S24 (constantI S_ 32 9#32))) x)

theorem st9_main_v42 : StableHlo.after hostOps0_9 X main_v42 = subi (addi (Host.gather gather_S9_S24x1_S24_n_0_n_n_0_1_1 (X main_v2 : IVec S9 32) (wrapDom (X main_v18))) (X main_v17 : IVec S24 32)) (subi (Host.gather gather_S9_S24x1_S24_n_0_n_n_0_1_1 (X main_v11 : IVec S9 32) (wrapDom (X main_v18))) (Host.gather gather_S9_S24x1_S24_n_0_n_n_0_1_1 (X main_v10 : IVec S9 32) (wrapDom (X main_v18)))) := by
  after_results_simp
  all_goals rfl

theorem keep9_main_v18 : StableHlo.after hostOps0_9 X main_v18 = X main_v18 :=
  StableHlo.after_of_forall_not_mem (b := Proc.devRef .tc main_v18) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem st9_main_v43 : StableHlo.after hostOps0_9 X main_v43 = broadcastInDim S1x320 ![1] bcast_S320_S1x320_1 (X main_arg4) := by
  after_results_simp
  all_goals rfl

theorem st9_main_v44 : StableHlo.after hostOps0_9 X main_v44 = broadcastInDim S9x1x320 ![0, 2] bcast_S9x320_S9x1x320_0_2 (X main_arg6) := by
  after_results_simp
  all_goals rfl

theorem st9_main_v45 : StableHlo.after hostOps0_9 X main_v45 = broadcastInDim S1x320 ![1] bcast_S320_S1x320_1 (X main_arg7) := by
  after_results_simp
  all_goals rfl

theorem st9_main_v46 : StableHlo.after hostOps0_9 X main_v46 = broadcastInDim S9x1x320 ![0, 2] bcast_S9x320_S9x1x320_0_2 (X main_arg8) := by
  after_results_simp
  all_goals rfl
end

/-! ## The stretches in order -/

variable (m : (ℓ : Loc nD τ sig) → Buf (Elt F) ℓ) (c : Dev nD)

/-- The buffers before the first stretch, and after each of the first nine. -/
def X0 : Valuation τ sig (Elt F) := fun b => m (c, b)
def X1 : Valuation τ sig (Elt F) := StableHlo.after hostOps0 (X0 m c)
def X2 : Valuation τ sig (Elt F) := StableHlo.after hostOps0_1 (X1 m c)
def X3 : Valuation τ sig (Elt F) := StableHlo.after hostOps0_2 (X2 m c)
def X4 : Valuation τ sig (Elt F) := StableHlo.after hostOps0_3 (X3 m c)
def X5 : Valuation τ sig (Elt F) := StableHlo.after hostOps0_4 (X4 m c)
def X6 : Valuation τ sig (Elt F) := StableHlo.after hostOps0_5 (X5 m c)
def X7 : Valuation τ sig (Elt F) := StableHlo.after hostOps0_6 (X6 m c)
def X8 : Valuation τ sig (Elt F) := StableHlo.after hostOps0_7 (X7 m c)
def X9 : Valuation τ sig (Elt F) := StableHlo.after hostOps0_8 (X8 m c)

theorem V_eq (b : Ref sig .tc) : V m c b = StableHlo.after hostOps0_9 (X9 m c) b := by
  rw [V_def]
  simp only [List.flatten_cons, List.flatten_nil, List.append_nil, StableHlo.after_append]
  rfl

/-- The offsets given, as natural numbers. -/
abbrev offsM : ℕ → ℕ := offs (m ((c : Thread nD τ).loc main_arg0) : IVec S10 32)

theorem word_v0 (d : Fin 9) : (X1 m c main_v0 : IVec S9 32) (ix1 d) = wd (offsM m c d) := by
  unfold X1
  rw [st0_main_v0]
  refine (Routing.slice1 0 _ slices_S10_S9_0 d (by omega)).trans ?_
  refine (offs_word _ _).trans (congrArg (fun n => wd (offsM m c n)) ?_)
  show 0 + d.val = d.val
  omega
theorem word_v1 (d : Fin 9) : (X1 m c main_v1 : IVec S9 32) (ix1 d) = wd (offsM m c (d + 1)) := by
  unfold X1
  rw [st0_main_v1]
  refine (Routing.slice1 1 _ slices_S10_S9_1 d (by omega)).trans ?_
  refine (offs_word _ _).trans (congrArg (fun n => wd (offsM m c n)) ?_)
  show 1 + d.val = d.val + 1
  omega

variable (ho : Offs (offsM m c))
include ho

theorem word_v2 (d : Fin 9) : (X2 m c main_v2 : IVec S9 32) (ix1 d) = wd (offsM m c d / 256) := by
  have hl := o_le_last ho (show d.val ≤ 9 by omega)
  unfold X2
  rw [st1_main_v2]
  refine Routing.pyDiv_ap bcast_S_S9 _ _ (ix1 d) (word_v0 m c d) ?_ (by omega) (by decide) (by decide)
  unfold X1
  rw [st0_main_c]
  rfl
theorem word_v3 (d : Fin 9) : (X3 m c main_v3 : IVec S9 1) (ix1 d) = BitVec.ofBool (decide (offsM m c d < offsM m c (d + 1))) := by
  have hl := o_le_last ho (show d.val ≤ 9 by omega)
  have hl' := o_le_last ho (show d.val + 1 ≤ 9 by omega)
  unfold X3
  rw [st2_main_v3]
  refine sgt_word _ _ d ?_ ?_ (by omega) (by omega)
  · unfold X2; rw [keep1_main_v1]; exact word_v1 m c d
  · unfold X2; rw [keep1_main_v0]; exact word_v0 m c d
theorem word_v6 (d : Fin 9) (h0 : 0 < offsM m c (d + 1)) : (X4 m c main_v6 : IVec S9 32) (ix1 d) = wd ((offsM m c (d + 1) - 1) / 256) := by
  have hl := o_le_last ho (show d.val + 1 ≤ 9 by omega)
  unfold X4
  rw [st3_main_v6]
  refine Routing.pyDiv_ap bcast_S_S9 _ _ (ix1 d) ?_ ?_ (by omega) (by decide) (by decide)
  · unfold X3
    rw [st2_main_v5]
    refine pred_word bcast_S_S9 _ d ?_ h0
    unfold X2; rw [keep1_main_v1]; exact word_v1 m c d
  · unfold X3
    rw [st2_main_c_1]
    rfl
theorem word_v10 (d : Fin 9) : (X6 m c main_v10 : IVec S9 32) (ix1 d) = wd (cnt (offsM m c) d) := by
  unfold X6
  rw [st5_main_v10]
  unfold X5
  rw [st4_main_v9, st4_main_c_3, keep4_main_v3]
  refine count_word bcast_S_S9 ho _ _ _ d ?_ ?_ fun h0 => word_v6 m c ho d h0
  · unfold X4; rw [keep3_main_v3]; exact word_v3 m c ho d
  · unfold X4 X3; rw [keep3_main_v2, keep2_main_v2]; exact word_v2 m c ho d
theorem word_v11 (d : Fin 9) : (X7 m c main_v11 : IVec S9 32) (ix1 d) = wd (cend (offsM m c) d) := by
  unfold X7
  rw [st6_main_v11]
  exact Routing.cumsum1 (by decide) _ (cnt (offsM m c)) (word_v10 m c ho) _ rfl reduceWindows_S9_S9_w9s1p8_0 h_S_ d
theorem word_v17 (w : Fin 24) : (X8 m c main_v17 : IVec S24 32) (ix1 w) = wd (pos (offsM m c) w) := by
  unfold X8
  rw [st7_main_v17]
  exact pos_word ho shapeCasts_S1_S_ slices_S9_S1_8 bcast_S_S24 _ (word_v11 m c ho 8) w
theorem word_v18 (w : Fin 24) : (X9 m c main_v18 : IVec S24 32) (ix1 w) = wd (dom (offsM m c) w) := by
  unfold X9
  rw [st8_main_v18]
  refine dom_word bcast_S9_S9x1_0 bcast_S9x1_S9x24_0_1 bcast_S24_S1x24_1 bcast_S1x24_S9x24_0_1 natLt_1_32 reducesTo_S9x24_S24_d0 h_S_ ho _ _ ?_ (word_v17 m c ho) w
  intro d; unfold X8; rw [keep7_main_v11]; exact word_v11 m c ho d

/-- An entry picked by the domain of an item. -/
theorem pick (x : IVec S9 32) (w : Fin 24) :
    Host.gather gather_S9_S24x1_S24_n_0_n_n_0_1_1 x (wrapDom (X9 m c main_v18)) (ix1 w) = x (ix1 ⟨dom (offsM m c) w, dom_lt ho w⟩) :=
  pick_word gather_S9_S24x1_S24_n_0_n_n_0_1_1 rfl rfl rfl rfl bcast_S_S24 bcast_S24_S24x1_0 x _ w (dom_lt ho w) (word_v18 m c ho w)

theorem word_v42 (w : Fin 24) : (StableHlo.after hostOps0_9 (X9 m c) main_v42 : IVec S24 32) (ix1 w) = wd (tile (offsM m c) w) := by
  rw [st9_main_v42]
  refine tile_word ho _ _ _ _ w ((pick m c ho _ w).trans ?_) ?_ ((pick m c ho _ w).trans ?_) ((pick m c ho _ w).trans ?_)
  · unfold X9 X8 X7 X6 X5 X4 X3
    rw [keep8_main_v2, keep7_main_v2, keep6_main_v2, keep5_main_v2, keep4_main_v2, keep3_main_v2, keep2_main_v2]
    exact word_v2 m c ho _
  · unfold X9; rw [keep8_main_v17]; exact word_v17 m c ho w
  · unfold X9 X8; rw [keep8_main_v11, keep7_main_v11]; exact word_v11 m c ho _
  · unfold X9 X8 X7; rw [keep8_main_v10, keep7_main_v10, keep6_main_v10]; exact word_v10 m c ho _

/-- The table of tiles. -/
theorem V_tile (w : Fin 24) : (V m c main_v42 : IVec S24 32) (ix1 w) = wd (tile (offsM m c) w) := by
  rw [V_eq]; exact word_v42 m c ho w
/-- The table of domains. -/
theorem V_dom (w : Fin 24) : (V m c main_v18 : IVec S24 32) (ix1 w) = wd (dom (offsM m c) w) := by
  rw [V_eq, keep9_main_v18]; exact word_v18 m c ho w

end Cert.ThirdIdeal.Gen

end
-- ==== Proof.ThirdIdeal.Body.lean ====
/-
  The kernel body run at one point, in each of its four cases: whether the weight product is formed anew, and whether
  the item is the first of its output tile. Each run states what the body leaves in the scratch and in the output block.
-/
module

public import proofs.«01_k».proof.Proof.ThirdIdeal.Kit

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer read whole: its contents. -/
theorem rd {sp : Space} {s : Shape} {e : EltTy} {M : Memref sig .tc sp s e} (h : M.IsWhole) (x : s.Idx → Elt F e) {off : Fin s.rank → ℕ}
    (inb : ∀ a, off a + s.size a ≤ s.size a) : M.view.readAt (Elt F) (Rect.unit off s.size inb).toLoadRect (h.unread x) = x :=
  (View.readAt_full _ _ inb).trans (h.read_unread x)

theorem pay1_congr {a a' : FVec F S256x320 .f32} {u v : BitVec 32} {b b' : Vec F S256x320 .bf16} (ha : a = a') (hb : b = b') :
    k0_pay2 a u v b = k0_pay2 a' u v b' := by subst ha hb; rfl
theorem pay2_congr {a a' : Vec F S1152x320 .fp8e4m3} {b b' : Vec F S1x1152x320 .fp8e4m3} (ha : a = a') (hb : b = b') :
    k0_pay3 (F := F) a b = k0_pay3 a' b' := by subst ha hb; rfl
theorem pay3_congr {a a' : Vec F S256x1152 .fp8e4m3} {b b' : Vec F S1152x320 .bf16} {c c' : Vec F S256x1 .f32} {d d' : Vec F S1x320 .f32}
    {e e' : Vec F S1x1x320 .f32} {f f' : Vec F S1x320 .f32} {g g' : Vec F S1x1x320 .f32}
    (ha : a = a') (hb : b = b') (hc : c = c') (hd : d = d') (he : e = e') (hf : f = f') (hg : g = g') :
    k0_pay4 a b c d e f g = k0_pay4 a' b' c' d' e' f' g' := by subst ha hb hc hd he hf hg; rfl

set_option maxHeartbeats 2000000 in
/-- The weight product is formed anew; the item is the first of its tile. -/
theorem runNewFirst (c : Dev nD) (i : grid0.Coords) (arg5 : Memref sig .tc .vmem S256x1152 .fp8e4m3) (harg5 : arg5.IsWhole) (arg6 : Memref sig .tc .vmem S256x1 .f32) (harg6 : arg6.IsWhole) (arg7 : Memref sig .tc .vmem S1152x320 .fp8e4m3) (harg7 : arg7.IsWhole) (arg8 : Memref sig .tc .vmem S1x320 .f32) (harg8 : arg8.IsWhole) (arg9 : Memref sig .tc .vmem S1x1152x320 .fp8e4m3) (harg9 : arg9.IsWhole) (arg10 : Memref sig .tc .vmem S1x1x320 .f32) (harg10 : arg10.IsWhole) (arg11 : Memref sig .tc .vmem S1x320 .f32) (harg11 : arg11.IsWhole) (arg12 : Memref sig .tc .vmem S1x1x320 .f32) (harg12 : arg12.IsWhole) (arg13 : Memref sig .tc .vmem S256x320 .bf16) (harg13 : arg13.IsWhole) (arg14 : Memref sig .tc .vmem S1152x320 .bf16) (harg14 : arg14.IsWhole)
    (x0 : Vec F S256x1152 .fp8e4m3) (x1 : Vec F S256x1 .f32) (x2 : Vec F S1152x320 .fp8e4m3) (x3 : Vec F S1x320 .f32) (x4 : Vec F S1x1152x320 .fp8e4m3) (x5 : Vec F S1x1x320 .f32) (x6 : Vec F S1x320 .f32) (x7 : Vec F S1x1x320 .f32) (x8 : Vec F S256x320 .bf16) (P : Vec F S1152x320 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay4 x0 (k0_pay3 x2 x4) x1 x3 x5 x6 x7)) ∗ owns (c : Thread nD τ) arg14 fullShare (k0_pay3 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact congrArg k0_pay1 (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _))
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is formed anew; the item is not the first of its tile. -/
theorem runNewNext (c : Dev nD) (i : grid0.Coords) (arg5 : Memref sig .tc .vmem S256x1152 .fp8e4m3) (harg5 : arg5.IsWhole) (arg6 : Memref sig .tc .vmem S256x1 .f32) (harg6 : arg6.IsWhole) (arg7 : Memref sig .tc .vmem S1152x320 .fp8e4m3) (harg7 : arg7.IsWhole) (arg8 : Memref sig .tc .vmem S1x320 .f32) (harg8 : arg8.IsWhole) (arg9 : Memref sig .tc .vmem S1x1152x320 .fp8e4m3) (harg9 : arg9.IsWhole) (arg10 : Memref sig .tc .vmem S1x1x320 .f32) (harg10 : arg10.IsWhole) (arg11 : Memref sig .tc .vmem S1x320 .f32) (harg11 : arg11.IsWhole) (arg12 : Memref sig .tc .vmem S1x1x320 .f32) (harg12 : arg12.IsWhole) (arg13 : Memref sig .tc .vmem S256x320 .bf16) (harg13 : arg13.IsWhole) (arg14 : Memref sig .tc .vmem S1152x320 .bf16) (harg14 : arg14.IsWhole)
    (x0 : Vec F S256x1152 .fp8e4m3) (x1 : Vec F S256x1 .f32) (x2 : Vec F S1152x320 .fp8e4m3) (x3 : Vec F S1x320 .f32) (x4 : Vec F S1x1152x320 .fp8e4m3) (x5 : Vec F S1x1x320 .f32) (x6 : Vec F S1x320 .f32) (x7 : Vec F S1x1x320 .f32) (x8 : Vec F S256x320 .bf16) (P : Vec F S1152x320 .bf16) (xt0 : TbBuf0 (F := F) c tbM0_0) (xt1 : TbBuf0 (F := F) c tbM0_1) (xt2 : TbBuf0 (F := F) c tbM0_2)
    (hc1 : cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay2 (k0_pay4 x0 (k0_pay3 x2 x4) x1 x3 x5 x6 x7) (Scalar.muli (wTile i xt0) 256#32) (wOff (wDom i xt1) (k0_off5_inb i _ _ _ hw hc3) xt2) x8) ∗ owns (c : Thread nD τ) arg14 fullShare (k0_pay3 x2 x4) ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) ((View.readAt_writes_full _ _ _ _ _ _).trans (pay2_congr (rd harg7 x2 _) (rd harg9 x4 _))) (rd harg6 x1 _) (rd harg8 x3 _) (rd harg10 x5 _) (rd harg11 x6 _) (rd harg12 x7 _)) (rd harg13 x8 _)
    isplitl [H9]
    · iexists _; isplitr; swap; · iexact H9
      ipureintro
      exact (View.read_writes_full _ _ _ _ _).trans (pay2_congr (rd harg7 x2 _) (rd harg9 x4 _))
    isplitl [HT0]; · iexact HT0
    isplitl [HT1]; · iexact HT1
    iexact HT2

set_option maxHeartbeats 2000000 in
/-- The weight product is kept; the item is the first of its tile. -/
theorem runOldFirst (c : Dev nD) (i : grid0.Coords) (arg5 : Memref sig .tc .vmem S256x1152 .fp8e4m3) (harg5 : arg5.IsWhole) (arg6 : Memref sig .tc .vmem S256x1 .f32) (harg6 : arg6.IsWhole) (arg7 : Memref sig .tc .vmem S1152x320 .fp8e4m3) (harg7 : arg7.IsWhole) (arg8 : Memref sig .tc .vmem S1x320 .f32) (harg8 : arg8.IsWhole) (arg9 : Memref sig .tc .vmem S1x1152x320 .fp8e4m3) (harg9 : arg9.IsWhole) (arg10 : Memref sig .tc .vmem S1x1x320 .f32) (harg10 : arg10.IsWhole) (arg11 : Memref sig .tc .vmem S1x320 .f32) (harg11 : arg11.IsWhole) (arg12 : Memref sig .tc .vmem S1x1x320 .f32) (harg12 : arg12.IsWhole) (arg13 : Memref sig .tc .vmem S256x320 .bf16) (harg13 : arg13.IsWhole) (arg14 : Memref sig .tc .vmem S1152x320 .bf16) (harg14 : arg14.IsWhole)
    (x0 : Vec F S256x1152 .fp8e4m3) (x1 : Vec F S256x1 .f32) (x2 : Vec F S1152x320 .fp8e4m3) (x3 : Vec F S1x320 .f32) (x4 : Vec F S1x1152x320 .fp8e4m3) (x5 : Vec F S1x1x320 .f32) (x6 : Vec F S1x320 .f32) (x7 : Vec F S1x1x320 .f32) (x8 : Vec F S256x320 .bf16) (P : Vec F S1152x320 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : k0_cond2 i (wTile i xt0) (wTileP i xt0) = 1#1) (hc3 : ¬k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay1 (k0_pay4 x0 P x1 x3 x5 x6 x7)) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact congrArg k0_pay1 (pay3_congr (rd harg5 x0 _) (rd harg14 P _) (rd harg6 x1 _) (rd harg8 x3 _) (rd harg10 x5 _) (rd harg11 x6 _) (rd harg12 x7 _))
    isplitl [H9]
    · iexists _; isplitr; swap; · iexact H9
      ipureintro
      exact harg14.read_unread _
    isplitl [HT0]; · iexact HT0
    isplitl [HT1]; · iexact HT1
    iexact HT2

set_option maxHeartbeats 2000000 in
/-- The weight product is kept; the item is not the first of its tile. -/
theorem runOldNext (c : Dev nD) (i : grid0.Coords) (arg5 : Memref sig .tc .vmem S256x1152 .fp8e4m3) (harg5 : arg5.IsWhole) (arg6 : Memref sig .tc .vmem S256x1 .f32) (harg6 : arg6.IsWhole) (arg7 : Memref sig .tc .vmem S1152x320 .fp8e4m3) (harg7 : arg7.IsWhole) (arg8 : Memref sig .tc .vmem S1x320 .f32) (harg8 : arg8.IsWhole) (arg9 : Memref sig .tc .vmem S1x1152x320 .fp8e4m3) (harg9 : arg9.IsWhole) (arg10 : Memref sig .tc .vmem S1x1x320 .f32) (harg10 : arg10.IsWhole) (arg11 : Memref sig .tc .vmem S1x320 .f32) (harg11 : arg11.IsWhole) (arg12 : Memref sig .tc .vmem S1x1x320 .f32) (harg12 : arg12.IsWhole) (arg13 : Memref sig .tc .vmem S256x320 .bf16) (harg13 : arg13.IsWhole) (arg14 : Memref sig .tc .vmem S1152x320 .bf16) (harg14 : arg14.IsWhole)
    (x0 : Vec F S256x1152 .fp8e4m3) (x1 : Vec F S256x1 .f32) (x2 : Vec F S1152x320 .fp8e4m3) (x3 : Vec F S1x320 .f32) (x4 : Vec F S1x1152x320 .fp8e4m3) (x5 : Vec F S1x1x320 .f32) (x6 : Vec F S1x320 .f32) (x7 : Vec F S1x1x320 .f32) (x8 : Vec F S256x320 .bf16) (P : Vec F S1152x320 .bf16) (xt0 : TbBuf0 (F := F) c tbM0_0) (xt1 : TbBuf0 (F := F) c tbM0_1) (xt2 : TbBuf0 (F := F) c tbM0_2)
    (hc1 : ¬cond0_0 i (wDom i xt1) (wDomP i xt1)) (hw : k0_chk1 i (wDom i xt1) (wTile i xt0) (wTileP i xt0))
    (hc2 : ¬k0_cond2 i (wTile i xt0) (wTileP i xt0) = 1#1) (hc3 : k0_cond3 i (wTile i xt0) (wTileP i xt0) = 1#1) :
      ∀ (E : Set ℕ) (Q : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare P ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare (k0_pay2 (k0_pay4 x0 P x1 x3 x5 x6 x7) (Scalar.muli (wTile i xt0) 256#32) (wOff (wDom i xt1) (k0_off5_inb i _ _ _ hw hc3) xt2) x8) ∗ owns (c : Thread nD τ) arg14 fullShare P ∗ tbPt0 c tbM0_0 xt0 ∗ tbPt0 c tbM0_1 xt1 ∗ tbPt0 c tbM0_2 xt2) -∗ Q ⟨⟩))
          ⊢ wp frame (wpE (defs₀ (F := F)) Variants.none c none) E (cc0_star_fc i tbM0_0 htbM0_0 tbM0_1 htbM0_1 tbM0_2 htbM0_2 arg5 harg5 arg6 harg6 arg7 harg7 arg8 harg8 arg9 harg9 arg10 harg10 arg11 harg11 arg12 harg12 arg13 harg13 arg14 harg14) Q := by
    intro E Q
    simp only [cc0_star_fc_eq_skeleton]; unfold cc0_star_fc_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc1 | sl_exact hc2 | sl_exact hc3 | sl_exact hw)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; swap; · iexact H8
      ipureintro
      refine (View.read_writes_full _ _ _ _ _).trans ?_
      sl_unfold_words
      exact pay1_congr (pay3_congr (rd harg5 x0 _) (rd harg14 P _) (rd harg6 x1 _) (rd harg8 x3 _) (rd harg10 x5 _) (rd harg11 x6 _) (rd harg12 x7 _)) (rd harg13 x8 _)
    isplitl [H9]
    · iexists _; isplitr; swap; · iexact H9
      ipureintro
      exact harg14.read_unread _
    isplitl [HT0]; · iexact HT0
    isplitl [HT1]; · iexact HT1
    iexact HT2

end Cert.ThirdIdeal.Gen

end
-- ==== Proof.ThirdIdeal.Data.lean ====
/-
  The run of the whole grid. What the body leaves at a point is named by recursion on the point (`aft`): the product rows
  of the item (`rowsAt`), or, where the item is not the first of its tile, those rows from the domain's first row on and
  the rows left before above them. The scratch holds the weight product of the last point's blocks (`scrOK`).
-/
module

public import proofs.«01_k».proof.Proof.ThirdIdeal.Body
public import proofs.«01_k».proof.Proof.ThirdIdeal.Words

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side condition the body assumes at every point: the domain it reads the offset of lies in the table. -/
def Hyps (hO : Ok m) : Prop :=
  ∀ t : Fin (cfgM m hO).N, k0_chk1 (grid0.coords t) (wDom (grid0.coords t) (tb1 m)) (wTile (grid0.coords t) (tb0 m)) (wTileP (grid0.coords t) (tb0 m))

/-- The weight product of point `t`'s blocks. -/
def prodAt (hO : Ok m) (c : Dev nD) (t : Fin (cfgM m hO).N) : FVec F S1152x320 .bf16 := k0_pay3 (iblk m hO c 2 t) (iblk m hO c 4 t)

/-- The rows the body computes at point `t`. -/
def rowsAt (hO : Ok m) (c : Dev nD) (t : Fin (cfgM m hO).N) : FVec F S256x320 .f32 :=
  k0_pay4 (iblk m hO c 0 t) (prodAt m hO c t) (iblk m hO c 1 t) (iblk m hO c 3 t) (iblk m hO c 5 t) (iblk m hO c 6 t) (iblk m hO c 7 t)

/-- What the output block holds after a point that finds `old` in it. -/
def stepAt (hO : Ok m) (hH : Hyps m hO) (c : Dev nD) (t : Fin (cfgM m hO).N) (old : FVec F S256x320 .bf16) : FVec F S256x320 .bf16 :=
  if h : k0_cond3 (grid0.coords t) (wTile (grid0.coords t) (tb0 m)) (wTileP (grid0.coords t) (tb0 m)) = 1#1 then
    k0_pay2 (rowsAt m hO c t) (Scalar.muli (wTile (grid0.coords t) (tb0 m)) 256#32) (wOff (wDom (grid0.coords t) (tb1 m)) (k0_off5_inb (grid0.coords t) _ _ _ (hH t) h) (tb2 m)) old
  else (k0_pay1 (rowsAt m hO c t))

/-- What the output block holds after point `n`. -/
def aft (hO : Ok m) (hH : Hyps m hO) (c : Dev nD) : (n : ℕ) → (hn : n < (cfgM m hO).N) → FVec F S256x320 .bf16
  | 0, hn => k0_pay1 (rowsAt m hO c ⟨0, hn⟩)
  | n + 1, hn => stepAt m hO hH c ⟨n + 1, hn⟩ (aft hO hH c n (Nat.lt_of_succ_lt hn))

/-- What the scratch holds before point `t`: after the first point, the product of the last point's blocks. -/
def scrOK (hO : Ok m) (c : Dev nD) (t : ℕ) (P : FVec F S1152x320 .bf16) : Prop :=
  ∀ n (hn : n < (cfgM m hO).N), n + 1 = t → P = prodAt m hO c ⟨n, hn⟩

/-- The invariant before point `n`: the scratch as `scrOK` says, the generator register, the tables' halves. -/
def PhiAt (hO : Ok m) (c : Dev nD) (n : ℕ) : sProp 𝕄 :=
  iprop(iprop((∃ P, ⌜scrOK m hO c n P⌝ ∗ owns (c : Thread nD τ) scM0_0 fullShare P) ∗ (∃ r, prngReg c r)) ∗ Pipeline.ΦT pre0 (tbl m) c)

/-- The pipeline's proof data. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => aft m hO hH c t.val t.isLt
  Φ t := PhiAt m hO c t.val
  q _ := fullShare
  owed _ := 0

theorem A_eq (hO : Ok m) (hH : Hyps m hO) (c : Dev nD) (w : Fin (cfgM m hO).W) : (dats m hO hH 0 c).A w = V m c (Pipeline.arrRef spec0 w) := by
  dsimp only [dats]
theorem Phi_eq (hO : Ok m) (hH : Hyps m hO) (c : Dev nD) (t) : (dats m hO hH 0 c).Φ t = PhiAt m hO c t.val := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = aft m hO hH c t.val t.isLt := by dsimp only [dats]; try rfl
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## Consecutive points of one output tile, and of one domain -/

theorem fetched_iblk2 (hO : Ok m) (hH : Hyps m hO) (c : Dev nD) (t : Fin (cfgM m hO).N) (d) : (dats m hO hH 0 c).fetched 2 t d = iblk m hO c 2 t := by
  unfold Dat.fetched Dat.blockOf iblk; rw [A_eq m hO hH c 2]; try rfl
theorem fetched_iblk4 (hO : Ok m) (hH : Hyps m hO) (c : Dev nD) (t : Fin (cfgM m hO).N) (d) : (dats m hO hH 0 c).fetched 4 t d = iblk m hO c 4 t := by
  unfold Dat.fetched Dat.blockOf iblk; rw [A_eq m hO hH c 4]; try rfl

/-- Where the weight product is kept, it is the product of the point's own blocks. -/
theorem prodAt_eq (hO : Ok m) (hH : Hyps m hO) (c : Dev nD) (n : ℕ) (hn : n + 1 < (cfgM m hO).N)
    (h : ¬cond0_0 (grid0.coords ⟨n + 1, hn⟩) (wDom (grid0.coords ⟨n + 1, hn⟩) (tb1 m)) (wDomP (grid0.coords ⟨n + 1, hn⟩) (tb1 m))) :
    prodAt m hO c ⟨n + 1, hn⟩ = prodAt m hO c ⟨n, Nat.lt_of_succ_lt hn⟩ := by
  rw [cond0_iff, wDom_eq, wDomP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i2 : ((cfgM m hO).win 2).index ⟨n + 1, hn⟩ = ((cfgM m hO).win 2).index ⟨n, Nat.lt_of_succ_lt hn⟩ := by
    show cc0_transform_2 (grid0.coords ⟨n + 1, hn⟩) = cc0_transform_2 (grid0.coords ⟨n, Nat.lt_of_succ_lt hn⟩)
    rw [tr2_eq, tr2_eq, h0]
  have i4 : ((cfgM m hO).win 4).index ⟨n + 1, hn⟩ = ((cfgM m hO).win 4).index ⟨n, Nat.lt_of_succ_lt hn⟩ := by
    show cc0_transform_4 k0_off1_inb numel1_S1 (tbl m) (grid0.coords ⟨n + 1, hn⟩) = cc0_transform_4 k0_off1_inb numel1_S1 (tbl m) (grid0.coords ⟨n, Nat.lt_of_succ_lt hn⟩)
    exact tr4_congr (tbl m) _ _ h0 h2
  have b2 : iblk m hO c 2 ⟨n + 1, hn⟩ = iblk m hO c 2 ⟨n, Nat.lt_of_succ_lt hn⟩ :=
    (fetched_iblk2 m hO hH c _ (iblk m hO c 2 ⟨n, Nat.lt_of_succ_lt hn⟩)).symm.trans
      (((dats m hO hH 0 c).fetched_congr 2 i2 rfl _).trans (fetched_iblk2 m hO hH c _ _))
  have b4 : iblk m hO c 4 ⟨n + 1, hn⟩ = iblk m hO c 4 ⟨n, Nat.lt_of_succ_lt hn⟩ :=
    (fetched_iblk4 m hO hH c _ (iblk m hO c 4 ⟨n, Nat.lt_of_succ_lt hn⟩)).symm.trans
      (((dats m hO hH 0 c).fetched_congr 4 i4 rfl _).trans (fetched_iblk4 m hO hH c _ _))
  exact pay2_congr b2 b4

theorem cond3_pos (hO : Ok m) (t : Fin (cfgM m hO).N)
    (h : k0_cond3 (grid0.coords t) (wTile (grid0.coords t) (tb0 m)) (wTileP (grid0.coords t) (tb0 m)) = 1#1) : t.val ≠ 0 := by
  rw [cond3_iff] at h
  intro e
  refine h (.inl ?_)
  rw [coords1 t, e]

/-- Where the item is not the first of its tile, the output block is the one of the point before. -/
theorem flush_false (hO : Ok m) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) :
    ((cfgM m hO).win 8).flush ⟨n, Nat.lt_of_succ_lt hn⟩ = false := by
  rw [cond3_iff, wTile_eq, wTileP_eq] at h
  have h1 : (grid0.coords ⟨n + 1, hn⟩ 1).val ≠ 0 := fun e => h (.inl e)
  have h2 := not_not.mp fun e => h (.inr e)
  have e1 := coords1 ⟨n + 1, hn⟩
  have e2 := coords1 ⟨n, Nat.lt_of_succ_lt hn⟩
  have e3 := coords0 ⟨n + 1, hn⟩
  have e4 := coords0 ⟨n, Nat.lt_of_succ_lt hn⟩
  have hp : prev24 (grid0.coords ⟨n + 1, hn⟩ 1) = grid0.coords ⟨n, Nat.lt_of_succ_lt hn⟩ 1 := Fin.ext (by
    show (grid0.coords ⟨n + 1, hn⟩ 1).val - 1 = _
    rw [e1, e2] ; rw [e1] at h1; simp only at h1 ⊢; omega)
  have h0 : grid0.coords ⟨n + 1, hn⟩ 0 = grid0.coords ⟨n, Nat.lt_of_succ_lt hn⟩ 0 := Fin.ext (by
    rw [e3, e4]; rw [e1] at h1; simp only at h1 ⊢; omega)
  rw [hp] at h2
  have i8 : ((cfgM m hO).win 8).index ⟨n + 1, hn⟩ = ((cfgM m hO).win 8).index ⟨n, Nat.lt_of_succ_lt hn⟩ := by
    show cc0_transform_8 k0_off1_inb numel1_S1 (tbl m) (grid0.coords ⟨n + 1, hn⟩) = cc0_transform_8 k0_off1_inb numel1_S1 (tbl m) (grid0.coords ⟨n, Nat.lt_of_succ_lt hn⟩)
    exact tr8_congr (tbl m) _ _ h0 h2
  have hd : ¬ (n + 1 = (cfgM m hO).grid.N) := Nat.ne_of_lt hn
  unfold Pipeline.Window.flush
  rw [decide_eq_false hd, decide_eq_false (fun ⟨_, e⟩ => e i8)]
  exact Bool.and_false _

theorem idle_bits (i : grid0.Coords) (a b : BitVec 32) : (!(k0_cond2 i a b == 1#1) && !(k0_cond3 i a b == 1#1)) = false := by
  by_cases h : (i 1).val = 0 ∨ a ≠ b
  · rw [(cond2_iff i a b).mpr h]; rfl
  · rw [(cond3_iff i a b).mpr h]; exact Bool.and_false _
theorem idle8 (hO : Ok m) (i : grid0.Coords) : (cfgM m hO).idle 8 i = false := idle_bits i _ _

/-- Where the item is not the first of its tile the output block holds what the point before left. -/
theorem before0_8 (hO : Ok m) (hH : Hyps m hO) (c : Dev nD) (n : ℕ) (hn : n + 1 < (cfgM m hO).N)
    (h : k0_cond3 (grid0.coords ⟨n + 1, hn⟩) (wTile (grid0.coords ⟨n + 1, hn⟩) (tb0 m)) (wTileP (grid0.coords ⟨n + 1, hn⟩) (tb0 m)) = 1#1) (d) :
    (dats m hO hH 0 c).before 8 ⟨n + 1, hn⟩ d = aft m hO hH c n (Nat.lt_of_succ_lt hn) :=
  ((dats m hO hH 0 c).before_out_kept 8 rfl ⟨n + 1, hn⟩ (Nat.succ_ne_zero n) (flush_false m hO n hn h) (idle8 m hO) (fun _ _ => rfl) d).trans
    (after0_8 m hO hH c _)

theorem aft_step (hO : Ok m) (hH : Hyps m hO) (c : Dev nD) (t : Fin (cfgM m hO).N) (d) :
    stepAt m hO hH c t ((dats m hO hH 0 c).before 8 t d) = aft m hO hH c t.val t.isLt := by
  obtain ⟨n, hn⟩ := t
  cases n with
  | zero =>
    unfold stepAt
    rw [dif_neg (fun h => cond3_pos m hO ⟨0, hn⟩ h rfl)]
    rfl
  | succ n =>
    show _ = stepAt m hO hH c ⟨n + 1, hn⟩ (aft m hO hH c n (Nat.lt_of_succ_lt hn))
    by_cases h : k0_cond3 (grid0.coords ⟨n + 1, hn⟩) (wTile (grid0.coords ⟨n + 1, hn⟩) (tb0 m)) (wTileP (grid0.coords ⟨n + 1, hn⟩) (tb0 m)) = 1#1
    · rw [before0_8 m hO hH c n hn h d]
    · unfold stepAt; rw [dif_neg h, dif_neg h]

/-- Where the weight product is kept, the scratch holds the point's own product. -/
theorem scr_kept (hO : Ok m) (hH : Hyps m hO) (c : Dev nD) (t : Fin (cfgM m hO).N) (P : FVec F S1152x320 .bf16) (hP : scrOK m hO c t.val P)
    (h : ¬cond0_0 (grid0.coords t) (wDom (grid0.coords t) (tb1 m)) (wDomP (grid0.coords t) (tb1 m))) : P = prodAt m hO c t := by
  obtain ⟨n, hn⟩ := t
  cases n with
  | zero => exact absurd ((cond0_iff _ _ _).mpr (.inl (coords1 ⟨0, hn⟩))) h
  | succ n => exact (hP n (Nat.lt_of_succ_lt hn) rfl).trans (prodAt_eq m hO hH c n hn h).symm

theorem scr_next (hO : Ok m) (c : Dev nD) (t : Fin (cfgM m hO).N) : scrOK m hO c (t.val + 1) (prodAt m hO c t) := by
  intro n hn e
  obtain rfl : n = t.val := Nat.succ.inj e
  rfl

end Cert.ThirdIdeal.Gen

end
-- ==== Proof.ThirdIdeal.Tables.lean ====
/-
  The tables the kernel prefetches, as numbers; every block they name lies in its array, and the side condition the
  body assumes holds, once the offsets are nondecreasing from 0 to 4096.
-/
module

public import proofs.«01_k».proof.Proof.ThirdIdeal.Host
public import proofs.«01_k».proof.Proof.ThirdIdeal.Data

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (m : (ℓ : Loc nD τ sig) → Buf (Elt F) ℓ) (ho : Offs (offsM m 0))
include ho

theorem tb0_word (w : Fin 24) : tb0 m (ix1 w) = wd (tile (offsM m 0) w) :=
  (congrFun (tbl_def m 0) _).trans (V_tile m 0 ho w)
theorem tb1_word (w : Fin 24) : tb1 m (ix1 w) = wd (dom (offsM m 0) w) :=
  (congrFun (tbl_def m 1) _).trans (V_dom m 0 ho w)
omit ho in
theorem tb2_word (d : Fin 10) : tb2 m (ix1 d) = wd (offsM m 0 d) :=
  (congrFun ((tbl_def m 2).trans (V_main_arg0 m 0)) _).trans (offs_word _ d)

omit ho [FloatOps F] in
theorem toNat_wd (n : ℕ) (h : n < 2 ^ 32) : (wd n).toNat = n := by
  rw [BitVec.toNat_ofNat, Nat.mod_eq_of_lt h]

/-- The tile and the domain the index maps read at a point. -/
theorem tile_at (w : Fin 24) : ((tbl m 0 : S24.Idx → BitVec 32) (ix1 w)).toNat = tile (offsM m 0) w := by
  have h := tile_lt ho w
  exact (congrArg BitVec.toNat (tb0_word m ho w)).trans (toNat_wd _ (by omega))
theorem dom_at (w : Fin 24) : ((tbl m 1 : S24.Idx → BitVec 32) (ix1 w)).toNat = dom (offsM m 0) w := by
  have h := dom_lt ho w
  exact (congrArg BitVec.toNat (tb1_word m ho w)).trans (toNat_wd _ (by omega))

theorem blocks_ok : Ok m := by
  have key : ∀ i : grid0.Coords, ((tbl m 0 : S24.Idx → BitVec 32) (ix1 (i 1))).toNat = tile (offsM m 0) (i 1)
      ∧ ((tbl m 1 : S24.Idx → BitVec 32) (ix1 (i 1))).toNat = dom (offsM m 0) (i 1)
      ∧ tile (offsM m 0) (i 1) < 16 ∧ dom (offsM m 0) (i 1) < 9 ∧ (i 0).val < 1 :=
    fun i => ⟨tile_at m ho (i 1), dom_at m ho (i 1), tile_lt ho _, dom_lt ho _, (i 0).isLt⟩
  refine ⟨fun i => ?_, fun i => ?_, fun i => ?_, fun i => ?_, fun i => ?_, fun i => ?_⟩ <;> obtain ⟨hTile, hDom, h16, h9, h7⟩ := key i
  · refine ⟨?_, .inr (.inl (.inr ⟨by decide, rfl, .inl ⟨Dvd.dvd.mul_left (show (4 : ℕ) ∣ 256 by decide) _, by show (4 : ℕ) ∣ 256; decide⟩⟩))⟩
    · intro a
      rw [tr0_eq, hTile]
      match a with
      | ⟨0, _⟩ => show (tile (offsM m 0) (i 1) + 1) * 256 ≤ 4096; omega
      | ⟨1, _⟩ => show (0 + 1) * 1152 ≤ 1152; omega
  · refine ⟨?_, .inl rfl⟩
    · intro a
      rw [tr1_eq, hTile]
      match a with
      | ⟨0, _⟩ => show (tile (offsM m 0) (i 1) + 1) * 256 ≤ 4096; omega
      | ⟨1, _⟩ => show (0 + 1) * 1 ≤ 1; omega
  · refine ⟨?_, .inr (.inl (.inr ⟨by decide, rfl, .inl ⟨Dvd.dvd.mul_left (show (4 : ℕ) ∣ 1152 by decide) _, by show (4 : ℕ) ∣ 1152; decide⟩⟩))⟩
    · intro a
      rw [tr4_eq, hDom]
      match a with
      | ⟨0, _⟩ => show (dom (offsM m 0) (i 1) + 1) * 1 ≤ 9; omega
      | ⟨1, _⟩ => show (0 + 1) * 1152 ≤ 1152; omega
      | ⟨2, _⟩ => show ((i 0).val + 1) * 320 ≤ 320; omega
  · refine ⟨?_, .inl rfl⟩
    · intro a
      rw [tr5_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 320 ≤ 320; omega
  · refine ⟨?_, .inl rfl⟩
    · intro a
      rw [tr7_eq, hDom]
      match a with
      | ⟨0, _⟩ => show (dom (offsM m 0) (i 1) + 1) * 1 ≤ 9; omega
      | ⟨1, _⟩ => show (0 + 1) * 1 ≤ 1; omega
      | ⟨2, _⟩ => show ((i 0).val + 1) * 320 ≤ 320; omega
  · refine ⟨?_, .inr (.inl (.inr ⟨by decide, rfl, .inl ⟨Dvd.dvd.mul_left (show (2 : ℕ) ∣ 256 by decide) _, by show (2 : ℕ) ∣ 256; decide⟩⟩))⟩
    · intro a
      rw [tr8_eq, hTile]
      match a with
      | ⟨0, _⟩ => show (tile (offsM m 0) (i 1) + 1) * 256 ≤ 4096; omega
      | ⟨1, _⟩ => show ((i 0).val + 1) * 320 ≤ 320; omega

theorem side_ok (hO : Ok m) : Hyps m hO := by
  intro t
  unfold k0_chk1
  intro _ a
  have h := dom_lt ho ((grid0.coords t 1).val)
  have e : (wDom (grid0.coords t) (tb1 m)).toNat = dom (offsM m 0) (grid0.coords t 1) := by
    exact (congrArg BitVec.toNat ((wDom_eq _ _).trans (tb1_word m ho _))).trans (toNat_wd _ (by omega))
  match a with
  | ⟨0, _⟩ =>
    show (wDom (grid0.coords t) (tb1 m)).toNat + 1 ≤ 10
    omega

end Cert.ThirdIdeal.Gen

end
-- ==== Proof.ThirdIdeal.Point.lean ====
/-
  The body run at any point of the grid: the four cases of the body put together.
-/
module

public import proofs.«01_k».proof.Proof.ThirdIdeal.Data

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 3200000 in
/-- The body at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).owesAt () t.succ = (dats m hO hH 0 c).owesAt () t.castSucc from rfl,
    after0_0, after0_1, after0_2, after0_3, after0_4, after0_5, after0_6, after0_7, after0_8]
  rw [Phi_eq, Phi_eq, Fin.val_castSucc, Fin.val_succ]
  unfold PhiAt
  rw [PhiT0_eq]
  iintro ⟨⟨⟨⟨%P, %hP, HS0⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← aft_step m hO hH c t d8]
  by_cases hc1 : cond0_0 (grid0.coords t) (wDom (grid0.coords t) (tb1 m)) (wDomP (grid0.coords t) (tb1 m)) <;>
  by_cases hc3 : k0_cond3 (grid0.coords t) (wTile (grid0.coords t) (tb0 m)) (wTileP (grid0.coords t) (tb0 m)) = 1#1
  · have hc2 : ¬k0_cond2 (grid0.coords t) (wTile (grid0.coords t) (tb0 m)) (wTileP (grid0.coords t) (tb0 m)) = 1#1 := by
      rw [cond2_iff]; rw [cond3_iff] at hc3; exact hc3
    rw [show stepAt m hO hH c t ((dats m hO hH 0 c).before 8 t d8) = _ from dif_pos hc3]
    iapply ((runNewNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    rw [show stepAt m hO hH c t ((dats m hO hH 0 c).before 8 t d8) = _ from dif_neg hc3]
    iapply ((runNewFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) P (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : ¬k0_cond2 (grid0.coords t) (wTile (grid0.coords t) (tb0 m)) (wTileP (grid0.coords t) (tb0 m)) = 1#1 := by
      rw [cond2_iff]; rw [cond3_iff] at hc3; exact hc3
    obtain rfl := scr_kept m hO hH c t P hP hc1
    rw [show stepAt m hO hH c t ((dats m hO hH 0 c).before 8 t d8) = _ from dif_pos hc3]
    iapply ((runOldNext c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc2 : k0_cond2 (grid0.coords t) (wTile (grid0.coords t) (tb0 m)) (wTileP (grid0.coords t) (tb0 m)) = 1#1 := by
      rw [cond2_iff]; rw [cond3_iff] at hc3; exact not_not.mp hc3
    obtain rfl := scr_kept m hO hH c t P hP hc1
    rw [show stepAt m hO hH c t ((dats m hO hH 0 c).before 8 t d8) = _ from dif_neg hc3]
    iapply ((runOldFirst c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) ((dats m hO hH 0 c).before 8 t d8) (prodAt m hO c t) (tb0 m) (tb1 m) (tb2 m) hc1 (hH t) hc2 hc3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HT0]; · iexact HT0
    isplitl [HT1]; · iexact HT1
    isplitl [HT2]; · iexact HT2
    iintro ⟨H0, H1, H2, H3, H4, H5, H6, H7, H8, HS0, HT0, HT1, HT2⟩
    isplitl [HS0 Hg HT0 HT1 HT2]
    · isplitl [HS0 Hg]
      · isplitl [HS0]
        · iexists _; isplitr; swap; · iexact HS0
          ipureintro; exact scr_next m hO c t
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.ThirdIdeal.Gen

end
-- ==== Proof.ThirdIdeal.Run.lean ====
/-
  The launch: the run of the program, its arguments unchanged and its result as the write-backs leave it.
-/
module

public import proofs.«01_k».proof.Proof.ThirdIdeal.Point

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  refine triple_restated (sound_body m hO hH c t) rfl .rfl fun _ => ?_
  dsimp only
  generalize hb : idle0 (tbl m) 8 _ = b
  obtain rfl : b = false := hb.symm.trans (idle8 m hO _)
  exact .rfl

/-! ## The launch -/

/-- The scratch, whatever it holds, is as the region begins with it. -/
theorem Phi_in (hO : Ok m) (hH : Hyps m hO) (c : Dev nD) :
    iprop(Pipeline.ΦA spec0 c ∗ Pipeline.ΦT pre0 (tbl m) c) ⊢ (dats m hO hH 0 c).Φ 0 := by
  rw [Phi_eq]; unfold PhiAt; rw [PhiA0_eq]
  iintro ⟨⟨⟨%P, HS⟩, Hg⟩, HT⟩
  isplitl [HS Hg]
  · isplitl [HS]
    · iexists P; isplitr; swap; · iexact HS
      ipureintro; exact fun n hn e => absurd e (Nat.succ_ne_zero n)
    iexact Hg
  iexact HT

theorem Phi_out (hO : Ok m) (hH : Hyps m hO) (c : Dev nD) :
    (dats m hO hH 0 c).Φ (Fin.last (cfgM m hO).N) ⊢ Pipeline.ΦA spec0 c := by
  rw [Phi_eq]; unfold PhiAt; rw [PhiA0_eq]
  iintro ⟨⟨⟨%P, %hP, HS⟩, Hg⟩, HT⟩
  iclear HT
  isplitl [HS]
  · iexists P; iexact HS
  iexact Hg

set_option maxHeartbeats 1600000 in
set_option backward.isDefEq.respectTransparency.types false in
theorem run_main (hO : Ok m) (hH : Hyps m hO) : θ_run defs (onTc (τ := τ) (main (F := F))) (s₀ m ρ)
    (fun r => Pipeline.FramePost (Pipeline.pin pcfgs fun _ => adm m hO) (dats m hO hH) (0 : Fin 1) (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := Phi_in m hO hH) (hout := Phi_out m hO hH)

theorem rest_main_arg0 : main_arg0 ∈ Pipeline.restRefs sig spec0 := Pipeline.mem_restRefs_of main_arg0 (by decide) (by decide)
theorem rest_main_arg4 : main_arg4 ∈ Pipeline.restRefs sig spec0 := Pipeline.mem_restRefs_of main_arg4 (by decide) (by decide)
theorem rest_main_arg6 : main_arg6 ∈ Pipeline.restRefs sig spec0 := Pipeline.mem_restRefs_of main_arg6 (by decide) (by decide)
theorem rest_main_arg7 : main_arg7 ∈ Pipeline.restRefs sig spec0 := Pipeline.mem_restRefs_of main_arg7 (by decide) (by decide)
theorem rest_main_arg8 : main_arg8 ∈ Pipeline.restRefs sig spec0 := Pipeline.mem_restRefs_of main_arg8 (by decide) (by decide)
/-- The run: the arguments end as they were, the result as the write-backs leave it, every counter at zero. -/
theorem run_result (hO : Ok m) (hH : Hyps m hO) : θ_run defs (onTc (τ := τ) (main (F := F))) ⟨m, fun _ => 0, ρ⟩ (fun r => (∀ c : Dev nD,
      r.2.mem ((c.tc : Thread nD τ).loc main_v47) = (dats m hO hH 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 8, ((h.1 c).2 main_arg0 rest_main_arg0).trans (V_main_arg0 m c), ((h.1 c).1 0).trans (((dats m hO hH 0 c).arrAt_in 0 rfl _).trans ((A_eq m hO hH c 0).trans (V_main_arg1 m c))), ((h.1 c).1 1).trans (((dats m hO hH 0 c).arrAt_in 1 rfl _).trans ((A_eq m hO hH c 1).trans (V_main_arg2 m c))), ((h.1 c).1 2).trans (((dats m hO hH 0 c).arrAt_in 2 rfl _).trans ((A_eq m hO hH c 2).trans (V_main_arg3 m c))), ((h.1 c).2 main_arg4 rest_main_arg4).trans (V_main_arg4 m c), ((h.1 c).1 4).trans (((dats m hO hH 0 c).arrAt_in 4 rfl _).trans ((A_eq m hO hH c 4).trans (V_main_arg5 m c))), ((h.1 c).2 main_arg6 rest_main_arg6).trans (V_main_arg6 m c), ((h.1 c).2 main_arg7 rest_main_arg7).trans (V_main_arg7 m c), ((h.1 c).2 main_arg8 rest_main_arg8).trans (V_main_arg8 m c)⟩, h.2⟩) (run_main m ρ hO hH)

end Cert.ThirdIdeal.Gen

end
-- ==== Proof.ThirdIdeal.Frame.lean ====
module

public import proofs.«01_k».proof.Defs
public import proofs.«01_k».proof.Proof.Gen.Third
public import proofs.«01_k».proof.Proof.Gen.Pre_offsets_cover_3
public import proofs.«01_k».proof.Proof.ThirdIdeal.Tables
public import proofs.«01_k».proof.Proof.ThirdIdeal.Run

/-!
# The runs of `Third` and `ThirdIdeal`

From the precondition on the offsets: the program terminates without a fault, leaves its arguments as they were, and every
semaphore counter ends at zero. `Third` is the text of `ThirdIdeal` printed a second time, since the ideal pass rewrote nothing,
so the run proved for any float type serves both.
-/

@[expose] public section

set_option maxRecDepth 16384

noncomputable section

namespace Cert.Frames

open Idealize.ShloMosaic Idealize.SL.Sem Cert.HostWords Cert.WorkList

theorem offs_ThirdIdeal (m : (ℓ : Loc Cert.ThirdIdeal.nD Cert.ThirdIdeal.τ Cert.ThirdIdeal.sig) → Buf (Elt Ideal) ℓ)
    (h : @Cert.Pre_ThirdIdeal Cert.Pre_offsets_cover_3.Gen.facts m) (c : Dev Cert.ThirdIdeal.nD) : Offs (Cert.ThirdIdeal.Gen.offsM m c) :=
  letI := Cert.Pre_offsets_cover_3.Gen.facts
  offs_of_pre _ _ _ _ _ _ (h c).1 (h c).2.1 (h c).2.2

theorem frame_ThirdIdeal : @Cert.quiescent_ThirdIdeal Cert.ThirdIdeal.Gen.facts Cert.Pre_offsets_cover_3.Gen.facts := fun m g hp =>
  have ho := offs_ThirdIdeal m hp 0
  have hO := Cert.ThirdIdeal.Gen.blocks_ok m ho
  (θ_run _ _ _).mono (fun _ h => ⟨fun c => (h.1 c).2, h.2⟩) (Cert.ThirdIdeal.Gen.run_result m g hO (Cert.ThirdIdeal.Gen.side_ok m ho hO))

theorem offs_Third (m : (ℓ : Loc Cert.Third.nD Cert.Third.τ Cert.Third.sig) → Buf (Elt Bits) ℓ) (h : @Cert.Pre_Third Cert.Pre_offsets_cover_3.Gen.facts m)
    (c : Dev Cert.Third.nD) : Offs (Cert.ThirdIdeal.Gen.offsM (F := Bits) m c) :=
  letI := Cert.Pre_offsets_cover_3.Gen.facts
  offs_of_pre _ _ _ _ _ _ (h c).1 (h c).2.1 (h c).2.2

theorem same_Third : @Cert.quiescent_Third Cert.Third.Gen.facts Cert.Pre_offsets_cover_3.Gen.facts
    = ∀ (m : (ℓ : Loc ThirdIdeal.nD ThirdIdeal.τ ThirdIdeal.sig) → Buf (Elt Bits) ℓ) (g : Dev ThirdIdeal.nD → PrngReg), @Cert.Pre_Third Cert.Pre_offsets_cover_3.Gen.facts m →
      θ_run (ThirdIdeal.defs (F := Bits)) (onTc (τ := ThirdIdeal.τ) (ThirdIdeal.main (F := Bits))) ⟨m, fun _ => 0, g⟩ (fun r => (∀ c : Dev ThirdIdeal.nD,
      r.2.mem ((c.tc : Thread ThirdIdeal.nD ThirdIdeal.τ).loc ThirdIdeal.main_arg0) = m ((c.tc : Thread ThirdIdeal.nD ThirdIdeal.τ).loc ThirdIdeal.main_arg0)
      ∧ r.2.mem ((c.tc : Thread ThirdIdeal.nD ThirdIdeal.τ).loc ThirdIdeal.main_arg1) = m ((c.tc : Thread ThirdIdeal.nD ThirdIdeal.τ).loc ThirdIdeal.main_arg1)
      ∧ r.2.mem ((c.tc : Thread ThirdIdeal.nD ThirdIdeal.τ).loc ThirdIdeal.main_arg2) = m ((c.tc : Thread ThirdIdeal.nD ThirdIdeal.τ).loc ThirdIdeal.main_arg2)
      ∧ r.2.mem ((c.tc : Thread ThirdIdeal.nD ThirdIdeal.τ).loc ThirdIdeal.main_arg3) = m ((c.tc : Thread ThirdIdeal.nD ThirdIdeal.τ).loc ThirdIdeal.main_arg3)
      ∧ r.2.mem ((c.tc : Thread ThirdIdeal.nD ThirdIdeal.τ).loc ThirdIdeal.main_arg4) = m ((c.tc : Thread ThirdIdeal.nD ThirdIdeal.τ).loc ThirdIdeal.main_arg4)
      ∧ r.2.mem ((c.tc : Thread ThirdIdeal.nD ThirdIdeal.τ).loc ThirdIdeal.main_arg5) = m ((c.tc : Thread ThirdIdeal.nD ThirdIdeal.τ).loc ThirdIdeal.main_arg5)
      ∧ r.2.mem ((c.tc : Thread ThirdIdeal.nD ThirdIdeal.τ).loc ThirdIdeal.main_arg6) = m ((c.tc : Thread ThirdIdeal.nD ThirdIdeal.τ).loc ThirdIdeal.main_arg6)
      ∧ r.2.mem ((c.tc : Thread ThirdIdeal.nD ThirdIdeal.τ).loc ThirdIdeal.main_arg7) = m ((c.tc : Thread ThirdIdeal.nD ThirdIdeal.τ).loc ThirdIdeal.main_arg7)
      ∧ r.2.mem ((c.tc : Thread ThirdIdeal.nD ThirdIdeal.τ).loc ThirdIdeal.main_arg8) = m ((c.tc : Thread ThirdIdeal.nD ThirdIdeal.τ).loc ThirdIdeal.main_arg8))
      ∧ r.2.sem = fun _ => 0) := by
  chain_rfl

theorem frame_Third : @Cert.quiescent_Third Cert.Third.Gen.facts Cert.Pre_offsets_cover_3.Gen.facts := by
  rw [same_Third]
  intro m g hp
  have ho := offs_Third m hp 0
  have hO := Cert.ThirdIdeal.Gen.blocks_ok m ho
  exact (θ_run _ _ _).mono (fun _ h => ⟨fun c => (h.1 c).2, h.2⟩) (Cert.ThirdIdeal.Gen.run_result (F := Bits) m g hO (Cert.ThirdIdeal.Gen.side_ok m ho hO))

end Cert.Frames

end
-- ==== Proof.KernelIdeal.Blocks.lean ====
/-
  The blocks the body is handed at a grid point, entry by entry, as entries of the program's arguments.
-/
module

public import proofs.«01_k».proof.Proof.KernelIdeal.Tables

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keep9_main_arg4 (X : Valuation τ sig (Elt F)) : StableHlo.after hostOps0_9 X main_arg4 = X main_arg4 := by
  after_results_simp
theorem X9_main_arg4 (c : Dev nD) : X9 m c main_arg4 = m ((c : Thread nD τ).loc main_arg4) :=
  (keep9_main_arg4 (X9 m c)).symm.trans ((V_eq m c main_arg4).symm.trans (V_main_arg4 m c))

theorem keep9_main_arg6 (X : Valuation τ sig (Elt F)) : StableHlo.after hostOps0_9 X main_arg6 = X main_arg6 := by
  after_results_simp
theorem X9_main_arg6 (c : Dev nD) : X9 m c main_arg6 = m ((c : Thread nD τ).loc main_arg6) :=
  (keep9_main_arg6 (X9 m c)).symm.trans ((V_eq m c main_arg6).symm.trans (V_main_arg6 m c))

theorem keep9_main_arg7 (X : Valuation τ sig (Elt F)) : StableHlo.after hostOps0_9 X main_arg7 = X main_arg7 := by
  after_results_simp
theorem X9_main_arg7 (c : Dev nD) : X9 m c main_arg7 = m ((c : Thread nD τ).loc main_arg7) :=
  (keep9_main_arg7 (X9 m c)).symm.trans ((V_eq m c main_arg7).symm.trans (V_main_arg7 m c))

theorem keep9_main_arg8 (X : Valuation τ sig (Elt F)) : StableHlo.after hostOps0_9 X main_arg8 = X main_arg8 := by
  after_results_simp
theorem X9_main_arg8 (c : Dev nD) : X9 m c main_arg8 = m ((c : Thread nD τ).loc main_arg8) :=
  (keep9_main_arg8 (X9 m c)).symm.trans ((V_eq m c main_arg8).symm.trans (V_main_arg8 m c))

/-- The rows of scales and shifts the host widens. -/
theorem V_ss (c : Dev nD) (n : Fin 1792) : (V m c main_v43 : S1x1792.Idx → F .f32) (ix2 0 n) = (m ((c : Thread nD τ).loc main_arg4) : S1792.Idx → F .f32) (ix1 n) := by
  refine (congrFun ((V_eq m c main_v43).trans (st9_main_v43 (X9 m c))) (ix2 0 n)).trans ?_
  refine (broadcastInDim_apply _ _ _ (ix2 0 n) (ix1 n) (fun a => ?_)).trans (congrFun (X9_main_arg4 m c) _)
  match a with
  | ⟨0, _⟩ => exact (if_neg (show ¬ (1792 : ℕ) = 1 by decide)).symm
theorem V_bs (c : Dev nD) (n : Fin 1792) : (V m c main_v45 : S1x1792.Idx → F .f32) (ix2 0 n) = (m ((c : Thread nD τ).loc main_arg7) : S1792.Idx → F .f32) (ix1 n) := by
  refine (congrFun ((V_eq m c main_v45).trans (st9_main_v45 (X9 m c))) (ix2 0 n)).trans ?_
  refine (broadcastInDim_apply _ _ _ (ix2 0 n) (ix1 n) (fun a => ?_)).trans (congrFun (X9_main_arg7 m c) _)
  match a with
  | ⟨0, _⟩ => exact (if_neg (show ¬ (1792 : ℕ) = 1 by decide)).symm
theorem V_sp (c : Dev nD) (d : Fin 9) (n : Fin 1792) : (V m c main_v44 : S9x1x1792.Idx → F .f32) (ix3 d 0 n) = (m ((c : Thread nD τ).loc main_arg6) : S9x1792.Idx → F .f32) (ix2 d n) := by
  refine (congrFun ((V_eq m c main_v44).trans (st9_main_v44 (X9 m c))) (ix3 d 0 n)).trans ?_
  refine (broadcastInDim_apply _ _ _ (ix3 d 0 n) (ix2 d n) (fun a => ?_)).trans (congrFun (X9_main_arg6 m c) _)
  match a with
  | ⟨0, _⟩ => exact (if_neg (show ¬ (9 : ℕ) = 1 by decide)).symm
  | ⟨1, _⟩ => exact (if_neg (show ¬ (1792 : ℕ) = 1 by decide)).symm
theorem V_bp (c : Dev nD) (d : Fin 9) (n : Fin 1792) : (V m c main_v46 : S9x1x1792.Idx → F .f32) (ix3 d 0 n) = (m ((c : Thread nD τ).loc main_arg8) : S9x1792.Idx → F .f32) (ix2 d n) := by
  refine (congrFun ((V_eq m c main_v46).trans (st9_main_v46 (X9 m c))) (ix3 d 0 n)).trans ?_
  refine (broadcastInDim_apply _ _ _ (ix3 d 0 n) (ix2 d n) (fun a => ?_)).trans (congrFun (X9_main_arg8 m c) _)
  match a with
  | ⟨0, _⟩ => exact (if_neg (show ¬ (9 : ℕ) = 1 by decide)).symm
  | ⟨1, _⟩ => exact (if_neg (show ¬ (1792 : ℕ) = 1 by decide)).symm

/-- A block's row, column and domain in the arrays. -/
abbrev rowOf (T : ℕ) (h : T < 16) (r : Fin 256) : Fin 4096 := ⟨256 * T + r.val, by omega⟩
abbrev colOf (i : grid0.Coords) (n : Fin 256) : Fin 1792 := ⟨256 * (i 0).val + n.val, by have h : (i 0).val < 7 := (i 0).isLt; omega⟩

variable (ho : Offs (offsM m 0))
abbrev domOf (i : grid0.Coords) : Fin 9 := ⟨dom (offsM m 0) (i 1), dom_lt ho _⟩

theorem blk0 (hO : Ok m) (c : Dev nD) (t : Fin (cfgM m hO).N) (r : Fin 256) (k : Fin 7168) :
    (iblk m hO c 0 t : S256x7168.Idx → F .fp8e4m3) (ix2 r k) = (m ((c : Thread nD τ).loc main_arg1) : S4096x7168.Idx → F .fp8e4m3) (ix2 (rowOf (tile (offsM m 0) (grid0.coords t 1)) (tile_lt ho _) r) k) := by
  refine (show _ = (V m c main_arg1 : _) _ from congrArg (V m c main_arg1) (funext fun a => Fin.ext ((((cfgM m hO).win 0).rect_emb_val t (ix2 r k) a).trans ?_))).trans (congrFun (V_main_arg1 m c) (ix2 (rowOf (tile (offsM m 0) (grid0.coords t 1)) (tile_lt ho _) r) k))
  show cc0_transform_0 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr0_eq, hT]
  match a with
  | ⟨0, _⟩ => show tile (offsM m 0) (grid0.coords t 1) * 256 + r.val = 256 * tile (offsM m 0) (grid0.coords t 1) + r.val; omega
  | ⟨1, _⟩ => show 0 * 7168 + k.val = k.val; omega

theorem blk1 (hO : Ok m) (c : Dev nD) (t : Fin (cfgM m hO).N) (r : Fin 256) :
    (iblk m hO c 1 t : S256x1.Idx → F .f32) (ix2 r 0) = (m ((c : Thread nD τ).loc main_arg2) : S4096x1.Idx → F .f32) (ix2 (rowOf (tile (offsM m 0) (grid0.coords t 1)) (tile_lt ho _) r) 0) := by
  refine (show _ = (V m c main_arg2 : _) _ from congrArg (V m c main_arg2) (funext fun a => Fin.ext ((((cfgM m hO).win 1).rect_emb_val t (ix2 r 0) a).trans ?_))).trans (congrFun (V_main_arg2 m c) (ix2 (rowOf (tile (offsM m 0) (grid0.coords t 1)) (tile_lt ho _) r) 0))
  show cc0_transform_1 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr1_eq, hT]
  match a with
  | ⟨0, _⟩ => show tile (offsM m 0) (grid0.coords t 1) * 256 + r.val = 256 * tile (offsM m 0) (grid0.coords t 1) + r.val; omega
  | ⟨1, _⟩ => show 0 * 1 + 0 = 0; omega

theorem blk2 (hO : Ok m) (c : Dev nD) (t : Fin (cfgM m hO).N) (k : Fin 7168) (n : Fin 256) :
    (iblk m hO c 2 t : S7168x256.Idx → F .fp8e4m3) (ix2 k n) = (m ((c : Thread nD τ).loc main_arg3) : S7168x1792.Idx → F .fp8e4m3) (ix2 k (colOf (grid0.coords t) n)) := by
  refine (show _ = (V m c main_arg3 : _) _ from congrArg (V m c main_arg3) (funext fun a => Fin.ext ((((cfgM m hO).win 2).rect_emb_val t (ix2 k n) a).trans ?_))).trans (congrFun (V_main_arg3 m c) (ix2 k (colOf (grid0.coords t) n)))
  show cc0_transform_2 (grid0.coords t) a * _ + _ = _
  rw [tr2_eq]
  match a with
  | ⟨0, _⟩ => show 0 * 7168 + k.val = k.val; omega
  | ⟨1, _⟩ => show (grid0.coords t 0).val * 256 + n.val = 256 * (grid0.coords t 0).val + n.val; omega

theorem blk3 (hO : Ok m) (c : Dev nD) (t : Fin (cfgM m hO).N) (n : Fin 256) :
    (iblk m hO c 3 t : S1x256.Idx → F .f32) (ix2 0 n) = (m ((c : Thread nD τ).loc main_arg4) : S1792.Idx → F .f32) (ix1 (colOf (grid0.coords t) n)) := by
  refine (show _ = (V m c main_v43 : _) _ from congrArg (V m c main_v43) (funext fun a => Fin.ext ((((cfgM m hO).win 3).rect_emb_val t (ix2 0 n) a).trans ?_))).trans (V_ss m c (colOf (grid0.coords t) n))
  show cc0_transform_3 (grid0.coords t) a * _ + _ = _
  rw [tr3_eq]
  match a with
  | ⟨0, _⟩ => show 0 * 1 + 0 = 0; omega
  | ⟨1, _⟩ => show (grid0.coords t 0).val * 256 + n.val = 256 * (grid0.coords t 0).val + n.val; omega

theorem blk4 (hO : Ok m) (c : Dev nD) (t : Fin (cfgM m hO).N) (k : Fin 7168) (n : Fin 256) :
    (iblk m hO c 4 t : S1x7168x256.Idx → F .fp8e4m3) (ix3 0 k n) = (m ((c : Thread nD τ).loc main_arg5) : S9x7168x1792.Idx → F .fp8e4m3) (ix3 (domOf m ho (grid0.coords t)) k (colOf (grid0.coords t) n)) := by
  refine (show _ = (V m c main_arg5 : _) _ from congrArg (V m c main_arg5) (funext fun a => Fin.ext ((((cfgM m hO).win 4).rect_emb_val t (ix3 0 k n) a).trans ?_))).trans (congrFun (V_main_arg5 m c) (ix3 (domOf m ho (grid0.coords t)) k (colOf (grid0.coords t) n)))
  show cc0_transform_4 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr4_eq, hD]
  match a with
  | ⟨0, _⟩ => show dom (offsM m 0) (grid0.coords t 1) * 1 + 0 = dom (offsM m 0) (grid0.coords t 1); omega
  | ⟨1, _⟩ => show 0 * 7168 + k.val = k.val; omega
  | ⟨2, _⟩ => show (grid0.coords t 0).val * 256 + n.val = 256 * (grid0.coords t 0).val + n.val; omega

theorem blk5 (hO : Ok m) (c : Dev nD) (t : Fin (cfgM m hO).N) (n : Fin 256) :
    (iblk m hO c 5 t : S1x1x256.Idx → F .f32) (ix3 0 0 n) = (m ((c : Thread nD τ).loc main_arg6) : S9x1792.Idx → F .f32) (ix2 (domOf m ho (grid0.coords t)) (colOf (grid0.coords t) n)) := by
  refine (show _ = (V m c main_v44 : _) _ from congrArg (V m c main_v44) (funext fun a => Fin.ext ((((cfgM m hO).win 5).rect_emb_val t (ix3 0 0 n) a).trans ?_))).trans (V_sp m c (domOf m ho (grid0.coords t)) (colOf (grid0.coords t) n))
  show cc0_transform_5 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr5_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 256 + n.val = 256 * (grid0.coords t 0).val + n.val; omega

theorem blk6 (hO : Ok m) (c : Dev nD) (t : Fin (cfgM m hO).N) (n : Fin 256) :
    (iblk m hO c 6 t : S1x256.Idx → F .f32) (ix2 0 n) = (m ((c : Thread nD τ).loc main_arg7) : S1792.Idx → F .f32) (ix1 (colOf (grid0.coords t) n)) := by
  refine (show _ = (V m c main_v45 : _) _ from congrArg (V m c main_v45) (funext fun a => Fin.ext ((((cfgM m hO).win 6).rect_emb_val t (ix2 0 n) a).trans ?_))).trans (V_bs m c (colOf (grid0.coords t) n))
  show cc0_transform_6 (grid0.coords t) a * _ + _ = _
  rw [tr6_eq]
  match a with
  | ⟨0, _⟩ => show 0 * 1 + 0 = 0; omega
  | ⟨1, _⟩ => show (grid0.coords t 0).val * 256 + n.val = 256 * (grid0.coords t 0).val + n.val; omega

theorem blk7 (hO : Ok m) (c : Dev nD) (t : Fin (cfgM m hO).N) (n : Fin 256) :
    (iblk m hO c 7 t : S1x1x256.Idx → F .f32) (ix3 0 0 n) = (m ((c : Thread nD τ).loc main_arg8) : S9x1792.Idx → F .f32) (ix2 (domOf m ho (grid0.coords t)) (colOf (grid0.coords t) n)) := by
  refine (show _ = (V m c main_v46 : _) _ from congrArg (V m c main_v46) (funext fun a => Fin.ext ((((cfgM m hO).win 7).rect_emb_val t (ix3 0 0 n) a).trans ?_))).trans (V_bp m c (domOf m ho (grid0.coords t)) (colOf (grid0.coords t) n))
  show cc0_transform_7 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr7_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 256 + n.val = 256 * (grid0.coords t 0).val + n.val; omega

/-- Where the output block lies in the result. -/
theorem emb8 (hO : Ok m) (t : Fin (cfgM m hO).N) (r : Fin 256) (n : Fin 256) :
    (((cfgM m hO).win 8).blk t).view.emb (ix2 r n) = (ix2 (rowOf (tile (offsM m 0) (grid0.coords t 1)) (tile_lt ho _) r) (colOf (grid0.coords t) n) : S4096x1792.Idx) := by
  refine funext fun a => Fin.ext ((((cfgM m hO).win 8).rect_emb_val t (ix2 r n) a).trans ?_)
  show cc0_transform_8 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr8_eq, hT]
  match a with
  | ⟨0, _⟩ => show tile (offsM m 0) (grid0.coords t 1) * 256 + r.val = 256 * tile (offsM m 0) (grid0.coords t 1) + r.val; omega
  | ⟨1, _⟩ => show (grid0.coords t 0).val * 256 + n.val = 256 * (grid0.coords t 0).val + n.val; omega

end Cert.KernelIdeal.Gen

end
-- ==== Proof.Layer.lean ====
module

public import Idealize.ShloMosaic.Lib.MatmulPlain
public import Idealize.ShloMosaic.Lib.Pipeline.Value
public import Idealize.ShloMosaic.Lib.ValueIdx
public import proofs.«01_k».proof.Proof.HostWords

/-!
# One grouped layer, entry by entry

The formula of the layer over the reals (`H`), and what the vector expressions the two programs share are at an
index: the weight product (`prod_apply`), the scaled and shifted product (`rows_apply`), the choice of rows at or
past an offset (`tail_apply`), the choice of the rows of one domain (`pick_apply`).
-/

@[expose] public section

set_option maxRecDepth 16384

noncomputable section

namespace Cert.Layer

open Idealize.ShloMosaic Idealize.ShloMosaic.ValueIdx Idealize.ShloMosaic.WordCmp Cert.HostWords

section Layout
variable {α : Type} {M K N : ℕ}

theorem bcol (x : (⟨2, ![M, 1]⟩ : Shape).Idx → α) (h : (⟨2, ![M, 1]⟩ : Shape).Broadcasts ⟨2, ![M, N]⟩) (r : Fin M) (n : Fin N) :
    broadcastTo ⟨2, ![M, N]⟩ x h (ix2 r n) = x (ix2 r 0) := by
  refine broadcastTo_apply x h _ _ fun a => ?_
  have hr := r.isLt
  match a with
  | ⟨0, _⟩ => show r.val = if M = 1 then 0 else r.val; split <;> omega
  | ⟨1, _⟩ => exact (if_pos rfl).symm

theorem brow (x : (⟨2, ![1, N]⟩ : Shape).Idx → α) (h : (⟨2, ![1, N]⟩ : Shape).Broadcasts ⟨2, ![M, N]⟩) (r : Fin M) (n : Fin N) :
    broadcastTo ⟨2, ![M, N]⟩ x h (ix2 r n) = x (ix2 0 n) := by
  refine broadcastTo_apply x h _ _ fun a => ?_
  have hr := n.isLt
  match a with
  | ⟨0, _⟩ => exact (if_pos rfl).symm
  | ⟨1, _⟩ => show n.val = if N = 1 then 0 else n.val; split <;> omega

theorem drop (x : (⟨3, ![1, K, N]⟩ : Shape).Idx → α) (h : (⟨3, ![1, K, N]⟩ : Shape).ShapeCasts ⟨2, ![K, N]⟩) (k : Fin K) (n : Fin N) :
    shapeCast ⟨2, ![K, N]⟩ x h (ix2 k n) = x (ix3 0 k n) := by
  refine shapeCast_apply x h _ _ ?_
  rw [Shape.rowMajor_val_three, Shape.rowMajor_val_two]
  show (0 * K + k.val) * N + n.val = k.val * N + n.val
  rw [Nat.zero_mul, Nat.zero_add]

end Layout

section Value
variable {M K N D : ℕ}

/-- The layer before its activation, at row `r` and column `n` with the weights of domain `d`. -/
def H (codes : FVec Ideal ⟨2, ![M, K]⟩ .fp8e4m3) (sx : FVec Ideal ⟨2, ![M, 1]⟩ .f32) (ws : FVec Ideal ⟨2, ![K, N]⟩ .fp8e4m3)
    (ss : FVec Ideal ⟨1, ![N]⟩ .f32) (wp : FVec Ideal ⟨3, ![D, K, N]⟩ .fp8e4m3) (sp : FVec Ideal ⟨2, ![D, N]⟩ .f32)
    (bs : FVec Ideal ⟨1, ![N]⟩ .f32) (bp : FVec Ideal ⟨2, ![D, N]⟩ .f32) (r : Fin M) (d : Fin D) (n : Fin N) : EReal :=
  ((Ideal.ofBits .f32 0x00000000#32 + ∑ k : Fin K, codes (ix2 r k) * (ws (ix2 k n) * wp (ix3 d k n))) * sx (ix2 r 0))
    * (ss (ix1 n) * sp (ix2 d n)) + (bs (ix1 n) + bp (ix2 d n))

theorem prod_apply (W : FVec Ideal ⟨2, ![K, N]⟩ .fp8e4m3) (Wd : FVec Ideal ⟨3, ![1, K, N]⟩ .fp8e4m3) (hb : FTy.bits .fp8e4m3 < FTy.bits .bf16)
    (hc : (⟨3, ![1, K, N]⟩ : Shape).ShapeCasts ⟨2, ![K, N]⟩) (k : Fin K) (n : Fin N) :
    mulf (extf .bf16 W hb) (extf .bf16 (shapeCast ⟨2, ![K, N]⟩ Wd hc) hb) (ix2 k n) = W (ix2 k n) * Wd (ix3 0 k n) := by
  rw [mulf_apply, extf_apply, extf_apply, drop]

/-- The scaled and shifted product of a block of rows. -/
theorem rows_apply (A : FVec Ideal ⟨2, ![M, K]⟩ .fp8e4m3) (P : FVec Ideal ⟨2, ![K, N]⟩ .bf16) (sx : FVec Ideal ⟨2, ![M, 1]⟩ .f32)
    (ss : FVec Ideal ⟨2, ![1, N]⟩ .f32) (sp : FVec Ideal ⟨3, ![1, 1, N]⟩ .f32) (bs : FVec Ideal ⟨2, ![1, N]⟩ .f32) (bp : FVec Ideal ⟨3, ![1, 1, N]⟩ .f32)
    (hb : FTy.bits .fp8e4m3 < FTy.bits .bf16) (h1 : (⟨2, ![M, 1]⟩ : Shape).Broadcasts ⟨2, ![M, N]⟩) (h2 : (⟨2, ![1, N]⟩ : Shape).Broadcasts ⟨2, ![M, N]⟩)
    (h3 : (⟨2, ![1, N]⟩ : Shape).ShapeCasts ⟨2, ![1, N]⟩) (h4 : (⟨3, ![1, 1, N]⟩ : Shape).ShapeCasts ⟨2, ![1, N]⟩) (r : Fin M) (n : Fin N) :
    addf (mulf (mulf (FloatOps.matmul (DotDims.plain M K N) none (extf .bf16 A hb) P (constant ⟨2, ![M, N]⟩ .f32 0x00000000#32))
        (broadcastTo ⟨2, ![M, N]⟩ sx h1))
        (broadcastTo ⟨2, ![M, N]⟩ (mulf (shapeCast ⟨2, ![1, N]⟩ ss h3) (shapeCast ⟨2, ![1, N]⟩ sp h4)) h2))
      (broadcastTo ⟨2, ![M, N]⟩ (addf (shapeCast ⟨2, ![1, N]⟩ bs h3) (shapeCast ⟨2, ![1, N]⟩ bp h4)) h2) (ix2 r n)
    = ((Ideal.ofBits .f32 0x00000000#32 + ∑ k : Fin K, A (ix2 r k) * P (ix2 k n)) * sx (ix2 r 0))
      * (ss (ix2 0 n) * sp (ix3 0 0 n)) + (bs (ix2 0 n) + bp (ix3 0 0 n)) := by
  rw [addf_apply, mulf_apply, mulf_apply, bcol, brow, brow, mulf_apply, addf_apply, shapeCast_self, shapeCast_self, drop, drop,
    Ideal.matmul_plain_apply, constant_apply]
  rfl

/-- Rows at or past the offset are the new ones, the others stay. -/
theorem tail_apply (rows old : FVec Ideal ⟨2, ![M, N]⟩ .f32) (T O : ℕ) (hM : M ≤ 256) (hT : T < 1024) (hO : O ≤ 65536)
    (hi : (⟨2, ![M, 1]⟩ : Shape).Iotas .tc 32 [0]) (h1 : (⟨2, ![M, 1]⟩ : Shape).ShapeCasts ⟨2, ![M, 1]⟩)
    (h2 : (⟨2, ![M, 1]⟩ : Shape).Broadcasts ⟨2, ![M, N]⟩) (h3 : (⟨2, ![M, N]⟩ : Shape).ShapeCasts ⟨2, ![M, N]⟩) (r : Fin M) (n : Fin N) :
    select (broadcastTo ⟨2, ![M, N]⟩ (shapeCast ⟨2, ![M, 1]⟩ (cmpi .sge (addi (broadcast ⟨2, ![M, 1]⟩ (Scalar.muli (wd T) 256#32))
        (iota .tc ⟨2, ![M, 1]⟩ 32 [0] hi)) (broadcast ⟨2, ![M, 1]⟩ (wd O))) h1) h2) rows (shapeCast ⟨2, ![M, N]⟩ old h3) (ix2 r n)
    = if O ≤ 256 * T + r.val then rows (ix2 r n) else old (ix2 r n) := by
  have hr := r.isLt
  rw [select_apply, bcol, shapeCast_self, shapeCast_self]
  have e : cmpi .sge (addi (broadcast ⟨2, ![M, 1]⟩ (Scalar.muli (wd T) 256#32)) (iota .tc ⟨2, ![M, 1]⟩ 32 [0] hi))
      (broadcast ⟨2, ![M, 1]⟩ (wd O)) (ix2 r 0) = IntOp.cmpi .sge (wd (256 * T + r.val)) (wd O) := by
    show IntOp.cmpi .sge (wd T * 256#32 + iota .tc ⟨2, ![M, 1]⟩ 32 [0] hi (ix2 r 0)) (wd O) = _
    rw [iota_single_apply]
    congr 1
    apply BitVec.eq_of_toNat_eq
    show (wd T * 256#32 + wd r.val).toNat = _
    rw [BitVec.toNat_add, BitVec.toNat_mul]
    simp only [BitVec.toNat_ofNat]
    omega
  rw [e, cmpi_sge_ofNat (by omega) (by omega)]
  by_cases h : O ≤ 256 * T + r.val
  · rw [if_pos h, decide_eq_true h]; rfl
  · rw [if_neg h, decide_eq_false h]; rfl

/-- The rows whose domain is `d` take the first operand, the others the second. -/
theorem pick_apply (x y : FVec Ideal ⟨2, ![M, N]⟩ .f32) (v : IVec ⟨2, ![M, 1]⟩ 32) (d e : ℕ) (hd : d < 16) (he : e < 16)
    (h1 h1' : (⟨2, ![M, 1]⟩ : Shape).ShapeCasts ⟨2, ![M, 1]⟩) (h2 : (⟨2, ![M, 1]⟩ : Shape).Broadcasts ⟨2, ![M, N]⟩) (r : Fin M) (n : Fin N)
    (hv : v (ix2 r 0) = wd e) :
    select (broadcastTo ⟨2, ![M, N]⟩ (shapeCast ⟨2, ![M, 1]⟩ (cmpi .eq (shapeCast ⟨2, ![M, 1]⟩ v h1) (broadcast ⟨2, ![M, 1]⟩ (wd d))) h1') h2) x y (ix2 r n)
    = if e = d then x (ix2 r n) else y (ix2 r n) := by
  rw [select_apply, bcol, shapeCast_self, shapeCast_self]
  have e' : cmpi .eq v (broadcast ⟨2, ![M, 1]⟩ (wd d)) (ix2 r 0) = IntOp.cmpi .eq (wd e) (wd d) := by
    show IntOp.cmpi .eq (v (ix2 r 0)) (wd d) = _
    rw [hv]
  rw [e', cmpi_eq_ofNat (by omega) (by omega)]
  by_cases h : e = d
  · rw [if_pos h, decide_eq_true h]; rfl
  · rw [if_neg h, decide_eq_false h]; rfl

end Value

end Cert.Layer

end
-- ==== Proof.KernelIdeal.Rows.lean ====
/-
  The value of the layer over the reals: what every grid point leaves in the output block, and the result array entry
  by entry.
-/
module

public import proofs.«01_k».proof.Proof.KernelIdeal.Blocks
public import proofs.«01_k».proof.Proof.KernelIdeal.Run
public import proofs.«01_k».proof.Proof.Layer

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ)

/-! The program's arguments, as vectors of reals. -/
abbrev ar1 (c : Dev nD) : FVec Ideal S4096x7168 .fp8e4m3 := m ((c : Thread nD τ).loc main_arg1)
abbrev ar2 (c : Dev nD) : FVec Ideal S4096x1 .f32 := m ((c : Thread nD τ).loc main_arg2)
abbrev ar3 (c : Dev nD) : FVec Ideal S7168x1792 .fp8e4m3 := m ((c : Thread nD τ).loc main_arg3)
abbrev ar4 (c : Dev nD) : FVec Ideal S1792 .f32 := m ((c : Thread nD τ).loc main_arg4)
abbrev ar5 (c : Dev nD) : FVec Ideal S9x7168x1792 .fp8e4m3 := m ((c : Thread nD τ).loc main_arg5)
abbrev ar6 (c : Dev nD) : FVec Ideal S9x1792 .f32 := m ((c : Thread nD τ).loc main_arg6)
abbrev ar7 (c : Dev nD) : FVec Ideal S1792 .f32 := m ((c : Thread nD τ).loc main_arg7)
abbrev ar8 (c : Dev nD) : FVec Ideal S9x1792 .f32 := m ((c : Thread nD τ).loc main_arg8)

/-- The layer of the program's arguments at row `r`, with the weights of domain `d`, at column `n`. -/
def Hm (c : Dev nD) (r : Fin 4096) (d : Fin 9) (n : Fin 1792) : EReal :=
  max (Layer.H (ar1 m c) (ar2 m c) (ar3 m c) (ar4 m c) (ar5 m c) (ar6 m c) (ar7 m c) (ar8 m c) r d n) (Ideal.ofBits .f32 0x00000000#32)

/-- The same at natural numbers. -/
def Out (c : Dev nD) (r d n : ℕ) : EReal :=
  if h : r < 4096 ∧ d < 9 ∧ n < 1792 then Hm m c ⟨r, h.1⟩ ⟨d, h.2.1⟩ ⟨n, h.2.2⟩ else 0

theorem pay2_apply (W : Vec Ideal S7168x256 .fp8e4m3) (Wd : Vec Ideal S1x7168x256 .fp8e4m3) (k : Fin 7168) (n : Fin 256) :
    k0_pay2 W Wd (ix2 k n) = (W (ix2 k n) * Wd (ix3 0 k n) : EReal) := by
  unfold k0_pay2
  rw [shapeCast_self]
  exact Layer.prod_apply (K := 7168) (N := 256) W Wd _ _ k n

theorem pay3_apply (A : Vec Ideal S256x7168 .fp8e4m3) (P : Vec Ideal S7168x256 .bf16) (sx : Vec Ideal S256x1 .f32) (ss : Vec Ideal S1x256 .f32)
    (sp : Vec Ideal S1x1x256 .f32) (bs : Vec Ideal S1x256 .f32) (bp : Vec Ideal S1x1x256 .f32) (r : Fin 256) (n : Fin 256) :
    k0_pay3 A P sx ss sp bs bp (ix2 r n) = (max (((Ideal.ofBits .f32 0x00000000#32 + ∑ k : Fin 7168, A (ix2 r k) * P (ix2 k n)) * sx (ix2 r 0)) * (ss (ix2 0 n) * sp (ix3 0 0 n)) + (bs (ix2 0 n) + bp (ix3 0 0 n))) (Ideal.ofBits .f32 0x00000000#32) : EReal) := by
  unfold k0_pay3
  exact congrArg (fun x : EReal => max x (Ideal.ofBits .f32 0x00000000#32)) (Layer.rows_apply (M := 256) (K := 7168) (N := 256) A P sx ss sp bs bp _ _ _ _ _ r n)

theorem pay1_apply (rows old : FVec Ideal S256x256 .f32) (t o : ℕ) (ht : t < 1024) (ho : o ≤ 65536) (r : Fin 256) (n : Fin 256) :
    k0_pay1 rows (wd t) (wd o) old (ix2 r n) = if o ≤ 256 * t + r.val then rows (ix2 r n) else old (ix2 r n) := by
  unfold k0_pay1
  exact Layer.tail_apply (M := 256) (N := 256) rows old t o (by omega) ht ho _ _ _ _ r n

variable (ho : Offs (offsM m 0))

theorem Out_eq (c : Dev nD) (r : Fin 4096) (d : Fin 9) (n : Fin 1792) : Out m c r.val d.val n.val = Hm m c r d n := by
  unfold Out
  rw [dif_pos ⟨r.isLt, d.isLt, n.isLt⟩]

include ho
/-- The rows computed at a point, with the point's domain. -/
theorem rowsAt_apply (hO : Ok m) (c : Dev nD) (t : Fin (cfgM m hO).N) (r : Fin 256) (n : Fin 256) :
    rowsAt m hO c t (ix2 r n) = Out m c (256 * tile (offsM m 0) (grid0.coords t 1) + r.val) (dom (offsM m 0) (grid0.coords t 1)) (256 * (grid0.coords t 0).val + n.val) := by
  have e := Out_eq m c (rowOf (tile (offsM m 0) (grid0.coords t 1)) (tile_lt ho _) r) (domOf m ho (grid0.coords t)) (colOf (grid0.coords t) n)
  refine Eq.trans ?_ e.symm
  unfold rowsAt
  refine (pay3_apply _ _ _ _ _ _ _ r n).trans ?_
  unfold Hm Layer.H
  rw [blk1 m ho hO c t r, blk3 m hO c t n, blk5 m ho hO c t n, blk6 m hO c t n, blk7 m ho hO c t n]
  exact congrArg (fun x : EReal => max (((Ideal.ofBits .f32 0x00000000#32 + x) * (ar2 m c) (ix2 (rowOf (tile (offsM m 0) (grid0.coords t 1)) (tile_lt ho _) r) 0)) * ((ar4 m c) (ix1 (colOf (grid0.coords t) n)) * (ar6 m c) (ix2 (domOf m ho (grid0.coords t)) (colOf (grid0.coords t) n))) + ((ar7 m c) (ix1 (colOf (grid0.coords t) n)) + (ar8 m c) (ix2 (domOf m ho (grid0.coords t)) (colOf (grid0.coords t) n)))) (Ideal.ofBits .f32 0x00000000#32)) (Finset.sum_congr rfl fun k _ => congr (congrArg (fun (x y : EReal) => x * y) (blk0 m ho hO c t r k))
    ((pay2_apply _ _ k n).trans (congr (congrArg (fun (x y : EReal) => x * y) (blk2 m hO c t k n)) (blk4 m ho hO c t k n))))

end Cert.KernelIdeal.Gen

end
-- ==== Proof.KernelIdeal.Value.lean ====
/-
  The result of the layer, entry by entry: row `r` of the result is computed with the weights of row `r`'s domain.
  A point that opens a tile writes rows that start inside its domain; a later point of the tile keeps the rows before
  its domain's offset; the tile's last point leaves every row of the tile in place.
-/
module

public import proofs.«01_k».proof.Proof.KernelIdeal.Rows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ) (ho : Offs (offsM m 0))

/-- Every row of the block before the end of the point's domain has its own domain's weights. -/
def Good (c : Dev nD) (j w : ℕ) (b : FVec Ideal S256x256 .f32) : Prop :=
  ∀ (r : Fin 256) (n : Fin 256), 256 * tile (offsM m 0) w + r.val < offsM m 0 (dom (offsM m 0) w + 1) →
    b (ix2 r n) = Out m c (256 * tile (offsM m 0) w + r.val) (rowDom (offsM m 0) (256 * tile (offsM m 0) w + r.val)) (256 * j + n.val)

include ho
/-- The words of the two tables at a point and at the one before. -/
theorem tile_inj (v w : Fin 24) (h : tb0 m (ix1 v) = tb0 m (ix1 w)) : tile (offsM m 0) v = tile (offsM m 0) w :=
  (tile_at m ho v).symm.trans ((congrArg BitVec.toNat h).trans (tile_at m ho w))
theorem tile_congr (v w : Fin 24) (h : tile (offsM m 0) v = tile (offsM m 0) w) : tb0 m (ix1 v) = tb0 m (ix1 w) :=
  (tb0_word m ho v).trans ((congrArg wd h).trans (tb0_word m ho w).symm)

/-- A row at or past the domain's offset is computed with its own domain's weights. -/
theorem fresh (hO : Ok m) (c : Dev nD) (t : Fin (cfgM m hO).N) (r : Fin 256) (n : Fin 256)
    (h1 : offsM m 0 (dom (offsM m 0) (grid0.coords t 1)) ≤ 256 * tile (offsM m 0) (grid0.coords t 1) + r.val)
    (h2 : 256 * tile (offsM m 0) (grid0.coords t 1) + r.val < offsM m 0 (dom (offsM m 0) (grid0.coords t 1) + 1)) :
    rowsAt m hO c t (ix2 r n) = Out m c (256 * tile (offsM m 0) (grid0.coords t 1) + r.val)
      (rowDom (offsM m 0) (256 * tile (offsM m 0) (grid0.coords t 1) + r.val)) (256 * (grid0.coords t 0).val + n.val) := by
  rw [rowsAt_apply m ho, rowDom_eq ho (dom_lt ho _) h1 h2]

theorem opens (hO : Ok m) (c : Dev nD) (t : Fin (cfgM m hO).N)
    (h : (grid0.coords t 1).val = 0 ∨ tb0 m (ix1 (grid0.coords t 1)) ≠ tb0 m (ix1 (prev24 (grid0.coords t 1)))) :
    Good m c (grid0.coords t 0) (grid0.coords t 1) (rowsAt m hO c t) := by
  intro r n hr
  refine fresh m ho hO c t r n (Nat.le_trans (new_tile ho _ ?_) (Nat.le_add_right _ _)) hr
  rcases Nat.eq_zero_or_pos (grid0.coords t 1).val with h0 | h0
  · exact .inl h0
  · refine .inr ⟨(grid0.coords t 1).val - 1, by omega, fun e => ?_⟩
    rcases h with h | h
    · omega
    · exact h (tile_congr m ho (grid0.coords t 1) (prev24 (grid0.coords t 1)) e)

theorem aft_good (hO : Ok m) (hH : Hyps m hO) (c : Dev nD) : ∀ (n : ℕ) (hn : n < (cfgM m hO).N),
    Good m c (grid0.coords ⟨n, hn⟩ 0) (grid0.coords ⟨n, hn⟩ 1) (aft m hO hH c n hn)
  | 0, hn => by
    unfold aft
    exact opens m ho hO c ⟨0, hn⟩ (.inl (coords1 ⟨0, hn⟩))
  | n + 1, hn => by
    have ih := aft_good hO hH c n (Nat.lt_of_succ_lt hn)
    unfold aft
    unfold stepAt
    by_cases h : k0_cond3 (grid0.coords ⟨n + 1, hn⟩) (wTile (grid0.coords ⟨n + 1, hn⟩) (tb0 m)) (wTileP (grid0.coords ⟨n + 1, hn⟩) (tb0 m)) = 1#1
    · rw [dif_pos h]
      have h' := h
      rw [cond3_iff, wTile_eq, wTileP_eq] at h'
      have h1 : (grid0.coords ⟨n + 1, hn⟩ 1).val ≠ 0 := fun e => h' (.inl e)
      have h2 := not_not.mp fun e => h' (.inr e)
      have e1 := coords1 ⟨n + 1, hn⟩
      have e2 := coords1 ⟨n, Nat.lt_of_succ_lt hn⟩
      have e3 := coords0 ⟨n + 1, hn⟩
      have e4 := coords0 ⟨n, Nat.lt_of_succ_lt hn⟩
      simp only at e1 e2 e3 e4
      have hw : (grid0.coords ⟨n + 1, hn⟩ 1).val = (grid0.coords ⟨n, Nat.lt_of_succ_lt hn⟩ 1).val + 1 := by omega
      have hj : (grid0.coords ⟨n + 1, hn⟩ 0).val = (grid0.coords ⟨n, Nat.lt_of_succ_lt hn⟩ 0).val := by omega
      have ht := tile_inj m ho (grid0.coords ⟨n + 1, hn⟩ 1) (prev24 (grid0.coords ⟨n + 1, hn⟩ 1)) h2
      have hp : (prev24 (grid0.coords ⟨n + 1, hn⟩ 1)).val = (grid0.coords ⟨n, Nat.lt_of_succ_lt hn⟩ 1).val := by
        show (grid0.coords ⟨n + 1, hn⟩ 1).val - 1 = _
        omega
      rw [hp] at ht
      have hd9 := dom_lt ho (grid0.coords ⟨n + 1, hn⟩ 1).val
      have ht16 := tile_lt ho (grid0.coords ⟨n + 1, hn⟩ 1).val
      have hl := o_le_last ho (show dom (offsM m 0) (grid0.coords ⟨n + 1, hn⟩ 1).val ≤ 9 by omega)
      have eT : wTile (grid0.coords ⟨n + 1, hn⟩) (tb0 m) = wd (tile (offsM m 0) (grid0.coords ⟨n + 1, hn⟩ 1)) :=
        (wTile_eq _ _).trans (tb0_word m ho _)
      have eD : (wDom (grid0.coords ⟨n + 1, hn⟩) (tb1 m)).toNat = dom (offsM m 0) (grid0.coords ⟨n + 1, hn⟩ 1) :=
        (congrArg BitVec.toNat ((wDom_eq _ _).trans (tb1_word m ho _))).trans (toNat_wd _ (by omega))
      have eO : ∀ hb, wOff (wDom (grid0.coords ⟨n + 1, hn⟩) (tb1 m)) hb (tb2 m) = wd (offsM m 0 (dom (offsM m 0) (grid0.coords ⟨n + 1, hn⟩ 1))) := fun hb =>
        (wOff_eq _ hb (tb2 m) ⟨dom (offsM m 0) (grid0.coords ⟨n + 1, hn⟩ 1), by omega⟩ eD).trans (tb2_word m ⟨dom (offsM m 0) (grid0.coords ⟨n + 1, hn⟩ 1), by omega⟩)
      intro r q hr
      rw [eT, eO]
      refine (pay1_apply _ _ _ _ (by omega) (by omega) r q).trans ?_
      by_cases hc : offsM m 0 (dom (offsM m 0) (grid0.coords ⟨n + 1, hn⟩ 1)) ≤ 256 * tile (offsM m 0) (grid0.coords ⟨n + 1, hn⟩ 1) + r.val
      · rw [if_pos hc]
        exact fresh m ho hO c ⟨n + 1, hn⟩ r q hc hr
      · rw [if_neg hc]
        have hold := old_tile ho (grid0.coords ⟨n, Nat.lt_of_succ_lt hn⟩ 1).val
        rw [← hw] at hold
        rw [ht, hj]
        rw [ht] at hc
        exact ih r q (by omega)
    · rw [dif_neg h]
      rw [cond3_iff, wTile_eq, wTileP_eq] at h
      exact opens m ho hO c ⟨n + 1, hn⟩ (not_not.mp h)

/-- At a point that writes back, every row of the block is in place. -/
theorem ends (hO : Ok m) (t : Fin (cfgM m hO).N) (hf : ((cfgM m hO).win 8).flush t = true) (r : Fin 256) :
    256 * tile (offsM m 0) (grid0.coords t 1) + r.val < offsM m 0 (dom (offsM m 0) (grid0.coords t 1) + 1) := by
  have hd := done_tile ho (grid0.coords t 1).val ?_
  · have := r.isLt
    omega
  by_contra hx
  have hx1 : (grid0.coords t 1).val ≠ 23 := fun e => hx (.inl e)
  have hx2 : tile (offsM m 0) ((grid0.coords t 1).val + 1) = tile (offsM m 0) (grid0.coords t 1) := not_not.mp fun e => hx (.inr e)
  obtain ⟨n, hn⟩ := t
  have e1 := coords1 ⟨n, hn⟩
  simp only at e1
  have hN : n < 168 := hn
  have hn' : n + 1 < (cfgM m hO).N := (show n + 1 < 168 by omega)
  have e2 := coords1 ⟨n + 1, hn'⟩
  simp only at e2
  have hw : (grid0.coords ⟨n + 1, hn'⟩ 1).val = (grid0.coords ⟨n, hn⟩ 1).val + 1 := by omega
  have hp : (prev24 (grid0.coords ⟨n + 1, hn'⟩ 1)).val = (grid0.coords ⟨n, hn⟩ 1).val := by
    show (grid0.coords ⟨n + 1, hn'⟩ 1).val - 1 = _
    omega
  have hfalse := flush_false m hO n hn' (by
    rw [cond3_iff, wTile_eq, wTileP_eq]
    rintro (h | h)
    · omega
    · refine h (tile_congr m ho (grid0.coords ⟨n + 1, hn'⟩ 1) (prev24 (grid0.coords ⟨n + 1, hn'⟩ 1)) ?_)
      rw [hw, hp, hx2])
  rw [hfalse] at hf
  exact Bool.noConfusion hf

/-- The tile's last point of a pass writes back. -/
theorem flush_true (hO : Ok m) (n : ℕ) (hn : n < (cfgM m hO).N)
    (h : (grid0.coords ⟨n, hn⟩ 1).val = 23 ∨ tile (offsM m 0) ((grid0.coords ⟨n, hn⟩ 1).val + 1) ≠ tile (offsM m 0) (grid0.coords ⟨n, hn⟩ 1)) :
    ((cfgM m hO).win 8).flush ⟨n, hn⟩ = true := by
  unfold Pipeline.Window.flush
  by_cases hl : n + 1 = 168
  · rw [decide_eq_true (show n + 1 = (cfgM m hO).grid.N from hl)]
    rfl
  have hN : n < 168 := hn
  have hn' : n + 1 < (cfgM m hO).N := (show n + 1 < 168 by omega)
  have e1 := coords1 ⟨n, hn⟩
  have e2 := coords1 ⟨n + 1, hn'⟩
  have e3 := coords0 ⟨n, hn⟩
  have e4 := coords0 ⟨n + 1, hn'⟩
  simp only at e1 e2 e3 e4
  have key : ((cfgM m hO).win 8).index ⟨n + 1, hn'⟩ ≠ ((cfgM m hO).win 8).index ⟨n, hn⟩ := by
    intro e
    have e' : cc0_transform_8 k0_off1_inb numel1_S1 (tbl m) (grid0.coords ⟨n + 1, hn'⟩) = cc0_transform_8 k0_off1_inb numel1_S1 (tbl m) (grid0.coords ⟨n, hn⟩) := e
    rw [tr8_eq, tr8_eq] at e'
    have a0 : ((tbl m 0 : S24.Idx → BitVec 32) (ix1 (grid0.coords ⟨n + 1, hn'⟩ 1))).toNat = ((tbl m 0 : S24.Idx → BitVec 32) (ix1 (grid0.coords ⟨n, hn⟩ 1))).toNat := congrFun e' 0
    have a1 : (grid0.coords ⟨n + 1, hn'⟩ 0).val = (grid0.coords ⟨n, hn⟩ 0).val := congrFun e' 1
    have b0 : tile (offsM m 0) (grid0.coords ⟨n + 1, hn'⟩ 1) = tile (offsM m 0) (grid0.coords ⟨n, hn⟩ 1) :=
      (tile_at m ho (grid0.coords ⟨n + 1, hn'⟩ 1)).symm.trans (a0.trans (tile_at m ho (grid0.coords ⟨n, hn⟩ 1)))
    rcases h with h | h
    · omega
    · refine h ?_
      rw [← b0]
      congr 1
      omega
  rw [decide_eq_true (⟨hn', key⟩ : ∃ h : n + 1 < (cfgM m hO).grid.N, ((cfgM m hO).win 8).index ⟨n + 1, h⟩ ≠ ((cfgM m hO).win 8).index ⟨n, hn⟩), Bool.or_true]
  rfl

/-- THE RESULT: entry (r, n) is the layer at row `r` with the weights of `r`'s domain. -/
theorem result (hO : Ok m) (hH : Hyps m hO) (c : Dev nD) (i : S4096x1792.Idx) :
    ((dats m hO hH 0 c).arrAt 8 (cfgM m hO).N : S4096x1792.Idx → EReal) i = Out m c (i 0).val (rowDom (offsM m 0) (i 0).val) (i 1).val := by
  refine (dats m hO hH 0 c).arrAt_forall_of_cover 8 (fun (i : S4096x1792.Idx) (v : EReal) => v = Out m c (i 0).val (rowDom (offsM m 0) (i 0).val) (i 1).val) ?_ ?_ i
  · intro t hf (y : S256x256.Idx)
    have hy : y = (ix2 (y 0 : Fin 256) (y 1 : Fin 256) : S256x256.Idx) := eq_ix2 (n0 := 256) (n1 := 256) y
    have hg := aft_good m ho hO hH c t.val t.isLt (y 0) (y 1) (ends m ho hO t hf (y 0))
    have he := emb8 m ho hO t (y 0) (y 1)
    have hv : (dats m hO hH 0 c).flushed 8 t y = aft m hO hH c t.val t.isLt y := by
      show ((dats m hO hH 0 c).after 8 t) y = _
      rw [after0_8]
    rw [hy, he]
    refine (congrArg _ ((congrArg ((dats m hO hH 0 c).flushed 8 t) hy.symm).trans hv)).trans ?_
    refine Eq.trans ?_ hg
    show aft m hO hH c t.val t.isLt y = _
    exact congrArg (aft m hO hH c t.val t.isLt) hy
  · intro (i : S4096x1792.Idx)
    have h0 : (i 0).val < 4096 := (i 0).isLt
    have h1 : (i 1).val < 1792 := (i 1).isLt
    obtain ⟨w, hw, ht, hl⟩ := cover ho ((i 0).val / 256) (by omega)
    have hn : 24 * ((i 1).val / 256) + w < (cfgM m hO).N := (show 24 * ((i 1).val / 256) + w < 168 by omega)
    have e1 := coords1 ⟨24 * ((i 1).val / 256) + w, hn⟩
    have e0 := coords0 ⟨24 * ((i 1).val / 256) + w, hn⟩
    simp only at e1 e0
    have e1' : (grid0.coords ⟨24 * ((i 1).val / 256) + w, hn⟩ 1).val = w := by omega
    have e0' : (grid0.coords ⟨24 * ((i 1).val / 256) + w, hn⟩ 0).val = (i 1).val / 256 := by omega
    refine ⟨⟨24 * ((i 1).val / 256) + w, hn⟩, flush_true m ho hO _ hn (by rw [e1']; exact hl), ?_⟩
    have he := emb8 m ho hO ⟨24 * ((i 1).val / 256) + w, hn⟩ ⟨(i 0).val % 256, by omega⟩ ⟨(i 1).val % 256, by omega⟩
    have hi : (i : S4096x1792.Idx) = (((cfgM m hO).win 8).blk ⟨24 * ((i 1).val / 256) + w, hn⟩).view.emb (ix2 (⟨(i 0).val % 256, by omega⟩ : Fin 256) (⟨(i 1).val % 256, by omega⟩ : Fin 256)) := by
      refine Eq.trans ?_ he.symm
      refine Shape.idx_ext₂ ?_ ?_
      · show (i 0).val = 256 * tile (offsM m 0) (grid0.coords ⟨24 * ((i 1).val / 256) + w, hn⟩ 1).val + (i 0).val % 256
        rw [e1', ht]
        omega
      · show (i 1).val = 256 * (grid0.coords ⟨24 * ((i 1).val / 256) + w, hn⟩ 0).val + (i 1).val % 256
        rw [e0']
        omega
    exact Finset.mem_map.mpr ⟨_, Finset.mem_univ _, hi.symm⟩

end Cert.KernelIdeal.Gen

end
-- ==== Proof.ReferenceIdeal.Host.lean ====
/-
  The reference's host operations: the domain of every row, and the rows of scales and shifts widened.
-/
module

public import proofs.«01_k».proof.Proof.Gen.ReferenceIdeal.Frame
public import proofs.«01_k».proof.Proof.HostWords

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

section
variable {F : FTy → Type} [FloatOps F] (X : Valuation τ sig (Elt F))

theorem keep0 (b : Ref sig .tc) (hb : b ∈ [main_arg4, main_arg6, main_arg7, main_arg8]) : StableHlo.after hostOps0 X b = X b := by
  refine StableHlo.after_of_forall_not_mem (b := Proc.devRef .tc b) _ _ (List.forall_iff_forall_mem.mp ?_)
  simp only [List.mem_cons, List.not_mem_nil, or_false] at hb
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep0_main_arg4 : StableHlo.after hostOps0 X main_arg4 = X main_arg4 := keep0 X _ (by simp)
theorem keep0_main_arg6 : StableHlo.after hostOps0 X main_arg6 = X main_arg6 := keep0 X _ (by simp)
theorem keep0_main_arg7 : StableHlo.after hostOps0 X main_arg7 = X main_arg7 := keep0 X _ (by simp)
theorem keep0_main_arg8 : StableHlo.after hostOps0 X main_arg8 = X main_arg8 := keep0 X _ (by simp)
theorem keep1 (b : Ref sig .tc) (hb : b ∈ [main_arg4, main_arg6, main_arg7, main_arg8]) : StableHlo.after hostOps0_1 X b = X b := by
  refine StableHlo.after_of_forall_not_mem (b := Proc.devRef .tc b) _ _ (List.forall_iff_forall_mem.mp ?_)
  simp only [List.mem_cons, List.not_mem_nil, or_false] at hb
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep1_main_arg4 : StableHlo.after hostOps0_1 X main_arg4 = X main_arg4 := keep1 X _ (by simp)
theorem keep1_main_arg6 : StableHlo.after hostOps0_1 X main_arg6 = X main_arg6 := keep1 X _ (by simp)
theorem keep1_main_arg7 : StableHlo.after hostOps0_1 X main_arg7 = X main_arg7 := keep1 X _ (by simp)
theorem keep1_main_arg8 : StableHlo.after hostOps0_1 X main_arg8 = X main_arg8 := keep1 X _ (by simp)

theorem st0_main_v0 : StableHlo.after hostOps0 X main_v0 = extractStridedSlice S9 ![1] (X main_arg0 : IVec S10 32) slices_S10_S9_1 := by
  after_results_simp
  all_goals rfl
theorem st0_main_v1 : StableHlo.after hostOps0 X main_v1 = iotaInDim S4096 32 0 := by
  after_results_simp
  all_goals rfl
theorem st1_main_v2 : StableHlo.after hostOps0_1 X main_v2 = Host.reduce IntOp.addi (extui 32 (cmpi .sle
      (broadcastInDim S9x4096 ![0, 1] bcast_S9x1_S9x4096_0_1 (broadcastInDim S9x1 ![0] bcast_S9_S9x1_0 (X main_v0 : IVec S9 32)))
      (broadcastInDim S9x4096 ![0, 1] bcast_S1x4096_S9x4096_0_1 (broadcastInDim S1x4096 ![1] bcast_S4096_S1x4096_1 (X main_v1 : IVec S4096 32)))) natLt_1_32)
    (constantI S_ 32 0#32) reducesTo_S9x4096_S4096_d0 h_S_ := by
  after_results_simp
  simp only [StableHlo.TRef.toBuf, StableHlo.TRef.ofBuf, cast_eq]
  all_goals rfl
theorem st2_main_v3 : StableHlo.after hostOps0_2 X main_v3 = broadcastInDim S4096x1 ![0] bcast_S4096_S4096x1_0 (X main_v2 : IVec S4096 32) := by
  after_results_simp
  all_goals rfl
theorem st2_main_v4 : StableHlo.after hostOps0_2 X main_v4 = broadcastInDim S1x1792 ![1] bcast_S1792_S1x1792_1 (X main_arg4) := by
  after_results_simp
  all_goals rfl
theorem st2_main_v6 : StableHlo.after hostOps0_2 X main_v6 = broadcastInDim S1x1792 ![1] bcast_S1792_S1x1792_1 (X main_arg7) := by
  after_results_simp
  all_goals rfl
theorem st2_main_v5 : StableHlo.after hostOps0_2 X main_v5 = broadcastInDim S9x1x1792 ![0, 2] bcast_S9x1792_S9x1x1792_0_2 (X main_arg6) := by
  after_results_simp
  all_goals rfl
theorem st2_main_v7 : StableHlo.after hostOps0_2 X main_v7 = broadcastInDim S9x1x1792 ![0, 2] bcast_S9x1792_S9x1x1792_0_2 (X main_arg8) := by
  after_results_simp
  all_goals rfl
end

variable {F : FTy → Type} [FloatOps F] (m : (ℓ : Loc nD τ sig) → Buf (Elt F) ℓ) (c : Dev nD)

/-- The buffers before the last stretch. -/
def Y1 : Valuation τ sig (Elt F) := StableHlo.after hostOps0 (fun b => m (c, b))
def Y2 : Valuation τ sig (Elt F) := StableHlo.after hostOps0_1 (Y1 m c)

theorem V_eq (b : Ref sig .tc) : V m c b = StableHlo.after hostOps0_2 (Y2 m c) b := by
  unfold V
  simp only [List.flatten_cons, List.flatten_nil, List.append_nil, StableHlo.after_append]
  rfl

/-- The offsets given, as natural numbers. -/
abbrev offsR : ℕ → ℕ := offs (m ((c : Thread nD τ).loc main_arg0) : IVec S10 32)

theorem V_row (ho : Offs (offsR m c)) (r : Fin 4096) : (V m c main_v3 : IVec S4096x1 32) (ix2 r 0) = wd (rowDom (offsR m c) r) := by
  refine (congrFun ((V_eq m c main_v3).trans (st2_main_v3 (Y2 m c))) (ix2 r 0)).trans ?_
  refine (broadcastInDim_apply _ _ _ (ix2 r 0) (ix1 r) (fun a => ?_)).trans ?_
  · match a with
    | ⟨0, _⟩ => exact (if_neg (show ¬ (4096 : ℕ) = 1 by decide)).symm
  · unfold Y2
    rw [st1_main_v2]
    refine row_word bcast_S9_S9x1_0 bcast_S9x1_S9x4096_0_1 bcast_S4096_S1x4096_1 bcast_S1x4096_S9x4096_0_1 natLt_1_32 reducesTo_S9x4096_S4096_d0 h_S_ ho _ _ ?_ ?_ r
    · intro d
      unfold Y1
      rw [st0_main_v0]
      refine (Routing.slice1 1 _ slices_S10_S9_1 d (by omega)).trans ?_
      refine (offs_word _ _).trans (congrArg (fun n => wd (offsR m c n)) ?_)
      show 1 + d.val = d.val + 1
      omega
    · intro r
      unfold Y1
      rw [st0_main_v1]
      rfl
theorem V_ss (n : Fin 1792) : (V m c main_v4 : S1x1792.Idx → F .f32) (ix2 0 n) = (m ((c : Thread nD τ).loc main_arg4) : S1792.Idx → F .f32) (ix1 n) := by
  refine (congrFun ((V_eq m c main_v4).trans (st2_main_v4 (Y2 m c))) (ix2 0 n)).trans ?_
  refine (broadcastInDim_apply _ _ _ (ix2 0 n) (ix1 n) (fun a => ?_)).trans (congrFun ((keep1_main_arg4 _).trans (keep0_main_arg4 _)) _)
  match a with
  | ⟨0, _⟩ => exact (if_neg (show ¬ (1792 : ℕ) = 1 by decide)).symm
theorem V_bs (n : Fin 1792) : (V m c main_v6 : S1x1792.Idx → F .f32) (ix2 0 n) = (m ((c : Thread nD τ).loc main_arg7) : S1792.Idx → F .f32) (ix1 n) := by
  refine (congrFun ((V_eq m c main_v6).trans (st2_main_v6 (Y2 m c))) (ix2 0 n)).trans ?_
  refine (broadcastInDim_apply _ _ _ (ix2 0 n) (ix1 n) (fun a => ?_)).trans (congrFun ((keep1_main_arg7 _).trans (keep0_main_arg7 _)) _)
  match a with
  | ⟨0, _⟩ => exact (if_neg (show ¬ (1792 : ℕ) = 1 by decide)).symm
theorem V_sp (d : Fin 9) (n : Fin 1792) : (V m c main_v5 : S9x1x1792.Idx → F .f32) (ix3 d 0 n) = (m ((c : Thread nD τ).loc main_arg6) : S9x1792.Idx → F .f32) (ix2 d n) := by
  refine (congrFun ((V_eq m c main_v5).trans (st2_main_v5 (Y2 m c))) (ix3 d 0 n)).trans ?_
  refine (broadcastInDim_apply _ _ _ (ix3 d 0 n) (ix2 d n) (fun a => ?_)).trans (congrFun ((keep1_main_arg6 _).trans (keep0_main_arg6 _)) _)
  match a with
  | ⟨0, _⟩ => exact (if_neg (show ¬ (9 : ℕ) = 1 by decide)).symm
  | ⟨1, _⟩ => exact (if_neg (show ¬ (1792 : ℕ) = 1 by decide)).symm
theorem V_bp (d : Fin 9) (n : Fin 1792) : (V m c main_v7 : S9x1x1792.Idx → F .f32) (ix3 d 0 n) = (m ((c : Thread nD τ).loc main_arg8) : S9x1792.Idx → F .f32) (ix2 d n) := by
  refine (congrFun ((V_eq m c main_v7).trans (st2_main_v7 (Y2 m c))) (ix3 d 0 n)).trans ?_
  refine (broadcastInDim_apply _ _ _ (ix3 d 0 n) (ix2 d n) (fun a => ?_)).trans (congrFun ((keep1_main_arg8 _).trans (keep0_main_arg8 _)) _)
  match a with
  | ⟨0, _⟩ => exact (if_neg (show ¬ (9 : ℕ) = 1 by decide)).symm
  | ⟨1, _⟩ => exact (if_neg (show ¬ (1792 : ℕ) = 1 by decide)).symm

end Cert.ReferenceIdeal.Gen

end
-- ==== Proof.Star.lean ====
module

public import proofs.«01_k».proof.Proof.Layer

/-!
# The layer written plainly

The reference computes the layer for all rows with the weights of each of the nine domains in turn, and keeps in each
row the values of the row's own domain.  `rowsV` is the layer of all rows with one domain's weights, `starV` the nine
choices; `rowsV_H` and `starV_apply` read them entry by entry.
-/

@[expose] public section

set_option maxRecDepth 16384

noncomputable section

namespace Cert.Layer

open Idealize.ShloMosaic Idealize.ShloMosaic.ValueIdx Idealize.ShloMosaic.WordCmp Cert.HostWords

variable {M K N D : ℕ}

/-- The layer of all rows with one domain's weights. -/
def rowsV (A : FVec Ideal ⟨2, ![M, K]⟩ .fp8e4m3) (W : FVec Ideal ⟨2, ![K, N]⟩ .fp8e4m3) (Wd : FVec Ideal ⟨3, ![1, K, N]⟩ .fp8e4m3)
    (sx : FVec Ideal ⟨2, ![M, 1]⟩ .f32) (ss : FVec Ideal ⟨2, ![1, N]⟩ .f32) (sp : FVec Ideal ⟨3, ![1, 1, N]⟩ .f32)
    (bs : FVec Ideal ⟨2, ![1, N]⟩ .f32) (bp : FVec Ideal ⟨3, ![1, 1, N]⟩ .f32)
    (hb : FTy.bits .fp8e4m3 < FTy.bits .bf16) (h1 : (⟨2, ![M, 1]⟩ : Shape).Broadcasts ⟨2, ![M, N]⟩) (h2 : (⟨2, ![1, N]⟩ : Shape).Broadcasts ⟨2, ![M, N]⟩)
    (h3 : (⟨2, ![1, N]⟩ : Shape).ShapeCasts ⟨2, ![1, N]⟩) (h4 : (⟨3, ![1, 1, N]⟩ : Shape).ShapeCasts ⟨2, ![1, N]⟩)
    (hc : (⟨3, ![1, K, N]⟩ : Shape).ShapeCasts ⟨2, ![K, N]⟩) : FVec Ideal ⟨2, ![M, N]⟩ .f32 :=
  addf (mulf (mulf (FloatOps.matmul (DotDims.plain M K N) none (extf .bf16 A hb)
          (mulf (extf .bf16 W hb) (extf .bf16 (shapeCast ⟨2, ![K, N]⟩ Wd hc) hb)) (constant ⟨2, ![M, N]⟩ .f32 0x00000000#32))
        (broadcastTo ⟨2, ![M, N]⟩ sx h1))
        (broadcastTo ⟨2, ![M, N]⟩ (mulf (shapeCast ⟨2, ![1, N]⟩ ss h3) (shapeCast ⟨2, ![1, N]⟩ sp h4)) h2))
      (broadcastTo ⟨2, ![M, N]⟩ (addf (shapeCast ⟨2, ![1, N]⟩ bs h3) (shapeCast ⟨2, ![1, N]⟩ bp h4)) h2)

/-- It is the formula of the layer, where its operands are the layer's. -/
theorem rowsV_H (A : FVec Ideal ⟨2, ![M, K]⟩ .fp8e4m3) (W : FVec Ideal ⟨2, ![K, N]⟩ .fp8e4m3) (Wd : FVec Ideal ⟨3, ![1, K, N]⟩ .fp8e4m3)
    (sx' : FVec Ideal ⟨2, ![M, 1]⟩ .f32) (ss' : FVec Ideal ⟨2, ![1, N]⟩ .f32) (sp' : FVec Ideal ⟨3, ![1, 1, N]⟩ .f32)
    (bs' : FVec Ideal ⟨2, ![1, N]⟩ .f32) (bp' : FVec Ideal ⟨3, ![1, 1, N]⟩ .f32)
    (hb : FTy.bits .fp8e4m3 < FTy.bits .bf16) (h1 : (⟨2, ![M, 1]⟩ : Shape).Broadcasts ⟨2, ![M, N]⟩) (h2 : (⟨2, ![1, N]⟩ : Shape).Broadcasts ⟨2, ![M, N]⟩)
    (h3 : (⟨2, ![1, N]⟩ : Shape).ShapeCasts ⟨2, ![1, N]⟩) (h4 : (⟨3, ![1, 1, N]⟩ : Shape).ShapeCasts ⟨2, ![1, N]⟩)
    (hc : (⟨3, ![1, K, N]⟩ : Shape).ShapeCasts ⟨2, ![K, N]⟩)
    (codes : FVec Ideal ⟨2, ![M, K]⟩ .fp8e4m3) (sx : FVec Ideal ⟨2, ![M, 1]⟩ .f32) (ws : FVec Ideal ⟨2, ![K, N]⟩ .fp8e4m3)
    (ss : FVec Ideal ⟨1, ![N]⟩ .f32) (wp : FVec Ideal ⟨3, ![D, K, N]⟩ .fp8e4m3) (sp : FVec Ideal ⟨2, ![D, N]⟩ .f32)
    (bs : FVec Ideal ⟨1, ![N]⟩ .f32) (bp : FVec Ideal ⟨2, ![D, N]⟩ .f32) (r : Fin M) (d : Fin D) (n : Fin N)
    (eA : ∀ k, A (ix2 r k) = codes (ix2 r k)) (eW : ∀ k, W (ix2 k n) = ws (ix2 k n)) (eWd : ∀ k, Wd (ix3 0 k n) = wp (ix3 d k n))
    (esx : sx' (ix2 r 0) = sx (ix2 r 0)) (ess : ss' (ix2 0 n) = ss (ix1 n)) (esp : sp' (ix3 0 0 n) = sp (ix2 d n))
    (ebs : bs' (ix2 0 n) = bs (ix1 n)) (ebp : bp' (ix3 0 0 n) = bp (ix2 d n)) :
    rowsV A W Wd sx' ss' sp' bs' bp' hb h1 h2 h3 h4 hc (ix2 r n) = H codes sx ws ss wp sp bs bp r d n := by
  unfold rowsV H
  rw [rows_apply, esx, ess, esp, ebs, ebp]
  have e : ∀ k : Fin K, A (ix2 r k) * mulf (extf .bf16 W hb) (extf .bf16 (shapeCast ⟨2, ![K, N]⟩ Wd hc) hb) (ix2 k n)
      = codes (ix2 r k) * (ws (ix2 k n) * wp (ix3 d k n)) := fun k => by
    rw [prod_apply, eA, eW, eWd]
  rw [Finset.sum_congr rfl fun k _ => e k]

/-- One choice: the rows whose domain is `d` take `x`, the others `y`. -/
def pickV (v : IVec ⟨2, ![M, 1]⟩ 32) (h1 : (⟨2, ![M, 1]⟩ : Shape).ShapeCasts ⟨2, ![M, 1]⟩)
    (h2 : (⟨2, ![M, 1]⟩ : Shape).Broadcasts ⟨2, ![M, N]⟩) (d : ℕ) (x y : FVec Ideal ⟨2, ![M, N]⟩ .f32) : FVec Ideal ⟨2, ![M, N]⟩ .f32 :=
  select (broadcastTo ⟨2, ![M, N]⟩ (shapeCast ⟨2, ![M, 1]⟩ (cmpi .eq (shapeCast ⟨2, ![M, 1]⟩ v h1) (broadcast ⟨2, ![M, 1]⟩ (wd d))) h1) h2) x y

/-- The nine choices, one after another. -/
def starV (v : IVec ⟨2, ![M, 1]⟩ 32) (h1 : (⟨2, ![M, 1]⟩ : Shape).ShapeCasts ⟨2, ![M, 1]⟩)
    (h2 : (⟨2, ![M, 1]⟩ : Shape).Broadcasts ⟨2, ![M, N]⟩) (x0 x1 x2 x3 x4 x5 x6 x7 x8 : FVec Ideal ⟨2, ![M, N]⟩ .f32) : FVec Ideal ⟨2, ![M, N]⟩ .f32 :=
  pickV v h1 h2 8 x8 (pickV v h1 h2 7 x7 (pickV v h1 h2 6 x6 (pickV v h1 h2 5 x5 (pickV v h1 h2 4 x4 (pickV v h1 h2 3 x3
    (pickV v h1 h2 2 x2 (pickV v h1 h2 1 x1 (pickV v h1 h2 0 x0 (broadcast ⟨2, ![M, N]⟩ (Scalar.ofBits .f32 0x00000000#32 : Ideal .f32))))))))))

/-- A row has the values of its own domain. -/
theorem starV_apply (v : IVec ⟨2, ![M, 1]⟩ 32) (h1 : (⟨2, ![M, 1]⟩ : Shape).ShapeCasts ⟨2, ![M, 1]⟩)
    (h2 : (⟨2, ![M, 1]⟩ : Shape).Broadcasts ⟨2, ![M, N]⟩) (x0 x1 x2 x3 x4 x5 x6 x7 x8 : FVec Ideal ⟨2, ![M, N]⟩ .f32)
    (r : Fin M) (n : Fin N) (e : Fin 9) (hv : v (ix2 r 0) = wd e) (f : Fin 9 → EReal)
    (e0 : x0 (ix2 r n) = f 0) (e1 : x1 (ix2 r n) = f 1) (e2 : x2 (ix2 r n) = f 2) (e3 : x3 (ix2 r n) = f 3) (e4 : x4 (ix2 r n) = f 4)
    (e5 : x5 (ix2 r n) = f 5) (e6 : x6 (ix2 r n) = f 6) (e7 : x7 (ix2 r n) = f 7) (e8 : x8 (ix2 r n) = f 8) :
    starV v h1 h2 x0 x1 x2 x3 x4 x5 x6 x7 x8 (ix2 r n) = f e := by
  have he := e.isLt
  have p : ∀ (d : ℕ) (x y : FVec Ideal ⟨2, ![M, N]⟩ .f32), d < 16 →
      pickV v h1 h2 d x y (ix2 r n) = if e.val = d then x (ix2 r n) else y (ix2 r n) :=
    fun d x y hd => pick_apply x y v d e hd (by omega) h1 h1 h2 r n hv
  unfold starV
  rw [p 8 _ _ (by decide), p 7 _ _ (by decide), p 6 _ _ (by decide), p 5 _ _ (by decide), p 4 _ _ (by decide), p 3 _ _ (by decide),
    p 2 _ _ (by decide), p 1 _ _ (by decide), p 0 _ _ (by decide), e0, e1, e2, e3, e4, e5, e6, e7, e8]
  generalize broadcast (⟨2, ![M, N]⟩ : Shape) (Scalar.ofBits .f32 0x00000000#32 : Ideal .f32) (ix2 r n) = z
  clear p hv
  fin_cases e <;> rfl

end Cert.Layer

end
-- ==== Proof.ReferenceIdeal.Value.lean ====
/-
  The value of the reference over the reals: its result entry by entry.
-/
module

public import proofs.«01_k».proof.Proof.ReferenceIdeal.Host
public import proofs.«01_k».proof.Proof.Gen.ReferenceIdeal.Value
public import proofs.«01_k».proof.Proof.Star

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

variable (m : (ℓ : Loc nD τ sig) → Buf (Elt Ideal) ℓ)

/-! The program's arguments, as vectors of reals. -/
abbrev ar1 (c : Dev nD) : FVec Ideal S4096x7168 .fp8e4m3 := m ((c : Thread nD τ).loc main_arg1)
abbrev ar2 (c : Dev nD) : FVec Ideal S4096x1 .f32 := m ((c : Thread nD τ).loc main_arg2)
abbrev ar3 (c : Dev nD) : FVec Ideal S7168x1792 .fp8e4m3 := m ((c : Thread nD τ).loc main_arg3)
abbrev ar4 (c : Dev nD) : FVec Ideal S1792 .f32 := m ((c : Thread nD τ).loc main_arg4)
abbrev ar5 (c : Dev nD) : FVec Ideal S9x7168x1792 .fp8e4m3 := m ((c : Thread nD τ).loc main_arg5)
abbrev ar6 (c : Dev nD) : FVec Ideal S9x1792 .f32 := m ((c : Thread nD τ).loc main_arg6)
abbrev ar7 (c : Dev nD) : FVec Ideal S1792 .f32 := m ((c : Thread nD τ).loc main_arg7)
abbrev ar8 (c : Dev nD) : FVec Ideal S9x1792 .f32 := m ((c : Thread nD τ).loc main_arg8)

/-! Every block is its whole array. -/
theorem blk0 (c : Dev nD) (t : Fin cfg0.N) (y : S4096x1.Idx) : (iblk m c 0 t : S4096x1.Idx → Elt Ideal .i32) y = (V m c main_v3 : S4096x1.Idx → Elt Ideal .i32) y :=
  congrArg (V m c main_v3 : S4096x1.Idx → Elt Ideal .i32) (funext fun a => Fin.ext (win0_0.rect_emb_val_of_index_zero t a (by
    match a with
    | ⟨0, _⟩ => rfl
    | ⟨1, _⟩ => rfl
    ) y))
theorem blk1 (c : Dev nD) (t : Fin cfg0.N) (y : S4096x7168.Idx) : (iblk m c 1 t : S4096x7168.Idx → Elt Ideal .fp8e4m3) y = (V m c main_arg1 : S4096x7168.Idx → Elt Ideal .fp8e4m3) y :=
  congrArg (V m c main_arg1 : S4096x7168.Idx → Elt Ideal .fp8e4m3) (funext fun a => Fin.ext (win0_1.rect_emb_val_of_index_zero t a (by
    match a with
    | ⟨0, _⟩ => rfl
    | ⟨1, _⟩ => rfl
    ) y))
theorem blk2 (c : Dev nD) (t : Fin cfg0.N) (y : S4096x1.Idx) : (iblk m c 2 t : S4096x1.Idx → Elt Ideal .f32) y = (V m c main_arg2 : S4096x1.Idx → Elt Ideal .f32) y :=
  congrArg (V m c main_arg2 : S4096x1.Idx → Elt Ideal .f32) (funext fun a => Fin.ext (win0_2.rect_emb_val_of_index_zero t a (by
    match a with
    | ⟨0, _⟩ => rfl
    | ⟨1, _⟩ => rfl
    ) y))
theorem blk3 (c : Dev nD) (t : Fin cfg0.N) (y : S7168x1792.Idx) : (iblk m c 3 t : S7168x1792.Idx → Elt Ideal .fp8e4m3) y = (V m c main_arg3 : S7168x1792.Idx → Elt Ideal .fp8e4m3) y :=
  congrArg (V m c main_arg3 : S7168x1792.Idx → Elt Ideal .fp8e4m3) (funext fun a => Fin.ext (win0_3.rect_emb_val_of_index_zero t a (by
    match a with
    | ⟨0, _⟩ => rfl
    | ⟨1, _⟩ => rfl
    ) y))
theorem blk4 (c : Dev nD) (t : Fin cfg0.N) (y : S1x1792.Idx) : (iblk m c 4 t : S1x1792.Idx → Elt Ideal .f32) y = (V m c main_v4 : S1x1792.Idx → Elt Ideal .f32) y :=
  congrArg (V m c main_v4 : S1x1792.Idx → Elt Ideal .f32) (funext fun a => Fin.ext (win0_4.rect_emb_val_of_index_zero t a (by
    match a with
    | ⟨0, _⟩ => rfl
    | ⟨1, _⟩ => rfl
    ) y))
theorem blk5 (c : Dev nD) (t : Fin cfg0.N) (y : S9x7168x1792.Idx) : (iblk m c 5 t : S9x7168x1792.Idx → Elt Ideal .fp8e4m3) y = (V m c main_arg5 : S9x7168x1792.Idx → Elt Ideal .fp8e4m3) y :=
  congrArg (V m c main_arg5 : S9x7168x1792.Idx → Elt Ideal .fp8e4m3) (funext fun a => Fin.ext (win0_5.rect_emb_val_of_index_zero t a (by
    match a with
    | ⟨0, _⟩ => rfl
    | ⟨1, _⟩ => rfl
    | ⟨2, _⟩ => rfl
    ) y))
theorem blk6 (c : Dev nD) (t : Fin cfg0.N) (y : S9x1x1792.Idx) : (iblk m c 6 t : S9x1x1792.Idx → Elt Ideal .f32) y = (V m c main_v5 : S9x1x1792.Idx → Elt Ideal .f32) y :=
  congrArg (V m c main_v5 : S9x1x1792.Idx → Elt Ideal .f32) (funext fun a => Fin.ext (win0_6.rect_emb_val_of_index_zero t a (by
    match a with
    | ⟨0, _⟩ => rfl
    | ⟨1, _⟩ => rfl
    | ⟨2, _⟩ => rfl
    ) y))
theorem blk7 (c : Dev nD) (t : Fin cfg0.N) (y : S1x1792.Idx) : (iblk m c 7 t : S1x1792.Idx → Elt Ideal .f32) y = (V m c main_v6 : S1x1792.Idx → Elt Ideal .f32) y :=
  congrArg (V m c main_v6 : S1x1792.Idx → Elt Ideal .f32) (funext fun a => Fin.ext (win0_7.rect_emb_val_of_index_zero t a (by
    match a with
    | ⟨0, _⟩ => rfl
    | ⟨1, _⟩ => rfl
    ) y))
theorem blk8 (c : Dev nD) (t : Fin cfg0.N) (y : S9x1x1792.Idx) : (iblk m c 8 t : S9x1x1792.Idx → Elt Ideal .f32) y = (V m c main_v7 : S9x1x1792.Idx → Elt Ideal .f32) y :=
  congrArg (V m c main_v7 : S9x1x1792.Idx → Elt Ideal .f32) (funext fun a => Fin.ext (win0_8.rect_emb_val_of_index_zero t a (by
    match a with
    | ⟨0, _⟩ => rfl
    | ⟨1, _⟩ => rfl
    | ⟨2, _⟩ => rfl
    ) y))
theorem emb9 (t : Fin cfg0.N) (y : S4096x1792.Idx) : ((cfg0.win 9).blk t).view.emb y = y :=
  funext fun a => Fin.ext (win0_9.rect_emb_val_of_index_zero t a (by
    match a with
    | ⟨0, _⟩ => rfl
    | ⟨1, _⟩ => rfl) y)

/-! The slab of one domain. -/
theorem ld_w (x : S9x7168x1792.Idx → Elt Ideal .fp8e4m3) (off : Fin 3 → ℕ) (inb : ∀ a, off a + S1x7168x1792.size a ≤ S9x7168x1792.size a) (d : Fin 9)
    (h0 : off 0 = d.val) (h1 : off 1 = 0) (h2 : off 2 = 0) (k : Fin 7168) (n : Fin 1792) :
    View.ld (Val := Elt Ideal) (e' := .fp8e4m3) x (Rect.unit (s := S9x7168x1792) off S1x7168x1792.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))
theorem ld_s (x : S9x1x1792.Idx → Elt Ideal .f32) (off : Fin 3 → ℕ) (inb : ∀ a, off a + S1x1x1792.size a ≤ S9x1x1792.size a) (d : Fin 9)
    (h0 : off 0 = d.val) (h1 : off 1 = 0) (h2 : off 2 = 0) (k : Fin 1) (n : Fin 1792) :
    View.ld (Val := Elt Ideal) (e' := .f32) x (Rect.unit (s := S9x1x1792) off S1x1x1792.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))

theorem z2 : (![0, 0] : Fin 2 → ℕ) = fun _ => 0 := funext fun a => by
  match a with
  | ⟨0, _⟩ => rfl
  | ⟨1, _⟩ => rfl

/-- One domain's rows. -/
abbrev rws (A : FVec Ideal S4096x7168 .fp8e4m3) (W : FVec Ideal S7168x1792 .fp8e4m3) (Wd : FVec Ideal S1x7168x1792 .fp8e4m3)
    (sx : FVec Ideal S4096x1 .f32) (ss : FVec Ideal S1x1792 .f32) (sp : FVec Ideal S1x1x1792 .f32) (bs : FVec Ideal S1x1792 .f32) (bp : FVec Ideal S1x1x1792 .f32) : FVec Ideal S4096x1792 .f32 :=
  Layer.rowsV A W Wd sx ss sp bs bp bitsLt_fp8e4m3_bf16 broadcasts_S4096x1_S4096x1792 broadcasts_S1x1792_S4096x1792 shapeCasts_S1x1792_S1x1792
    shapeCasts_S1x1x1792_S1x1792 shapeCasts_S1x7168x1792_S7168x1792

variable (x0 : IVec S4096x1 32) (x1 : FVec Ideal S4096x7168 .fp8e4m3) (x2 : FVec Ideal S4096x1 .f32) (x3 : FVec Ideal S7168x1792 .fp8e4m3) (x4 : FVec Ideal S1x1792 .f32)
  (x5 : FVec Ideal S9x7168x1792 .fp8e4m3) (x6 : FVec Ideal S9x1x1792 .f32) (x7 : FVec Ideal S1x1792 .f32) (x8 : FVec Ideal S9x1x1792 .f32)

/-- What the body leaves: the nine choices, and the activation. -/
theorem out_eq : out0_9 (F := Ideal) x0 x1 x2 x3 x4 x5 x6 x7 x8
    = maximumf (F := Ideal) (s := S4096x1792) (Layer.starV (View.ld (Val := Elt Ideal) (e' := .i32) x0 r0_3) shapeCasts_S4096x1_S4096x1 broadcasts_S4096x1_S4096x1792
      (rws (View.ld (Val := Elt Ideal) (e' := .fp8e4m3) x1 r0_2) (View.ld (Val := Elt Ideal) (e' := .fp8e4m3) x3 r0_0) (View.ld (Val := Elt Ideal) (e' := .fp8e4m3) x5 r0_1) (View.ld (Val := Elt Ideal) (e' := .f32) x2 r0_3) (View.ld (Val := Elt Ideal) (e' := .f32) x4 r0_4) (View.ld (Val := Elt Ideal) (e' := .f32) x6 r0_5) (View.ld (Val := Elt Ideal) (e' := .f32) x7 r0_4) (View.ld (Val := Elt Ideal) (e' := .f32) x8 r0_5))
      (rws (View.ld (Val := Elt Ideal) (e' := .fp8e4m3) x1 r0_2) (View.ld (Val := Elt Ideal) (e' := .fp8e4m3) x3 r0_0) (View.ld (Val := Elt Ideal) (e' := .fp8e4m3) x5 r0_6) (View.ld (Val := Elt Ideal) (e' := .f32) x2 r0_3) (View.ld (Val := Elt Ideal) (e' := .f32) x4 r0_4) (View.ld (Val := Elt Ideal) (e' := .f32) x6 r0_7) (View.ld (Val := Elt Ideal) (e' := .f32) x7 r0_4) (View.ld (Val := Elt Ideal) (e' := .f32) x8 r0_7))
      (rws (View.ld (Val := Elt Ideal) (e' := .fp8e4m3) x1 r0_2) (View.ld (Val := Elt Ideal) (e' := .fp8e4m3) x3 r0_0) (View.ld (Val := Elt Ideal) (e' := .fp8e4m3) x5 r0_8) (View.ld (Val := Elt Ideal) (e' := .f32) x2 r0_3) (View.ld (Val := Elt Ideal) (e' := .f32) x4 r0_4) (View.ld (Val := Elt Ideal) (e' := .f32) x6 r0_9) (View.ld (Val := Elt Ideal) (e' := .f32) x7 r0_4) (View.ld (Val := Elt Ideal) (e' := .f32) x8 r0_9))
      (rws (View.ld (Val := Elt Ideal) (e' := .fp8e4m3) x1 r0_2) (View.ld (Val := Elt Ideal) (e' := .fp8e4m3) x3 r0_0) (View.ld (Val := Elt Ideal) (e' := .fp8e4m3) x5 r0_10) (View.ld (Val := Elt Ideal) (e' := .f32) x2 r0_3) (View.ld (Val := Elt Ideal) (e' := .f32) x4 r0_4) (View.ld (Val := Elt Ideal) (e' := .f32) x6 r0_11) (View.ld (Val := Elt Ideal) (e' := .f32) x7 r0_4) (View.ld (Val := Elt Ideal) (e' := .f32) x8 r0_11))
      (rws (View.ld (Val := Elt Ideal) (e' := .fp8e4m3) x1 r0_2) (View.ld (Val := Elt Ideal) (e' := .fp8e4m3) x3 r0_0) (View.ld (Val := Elt Ideal) (e' := .fp8e4m3) x5 r0_12) (View.ld (Val := Elt Ideal) (e' := .f32) x2 r0_3) (View.ld (Val := Elt Ideal) (e' := .f32) x4 r0_4) (View.ld (Val := Elt Ideal) (e' := .f32) x6 r0_13) (View.ld (Val := Elt Ideal) (e' := .f32) x7 r0_4) (View.ld (Val := Elt Ideal) (e' := .f32) x8 r0_13))
      (rws (View.ld (Val := Elt Ideal) (e' := .fp8e4m3) x1 r0_2) (View.ld (Val := Elt Ideal) (e' := .fp8e4m3) x3 r0_0) (View.ld (Val := Elt Ideal) (e' := .fp8e4m3) x5 r0_14) (View.ld (Val := Elt Ideal) (e' := .f32) x2 r0_3) (View.ld (Val := Elt Ideal) (e' := .f32) x4 r0_4) (View.ld (Val := Elt Ideal) (e' := .f32) x6 r0_15) (View.ld (Val := Elt Ideal) (e' := .f32) x7 r0_4) (View.ld (Val := Elt Ideal) (e' := .f32) x8 r0_15))
      (rws (View.ld (Val := Elt Ideal) (e' := .fp8e4m3) x1 r0_2) (View.ld (Val := Elt Ideal) (e' := .fp8e4m3) x3 r0_0) (View.ld (Val := Elt Ideal) (e' := .fp8e4m3) x5 r0_16) (View.ld (Val := Elt Ideal) (e' := .f32) x2 r0_3) (View.ld (Val := Elt Ideal) (e' := .f32) x4 r0_4) (View.ld (Val := Elt Ideal) (e' := .f32) x6 r0_17) (View.ld (Val := Elt Ideal) (e' := .f32) x7 r0_4) (View.ld (Val := Elt Ideal) (e' := .f32) x8 r0_17))
      (rws (View.ld (Val := Elt Ideal) (e' := .fp8e4m3) x1 r0_2) (View.ld (Val := Elt Ideal) (e' := .fp8e4m3) x3 r0_0) (View.ld (Val := Elt Ideal) (e' := .fp8e4m3) x5 r0_18) (View.ld (Val := Elt Ideal) (e' := .f32) x2 r0_3) (View.ld (Val := Elt Ideal) (e' := .f32) x4 r0_4) (View.ld (Val := Elt Ideal) (e' := .f32) x6 r0_19) (View.ld (Val := Elt Ideal) (e' := .f32) x7 r0_4) (View.ld (Val := Elt Ideal) (e' := .f32) x8 r0_19))
      (rws (View.ld (Val := Elt Ideal) (e' := .fp8e4m3) x1 r0_2) (View.ld (Val := Elt Ideal) (e' := .fp8e4m3) x3 r0_0) (View.ld (Val := Elt Ideal) (e' := .fp8e4m3) x5 r0_20) (View.ld (Val := Elt Ideal) (e' := .f32) x2 r0_3) (View.ld (Val := Elt Ideal) (e' := .f32) x4 r0_4) (View.ld (Val := Elt Ideal) (e' := .f32) x6 r0_21) (View.ld (Val := Elt Ideal) (e' := .f32) x7 r0_4) (View.ld (Val := Elt Ideal) (e' := .f32) x8 r0_21)))
      (broadcast S4096x1792 (Scalar.ofBits .f32 0x00000000#32 : Ideal .f32)) := by
  unfold out0_9
  refine (View.canon_unit_zero (Val := Elt Ideal) (e := .f32) (S := S4096x1792) z2 inb_S4096x1792_S4096x1792_0_0 _).trans ?_
  rfl

/-- The layer at a row, with the weights of one domain. -/
def Hr (c : Dev nD) (r : Fin 4096) (d : Fin 9) (n : Fin 1792) : EReal :=
  Layer.H (ar1 m c) (ar2 m c) (ar3 m c) (ar4 m c) (ar5 m c) (ar6 m c) (ar7 m c) (ar8 m c) r d n

theorem rws_H (c : Dev nD) (t : Fin cfg0.N) (r : Fin 4096) (d : Fin 9) (n : Fin 1792)
    (offw : Fin 3 → ℕ) (inbw : ∀ a, offw a + S1x7168x1792.size a ≤ S9x7168x1792.size a) (offs : Fin 3 → ℕ) (inbs : ∀ a, offs a + S1x1x1792.size a ≤ S9x1x1792.size a)
    (h0 : offw 0 = d.val) (h1 : offw 1 = 0) (h2 : offw 2 = 0) (g0 : offs 0 = d.val) (g1 : offs 1 = 0) (g2 : offs 2 = 0) :
    rws (View.ld (Val := Elt Ideal) (e' := .fp8e4m3) (iblk m c 1 t : S4096x7168.Idx → Elt Ideal .fp8e4m3) r0_2)
      (View.ld (Val := Elt Ideal) (e' := .fp8e4m3) (iblk m c 3 t : S7168x1792.Idx → Elt Ideal .fp8e4m3) r0_0)
      (View.ld (Val := Elt Ideal) (e' := .fp8e4m3) (iblk m c 5 t : S9x7168x1792.Idx → Elt Ideal .fp8e4m3) (Rect.unit (s := S9x7168x1792) offw S1x7168x1792.size inbw))
      (View.ld (Val := Elt Ideal) (e' := .f32) (iblk m c 2 t : S4096x1.Idx → Elt Ideal .f32) r0_3)
      (View.ld (Val := Elt Ideal) (e' := .f32) (iblk m c 4 t : S1x1792.Idx → Elt Ideal .f32) r0_4)
      (View.ld (Val := Elt Ideal) (e' := .f32) (iblk m c 6 t : S9x1x1792.Idx → Elt Ideal .f32) (Rect.unit (s := S9x1x1792) offs S1x1x1792.size inbs))
      (View.ld (Val := Elt Ideal) (e' := .f32) (iblk m c 7 t : S1x1792.Idx → Elt Ideal .f32) r0_4)
      (View.ld (Val := Elt Ideal) (e' := .f32) (iblk m c 8 t : S9x1x1792.Idx → Elt Ideal .f32) (Rect.unit (s := S9x1x1792) offs S1x1x1792.size inbs)) (ix2 r n)
    = Hr m c r d n := by
  refine Layer.rowsV_H _ _ _ _ _ _ _ _ _ _ _ _ _ _ (ar1 m c) (ar2 m c) (ar3 m c) (ar4 m c) (ar5 m c) (ar6 m c) (ar7 m c) (ar8 m c) r d n
    (fun k => ?_) (fun k => ?_) (fun k => ?_) ?_ ?_ ?_ ?_ ?_
  · exact (congrFun (View.ld_unit_zero (Val := Elt Ideal) (e := .fp8e4m3) (S := S4096x7168) z2 inb_S4096x7168_S4096x7168_0_0 _) (ix2 r k)).trans ((blk1 m c t _).trans (congrFun (V_main_arg1 m c) _))
  · exact (congrFun (View.ld_unit_zero (Val := Elt Ideal) (e := .fp8e4m3) (S := S7168x1792) z2 inb_S7168x1792_S7168x1792_0_0 _) (ix2 k n)).trans ((blk3 m c t _).trans (congrFun (V_main_arg3 m c) _))
  · exact (ld_w _ offw inbw d h0 h1 h2 k n).trans ((blk5 m c t _).trans (congrFun (V_main_arg5 m c) _))
  · exact (congrFun (View.ld_unit_zero (Val := Elt Ideal) (e := .f32) (S := S4096x1) z2 inb_S4096x1_S4096x1_0_0 _) (ix2 r 0)).trans ((blk2 m c t _).trans (congrFun (V_main_arg2 m c) _))
  · exact (congrFun (View.ld_unit_zero (Val := Elt Ideal) (e := .f32) (S := S1x1792) z2 inb_S1x1792_S1x1792_0_0 _) (ix2 0 n)).trans ((blk4 m c t _).trans (V_ss m c n))
  · exact (ld_s _ offs inbs d g0 g1 g2 0 n).trans ((blk6 m c t _).trans (V_sp m c d n))
  · exact (congrFun (View.ld_unit_zero (Val := Elt Ideal) (e := .f32) (S := S1x1792) z2 inb_S1x1792_S1x1792_0_0 _) (ix2 0 n)).trans ((blk7 m c t _).trans (V_bs m c n))
  · exact (ld_s _ offs inbs d g0 g1 g2 0 n).trans ((blk8 m c t _).trans (V_bp m c d n))

abbrev t0 : Fin cfg0.N := ⟨0, by decide⟩

/-- THE RESULT, entry by entry. -/
theorem result (c : Dev nD) (ho : Offs (offsR m c)) (r : Fin 4096) (n : Fin 1792) :
    ((dats m 0 c).arrAt 9 cfg0.N : S4096x1792.Idx → EReal) (ix2 r n) = max (Hr m c r ⟨rowDom (offsR m c) r, rowDom_lt ho r⟩ n) (Ideal.ofBits .f32 0x00000000#32) := by
  have b := congrFun (Cert.ReferenceIdeal.Value.blocks9 m c t0 (flush0_9 t0)) (ix2 r n)
  rw [Cert.ReferenceIdeal.Value.flushed9] at b
  have b' : ((dats m 0 c).arrAt 9 cfg0.N : S4096x1792.Idx → EReal) (((cfg0.win 9).blk t0).view.emb (ix2 r n))
      = (out0_9 (F := Ideal) (iblk m c 0 t0) (iblk m c 1 t0) (iblk m c 2 t0) (iblk m c 3 t0) (iblk m c 4 t0) (iblk m c 5 t0) (iblk m c 6 t0) (iblk m c 7 t0) (iblk m c 8 t0) : S4096x1792.Idx → EReal) (ix2 r n) := b
  rw [emb9] at b'
  refine b'.trans ((congrFun (out_eq _ _ _ _ _ _ _ _ _) (ix2 r n)).trans ?_)
  refine congrArg (fun x : EReal => max x (Ideal.ofBits .f32 0x00000000#32)) ?_
  refine Layer.starV_apply _ _ _ _ _ _ _ _ _ _ _ _ r n ⟨rowDom (offsR m c) r, rowDom_lt ho r⟩ ?_ (fun d => Hr m c r d n) ?_ ?_ ?_ ?_ ?_ ?_ ?_ ?_ ?_
  · exact (congrFun (View.ld_unit_zero (Val := Elt Ideal) (e := .i32) (S := S4096x1) z2 inb_S4096x1_S4096x1_0_0 _) (ix2 r 0)).trans ((blk0 m c t0 _).trans (V_row m c ho r))
  · exact rws_H m c t0 r 0 n _ _ _ _ rfl rfl rfl rfl rfl rfl
  · exact rws_H m c t0 r 1 n _ _ _ _ rfl rfl rfl rfl rfl rfl
  · exact rws_H m c t0 r 2 n _ _ _ _ rfl rfl rfl rfl rfl rfl
  · exact rws_H m c t0 r 3 n _ _ _ _ rfl rfl rfl rfl rfl rfl
  · exact rws_H m c t0 r 4 n _ _ _ _ rfl rfl rfl rfl rfl rfl
  · exact rws_H m c t0 r 5 n _ _ _ _ rfl rfl rfl rfl rfl rfl
  · exact rws_H m c t0 r 6 n _ _ _ _ rfl rfl rfl rfl rfl rfl
  · exact rws_H m c t0 r 7 n _ _ _ _ rfl rfl rfl rfl rfl rfl
  · exact rws_H m c t0 r 8 n _ _ _ _ rfl rfl rfl rfl rfl rfl

end Cert.ReferenceIdeal.Gen

end
-- ==== Proof.Algebraic.lean ====
module

public import proofs.«01_k».proof.Proof.KernelIdeal.Frame
public import proofs.«01_k».proof.Proof.KernelIdeal.Value
public import proofs.«01_k».proof.Proof.ReferenceIdeal.Value

/-!
# The kernel computes the layer

Over the reals both programs leave, at row `r` and column `n`, the formula of the layer with the weights of the row's
domain: the two results are equal entry by entry.
-/

@[expose] public section

set_option maxRecDepth 16384

noncomputable section

namespace Cert.Algebraic

open Idealize.ShloMosaic Idealize.ShloMosaic.ValueIdx Idealize.SL.Sem Cert.HostWords Cert.WorkList

/-- The two formulas from equal arguments. -/
theorem formula (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e1 : ReferenceIdeal.Gen.ar1 m' c = KernelIdeal.Gen.ar1 m c) (e2 : ReferenceIdeal.Gen.ar2 m' c = KernelIdeal.Gen.ar2 m c)
    (e3 : ReferenceIdeal.Gen.ar3 m' c = KernelIdeal.Gen.ar3 m c) (e4 : ReferenceIdeal.Gen.ar4 m' c = KernelIdeal.Gen.ar4 m c)
    (e5 : ReferenceIdeal.Gen.ar5 m' c = KernelIdeal.Gen.ar5 m c) (e6 : ReferenceIdeal.Gen.ar6 m' c = KernelIdeal.Gen.ar6 m c)
    (e7 : ReferenceIdeal.Gen.ar7 m' c = KernelIdeal.Gen.ar7 m c) (e8 : ReferenceIdeal.Gen.ar8 m' c = KernelIdeal.Gen.ar8 m c)
    (r : Fin 4096) (d : Fin 9) (n : Fin 1792) :
    max (ReferenceIdeal.Gen.Hr m' c r d n) (Ideal.ofBits .f32 0x00000000#32) = KernelIdeal.Gen.Hm m c r d n := by
  unfold ReferenceIdeal.Gen.Hr KernelIdeal.Gen.Hm
  rw [e1, e2, e3, e4, e5, e6, e7, e8]

theorem algebraic : @Cert.algebraic_KernelIdeal_ReferenceIdeal Cert.KernelIdeal.Gen.facts Cert.ReferenceIdeal.Gen.facts Cert.Pre_offsets_cover.Gen.facts := by
  intro m g m' g' hp ha
  have ho := Cert.Frames.offs_KernelIdeal m hp 0
  have hO := Cert.KernelIdeal.Gen.blocks_ok m ho
  have hH := Cert.KernelIdeal.Gen.side_ok m ho hO
  refine ⟨fun c => (Cert.KernelIdeal.Gen.dats m hO hH 0 c).arrAt 8 (Cert.KernelIdeal.Gen.cfgM m hO).N,
    (θ_run _ _ _).mono (fun _ h => h.1) (Cert.KernelIdeal.Gen.run_result m g hO hH), ?_⟩
  refine (θ_run _ _ _).mono (fun _ h c => ⟨(h c).1.trans ?_, (h c).2⟩) (Cert.ReferenceIdeal.Value.run_blocks m' g')
  obtain ⟨a0, a1, a2, a3, a4, a5, a6, a7, a8⟩ := ha c
  have hc : c = 0 := Subsingleton.elim (α := Fin 1) c 0
  have eo : ReferenceIdeal.Gen.offsR m' c = KernelIdeal.Gen.offsM m 0 := by
    rw [← hc]
    exact congrArg offs a0
  have ho' : Offs (ReferenceIdeal.Gen.offsR m' c) := by rw [eo]; exact ho
  refine funext fun (i : Cert.KernelIdeal.S4096x1792.Idx) => ?_
  have hi : i = (ix2 (i 0 : Fin 4096) (i 1 : Fin 1792) : Cert.KernelIdeal.S4096x1792.Idx) := eq_ix2 (n0 := 4096) (n1 := 1792) i
  have hk := Cert.KernelIdeal.Gen.result m ho hO hH c i
  have hr := Cert.ReferenceIdeal.Gen.result m' c ho' (i 0) (i 1)
  rw [← hi] at hr
  refine hr.trans (Eq.trans ?_ hk.symm)
  refine (formula m m' c a1 a2 a3 a4 a5 a6 a7 a8 (i 0) _ (i 1)).trans ?_
  rw [← eo]
  exact (Cert.KernelIdeal.Gen.Out_eq m c (i 0) ⟨rowDom (ReferenceIdeal.Gen.offsR m' c) (i 0).val, rowDom_lt ho' (i 0)⟩ (i 1)).symm

end Cert.Algebraic

end
-- ==== Proof.SecondIdeal.Blocks.lean ====
/-
  The blocks the body is handed at a grid point, entry by entry, as entries of the program's arguments.
-/
module

public import proofs.«01_k».proof.Proof.SecondIdeal.Tables

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keep9_main_arg4 (X : Valuation τ sig (Elt F)) : StableHlo.after hostOps0_9 X main_arg4 = X main_arg4 := by
  after_results_simp
theorem X9_main_arg4 (c : Dev nD) : X9 m c main_arg4 = m ((c : Thread nD τ).loc main_arg4) :=
  (keep9_main_arg4 (X9 m c)).symm.trans ((V_eq m c main_arg4).symm.trans (V_main_arg4 m c))

theorem keep9_main_arg6 (X : Valuation τ sig (Elt F)) : StableHlo.after hostOps0_9 X main_arg6 = X main_arg6 := by
  after_results_simp
theorem X9_main_arg6 (c : Dev nD) : X9 m c main_arg6 = m ((c : Thread nD τ).loc main_arg6) :=
  (keep9_main_arg6 (X9 m c)).symm.trans ((V_eq m c main_arg6).symm.trans (V_main_arg6 m c))

theorem keep9_main_arg7 (X : Valuation τ sig (Elt F)) : StableHlo.after hostOps0_9 X main_arg7 = X main_arg7 := by
  after_results_simp
theorem X9_main_arg7 (c : Dev nD) : X9 m c main_arg7 = m ((c : Thread nD τ).loc main_arg7) :=
  (keep9_main_arg7 (X9 m c)).symm.trans ((V_eq m c main_arg7).symm.trans (V_main_arg7 m c))

theorem keep9_main_arg8 (X : Valuation τ sig (Elt F)) : StableHlo.after hostOps0_9 X main_arg8 = X main_arg8 := by
  after_results_simp
theorem X9_main_arg8 (c : Dev nD) : X9 m c main_arg8 = m ((c : Thread nD τ).loc main_arg8) :=
  (keep9_main_arg8 (X9 m c)).symm.trans ((V_eq m c main_arg8).symm.trans (V_main_arg8 m c))

/-- The rows of scales and shifts the host widens. -/
theorem V_ss (c : Dev nD) (n : Fin 1152) : (V m c main_v43 : S1x1152.Idx → F .f32) (ix2 0 n) = (m ((c : Thread nD τ).loc main_arg4) : S1152.Idx → F .f32) (ix1 n) := by
  refine (congrFun ((V_eq m c main_v43).trans (st9_main_v43 (X9 m c))) (ix2 0 n)).trans ?_
  refine (broadcastInDim_apply _ _ _ (ix2 0 n) (ix1 n) (fun a => ?_)).trans (congrFun (X9_main_arg4 m c) _)
  match a with
  | ⟨0, _⟩ => exact (if_neg (show ¬ (1152 : ℕ) = 1 by decide)).symm
theorem V_bs (c : Dev nD) (n : Fin 1152) : (V m c main_v45 : S1x1152.Idx → F .f32) (ix2 0 n) = (m ((c : Thread nD τ).loc main_arg7) : S1152.Idx → F .f32) (ix1 n) := by
  refine (congrFun ((V_eq m c main_v45).trans (st9_main_v45 (X9 m c))) (ix2 0 n)).trans ?_
  refine (broadcastInDim_apply _ _ _ (ix2 0 n) (ix1 n) (fun a => ?_)).trans (congrFun (X9_main_arg7 m c) _)
  match a with
  | ⟨0, _⟩ => exact (if_neg (show ¬ (1152 : ℕ) = 1 by decide)).symm
theorem V_sp (c : Dev nD) (d : Fin 9) (n : Fin 1152) : (V m c main_v44 : S9x1x1152.Idx → F .f32) (ix3 d 0 n) = (m ((c : Thread nD τ).loc main_arg6) : S9x1152.Idx → F .f32) (ix2 d n) := by
  refine (congrFun ((V_eq m c main_v44).trans (st9_main_v44 (X9 m c))) (ix3 d 0 n)).trans ?_
  refine (broadcastInDim_apply _ _ _ (ix3 d 0 n) (ix2 d n) (fun a => ?_)).trans (congrFun (X9_main_arg6 m c) _)
  match a with
  | ⟨0, _⟩ => exact (if_neg (show ¬ (9 : ℕ) = 1 by decide)).symm
  | ⟨1, _⟩ => exact (if_neg (show ¬ (1152 : ℕ) = 1 by decide)).symm
theorem V_bp (c : Dev nD) (d : Fin 9) (n : Fin 1152) : (V m c main_v46 : S9x1x1152.Idx → F .f32) (ix3 d 0 n) = (m ((c : Thread nD τ).loc main_arg8) : S9x1152.Idx → F .f32) (ix2 d n) := by
  refine (congrFun ((V_eq m c main_v46).trans (st9_main_v46 (X9 m c))) (ix3 d 0 n)).trans ?_
  refine (broadcastInDim_apply _ _ _ (ix3 d 0 n) (ix2 d n) (fun a => ?_)).trans (congrFun (X9_main_arg8 m c) _)
  match a with
  | ⟨0, _⟩ => exact (if_neg (show ¬ (9 : ℕ) = 1 by decide)).symm
  | ⟨1, _⟩ => exact (if_neg (show ¬ (1152 : ℕ) = 1 by decide)).symm

/-- A block's row, column and domain in the arrays. -/
abbrev rowOf (T : ℕ) (h : T < 16) (r : Fin 256) : Fin 4096 := ⟨256 * T + r.val, by omega⟩
abbrev colOf (i : grid0.Coords) (n : Fin 384) : Fin 1152 := ⟨384 * (i 0).val + n.val, by have h : (i 0).val < 3 := (i 0).isLt; omega⟩

variable (ho : Offs (offsM m 0))
abbrev domOf (i : grid0.Coords) : Fin 9 := ⟨dom (offsM m 0) (i 1), dom_lt ho _⟩

theorem blk0 (hO : Ok m) (c : Dev nD) (t : Fin (cfgM m hO).N) (r : Fin 256) (k : Fin 1792) :
    (iblk m hO c 0 t : S256x1792.Idx → F .fp8e4m3) (ix2 r k) = (m ((c : Thread nD τ).loc main_arg1) : S4096x1792.Idx → F .fp8e4m3) (ix2 (rowOf (tile (offsM m 0) (grid0.coords t 1)) (tile_lt ho _) r) k) := by
  refine (show _ = (V m c main_arg1 : _) _ from congrArg (V m c main_arg1) (funext fun a => Fin.ext ((((cfgM m hO).win 0).rect_emb_val t (ix2 r k) a).trans ?_))).trans (congrFun (V_main_arg1 m c) (ix2 (rowOf (tile (offsM m 0) (grid0.coords t 1)) (tile_lt ho _) r) k))
  show cc0_transform_0 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr0_eq, hT]
  match a with
  | ⟨0, _⟩ => show tile (offsM m 0) (grid0.coords t 1) * 256 + r.val = 256 * tile (offsM m 0) (grid0.coords t 1) + r.val; omega
  | ⟨1, _⟩ => show 0 * 1792 + k.val = k.val; omega

theorem blk1 (hO : Ok m) (c : Dev nD) (t : Fin (cfgM m hO).N) (r : Fin 256) :
    (iblk m hO c 1 t : S256x1.Idx → F .f32) (ix2 r 0) = (m ((c : Thread nD τ).loc main_arg2) : S4096x1.Idx → F .f32) (ix2 (rowOf (tile (offsM m 0) (grid0.coords t 1)) (tile_lt ho _) r) 0) := by
  refine (show _ = (V m c main_arg2 : _) _ from congrArg (V m c main_arg2) (funext fun a => Fin.ext ((((cfgM m hO).win 1).rect_emb_val t (ix2 r 0) a).trans ?_))).trans (congrFun (V_main_arg2 m c) (ix2 (rowOf (tile (offsM m 0) (grid0.coords t 1)) (tile_lt ho _) r) 0))
  show cc0_transform_1 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr1_eq, hT]
  match a with
  | ⟨0, _⟩ => show tile (offsM m 0) (grid0.coords t 1) * 256 + r.val = 256 * tile (offsM m 0) (grid0.coords t 1) + r.val; omega
  | ⟨1, _⟩ => show 0 * 1 + 0 = 0; omega

theorem blk2 (hO : Ok m) (c : Dev nD) (t : Fin (cfgM m hO).N) (k : Fin 1792) (n : Fin 384) :
    (iblk m hO c 2 t : S1792x384.Idx → F .fp8e4m3) (ix2 k n) = (m ((c : Thread nD τ).loc main_arg3) : S1792x1152.Idx → F .fp8e4m3) (ix2 k (colOf (grid0.coords t) n)) := by
  refine (show _ = (V m c main_arg3 : _) _ from congrArg (V m c main_arg3) (funext fun a => Fin.ext ((((cfgM m hO).win 2).rect_emb_val t (ix2 k n) a).trans ?_))).trans (congrFun (V_main_arg3 m c) (ix2 k (colOf (grid0.coords t) n)))
  show cc0_transform_2 (grid0.coords t) a * _ + _ = _
  rw [tr2_eq]
  match a with
  | ⟨0, _⟩ => show 0 * 1792 + k.val = k.val; omega
  | ⟨1, _⟩ => show (grid0.coords t 0).val * 384 + n.val = 384 * (grid0.coords t 0).val + n.val; omega

theorem blk3 (hO : Ok m) (c : Dev nD) (t : Fin (cfgM m hO).N) (n : Fin 384) :
    (iblk m hO c 3 t : S1x384.Idx → F .f32) (ix2 0 n) = (m ((c : Thread nD τ).loc main_arg4) : S1152.Idx → F .f32) (ix1 (colOf (grid0.coords t) n)) := by
  refine (show _ = (V m c main_v43 : _) _ from congrArg (V m c main_v43) (funext fun a => Fin.ext ((((cfgM m hO).win 3).rect_emb_val t (ix2 0 n) a).trans ?_))).trans (V_ss m c (colOf (grid0.coords t) n))
  show cc0_transform_3 (grid0.coords t) a * _ + _ = _
  rw [tr3_eq]
  match a with
  | ⟨0, _⟩ => show 0 * 1 + 0 = 0; omega
  | ⟨1, _⟩ => show (grid0.coords t 0).val * 384 + n.val = 384 * (grid0.coords t 0).val + n.val; omega

theorem blk4 (hO : Ok m) (c : Dev nD) (t : Fin (cfgM m hO).N) (k : Fin 1792) (n : Fin 384) :
    (iblk m hO c 4 t : S1x1792x384.Idx → F .fp8e4m3) (ix3 0 k n) = (m ((c : Thread nD τ).loc main_arg5) : S9x1792x1152.Idx → F .fp8e4m3) (ix3 (domOf m ho (grid0.coords t)) k (colOf (grid0.coords t) n)) := by
  refine (show _ = (V m c main_arg5 : _) _ from congrArg (V m c main_arg5) (funext fun a => Fin.ext ((((cfgM m hO).win 4).rect_emb_val t (ix3 0 k n) a).trans ?_))).trans (congrFun (V_main_arg5 m c) (ix3 (domOf m ho (grid0.coords t)) k (colOf (grid0.coords t) n)))
  show cc0_transform_4 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr4_eq, hD]
  match a with
  | ⟨0, _⟩ => show dom (offsM m 0) (grid0.coords t 1) * 1 + 0 = dom (offsM m 0) (grid0.coords t 1); omega
  | ⟨1, _⟩ => show 0 * 1792 + k.val = k.val; omega
  | ⟨2, _⟩ => show (grid0.coords t 0).val * 384 + n.val = 384 * (grid0.coords t 0).val + n.val; omega

theorem blk5 (hO : Ok m) (c : Dev nD) (t : Fin (cfgM m hO).N) (n : Fin 384) :
    (iblk m hO c 5 t : S1x1x384.Idx → F .f32) (ix3 0 0 n) = (m ((c : Thread nD τ).loc main_arg6) : S9x1152.Idx → F .f32) (ix2 (domOf m ho (grid0.coords t)) (colOf (grid0.coords t) n)) := by
  refine (show _ = (V m c main_v44 : _) _ from congrArg (V m c main_v44) (funext fun a => Fin.ext ((((cfgM m hO).win 5).rect_emb_val t (ix3 0 0 n) a).trans ?_))).trans (V_sp m c (domOf m ho (grid0.coords t)) (colOf (grid0.coords t) n))
  show cc0_transform_5 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr5_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 384 + n.val = 384 * (grid0.coords t 0).val + n.val; omega

theorem blk6 (hO : Ok m) (c : Dev nD) (t : Fin (cfgM m hO).N) (n : Fin 384) :
    (iblk m hO c 6 t : S1x384.Idx → F .f32) (ix2 0 n) = (m ((c : Thread nD τ).loc main_arg7) : S1152.Idx → F .f32) (ix1 (colOf (grid0.coords t) n)) := by
  refine (show _ = (V m c main_v45 : _) _ from congrArg (V m c main_v45) (funext fun a => Fin.ext ((((cfgM m hO).win 6).rect_emb_val t (ix2 0 n) a).trans ?_))).trans (V_bs m c (colOf (grid0.coords t) n))
  show cc0_transform_6 (grid0.coords t) a * _ + _ = _
  rw [tr6_eq]
  match a with
  | ⟨0, _⟩ => show 0 * 1 + 0 = 0; omega
  | ⟨1, _⟩ => show (grid0.coords t 0).val * 384 + n.val = 384 * (grid0.coords t 0).val + n.val; omega

theorem blk7 (hO : Ok m) (c : Dev nD) (t : Fin (cfgM m hO).N) (n : Fin 384) :
    (iblk m hO c 7 t : S1x1x384.Idx → F .f32) (ix3 0 0 n) = (m ((c : Thread nD τ).loc main_arg8) : S9x1152.Idx → F .f32) (ix2 (domOf m ho (grid0.coords t)) (colOf (grid0.coords t) n)) := by
  refine (show _ = (V m c main_v46 : _) _ from congrArg (V m c main_v46) (funext fun a => Fin.ext ((((cfgM m hO).win 7).rect_emb_val t (ix3 0 0 n) a).trans ?_))).trans (V_bp m c (domOf m ho (grid0.coords t)) (colOf (grid0.coords t) n))
  show cc0_transform_7 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr7_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 384 + n.val = 384 * (grid0.coords t 0).val + n.val; omega

/-- Where the output block lies in the result. -/
theorem emb8 (hO : Ok m) (t : Fin (cfgM m hO).N) (r : Fin 256) (n : Fin 384) :
    (((cfgM m hO).win 8).blk t).view.emb (ix2 r n) = (ix2 (rowOf (tile (offsM m 0) (grid0.coords t 1)) (tile_lt ho _) r) (colOf (grid0.coords t) n) : S4096x1152.Idx) := by
  refine funext fun a => Fin.ext ((((cfgM m hO).win 8).rect_emb_val t (ix2 r n) a).trans ?_)
  show cc0_transform_8 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr8_eq, hT]
  match a with
  | ⟨0, _⟩ => show tile (offsM m 0) (grid0.coords t 1) * 256 + r.val = 256 * tile (offsM m 0) (grid0.coords t 1) + r.val; omega
  | ⟨1, _⟩ => show (grid0.coords t 0).val * 384 + n.val = 384 * (grid0.coords t 0).val + n.val; omega

end Cert.SecondIdeal.Gen

end
-- ==== Proof.SecondIdeal.Rows.lean ====
/-
  The value of the layer over the reals: what every grid point leaves in the output block, and the result array entry
  by entry.
-/
module

public import proofs.«01_k».proof.Proof.SecondIdeal.Blocks
public import proofs.«01_k».proof.Proof.SecondIdeal.Run
public import proofs.«01_k».proof.Proof.Layer

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ)

/-! The program's arguments, as vectors of reals. -/
abbrev ar1 (c : Dev nD) : FVec Ideal S4096x1792 .fp8e4m3 := m ((c : Thread nD τ).loc main_arg1)
abbrev ar2 (c : Dev nD) : FVec Ideal S4096x1 .f32 := m ((c : Thread nD τ).loc main_arg2)
abbrev ar3 (c : Dev nD) : FVec Ideal S1792x1152 .fp8e4m3 := m ((c : Thread nD τ).loc main_arg3)
abbrev ar4 (c : Dev nD) : FVec Ideal S1152 .f32 := m ((c : Thread nD τ).loc main_arg4)
abbrev ar5 (c : Dev nD) : FVec Ideal S9x1792x1152 .fp8e4m3 := m ((c : Thread nD τ).loc main_arg5)
abbrev ar6 (c : Dev nD) : FVec Ideal S9x1152 .f32 := m ((c : Thread nD τ).loc main_arg6)
abbrev ar7 (c : Dev nD) : FVec Ideal S1152 .f32 := m ((c : Thread nD τ).loc main_arg7)
abbrev ar8 (c : Dev nD) : FVec Ideal S9x1152 .f32 := m ((c : Thread nD τ).loc main_arg8)

/-- The layer of the program's arguments at row `r`, with the weights of domain `d`, at column `n`. -/
def Hm (c : Dev nD) (r : Fin 4096) (d : Fin 9) (n : Fin 1152) : EReal :=
  max (Layer.H (ar1 m c) (ar2 m c) (ar3 m c) (ar4 m c) (ar5 m c) (ar6 m c) (ar7 m c) (ar8 m c) r d n) (Ideal.ofBits .f32 0x00000000#32)

/-- The same at natural numbers. -/
def Out (c : Dev nD) (r d n : ℕ) : EReal :=
  if h : r < 4096 ∧ d < 9 ∧ n < 1152 then Hm m c ⟨r, h.1⟩ ⟨d, h.2.1⟩ ⟨n, h.2.2⟩ else 0

theorem pay2_apply (W : Vec Ideal S1792x384 .fp8e4m3) (Wd : Vec Ideal S1x1792x384 .fp8e4m3) (k : Fin 1792) (n : Fin 384) :
    k0_pay2 W Wd (ix2 k n) = (W (ix2 k n) * Wd (ix3 0 k n) : EReal) := by
  unfold k0_pay2
  rw [shapeCast_self]
  exact Layer.prod_apply (K := 1792) (N := 384) W Wd _ _ k n

theorem pay3_apply (A : Vec Ideal S256x1792 .fp8e4m3) (P : Vec Ideal S1792x384 .bf16) (sx : Vec Ideal S256x1 .f32) (ss : Vec Ideal S1x384 .f32)
    (sp : Vec Ideal S1x1x384 .f32) (bs : Vec Ideal S1x384 .f32) (bp : Vec Ideal S1x1x384 .f32) (r : Fin 256) (n : Fin 384) :
    k0_pay3 A P sx ss sp bs bp (ix2 r n) = (max (((Ideal.ofBits .f32 0x00000000#32 + ∑ k : Fin 1792, A (ix2 r k) * P (ix2 k n)) * sx (ix2 r 0)) * (ss (ix2 0 n) * sp (ix3 0 0 n)) + (bs (ix2 0 n) + bp (ix3 0 0 n))) (Ideal.ofBits .f32 0x00000000#32) : EReal) := by
  unfold k0_pay3
  exact congrArg (fun x : EReal => max x (Ideal.ofBits .f32 0x00000000#32)) (Layer.rows_apply (M := 256) (K := 1792) (N := 384) A P sx ss sp bs bp _ _ _ _ _ r n)

theorem pay1_apply (rows old : FVec Ideal S256x384 .f32) (t o : ℕ) (ht : t < 1024) (ho : o ≤ 65536) (r : Fin 256) (n : Fin 384) :
    k0_pay1 rows (wd t) (wd o) old (ix2 r n) = if o ≤ 256 * t + r.val then rows (ix2 r n) else old (ix2 r n) := by
  unfold k0_pay1
  exact Layer.tail_apply (M := 256) (N := 384) rows old t o (by omega) ht ho _ _ _ _ r n

variable (ho : Offs (offsM m 0))

theorem Out_eq (c : Dev nD) (r : Fin 4096) (d : Fin 9) (n : Fin 1152) : Out m c r.val d.val n.val = Hm m c r d n := by
  unfold Out
  rw [dif_pos ⟨r.isLt, d.isLt, n.isLt⟩]

include ho
/-- The rows computed at a point, with the point's domain. -/
theorem rowsAt_apply (hO : Ok m) (c : Dev nD) (t : Fin (cfgM m hO).N) (r : Fin 256) (n : Fin 384) :
    rowsAt m hO c t (ix2 r n) = Out m c (256 * tile (offsM m 0) (grid0.coords t 1) + r.val) (dom (offsM m 0) (grid0.coords t 1)) (384 * (grid0.coords t 0).val + n.val) := by
  have e := Out_eq m c (rowOf (tile (offsM m 0) (grid0.coords t 1)) (tile_lt ho _) r) (domOf m ho (grid0.coords t)) (colOf (grid0.coords t) n)
  refine Eq.trans ?_ e.symm
  unfold rowsAt
  refine (pay3_apply _ _ _ _ _ _ _ r n).trans ?_
  unfold Hm Layer.H
  rw [blk1 m ho hO c t r, blk3 m hO c t n, blk5 m ho hO c t n, blk6 m hO c t n, blk7 m ho hO c t n]
  exact congrArg (fun x : EReal => max (((Ideal.ofBits .f32 0x00000000#32 + x) * (ar2 m c) (ix2 (rowOf (tile (offsM m 0) (grid0.coords t 1)) (tile_lt ho _) r) 0)) * ((ar4 m c) (ix1 (colOf (grid0.coords t) n)) * (ar6 m c) (ix2 (domOf m ho (grid0.coords t)) (colOf (grid0.coords t) n))) + ((ar7 m c) (ix1 (colOf (grid0.coords t) n)) + (ar8 m c) (ix2 (domOf m ho (grid0.coords t)) (colOf (grid0.coords t) n)))) (Ideal.ofBits .f32 0x00000000#32)) (Finset.sum_congr rfl fun k _ => congr (congrArg (fun (x y : EReal) => x * y) (blk0 m ho hO c t r k))
    ((pay2_apply _ _ k n).trans (congr (congrArg (fun (x y : EReal) => x * y) (blk2 m hO c t k n)) (blk4 m ho hO c t k n))))

end Cert.SecondIdeal.Gen

end
-- ==== Proof.SecondIdeal.Value.lean ====
/-
  The result of the layer, entry by entry: row `r` of the result is computed with the weights of row `r`'s domain.
  A point that opens a tile writes rows that start inside its domain; a later point of the tile keeps the rows before
  its domain's offset; the tile's last point leaves every row of the tile in place.
-/
module

public import proofs.«01_k».proof.Proof.SecondIdeal.Rows

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ) (ho : Offs (offsM m 0))

/-- Every row of the block before the end of the point's domain has its own domain's weights. -/
def Good (c : Dev nD) (j w : ℕ) (b : FVec Ideal S256x384 .f32) : Prop :=
  ∀ (r : Fin 256) (n : Fin 384), 256 * tile (offsM m 0) w + r.val < offsM m 0 (dom (offsM m 0) w + 1) →
    b (ix2 r n) = Out m c (256 * tile (offsM m 0) w + r.val) (rowDom (offsM m 0) (256 * tile (offsM m 0) w + r.val)) (384 * j + n.val)

include ho
/-- The words of the two tables at a point and at the one before. -/
theorem tile_inj (v w : Fin 24) (h : tb0 m (ix1 v) = tb0 m (ix1 w)) : tile (offsM m 0) v = tile (offsM m 0) w :=
  (tile_at m ho v).symm.trans ((congrArg BitVec.toNat h).trans (tile_at m ho w))
theorem tile_congr (v w : Fin 24) (h : tile (offsM m 0) v = tile (offsM m 0) w) : tb0 m (ix1 v) = tb0 m (ix1 w) :=
  (tb0_word m ho v).trans ((congrArg wd h).trans (tb0_word m ho w).symm)

/-- A row at or past the domain's offset is computed with its own domain's weights. -/
theorem fresh (hO : Ok m) (c : Dev nD) (t : Fin (cfgM m hO).N) (r : Fin 256) (n : Fin 384)
    (h1 : offsM m 0 (dom (offsM m 0) (grid0.coords t 1)) ≤ 256 * tile (offsM m 0) (grid0.coords t 1) + r.val)
    (h2 : 256 * tile (offsM m 0) (grid0.coords t 1) + r.val < offsM m 0 (dom (offsM m 0) (grid0.coords t 1) + 1)) :
    rowsAt m hO c t (ix2 r n) = Out m c (256 * tile (offsM m 0) (grid0.coords t 1) + r.val)
      (rowDom (offsM m 0) (256 * tile (offsM m 0) (grid0.coords t 1) + r.val)) (384 * (grid0.coords t 0).val + n.val) := by
  rw [rowsAt_apply m ho, rowDom_eq ho (dom_lt ho _) h1 h2]

theorem opens (hO : Ok m) (c : Dev nD) (t : Fin (cfgM m hO).N)
    (h : (grid0.coords t 1).val = 0 ∨ tb0 m (ix1 (grid0.coords t 1)) ≠ tb0 m (ix1 (prev24 (grid0.coords t 1)))) :
    Good m c (grid0.coords t 0) (grid0.coords t 1) (rowsAt m hO c t) := by
  intro r n hr
  refine fresh m ho hO c t r n (Nat.le_trans (new_tile ho _ ?_) (Nat.le_add_right _ _)) hr
  rcases Nat.eq_zero_or_pos (grid0.coords t 1).val with h0 | h0
  · exact .inl h0
  · refine .inr ⟨(grid0.coords t 1).val - 1, by omega, fun e => ?_⟩
    rcases h with h | h
    · omega
    · exact h (tile_congr m ho (grid0.coords t 1) (prev24 (grid0.coords t 1)) e)

theorem aft_good (hO : Ok m) (hH : Hyps m hO) (c : Dev nD) : ∀ (n : ℕ) (hn : n < (cfgM m hO).N),
    Good m c (grid0.coords ⟨n, hn⟩ 0) (grid0.coords ⟨n, hn⟩ 1) (aft m hO hH c n hn)
  | 0, hn => by
    unfold aft
    exact opens m ho hO c ⟨0, hn⟩ (.inl (coords1 ⟨0, hn⟩))
  | n + 1, hn => by
    have ih := aft_good hO hH c n (Nat.lt_of_succ_lt hn)
    unfold aft
    unfold stepAt
    by_cases h : k0_cond3 (grid0.coords ⟨n + 1, hn⟩) (wTile (grid0.coords ⟨n + 1, hn⟩) (tb0 m)) (wTileP (grid0.coords ⟨n + 1, hn⟩) (tb0 m)) = 1#1
    · rw [dif_pos h]
      have h' := h
      rw [cond3_iff, wTile_eq, wTileP_eq] at h'
      have h1 : (grid0.coords ⟨n + 1, hn⟩ 1).val ≠ 0 := fun e => h' (.inl e)
      have h2 := not_not.mp fun e => h' (.inr e)
      have e1 := coords1 ⟨n + 1, hn⟩
      have e2 := coords1 ⟨n, Nat.lt_of_succ_lt hn⟩
      have e3 := coords0 ⟨n + 1, hn⟩
      have e4 := coords0 ⟨n, Nat.lt_of_succ_lt hn⟩
      simp only at e1 e2 e3 e4
      have hw : (grid0.coords ⟨n + 1, hn⟩ 1).val = (grid0.coords ⟨n, Nat.lt_of_succ_lt hn⟩ 1).val + 1 := by omega
      have hj : (grid0.coords ⟨n + 1, hn⟩ 0).val = (grid0.coords ⟨n, Nat.lt_of_succ_lt hn⟩ 0).val := by omega
      have ht := tile_inj m ho (grid0.coords ⟨n + 1, hn⟩ 1) (prev24 (grid0.coords ⟨n + 1, hn⟩ 1)) h2
      have hp : (prev24 (grid0.coords ⟨n + 1, hn⟩ 1)).val = (grid0.coords ⟨n, Nat.lt_of_succ_lt hn⟩ 1).val := by
        show (grid0.coords ⟨n + 1, hn⟩ 1).val - 1 = _
        omega
      rw [hp] at ht
      have hd9 := dom_lt ho (grid0.coords ⟨n + 1, hn⟩ 1).val
      have ht16 := tile_lt ho (grid0.coords ⟨n + 1, hn⟩ 1).val
      have hl := o_le_last ho (show dom (offsM m 0) (grid0.coords ⟨n + 1, hn⟩ 1).val ≤ 9 by omega)
      have eT : wTile (grid0.coords ⟨n + 1, hn⟩) (tb0 m) = wd (tile (offsM m 0) (grid0.coords ⟨n + 1, hn⟩ 1)) :=
        (wTile_eq _ _).trans (tb0_word m ho _)
      have eD : (wDom (grid0.coords ⟨n + 1, hn⟩) (tb1 m)).toNat = dom (offsM m 0) (grid0.coords ⟨n + 1, hn⟩ 1) :=
        (congrArg BitVec.toNat ((wDom_eq _ _).trans (tb1_word m ho _))).trans (toNat_wd _ (by omega))
      have eO : ∀ hb, wOff (wDom (grid0.coords ⟨n + 1, hn⟩) (tb1 m)) hb (tb2 m) = wd (offsM m 0 (dom (offsM m 0) (grid0.coords ⟨n + 1, hn⟩ 1))) := fun hb =>
        (wOff_eq _ hb (tb2 m) ⟨dom (offsM m 0) (grid0.coords ⟨n + 1, hn⟩ 1), by omega⟩ eD).trans (tb2_word m ⟨dom (offsM m 0) (grid0.coords ⟨n + 1, hn⟩ 1), by omega⟩)
      intro r q hr
      rw [eT, eO]
      refine (pay1_apply _ _ _ _ (by omega) (by omega) r q).trans ?_
      by_cases hc : offsM m 0 (dom (offsM m 0) (grid0.coords ⟨n + 1, hn⟩ 1)) ≤ 256 * tile (offsM m 0) (grid0.coords ⟨n + 1, hn⟩ 1) + r.val
      · rw [if_pos hc]
        exact fresh m ho hO c ⟨n + 1, hn⟩ r q hc hr
      · rw [if_neg hc]
        have hold := old_tile ho (grid0.coords ⟨n, Nat.lt_of_succ_lt hn⟩ 1).val
        rw [← hw] at hold
        rw [ht, hj]
        rw [ht] at hc
        exact ih r q (by omega)
    · rw [dif_neg h]
      rw [cond3_iff, wTile_eq, wTileP_eq] at h
      exact opens m ho hO c ⟨n + 1, hn⟩ (not_not.mp h)

/-- At a point that writes back, every row of the block is in place. -/
theorem ends (hO : Ok m) (t : Fin (cfgM m hO).N) (hf : ((cfgM m hO).win 8).flush t = true) (r : Fin 256) :
    256 * tile (offsM m 0) (grid0.coords t 1) + r.val < offsM m 0 (dom (offsM m 0) (grid0.coords t 1) + 1) := by
  have hd := done_tile ho (grid0.coords t 1).val ?_
  · have := r.isLt
    omega
  by_contra hx
  have hx1 : (grid0.coords t 1).val ≠ 23 := fun e => hx (.inl e)
  have hx2 : tile (offsM m 0) ((grid0.coords t 1).val + 1) = tile (offsM m 0) (grid0.coords t 1) := not_not.mp fun e => hx (.inr e)
  obtain ⟨n, hn⟩ := t
  have e1 := coords1 ⟨n, hn⟩
  simp only at e1
  have hN : n < 72 := hn
  have hn' : n + 1 < (cfgM m hO).N := (show n + 1 < 72 by omega)
  have e2 := coords1 ⟨n + 1, hn'⟩
  simp only at e2
  have hw : (grid0.coords ⟨n + 1, hn'⟩ 1).val = (grid0.coords ⟨n, hn⟩ 1).val + 1 := by omega
  have hp : (prev24 (grid0.coords ⟨n + 1, hn'⟩ 1)).val = (grid0.coords ⟨n, hn⟩ 1).val := by
    show (grid0.coords ⟨n + 1, hn'⟩ 1).val - 1 = _
    omega
  have hfalse := flush_false m hO n hn' (by
    rw [cond3_iff, wTile_eq, wTileP_eq]
    rintro (h | h)
    · omega
    · refine h (tile_congr m ho (grid0.coords ⟨n + 1, hn'⟩ 1) (prev24 (grid0.coords ⟨n + 1, hn'⟩ 1)) ?_)
      rw [hw, hp, hx2])
  rw [hfalse] at hf
  exact Bool.noConfusion hf

/-- The tile's last point of a pass writes back. -/
theorem flush_true (hO : Ok m) (n : ℕ) (hn : n < (cfgM m hO).N)
    (h : (grid0.coords ⟨n, hn⟩ 1).val = 23 ∨ tile (offsM m 0) ((grid0.coords ⟨n, hn⟩ 1).val + 1) ≠ tile (offsM m 0) (grid0.coords ⟨n, hn⟩ 1)) :
    ((cfgM m hO).win 8).flush ⟨n, hn⟩ = true := by
  unfold Pipeline.Window.flush
  by_cases hl : n + 1 = 72
  · rw [decide_eq_true (show n + 1 = (cfgM m hO).grid.N from hl)]
    rfl
  have hN : n < 72 := hn
  have hn' : n + 1 < (cfgM m hO).N := (show n + 1 < 72 by omega)
  have e1 := coords1 ⟨n, hn⟩
  have e2 := coords1 ⟨n + 1, hn'⟩
  have e3 := coords0 ⟨n, hn⟩
  have e4 := coords0 ⟨n + 1, hn'⟩
  simp only at e1 e2 e3 e4
  have key : ((cfgM m hO).win 8).index ⟨n + 1, hn'⟩ ≠ ((cfgM m hO).win 8).index ⟨n, hn⟩ := by
    intro e
    have e' : cc0_transform_8 k0_off1_inb numel1_S1 (tbl m) (grid0.coords ⟨n + 1, hn'⟩) = cc0_transform_8 k0_off1_inb numel1_S1 (tbl m) (grid0.coords ⟨n, hn⟩) := e
    rw [tr8_eq, tr8_eq] at e'
    have a0 : ((tbl m 0 : S24.Idx → BitVec 32) (ix1 (grid0.coords ⟨n + 1, hn'⟩ 1))).toNat = ((tbl m 0 : S24.Idx → BitVec 32) (ix1 (grid0.coords ⟨n, hn⟩ 1))).toNat := congrFun e' 0
    have a1 : (grid0.coords ⟨n + 1, hn'⟩ 0).val = (grid0.coords ⟨n, hn⟩ 0).val := congrFun e' 1
    have b0 : tile (offsM m 0) (grid0.coords ⟨n + 1, hn'⟩ 1) = tile (offsM m 0) (grid0.coords ⟨n, hn⟩ 1) :=
      (tile_at m ho (grid0.coords ⟨n + 1, hn'⟩ 1)).symm.trans (a0.trans (tile_at m ho (grid0.coords ⟨n, hn⟩ 1)))
    rcases h with h | h
    · omega
    · refine h ?_
      rw [← b0]
      congr 1
      omega
  rw [decide_eq_true (⟨hn', key⟩ : ∃ h : n + 1 < (cfgM m hO).grid.N, ((cfgM m hO).win 8).index ⟨n + 1, h⟩ ≠ ((cfgM m hO).win 8).index ⟨n, hn⟩), Bool.or_true]
  rfl

/-- THE RESULT: entry (r, n) is the layer at row `r` with the weights of `r`'s domain. -/
theorem result (hO : Ok m) (hH : Hyps m hO) (c : Dev nD) (i : S4096x1152.Idx) :
    ((dats m hO hH 0 c).arrAt 8 (cfgM m hO).N : S4096x1152.Idx → EReal) i = Out m c (i 0).val (rowDom (offsM m 0) (i 0).val) (i 1).val := by
  refine (dats m hO hH 0 c).arrAt_forall_of_cover 8 (fun (i : S4096x1152.Idx) (v : EReal) => v = Out m c (i 0).val (rowDom (offsM m 0) (i 0).val) (i 1).val) ?_ ?_ i
  · intro t hf (y : S256x384.Idx)
    have hy : y = (ix2 (y 0 : Fin 256) (y 1 : Fin 384) : S256x384.Idx) := eq_ix2 (n0 := 256) (n1 := 384) y
    have hg := aft_good m ho hO hH c t.val t.isLt (y 0) (y 1) (ends m ho hO t hf (y 0))
    have he := emb8 m ho hO t (y 0) (y 1)
    have hv : (dats m hO hH 0 c).flushed 8 t y = aft m hO hH c t.val t.isLt y := by
      show ((dats m hO hH 0 c).after 8 t) y = _
      rw [after0_8]
    rw [hy, he]
    refine (congrArg _ ((congrArg ((dats m hO hH 0 c).flushed 8 t) hy.symm).trans hv)).trans ?_
    refine Eq.trans ?_ hg
    show aft m hO hH c t.val t.isLt y = _
    exact congrArg (aft m hO hH c t.val t.isLt) hy
  · intro (i : S4096x1152.Idx)
    have h0 : (i 0).val < 4096 := (i 0).isLt
    have h1 : (i 1).val < 1152 := (i 1).isLt
    obtain ⟨w, hw, ht, hl⟩ := cover ho ((i 0).val / 256) (by omega)
    have hn : 24 * ((i 1).val / 384) + w < (cfgM m hO).N := (show 24 * ((i 1).val / 384) + w < 72 by omega)
    have e1 := coords1 ⟨24 * ((i 1).val / 384) + w, hn⟩
    have e0 := coords0 ⟨24 * ((i 1).val / 384) + w, hn⟩
    simp only at e1 e0
    have e1' : (grid0.coords ⟨24 * ((i 1).val / 384) + w, hn⟩ 1).val = w := by omega
    have e0' : (grid0.coords ⟨24 * ((i 1).val / 384) + w, hn⟩ 0).val = (i 1).val / 384 := by omega
    refine ⟨⟨24 * ((i 1).val / 384) + w, hn⟩, flush_true m ho hO _ hn (by rw [e1']; exact hl), ?_⟩
    have he := emb8 m ho hO ⟨24 * ((i 1).val / 384) + w, hn⟩ ⟨(i 0).val % 256, by omega⟩ ⟨(i 1).val % 384, by omega⟩
    have hi : (i : S4096x1152.Idx) = (((cfgM m hO).win 8).blk ⟨24 * ((i 1).val / 384) + w, hn⟩).view.emb (ix2 (⟨(i 0).val % 256, by omega⟩ : Fin 256) (⟨(i 1).val % 384, by omega⟩ : Fin 384)) := by
      refine Eq.trans ?_ he.symm
      refine Shape.idx_ext₂ ?_ ?_
      · show (i 0).val = 256 * tile (offsM m 0) (grid0.coords ⟨24 * ((i 1).val / 384) + w, hn⟩ 1).val + (i 0).val % 256
        rw [e1', ht]
        omega
      · show (i 1).val = 384 * (grid0.coords ⟨24 * ((i 1).val / 384) + w, hn⟩ 0).val + (i 1).val % 384
        rw [e0']
        omega
    exact Finset.mem_map.mpr ⟨_, Finset.mem_univ _, hi.symm⟩

end Cert.SecondIdeal.Gen

end
-- ==== Proof.SecondRefIdeal.Host.lean ====
/-
  The reference's host operations: the domain of every row, and the rows of scales and shifts widened.
-/
module

public import proofs.«01_k».proof.Proof.Gen.SecondRefIdeal.Frame
public import proofs.«01_k».proof.Proof.HostWords

@[expose] public section

set_option maxRecDepth 16384

noncomputable section

namespace Cert.SecondRefIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

section
variable {F : FTy → Type} [FloatOps F] (X : Valuation τ sig (Elt F))

theorem keep0 (b : Ref sig .tc) (hb : b ∈ [main_arg4, main_arg6, main_arg7, main_arg8]) : StableHlo.after hostOps0 X b = X b := by
  refine StableHlo.after_of_forall_not_mem (b := Proc.devRef .tc b) _ _ (List.forall_iff_forall_mem.mp ?_)
  simp only [List.mem_cons, List.not_mem_nil, or_false] at hb
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep0_main_arg4 : StableHlo.after hostOps0 X main_arg4 = X main_arg4 := keep0 X _ (by simp)
theorem keep0_main_arg6 : StableHlo.after hostOps0 X main_arg6 = X main_arg6 := keep0 X _ (by simp)
theorem keep0_main_arg7 : StableHlo.after hostOps0 X main_arg7 = X main_arg7 := keep0 X _ (by simp)
theorem keep0_main_arg8 : StableHlo.after hostOps0 X main_arg8 = X main_arg8 := keep0 X _ (by simp)
theorem keep1 (b : Ref sig .tc) (hb : b ∈ [main_arg4, main_arg6, main_arg7, main_arg8]) : StableHlo.after hostOps0_1 X b = X b := by
  refine StableHlo.after_of_forall_not_mem (b := Proc.devRef .tc b) _ _ (List.forall_iff_forall_mem.mp ?_)
  simp only [List.mem_cons, List.not_mem_nil, or_false] at hb
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep1_main_arg4 : StableHlo.after hostOps0_1 X main_arg4 = X main_arg4 := keep1 X _ (by simp)
theorem keep1_main_arg6 : StableHlo.after hostOps0_1 X main_arg6 = X main_arg6 := keep1 X _ (by simp)
theorem keep1_main_arg7 : StableHlo.after hostOps0_1 X main_arg7 = X main_arg7 := keep1 X _ (by simp)
theorem keep1_main_arg8 : StableHlo.after hostOps0_1 X main_arg8 = X main_arg8 := keep1 X _ (by simp)

theorem st0_main_v0 : StableHlo.after hostOps0 X main_v0 = extractStridedSlice S9 ![1] (X main_arg0 : IVec S10 32) slices_S10_S9_1 := by
  after_results_simp
  all_goals rfl
theorem st0_main_v1 : StableHlo.after hostOps0 X main_v1 = iotaInDim S4096 32 0 := by
  after_results_simp
  all_goals rfl
theorem st1_main_v2 : StableHlo.after hostOps0_1 X main_v2 = Host.reduce IntOp.addi (extui 32 (cmpi .sle
      (broadcastInDim S9x4096 ![0, 1] bcast_S9x1_S9x4096_0_1 (broadcastInDim S9x1 ![0] bcast_S9_S9x1_0 (X main_v0 : IVec S9 32)))
      (broadcastInDim S9x4096 ![0, 1] bcast_S1x4096_S9x4096_0_1 (broadcastInDim S1x4096 ![1] bcast_S4096_S1x4096_1 (X main_v1 : IVec S4096 32)))) natLt_1_32)
    (constantI S_ 32 0#32) reducesTo_S9x4096_S4096_d0 h_S_ := by
  after_results_simp
  simp only [StableHlo.TRef.toBuf, StableHlo.TRef.ofBuf, cast_eq]
  all_goals rfl
theorem st2_main_v3 : StableHlo.after hostOps0_2 X main_v3 = broadcastInDim S4096x1 ![0] bcast_S4096_S4096x1_0 (X main_v2 : IVec S4096 32) := by
  after_results_simp
  all_goals rfl
theorem st2_main_v4 : StableHlo.after hostOps0_2 X main_v4 = broadcastInDim S1x1152 ![1] bcast_S1152_S1x1152_1 (X main_arg4) := by
  after_results_simp
  all_goals rfl
theorem st2_main_v6 : StableHlo.after hostOps0_2 X main_v6 = broadcastInDim S1x1152 ![1] bcast_S1152_S1x1152_1 (X main_arg7) := by
  after_results_simp
  all_goals rfl
theorem st2_main_v5 : StableHlo.after hostOps0_2 X main_v5 = broadcastInDim S9x1x1152 ![0, 2] bcast_S9x1152_S9x1x1152_0_2 (X main_arg6) := by
  after_results_simp
  all_goals rfl
theorem st2_main_v7 : StableHlo.after hostOps0_2 X main_v7 = broadcastInDim S9x1x1152 ![0, 2] bcast_S9x1152_S9x1x1152_0_2 (X main_arg8) := by
  after_results_simp
  all_goals rfl
end

variable {F : FTy → Type} [FloatOps F] (m : (ℓ : Loc nD τ sig) → Buf (Elt F) ℓ) (c : Dev nD)

/-- The buffers before the last stretch. -/
def Y1 : Valuation τ sig (Elt F) := StableHlo.after hostOps0 (fun b => m (c, b))
def Y2 : Valuation τ sig (Elt F) := StableHlo.after hostOps0_1 (Y1 m c)

theorem V_eq (b : Ref sig .tc) : V m c b = StableHlo.after hostOps0_2 (Y2 m c) b := by
  unfold V
  simp only [List.flatten_cons, List.flatten_nil, List.append_nil, StableHlo.after_append]
  rfl

/-- The offsets given, as natural numbers. -/
abbrev offsR : ℕ → ℕ := offs (m ((c : Thread nD τ).loc main_arg0) : IVec S10 32)

theorem V_row (ho : Offs (offsR m c)) (r : Fin 4096) : (V m c main_v3 : IVec S4096x1 32) (ix2 r 0) = wd (rowDom (offsR m c) r) := by
  refine (congrFun ((V_eq m c main_v3).trans (st2_main_v3 (Y2 m c))) (ix2 r 0)).trans ?_
  refine (broadcastInDim_apply _ _ _ (ix2 r 0) (ix1 r) (fun a => ?_)).trans ?_
  · match a with
    | ⟨0, _⟩ => exact (if_neg (show ¬ (4096 : ℕ) = 1 by decide)).symm
  · unfold Y2
    rw [st1_main_v2]
    refine row_word bcast_S9_S9x1_0 bcast_S9x1_S9x4096_0_1 bcast_S4096_S1x4096_1 bcast_S1x4096_S9x4096_0_1 natLt_1_32 reducesTo_S9x4096_S4096_d0 h_S_ ho _ _ ?_ ?_ r
    · intro d
      unfold Y1
      rw [st0_main_v0]
      refine (Routing.slice1 1 _ slices_S10_S9_1 d (by omega)).trans ?_
      refine (offs_word _ _).trans (congrArg (fun n => wd (offsR m c n)) ?_)
      show 1 + d.val = d.val + 1
      omega
    · intro r
      unfold Y1
      rw [st0_main_v1]
      rfl
theorem V_ss (n : Fin 1152) : (V m c main_v4 : S1x1152.Idx → F .f32) (ix2 0 n) = (m ((c : Thread nD τ).loc main_arg4) : S1152.Idx → F .f32) (ix1 n) := by
  refine (congrFun ((V_eq m c main_v4).trans (st2_main_v4 (Y2 m c))) (ix2 0 n)).trans ?_
  refine (broadcastInDim_apply _ _ _ (ix2 0 n) (ix1 n) (fun a => ?_)).trans (congrFun ((keep1_main_arg4 _).trans (keep0_main_arg4 _)) _)
  match a with
  | ⟨0, _⟩ => exact (if_neg (show ¬ (1152 : ℕ) = 1 by decide)).symm
theorem V_bs (n : Fin 1152) : (V m c main_v6 : S1x1152.Idx → F .f32) (ix2 0 n) = (m ((c : Thread nD τ).loc main_arg7) : S1152.Idx → F .f32) (ix1 n) := by
  refine (congrFun ((V_eq m c main_v6).trans (st2_main_v6 (Y2 m c))) (ix2 0 n)).trans ?_
  refine (broadcastInDim_apply _ _ _ (ix2 0 n) (ix1 n) (fun a => ?_)).trans (congrFun ((keep1_main_arg7 _).trans (keep0_main_arg7 _)) _)
  match a with
  | ⟨0, _⟩ => exact (if_neg (show ¬ (1152 : ℕ) = 1 by decide)).symm
theorem V_sp (d : Fin 9) (n : Fin 1152) : (V m c main_v5 : S9x1x1152.Idx → F .f32) (ix3 d 0 n) = (m ((c : Thread nD τ).loc main_arg6) : S9x1152.Idx → F .f32) (ix2 d n) := by
  refine (congrFun ((V_eq m c main_v5).trans (st2_main_v5 (Y2 m c))) (ix3 d 0 n)).trans ?_
  refine (broadcastInDim_apply _ _ _ (ix3 d 0 n) (ix2 d n) (fun a => ?_)).trans (congrFun ((keep1_main_arg6 _).trans (keep0_main_arg6 _)) _)
  match a with
  | ⟨0, _⟩ => exact (if_neg (show ¬ (9 : ℕ) = 1 by decide)).symm
  | ⟨1, _⟩ => exact (if_neg (show ¬ (1152 : ℕ) = 1 by decide)).symm
theorem V_bp (d : Fin 9) (n : Fin 1152) : (V m c main_v7 : S9x1x1152.Idx → F .f32) (ix3 d 0 n) = (m ((c : Thread nD τ).loc main_arg8) : S9x1152.Idx → F .f32) (ix2 d n) := by
  refine (congrFun ((V_eq m c main_v7).trans (st2_main_v7 (Y2 m c))) (ix3 d 0 n)).trans ?_
  refine (broadcastInDim_apply _ _ _ (ix3 d 0 n) (ix2 d n) (fun a => ?_)).trans (congrFun ((keep1_main_arg8 _).trans (keep0_main_arg8 _)) _)
  match a with
  | ⟨0, _⟩ => exact (if_neg (show ¬ (9 : ℕ) = 1 by decide)).symm
  | ⟨1, _⟩ => exact (if_neg (show ¬ (1152 : ℕ) = 1 by decide)).symm

end Cert.SecondRefIdeal.Gen

end
-- ==== Proof.SecondRefIdeal.Value.lean ====
/-
  The value of the reference over the reals: its result entry by entry.
-/
module

public import proofs.«01_k».proof.Proof.SecondRefIdeal.Host
public import proofs.«01_k».proof.Proof.Gen.SecondRefIdeal.Value
public import proofs.«01_k».proof.Proof.Star

@[expose] public section

set_option maxRecDepth 16384

noncomputable section

namespace Cert.SecondRefIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

variable (m : (ℓ : Loc nD τ sig) → Buf (Elt Ideal) ℓ)

/-! The program's arguments, as vectors of reals. -/
abbrev ar1 (c : Dev nD) : FVec Ideal S4096x1792 .fp8e4m3 := m ((c : Thread nD τ).loc main_arg1)
abbrev ar2 (c : Dev nD) : FVec Ideal S4096x1 .f32 := m ((c : Thread nD τ).loc main_arg2)
abbrev ar3 (c : Dev nD) : FVec Ideal S1792x1152 .fp8e4m3 := m ((c : Thread nD τ).loc main_arg3)
abbrev ar4 (c : Dev nD) : FVec Ideal S1152 .f32 := m ((c : Thread nD τ).loc main_arg4)
abbrev ar5 (c : Dev nD) : FVec Ideal S9x1792x1152 .fp8e4m3 := m ((c : Thread nD τ).loc main_arg5)
abbrev ar6 (c : Dev nD) : FVec Ideal S9x1152 .f32 := m ((c : Thread nD τ).loc main_arg6)
abbrev ar7 (c : Dev nD) : FVec Ideal S1152 .f32 := m ((c : Thread nD τ).loc main_arg7)
abbrev ar8 (c : Dev nD) : FVec Ideal S9x1152 .f32 := m ((c : Thread nD τ).loc main_arg8)

/-! Every block is its whole array. -/
theorem blk0 (c : Dev nD) (t : Fin cfg0.N) (y : S4096x1.Idx) : (iblk m c 0 t : S4096x1.Idx → Elt Ideal .i32) y = (V m c main_v3 : S4096x1.Idx → Elt Ideal .i32) y :=
  congrArg (V m c main_v3 : S4096x1.Idx → Elt Ideal .i32) (funext fun a => Fin.ext (win0_0.rect_emb_val_of_index_zero t a (by
    match a with
    | ⟨0, _⟩ => rfl
    | ⟨1, _⟩ => rfl
    ) y))
theorem blk1 (c : Dev nD) (t : Fin cfg0.N) (y : S4096x1792.Idx) : (iblk m c 1 t : S4096x1792.Idx → Elt Ideal .fp8e4m3) y = (V m c main_arg1 : S4096x1792.Idx → Elt Ideal .fp8e4m3) y :=
  congrArg (V m c main_arg1 : S4096x1792.Idx → Elt Ideal .fp8e4m3) (funext fun a => Fin.ext (win0_1.rect_emb_val_of_index_zero t a (by
    match a with
    | ⟨0, _⟩ => rfl
    | ⟨1, _⟩ => rfl
    ) y))
theorem blk2 (c : Dev nD) (t : Fin cfg0.N) (y : S4096x1.Idx) : (iblk m c 2 t : S4096x1.Idx → Elt Ideal .f32) y = (V m c main_arg2 : S4096x1.Idx → Elt Ideal .f32) y :=
  congrArg (V m c main_arg2 : S4096x1.Idx → Elt Ideal .f32) (funext fun a => Fin.ext (win0_2.rect_emb_val_of_index_zero t a (by
    match a with
    | ⟨0, _⟩ => rfl
    | ⟨1, _⟩ => rfl
    ) y))
theorem blk3 (c : Dev nD) (t : Fin cfg0.N) (y : S1792x1152.Idx) : (iblk m c 3 t : S1792x1152.Idx → Elt Ideal .fp8e4m3) y = (V m c main_arg3 : S1792x1152.Idx → Elt Ideal .fp8e4m3) y :=
  congrArg (V m c main_arg3 : S1792x1152.Idx → Elt Ideal .fp8e4m3) (funext fun a => Fin.ext (win0_3.rect_emb_val_of_index_zero t a (by
    match a with
    | ⟨0, _⟩ => rfl
    | ⟨1, _⟩ => rfl
    ) y))
theorem blk4 (c : Dev nD) (t : Fin cfg0.N) (y : S1x1152.Idx) : (iblk m c 4 t : S1x1152.Idx → Elt Ideal .f32) y = (V m c main_v4 : S1x1152.Idx → Elt Ideal .f32) y :=
  congrArg (V m c main_v4 : S1x1152.Idx → Elt Ideal .f32) (funext fun a => Fin.ext (win0_4.rect_emb_val_of_index_zero t a (by
    match a with
    | ⟨0, _⟩ => rfl
    | ⟨1, _⟩ => rfl
    ) y))
theorem blk5 (c : Dev nD) (t : Fin cfg0.N) (y : S9x1792x1152.Idx) : (iblk m c 5 t : S9x1792x1152.Idx → Elt Ideal .fp8e4m3) y = (V m c main_arg5 : S9x1792x1152.Idx → Elt Ideal .fp8e4m3) y :=
  congrArg (V m c main_arg5 : S9x1792x1152.Idx → Elt Ideal .fp8e4m3) (funext fun a => Fin.ext (win0_5.rect_emb_val_of_index_zero t a (by
    match a with
    | ⟨0, _⟩ => rfl
    | ⟨1, _⟩ => rfl
    | ⟨2, _⟩ => rfl
    ) y))
theorem blk6 (c : Dev nD) (t : Fin cfg0.N) (y : S9x1x1152.Idx) : (iblk m c 6 t : S9x1x1152.Idx → Elt Ideal .f32) y = (V m c main_v5 : S9x1x1152.Idx → Elt Ideal .f32) y :=
  congrArg (V m c main_v5 : S9x1x1152.Idx → Elt Ideal .f32) (funext fun a => Fin.ext (win0_6.rect_emb_val_of_index_zero t a (by
    match a with
    | ⟨0, _⟩ => rfl
    | ⟨1, _⟩ => rfl
    | ⟨2, _⟩ => rfl
    ) y))
theorem blk7 (c : Dev nD) (t : Fin cfg0.N) (y : S1x1152.Idx) : (iblk m c 7 t : S1x1152.Idx → Elt Ideal .f32) y = (V m c main_v6 : S1x1152.Idx → Elt Ideal .f32) y :=
  congrArg (V m c main_v6 : S1x1152.Idx → Elt Ideal .f32) (funext fun a => Fin.ext (win0_7.rect_emb_val_of_index_zero t a (by
    match a with
    | ⟨0, _⟩ => rfl
    | ⟨1, _⟩ => rfl
    ) y))
theorem blk8 (c : Dev nD) (t : Fin cfg0.N) (y : S9x1x1152.Idx) : (iblk m c 8 t : S9x1x1152.Idx → Elt Ideal .f32) y = (V m c main_v7 : S9x1x1152.Idx → Elt Ideal .f32) y :=
  congrArg (V m c main_v7 : S9x1x1152.Idx → Elt Ideal .f32) (funext fun a => Fin.ext (win0_8.rect_emb_val_of_index_zero t a (by
    match a with
    | ⟨0, _⟩ => rfl
    | ⟨1, _⟩ => rfl
    | ⟨2, _⟩ => rfl
    ) y))
theorem emb9 (t : Fin cfg0.N) (y : S4096x1152.Idx) : ((cfg0.win 9).blk t).view.emb y = y :=
  funext fun a => Fin.ext (win0_9.rect_emb_val_of_index_zero t a (by
    match a with
    | ⟨0, _⟩ => rfl
    | ⟨1, _⟩ => rfl) y)

/-! The slab of one domain. -/
theorem ld_w (x : S9x1792x1152.Idx → Elt Ideal .fp8e4m3) (off : Fin 3 → ℕ) (inb : ∀ a, off a + S1x1792x1152.size a ≤ S9x1792x1152.size a) (d : Fin 9)
    (h0 : off 0 = d.val) (h1 : off 1 = 0) (h2 : off 2 = 0) (k : Fin 1792) (n : Fin 1152) :
    View.ld (Val := Elt Ideal) (e' := .fp8e4m3) x (Rect.unit (s := S9x1792x1152) off S1x1792x1152.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))
theorem ld_s (x : S9x1x1152.Idx → Elt Ideal .f32) (off : Fin 3 → ℕ) (inb : ∀ a, off a + S1x1x1152.size a ≤ S9x1x1152.size a) (d : Fin 9)
    (h0 : off 0 = d.val) (h1 : off 1 = 0) (h2 : off 2 = 0) (k : Fin 1) (n : Fin 1152) :
    View.ld (Val := Elt Ideal) (e' := .f32) x (Rect.unit (s := S9x1x1152) off S1x1x1152.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))

theorem z2 : (![0, 0] : Fin 2 → ℕ) = fun _ => 0 := funext fun a => by
  match a with
  | ⟨0, _⟩ => rfl
  | ⟨1, _⟩ => rfl

/-- One domain's rows. -/
abbrev rws (A : FVec Ideal S4096x1792 .fp8e4m3) (W : FVec Ideal S1792x1152 .fp8e4m3) (Wd : FVec Ideal S1x1792x1152 .fp8e4m3)
    (sx : FVec Ideal S4096x1 .f32) (ss : FVec Ideal S1x1152 .f32) (sp : FVec Ideal S1x1x1152 .f32) (bs : FVec Ideal S1x1152 .f32) (bp : FVec Ideal S1x1x1152 .f32) : FVec Ideal S4096x1152 .f32 :=
  Layer.rowsV A W Wd sx ss sp bs bp bitsLt_fp8e4m3_bf16 broadcasts_S4096x1_S4096x1152 broadcasts_S1x1152_S4096x1152 shapeCasts_S1x1152_S1x1152
    shapeCasts_S1x1x1152_S1x1152 shapeCasts_S1x1792x1152_S1792x1152

variable (x0 : IVec S4096x1 32) (x1 : FVec Ideal S4096x1792 .fp8e4m3) (x2 : FVec Ideal S4096x1 .f32) (x3 : FVec Ideal S1792x1152 .fp8e4m3) (x4 : FVec Ideal S1x1152 .f32)
  (x5 : FVec Ideal S9x1792x1152 .fp8e4m3) (x6 : FVec Ideal S9x1x1152 .f32) (x7 : FVec Ideal S1x1152 .f32) (x8 : FVec Ideal S9x1x1152 .f32)

/-- What the body leaves: the nine choices, and the activation. -/
theorem out_eq : out0_9 (F := Ideal) x0 x1 x2 x3 x4 x5 x6 x7 x8
    = maximumf (F := Ideal) (s := S4096x1152) (Layer.starV (View.ld (Val := Elt Ideal) (e' := .i32) x0 r0_3) shapeCasts_S4096x1_S4096x1 broadcasts_S4096x1_S4096x1152
      (rws (View.ld (Val := Elt Ideal) (e' := .fp8e4m3) x1 r0_2) (View.ld (Val := Elt Ideal) (e' := .fp8e4m3) x3 r0_0) (View.ld (Val := Elt Ideal) (e' := .fp8e4m3) x5 r0_1) (View.ld (Val := Elt Ideal) (e' := .f32) x2 r0_3) (View.ld (Val := Elt Ideal) (e' := .f32) x4 r0_4) (View.ld (Val := Elt Ideal) (e' := .f32) x6 r0_5) (View.ld (Val := Elt Ideal) (e' := .f32) x7 r0_4) (View.ld (Val := Elt Ideal) (e' := .f32) x8 r0_5))
      (rws (View.ld (Val := Elt Ideal) (e' := .fp8e4m3) x1 r0_2) (View.ld (Val := Elt Ideal) (e' := .fp8e4m3) x3 r0_0) (View.ld (Val := Elt Ideal) (e' := .fp8e4m3) x5 r0_6) (View.ld (Val := Elt Ideal) (e' := .f32) x2 r0_3) (View.ld (Val := Elt Ideal) (e' := .f32) x4 r0_4) (View.ld (Val := Elt Ideal) (e' := .f32) x6 r0_7) (View.ld (Val := Elt Ideal) (e' := .f32) x7 r0_4) (View.ld (Val := Elt Ideal) (e' := .f32) x8 r0_7))
      (rws (View.ld (Val := Elt Ideal) (e' := .fp8e4m3) x1 r0_2) (View.ld (Val := Elt Ideal) (e' := .fp8e4m3) x3 r0_0) (View.ld (Val := Elt Ideal) (e' := .fp8e4m3) x5 r0_8) (View.ld (Val := Elt Ideal) (e' := .f32) x2 r0_3) (View.ld (Val := Elt Ideal) (e' := .f32) x4 r0_4) (View.ld (Val := Elt Ideal) (e' := .f32) x6 r0_9) (View.ld (Val := Elt Ideal) (e' := .f32) x7 r0_4) (View.ld (Val := Elt Ideal) (e' := .f32) x8 r0_9))
      (rws (View.ld (Val := Elt Ideal) (e' := .fp8e4m3) x1 r0_2) (View.ld (Val := Elt Ideal) (e' := .fp8e4m3) x3 r0_0) (View.ld (Val := Elt Ideal) (e' := .fp8e4m3) x5 r0_10) (View.ld (Val := Elt Ideal) (e' := .f32) x2 r0_3) (View.ld (Val := Elt Ideal) (e' := .f32) x4 r0_4) (View.ld (Val := Elt Ideal) (e' := .f32) x6 r0_11) (View.ld (Val := Elt Ideal) (e' := .f32) x7 r0_4) (View.ld (Val := Elt Ideal) (e' := .f32) x8 r0_11))
      (rws (View.ld (Val := Elt Ideal) (e' := .fp8e4m3) x1 r0_2) (View.ld (Val := Elt Ideal) (e' := .fp8e4m3) x3 r0_0) (View.ld (Val := Elt Ideal) (e' := .fp8e4m3) x5 r0_12) (View.ld (Val := Elt Ideal) (e' := .f32) x2 r0_3) (View.ld (Val := Elt Ideal) (e' := .f32) x4 r0_4) (View.ld (Val := Elt Ideal) (e' := .f32) x6 r0_13) (View.ld (Val := Elt Ideal) (e' := .f32) x7 r0_4) (View.ld (Val := Elt Ideal) (e' := .f32) x8 r0_13))
      (rws (View.ld (Val := Elt Ideal) (e' := .fp8e4m3) x1 r0_2) (View.ld (Val := Elt Ideal) (e' := .fp8e4m3) x3 r0_0) (View.ld (Val := Elt Ideal) (e' := .fp8e4m3) x5 r0_14) (View.ld (Val := Elt Ideal) (e' := .f32) x2 r0_3) (View.ld (Val := Elt Ideal) (e' := .f32) x4 r0_4) (View.ld (Val := Elt Ideal) (e' := .f32) x6 r0_15) (View.ld (Val := Elt Ideal) (e' := .f32) x7 r0_4) (View.ld (Val := Elt Ideal) (e' := .f32) x8 r0_15))
      (rws (View.ld (Val := Elt Ideal) (e' := .fp8e4m3) x1 r0_2) (View.ld (Val := Elt Ideal) (e' := .fp8e4m3) x3 r0_0) (View.ld (Val := Elt Ideal) (e' := .fp8e4m3) x5 r0_16) (View.ld (Val := Elt Ideal) (e' := .f32) x2 r0_3) (View.ld (Val := Elt Ideal) (e' := .f32) x4 r0_4) (View.ld (Val := Elt Ideal) (e' := .f32) x6 r0_17) (View.ld (Val := Elt Ideal) (e' := .f32) x7 r0_4) (View.ld (Val := Elt Ideal) (e' := .f32) x8 r0_17))
      (rws (View.ld (Val := Elt Ideal) (e' := .fp8e4m3) x1 r0_2) (View.ld (Val := Elt Ideal) (e' := .fp8e4m3) x3 r0_0) (View.ld (Val := Elt Ideal) (e' := .fp8e4m3) x5 r0_18) (View.ld (Val := Elt Ideal) (e' := .f32) x2 r0_3) (View.ld (Val := Elt Ideal) (e' := .f32) x4 r0_4) (View.ld (Val := Elt Ideal) (e' := .f32) x6 r0_19) (View.ld (Val := Elt Ideal) (e' := .f32) x7 r0_4) (View.ld (Val := Elt Ideal) (e' := .f32) x8 r0_19))
      (rws (View.ld (Val := Elt Ideal) (e' := .fp8e4m3) x1 r0_2) (View.ld (Val := Elt Ideal) (e' := .fp8e4m3) x3 r0_0) (View.ld (Val := Elt Ideal) (e' := .fp8e4m3) x5 r0_20) (View.ld (Val := Elt Ideal) (e' := .f32) x2 r0_3) (View.ld (Val := Elt Ideal) (e' := .f32) x4 r0_4) (View.ld (Val := Elt Ideal) (e' := .f32) x6 r0_21) (View.ld (Val := Elt Ideal) (e' := .f32) x7 r0_4) (View.ld (Val := Elt Ideal) (e' := .f32) x8 r0_21)))
      (broadcast S4096x1152 (Scalar.ofBits .f32 0x00000000#32 : Ideal .f32)) := by
  unfold out0_9
  refine (View.canon_unit_zero (Val := Elt Ideal) (e := .f32) (S := S4096x1152) z2 inb_S4096x1152_S4096x1152_0_0 _).trans ?_
  rfl

/-- The layer at a row, with the weights of one domain. -/
def Hr (c : Dev nD) (r : Fin 4096) (d : Fin 9) (n : Fin 1152) : EReal :=
  Layer.H (ar1 m c) (ar2 m c) (ar3 m c) (ar4 m c) (ar5 m c) (ar6 m c) (ar7 m c) (ar8 m c) r d n

theorem rws_H (c : Dev nD) (t : Fin cfg0.N) (r : Fin 4096) (d : Fin 9) (n : Fin 1152)
    (offw : Fin 3 → ℕ) (inbw : ∀ a, offw a + S1x1792x1152.size a ≤ S9x1792x1152.size a) (offs : Fin 3 → ℕ) (inbs : ∀ a, offs a + S1x1x1152.size a ≤ S9x1x1152.size a)
    (h0 : offw 0 = d.val) (h1 : offw 1 = 0) (h2 : offw 2 = 0) (g0 : offs 0 = d.val) (g1 : offs 1 = 0) (g2 : offs 2 = 0) :
    rws (View.ld (Val := Elt Ideal) (e' := .fp8e4m3) (iblk m c 1 t : S4096x1792.Idx → Elt Ideal .fp8e4m3) r0_2)
      (View.ld (Val := Elt Ideal) (e' := .fp8e4m3) (iblk m c 3 t : S1792x1152.Idx → Elt Ideal .fp8e4m3) r0_0)
      (View.ld (Val := Elt Ideal) (e' := .fp8e4m3) (iblk m c 5 t : S9x1792x1152.Idx → Elt Ideal .fp8e4m3) (Rect.unit (s := S9x1792x1152) offw S1x1792x1152.size inbw))
      (View.ld (Val := Elt Ideal) (e' := .f32) (iblk m c 2 t : S4096x1.Idx → Elt Ideal .f32) r0_3)
      (View.ld (Val := Elt Ideal) (e' := .f32) (iblk m c 4 t : S1x1152.Idx → Elt Ideal .f32) r0_4)
      (View.ld (Val := Elt Ideal) (e' := .f32) (iblk m c 6 t : S9x1x1152.Idx → Elt Ideal .f32) (Rect.unit (s := S9x1x1152) offs S1x1x1152.size inbs))
      (View.ld (Val := Elt Ideal) (e' := .f32) (iblk m c 7 t : S1x1152.Idx → Elt Ideal .f32) r0_4)
      (View.ld (Val := Elt Ideal) (e' := .f32) (iblk m c 8 t : S9x1x1152.Idx → Elt Ideal .f32) (Rect.unit (s := S9x1x1152) offs S1x1x1152.size inbs)) (ix2 r n)
    = Hr m c r d n := by
  refine Layer.rowsV_H _ _ _ _ _ _ _ _ _ _ _ _ _ _ (ar1 m c) (ar2 m c) (ar3 m c) (ar4 m c) (ar5 m c) (ar6 m c) (ar7 m c) (ar8 m c) r d n
    (fun k => ?_) (fun k => ?_) (fun k => ?_) ?_ ?_ ?_ ?_ ?_
  · exact (congrFun (View.ld_unit_zero (Val := Elt Ideal) (e := .fp8e4m3) (S := S4096x1792) z2 inb_S4096x1792_S4096x1792_0_0 _) (ix2 r k)).trans ((blk1 m c t _).trans (congrFun (V_main_arg1 m c) _))
  · exact (congrFun (View.ld_unit_zero (Val := Elt Ideal) (e := .fp8e4m3) (S := S1792x1152) z2 inb_S1792x1152_S1792x1152_0_0 _) (ix2 k n)).trans ((blk3 m c t _).trans (congrFun (V_main_arg3 m c) _))
  · exact (ld_w _ offw inbw d h0 h1 h2 k n).trans ((blk5 m c t _).trans (congrFun (V_main_arg5 m c) _))
  · exact (congrFun (View.ld_unit_zero (Val := Elt Ideal) (e := .f32) (S := S4096x1) z2 inb_S4096x1_S4096x1_0_0 _) (ix2 r 0)).trans ((blk2 m c t _).trans (congrFun (V_main_arg2 m c) _))
  · exact (congrFun (View.ld_unit_zero (Val := Elt Ideal) (e := .f32) (S := S1x1152) z2 inb_S1x1152_S1x1152_0_0 _) (ix2 0 n)).trans ((blk4 m c t _).trans (V_ss m c n))
  · exact (ld_s _ offs inbs d g0 g1 g2 0 n).trans ((blk6 m c t _).trans (V_sp m c d n))
  · exact (congrFun (View.ld_unit_zero (Val := Elt Ideal) (e := .f32) (S := S1x1152) z2 inb_S1x1152_S1x1152_0_0 _) (ix2 0 n)).trans ((blk7 m c t _).trans (V_bs m c n))
  · exact (ld_s _ offs inbs d g0 g1 g2 0 n).trans ((blk8 m c t _).trans (V_bp m c d n))

abbrev t0 : Fin cfg0.N := ⟨0, by decide⟩

/-- THE RESULT, entry by entry. -/
theorem result (c : Dev nD) (ho : Offs (offsR m c)) (r : Fin 4096) (n : Fin 1152) :
    ((dats m 0 c).arrAt 9 cfg0.N : S4096x1152.Idx → EReal) (ix2 r n) = max (Hr m c r ⟨rowDom (offsR m c) r, rowDom_lt ho r⟩ n) (Ideal.ofBits .f32 0x00000000#32) := by
  have b := congrFun (Cert.SecondRefIdeal.Value.blocks9 m c t0 (flush0_9 t0)) (ix2 r n)
  rw [Cert.SecondRefIdeal.Value.flushed9] at b
  have b' : ((dats m 0 c).arrAt 9 cfg0.N : S4096x1152.Idx → EReal) (((cfg0.win 9).blk t0).view.emb (ix2 r n))
      = (out0_9 (F := Ideal) (iblk m c 0 t0) (iblk m c 1 t0) (iblk m c 2 t0) (iblk m c 3 t0) (iblk m c 4 t0) (iblk m c 5 t0) (iblk m c 6 t0) (iblk m c 7 t0) (iblk m c 8 t0) : S4096x1152.Idx → EReal) (ix2 r n) := b
  rw [emb9] at b'
  refine b'.trans ((congrFun (out_eq _ _ _ _ _ _ _ _ _) (ix2 r n)).trans ?_)
  refine congrArg (fun x : EReal => max x (Ideal.ofBits .f32 0x00000000#32)) ?_
  refine Layer.starV_apply _ _ _ _ _ _ _ _ _ _ _ _ r n ⟨rowDom (offsR m c) r, rowDom_lt ho r⟩ ?_ (fun d => Hr m c r d n) ?_ ?_ ?_ ?_ ?_ ?_ ?_ ?_ ?_
  · exact (congrFun (View.ld_unit_zero (Val := Elt Ideal) (e := .i32) (S := S4096x1) z2 inb_S4096x1_S4096x1_0_0 _) (ix2 r 0)).trans ((blk0 m c t0 _).trans (V_row m c ho r))
  · exact rws_H m c t0 r 0 n _ _ _ _ rfl rfl rfl rfl rfl rfl
  · exact rws_H m c t0 r 1 n _ _ _ _ rfl rfl rfl rfl rfl rfl
  · exact rws_H m c t0 r 2 n _ _ _ _ rfl rfl rfl rfl rfl rfl
  · exact rws_H m c t0 r 3 n _ _ _ _ rfl rfl rfl rfl rfl rfl
  · exact rws_H m c t0 r 4 n _ _ _ _ rfl rfl rfl rfl rfl rfl
  · exact rws_H m c t0 r 5 n _ _ _ _ rfl rfl rfl rfl rfl rfl
  · exact rws_H m c t0 r 6 n _ _ _ _ rfl rfl rfl rfl rfl rfl
  · exact rws_H m c t0 r 7 n _ _ _ _ rfl rfl rfl rfl rfl rfl
  · exact rws_H m c t0 r 8 n _ _ _ _ rfl rfl rfl rfl rfl rfl

end Cert.SecondRefIdeal.Gen

end
-- ==== Proof.SecondAlgebraic.lean ====
module

public import proofs.«01_k».proof.Proof.SecondIdeal.Frame
public import proofs.«01_k».proof.Proof.SecondIdeal.Value
public import proofs.«01_k».proof.Proof.SecondRefIdeal.Value

/-!
# The kernel computes the layer

Over the reals both programs leave, at row `r` and column `n`, the formula of the layer with the weights of the row's
domain: the two results are equal entry by entry.
-/

@[expose] public section

set_option maxRecDepth 16384

noncomputable section

namespace Cert.SecondAlgebraic

open Idealize.ShloMosaic Idealize.ShloMosaic.ValueIdx Idealize.SL.Sem Cert.HostWords Cert.WorkList

/-- The two formulas from equal arguments. -/
theorem formula (m : (ℓ : Loc Cert.SecondIdeal.nD Cert.SecondIdeal.τ Cert.SecondIdeal.sig) → Buf (Elt Ideal) ℓ)
    (m' : (ℓ : Loc Cert.SecondRefIdeal.nD Cert.SecondRefIdeal.τ Cert.SecondRefIdeal.sig) → Buf (Elt Ideal) ℓ) (c : Dev Cert.SecondIdeal.nD)
    (e1 : SecondRefIdeal.Gen.ar1 m' c = SecondIdeal.Gen.ar1 m c) (e2 : SecondRefIdeal.Gen.ar2 m' c = SecondIdeal.Gen.ar2 m c)
    (e3 : SecondRefIdeal.Gen.ar3 m' c = SecondIdeal.Gen.ar3 m c) (e4 : SecondRefIdeal.Gen.ar4 m' c = SecondIdeal.Gen.ar4 m c)
    (e5 : SecondRefIdeal.Gen.ar5 m' c = SecondIdeal.Gen.ar5 m c) (e6 : SecondRefIdeal.Gen.ar6 m' c = SecondIdeal.Gen.ar6 m c)
    (e7 : SecondRefIdeal.Gen.ar7 m' c = SecondIdeal.Gen.ar7 m c) (e8 : SecondRefIdeal.Gen.ar8 m' c = SecondIdeal.Gen.ar8 m c)
    (r : Fin 4096) (d : Fin 9) (n : Fin 1152) :
    max (SecondRefIdeal.Gen.Hr m' c r d n) (Ideal.ofBits .f32 0x00000000#32) = SecondIdeal.Gen.Hm m c r d n := by
  unfold SecondRefIdeal.Gen.Hr SecondIdeal.Gen.Hm
  rw [e1, e2, e3, e4, e5, e6, e7, e8]

theorem algebraic : @Cert.algebraic_SecondIdeal_SecondRefIdeal Cert.SecondIdeal.Gen.facts Cert.SecondRefIdeal.Gen.facts Cert.Pre_offsets_cover_2.Gen.facts := by
  intro m g m' g' hp ha
  have ho := Cert.Frames.offs_SecondIdeal m hp 0
  have hO := Cert.SecondIdeal.Gen.blocks_ok m ho
  have hH := Cert.SecondIdeal.Gen.side_ok m ho hO
  refine ⟨fun c => (Cert.SecondIdeal.Gen.dats m hO hH 0 c).arrAt 8 (Cert.SecondIdeal.Gen.cfgM m hO).N,
    (θ_run _ _ _).mono (fun _ h => h.1) (Cert.SecondIdeal.Gen.run_result m g hO hH), ?_⟩
  refine (θ_run _ _ _).mono (fun _ h c => ⟨(h c).1.trans ?_, (h c).2⟩) (Cert.SecondRefIdeal.Value.run_blocks m' g')
  obtain ⟨a0, a1, a2, a3, a4, a5, a6, a7, a8⟩ := ha c
  have hc : c = 0 := Subsingleton.elim (α := Fin 1) c 0
  have eo : SecondRefIdeal.Gen.offsR m' c = SecondIdeal.Gen.offsM m 0 := by
    rw [← hc]
    exact congrArg offs a0
  have ho' : Offs (SecondRefIdeal.Gen.offsR m' c) := by rw [eo]; exact ho
  refine funext fun (i : Cert.SecondIdeal.S4096x1152.Idx) => ?_
  have hi : i = (ix2 (i 0 : Fin 4096) (i 1 : Fin 1152) : Cert.SecondIdeal.S4096x1152.Idx) := eq_ix2 (n0 := 4096) (n1 := 1152) i
  have hk := Cert.SecondIdeal.Gen.result m ho hO hH c i
  have hr := Cert.SecondRefIdeal.Gen.result m' c ho' (i 0) (i 1)
  rw [← hi] at hr
  refine hr.trans (Eq.trans ?_ hk.symm)
  refine (formula m m' c a1 a2 a3 a4 a5 a6 a7 a8 (i 0) _ (i 1)).trans ?_
  rw [← eo]
  exact (Cert.SecondIdeal.Gen.Out_eq m c (i 0) ⟨rowDom (SecondRefIdeal.Gen.offsR m' c) (i 0).val, rowDom_lt ho' (i 0)⟩ (i 1)).symm

end Cert.SecondAlgebraic

end
-- ==== Proof.ThirdIdeal.Blocks.lean ====
/-
  The blocks the body is handed at a grid point, entry by entry, as entries of the program's arguments.
-/
module

public import proofs.«01_k».proof.Proof.ThirdIdeal.Tables

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keep9_main_arg4 (X : Valuation τ sig (Elt F)) : StableHlo.after hostOps0_9 X main_arg4 = X main_arg4 := by
  after_results_simp
theorem X9_main_arg4 (c : Dev nD) : X9 m c main_arg4 = m ((c : Thread nD τ).loc main_arg4) :=
  (keep9_main_arg4 (X9 m c)).symm.trans ((V_eq m c main_arg4).symm.trans (V_main_arg4 m c))

theorem keep9_main_arg6 (X : Valuation τ sig (Elt F)) : StableHlo.after hostOps0_9 X main_arg6 = X main_arg6 := by
  after_results_simp
theorem X9_main_arg6 (c : Dev nD) : X9 m c main_arg6 = m ((c : Thread nD τ).loc main_arg6) :=
  (keep9_main_arg6 (X9 m c)).symm.trans ((V_eq m c main_arg6).symm.trans (V_main_arg6 m c))

theorem keep9_main_arg7 (X : Valuation τ sig (Elt F)) : StableHlo.after hostOps0_9 X main_arg7 = X main_arg7 := by
  after_results_simp
theorem X9_main_arg7 (c : Dev nD) : X9 m c main_arg7 = m ((c : Thread nD τ).loc main_arg7) :=
  (keep9_main_arg7 (X9 m c)).symm.trans ((V_eq m c main_arg7).symm.trans (V_main_arg7 m c))

theorem keep9_main_arg8 (X : Valuation τ sig (Elt F)) : StableHlo.after hostOps0_9 X main_arg8 = X main_arg8 := by
  after_results_simp
theorem X9_main_arg8 (c : Dev nD) : X9 m c main_arg8 = m ((c : Thread nD τ).loc main_arg8) :=
  (keep9_main_arg8 (X9 m c)).symm.trans ((V_eq m c main_arg8).symm.trans (V_main_arg8 m c))

/-- The rows of scales and shifts the host widens. -/
theorem V_ss (c : Dev nD) (n : Fin 320) : (V m c main_v43 : S1x320.Idx → F .f32) (ix2 0 n) = (m ((c : Thread nD τ).loc main_arg4) : S320.Idx → F .f32) (ix1 n) := by
  refine (congrFun ((V_eq m c main_v43).trans (st9_main_v43 (X9 m c))) (ix2 0 n)).trans ?_
  refine (broadcastInDim_apply _ _ _ (ix2 0 n) (ix1 n) (fun a => ?_)).trans (congrFun (X9_main_arg4 m c) _)
  match a with
  | ⟨0, _⟩ => exact (if_neg (show ¬ (320 : ℕ) = 1 by decide)).symm
theorem V_bs (c : Dev nD) (n : Fin 320) : (V m c main_v45 : S1x320.Idx → F .f32) (ix2 0 n) = (m ((c : Thread nD τ).loc main_arg7) : S320.Idx → F .f32) (ix1 n) := by
  refine (congrFun ((V_eq m c main_v45).trans (st9_main_v45 (X9 m c))) (ix2 0 n)).trans ?_
  refine (broadcastInDim_apply _ _ _ (ix2 0 n) (ix1 n) (fun a => ?_)).trans (congrFun (X9_main_arg7 m c) _)
  match a with
  | ⟨0, _⟩ => exact (if_neg (show ¬ (320 : ℕ) = 1 by decide)).symm
theorem V_sp (c : Dev nD) (d : Fin 9) (n : Fin 320) : (V m c main_v44 : S9x1x320.Idx → F .f32) (ix3 d 0 n) = (m ((c : Thread nD τ).loc main_arg6) : S9x320.Idx → F .f32) (ix2 d n) := by
  refine (congrFun ((V_eq m c main_v44).trans (st9_main_v44 (X9 m c))) (ix3 d 0 n)).trans ?_
  refine (broadcastInDim_apply _ _ _ (ix3 d 0 n) (ix2 d n) (fun a => ?_)).trans (congrFun (X9_main_arg6 m c) _)
  match a with
  | ⟨0, _⟩ => exact (if_neg (show ¬ (9 : ℕ) = 1 by decide)).symm
  | ⟨1, _⟩ => exact (if_neg (show ¬ (320 : ℕ) = 1 by decide)).symm
theorem V_bp (c : Dev nD) (d : Fin 9) (n : Fin 320) : (V m c main_v46 : S9x1x320.Idx → F .f32) (ix3 d 0 n) = (m ((c : Thread nD τ).loc main_arg8) : S9x320.Idx → F .f32) (ix2 d n) := by
  refine (congrFun ((V_eq m c main_v46).trans (st9_main_v46 (X9 m c))) (ix3 d 0 n)).trans ?_
  refine (broadcastInDim_apply _ _ _ (ix3 d 0 n) (ix2 d n) (fun a => ?_)).trans (congrFun (X9_main_arg8 m c) _)
  match a with
  | ⟨0, _⟩ => exact (if_neg (show ¬ (9 : ℕ) = 1 by decide)).symm
  | ⟨1, _⟩ => exact (if_neg (show ¬ (320 : ℕ) = 1 by decide)).symm

/-- A block's row, column and domain in the arrays. -/
abbrev rowOf (T : ℕ) (h : T < 16) (r : Fin 256) : Fin 4096 := ⟨256 * T + r.val, by omega⟩
abbrev colOf (i : grid0.Coords) (n : Fin 320) : Fin 320 := ⟨320 * (i 0).val + n.val, by have h : (i 0).val < 1 := (i 0).isLt; omega⟩

variable (ho : Offs (offsM m 0))
abbrev domOf (i : grid0.Coords) : Fin 9 := ⟨dom (offsM m 0) (i 1), dom_lt ho _⟩

theorem blk0 (hO : Ok m) (c : Dev nD) (t : Fin (cfgM m hO).N) (r : Fin 256) (k : Fin 1152) :
    (iblk m hO c 0 t : S256x1152.Idx → F .fp8e4m3) (ix2 r k) = (m ((c : Thread nD τ).loc main_arg1) : S4096x1152.Idx → F .fp8e4m3) (ix2 (rowOf (tile (offsM m 0) (grid0.coords t 1)) (tile_lt ho _) r) k) := by
  refine (show _ = (V m c main_arg1 : _) _ from congrArg (V m c main_arg1) (funext fun a => Fin.ext ((((cfgM m hO).win 0).rect_emb_val t (ix2 r k) a).trans ?_))).trans (congrFun (V_main_arg1 m c) (ix2 (rowOf (tile (offsM m 0) (grid0.coords t 1)) (tile_lt ho _) r) k))
  show cc0_transform_0 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr0_eq, hT]
  match a with
  | ⟨0, _⟩ => show tile (offsM m 0) (grid0.coords t 1) * 256 + r.val = 256 * tile (offsM m 0) (grid0.coords t 1) + r.val; omega
  | ⟨1, _⟩ => show 0 * 1152 + k.val = k.val; omega

theorem blk1 (hO : Ok m) (c : Dev nD) (t : Fin (cfgM m hO).N) (r : Fin 256) :
    (iblk m hO c 1 t : S256x1.Idx → F .f32) (ix2 r 0) = (m ((c : Thread nD τ).loc main_arg2) : S4096x1.Idx → F .f32) (ix2 (rowOf (tile (offsM m 0) (grid0.coords t 1)) (tile_lt ho _) r) 0) := by
  refine (show _ = (V m c main_arg2 : _) _ from congrArg (V m c main_arg2) (funext fun a => Fin.ext ((((cfgM m hO).win 1).rect_emb_val t (ix2 r 0) a).trans ?_))).trans (congrFun (V_main_arg2 m c) (ix2 (rowOf (tile (offsM m 0) (grid0.coords t 1)) (tile_lt ho _) r) 0))
  show cc0_transform_1 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr1_eq, hT]
  match a with
  | ⟨0, _⟩ => show tile (offsM m 0) (grid0.coords t 1) * 256 + r.val = 256 * tile (offsM m 0) (grid0.coords t 1) + r.val; omega
  | ⟨1, _⟩ => show 0 * 1 + 0 = 0; omega

theorem blk2 (hO : Ok m) (c : Dev nD) (t : Fin (cfgM m hO).N) (k : Fin 1152) (n : Fin 320) :
    (iblk m hO c 2 t : S1152x320.Idx → F .fp8e4m3) (ix2 k n) = (m ((c : Thread nD τ).loc main_arg3) : S1152x320.Idx → F .fp8e4m3) (ix2 k (colOf (grid0.coords t) n)) := by
  refine (show _ = (V m c main_arg3 : _) _ from congrArg (V m c main_arg3) (funext fun a => Fin.ext ((((cfgM m hO).win 2).rect_emb_val t (ix2 k n) a).trans ?_))).trans (congrFun (V_main_arg3 m c) (ix2 k (colOf (grid0.coords t) n)))
  show cc0_transform_2 (grid0.coords t) a * _ + _ = _
  rw [tr2_eq]
  match a with
  | ⟨0, _⟩ => show 0 * 1152 + k.val = k.val; omega
  | ⟨1, _⟩ => show (grid0.coords t 0).val * 320 + n.val = 320 * (grid0.coords t 0).val + n.val; omega

theorem blk3 (hO : Ok m) (c : Dev nD) (t : Fin (cfgM m hO).N) (n : Fin 320) :
    (iblk m hO c 3 t : S1x320.Idx → F .f32) (ix2 0 n) = (m ((c : Thread nD τ).loc main_arg4) : S320.Idx → F .f32) (ix1 (colOf (grid0.coords t) n)) := by
  refine (show _ = (V m c main_v43 : _) _ from congrArg (V m c main_v43) (funext fun a => Fin.ext ((((cfgM m hO).win 3).rect_emb_val t (ix2 0 n) a).trans ?_))).trans (V_ss m c (colOf (grid0.coords t) n))
  show cc0_transform_3 (grid0.coords t) a * _ + _ = _
  rw [tr3_eq]
  match a with
  | ⟨0, _⟩ => show 0 * 1 + 0 = 0; omega
  | ⟨1, _⟩ => show (grid0.coords t 0).val * 320 + n.val = 320 * (grid0.coords t 0).val + n.val; omega

theorem blk4 (hO : Ok m) (c : Dev nD) (t : Fin (cfgM m hO).N) (k : Fin 1152) (n : Fin 320) :
    (iblk m hO c 4 t : S1x1152x320.Idx → F .fp8e4m3) (ix3 0 k n) = (m ((c : Thread nD τ).loc main_arg5) : S9x1152x320.Idx → F .fp8e4m3) (ix3 (domOf m ho (grid0.coords t)) k (colOf (grid0.coords t) n)) := by
  refine (show _ = (V m c main_arg5 : _) _ from congrArg (V m c main_arg5) (funext fun a => Fin.ext ((((cfgM m hO).win 4).rect_emb_val t (ix3 0 k n) a).trans ?_))).trans (congrFun (V_main_arg5 m c) (ix3 (domOf m ho (grid0.coords t)) k (colOf (grid0.coords t) n)))
  show cc0_transform_4 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr4_eq, hD]
  match a with
  | ⟨0, _⟩ => show dom (offsM m 0) (grid0.coords t 1) * 1 + 0 = dom (offsM m 0) (grid0.coords t 1); omega
  | ⟨1, _⟩ => show 0 * 1152 + k.val = k.val; omega
  | ⟨2, _⟩ => show (grid0.coords t 0).val * 320 + n.val = 320 * (grid0.coords t 0).val + n.val; omega

theorem blk5 (hO : Ok m) (c : Dev nD) (t : Fin (cfgM m hO).N) (n : Fin 320) :
    (iblk m hO c 5 t : S1x1x320.Idx → F .f32) (ix3 0 0 n) = (m ((c : Thread nD τ).loc main_arg6) : S9x320.Idx → F .f32) (ix2 (domOf m ho (grid0.coords t)) (colOf (grid0.coords t) n)) := by
  refine (show _ = (V m c main_v44 : _) _ from congrArg (V m c main_v44) (funext fun a => Fin.ext ((((cfgM m hO).win 5).rect_emb_val t (ix3 0 0 n) a).trans ?_))).trans (V_sp m c (domOf m ho (grid0.coords t)) (colOf (grid0.coords t) n))
  show cc0_transform_5 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr5_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 320 + n.val = 320 * (grid0.coords t 0).val + n.val; omega

theorem blk6 (hO : Ok m) (c : Dev nD) (t : Fin (cfgM m hO).N) (n : Fin 320) :
    (iblk m hO c 6 t : S1x320.Idx → F .f32) (ix2 0 n) = (m ((c : Thread nD τ).loc main_arg7) : S320.Idx → F .f32) (ix1 (colOf (grid0.coords t) n)) := by
  refine (show _ = (V m c main_v45 : _) _ from congrArg (V m c main_v45) (funext fun a => Fin.ext ((((cfgM m hO).win 6).rect_emb_val t (ix2 0 n) a).trans ?_))).trans (V_bs m c (colOf (grid0.coords t) n))
  show cc0_transform_6 (grid0.coords t) a * _ + _ = _
  rw [tr6_eq]
  match a with
  | ⟨0, _⟩ => show 0 * 1 + 0 = 0; omega
  | ⟨1, _⟩ => show (grid0.coords t 0).val * 320 + n.val = 320 * (grid0.coords t 0).val + n.val; omega

theorem blk7 (hO : Ok m) (c : Dev nD) (t : Fin (cfgM m hO).N) (n : Fin 320) :
    (iblk m hO c 7 t : S1x1x320.Idx → F .f32) (ix3 0 0 n) = (m ((c : Thread nD τ).loc main_arg8) : S9x320.Idx → F .f32) (ix2 (domOf m ho (grid0.coords t)) (colOf (grid0.coords t) n)) := by
  refine (show _ = (V m c main_v46 : _) _ from congrArg (V m c main_v46) (funext fun a => Fin.ext ((((cfgM m hO).win 7).rect_emb_val t (ix3 0 0 n) a).trans ?_))).trans (V_bp m c (domOf m ho (grid0.coords t)) (colOf (grid0.coords t) n))
  show cc0_transform_7 k0_off1_inb numel1_S1 (tbl m) (grid0.coords t) a * _ + _ = _
  have hD : ((tbl m 1 : S24.Idx → BitVec 32) (ix1 (grid0.coords t 1))).toNat = dom (offsM m 0) (grid0.coords t 1) := dom_at m ho (grid0.coords t 1)
  rw [tr7_eq, hD]
  match a with
  | ⟨0, _⟩ => show dom (offsM m 0) (grid0.coords t 1) * 1 + 0 = dom (offsM m 0) (grid0.coords t 1); omega
  | ⟨1, _⟩ => show 0 * 1 + 0 = 0; omega
  | ⟨2, _⟩ => show (grid0.coords t 0).val * 320 + n.val = 320 * (grid0.coords t 0).val + n.val; omega

/-- Where the output block lies in the result. -/
theorem emb8 (hO : Ok m) (t : Fin (cfgM m hO).N) (r : Fin 256) (n : Fin 320) :
    (((cfgM m hO).win 8).blk t).view.emb (ix2 r n) = (ix2 (rowOf (tile (offsM m 0) (grid0.coords t 1)) (tile_lt ho _) r) (colOf (grid0.coords t) n) : S4096x320.Idx) := by
  refine funext fun a => Fin.ext ((((cfgM m hO).win 8).rect_emb_val t (ix2 r n) a).trans ?_)
  show cc0_transform_8 k0_off1_inb numel1_S1 (tbl m) (grid0.coords t) a * _ + _ = _
  have hT : ((tbl m 0 : S24.Idx → BitVec 32) (ix1 (grid0.coords t 1))).toNat = tile (offsM m 0) (grid0.coords t 1) := tile_at m ho (grid0.coords t 1)
  rw [tr8_eq, hT]
  match a with
  | ⟨0, _⟩ => show tile (offsM m 0) (grid0.coords t 1) * 256 + r.val = 256 * tile (offsM m 0) (grid0.coords t 1) + r.val; omega
  | ⟨1, _⟩ => show (grid0.coords t 0).val * 320 + n.val = 320 * (grid0.coords t 0).val + n.val; omega

end Cert.ThirdIdeal.Gen

end
-- ==== Proof.ThirdIdeal.Rows.lean ====
/-
  The value of the layer over the reals: what every grid point leaves in the output block, and the result array entry
  by entry.
-/
module

public import proofs.«01_k».proof.Proof.ThirdIdeal.Blocks
public import proofs.«01_k».proof.Proof.ThirdIdeal.Run
public import proofs.«01_k».proof.Proof.Layer

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ)

/-! The program's arguments, as vectors of reals. -/
abbrev ar1 (c : Dev nD) : FVec Ideal S4096x1152 .fp8e4m3 := m ((c : Thread nD τ).loc main_arg1)
abbrev ar2 (c : Dev nD) : FVec Ideal S4096x1 .f32 := m ((c : Thread nD τ).loc main_arg2)
abbrev ar3 (c : Dev nD) : FVec Ideal S1152x320 .fp8e4m3 := m ((c : Thread nD τ).loc main_arg3)
abbrev ar4 (c : Dev nD) : FVec Ideal S320 .f32 := m ((c : Thread nD τ).loc main_arg4)
abbrev ar5 (c : Dev nD) : FVec Ideal S9x1152x320 .fp8e4m3 := m ((c : Thread nD τ).loc main_arg5)
abbrev ar6 (c : Dev nD) : FVec Ideal S9x320 .f32 := m ((c : Thread nD τ).loc main_arg6)
abbrev ar7 (c : Dev nD) : FVec Ideal S320 .f32 := m ((c : Thread nD τ).loc main_arg7)
abbrev ar8 (c : Dev nD) : FVec Ideal S9x320 .f32 := m ((c : Thread nD τ).loc main_arg8)

/-- The layer of the program's arguments at row `r`, with the weights of domain `d`, at column `n`. -/
def Hm (c : Dev nD) (r : Fin 4096) (d : Fin 9) (n : Fin 320) : EReal :=
  Layer.H (ar1 m c) (ar2 m c) (ar3 m c) (ar4 m c) (ar5 m c) (ar6 m c) (ar7 m c) (ar8 m c) r d n

/-- The same at natural numbers. -/
def Out (c : Dev nD) (r d n : ℕ) : EReal :=
  if h : r < 4096 ∧ d < 9 ∧ n < 320 then Hm m c ⟨r, h.1⟩ ⟨d, h.2.1⟩ ⟨n, h.2.2⟩ else 0

theorem pay2_apply (W : Vec Ideal S1152x320 .fp8e4m3) (Wd : Vec Ideal S1x1152x320 .fp8e4m3) (k : Fin 1152) (n : Fin 320) :
    k0_pay3 W Wd (ix2 k n) = (W (ix2 k n) * Wd (ix3 0 k n) : EReal) := by
  unfold k0_pay3
  rw [shapeCast_self]
  exact Layer.prod_apply (K := 1152) (N := 320) W Wd _ _ k n

theorem pay3_apply (A : Vec Ideal S256x1152 .fp8e4m3) (P : Vec Ideal S1152x320 .bf16) (sx : Vec Ideal S256x1 .f32) (ss : Vec Ideal S1x320 .f32)
    (sp : Vec Ideal S1x1x320 .f32) (bs : Vec Ideal S1x320 .f32) (bp : Vec Ideal S1x1x320 .f32) (r : Fin 256) (n : Fin 320) :
    k0_pay4 A P sx ss sp bs bp (ix2 r n) = (((Ideal.ofBits .f32 0x00000000#32 + ∑ k : Fin 1152, A (ix2 r k) * P (ix2 k n)) * sx (ix2 r 0)) * (ss (ix2 0 n) * sp (ix3 0 0 n)) + (bs (ix2 0 n) + bp (ix3 0 0 n)) : EReal) := by
  unfold k0_pay4
  exact (Layer.rows_apply (M := 256) (K := 1152) (N := 320) A P sx ss sp bs bp _ _ _ _ _ r n)

theorem pay1_apply (rows : FVec Ideal S256x320 .f32) (old : FVec Ideal S256x320 .bf16) (t o : ℕ) (ht : t < 1024) (ho : o ≤ 65536) (r : Fin 256) (n : Fin 320) :
    k0_pay2 rows (Scalar.muli (wd t) 256#32) (wd o) old (ix2 r n) = if o ≤ 256 * t + r.val then rows (ix2 r n) else old (ix2 r n) := by
  unfold k0_pay2
  exact Layer.tail_apply (M := 256) (N := 320) rows old t o (by omega) ht ho _ _ _ _ r n

variable (ho : Offs (offsM m 0))

theorem Out_eq (c : Dev nD) (r : Fin 4096) (d : Fin 9) (n : Fin 320) : Out m c r.val d.val n.val = Hm m c r d n := by
  unfold Out
  rw [dif_pos ⟨r.isLt, d.isLt, n.isLt⟩]

include ho
/-- The rows computed at a point, with the point's domain. -/
theorem rowsAt_apply (hO : Ok m) (c : Dev nD) (t : Fin (cfgM m hO).N) (r : Fin 256) (n : Fin 320) :
    rowsAt m hO c t (ix2 r n) = Out m c (256 * tile (offsM m 0) (grid0.coords t 1) + r.val) (dom (offsM m 0) (grid0.coords t 1)) (320 * (grid0.coords t 0).val + n.val) := by
  have e := Out_eq m c (rowOf (tile (offsM m 0) (grid0.coords t 1)) (tile_lt ho _) r) (domOf m ho (grid0.coords t)) (colOf (grid0.coords t) n)
  refine Eq.trans ?_ e.symm
  unfold rowsAt
  refine (pay3_apply _ _ _ _ _ _ _ r n).trans ?_
  unfold Hm Layer.H
  rw [blk1 m ho hO c t r, blk3 m hO c t n, blk5 m ho hO c t n, blk6 m hO c t n, blk7 m ho hO c t n]
  exact congrArg (fun x : EReal => ((Ideal.ofBits .f32 0x00000000#32 + x) * (ar2 m c) (ix2 (rowOf (tile (offsM m 0) (grid0.coords t 1)) (tile_lt ho _) r) 0)) * ((ar4 m c) (ix1 (colOf (grid0.coords t) n)) * (ar6 m c) (ix2 (domOf m ho (grid0.coords t)) (colOf (grid0.coords t) n))) + ((ar7 m c) (ix1 (colOf (grid0.coords t) n)) + (ar8 m c) (ix2 (domOf m ho (grid0.coords t)) (colOf (grid0.coords t) n)))) (Finset.sum_congr rfl fun k _ => congr (congrArg (fun (x y : EReal) => x * y) (blk0 m ho hO c t r k))
    ((pay2_apply _ _ k n).trans (congr (congrArg (fun (x y : EReal) => x * y) (blk2 m hO c t k n)) (blk4 m ho hO c t k n))))

end Cert.ThirdIdeal.Gen

end
-- ==== Proof.ThirdIdeal.Value.lean ====
/-
  The result of the layer, entry by entry: row `r` of the result is computed with the weights of row `r`'s domain.
  A point that opens a tile writes rows that start inside its domain; a later point of the tile keeps the rows before
  its domain's offset; the tile's last point leaves every row of the tile in place.
-/
module

public import proofs.«01_k».proof.Proof.ThirdIdeal.Rows

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.HostWords Cert.WorkList
open Idealize.ShloMosaic.Pipeline (Dat Cfg Window BodyObligation cellOf)

variable (m : (ℓ : Loc nD τ sig) → Buf (Elt Ideal) ℓ) (ho : Offs (offsM m 0))

/-- Every row of the block before the end of the point's domain has its own domain's weights. -/
def Good (c : Dev nD) (j w : ℕ) (b : FVec Ideal S256x320 .bf16) : Prop :=
  ∀ (r : Fin 256) (n : Fin 320), 256 * tile (offsM m 0) w + r.val < offsM m 0 (dom (offsM m 0) w + 1) →
    b (ix2 r n) = Out m c (256 * tile (offsM m 0) w + r.val) (rowDom (offsM m 0) (256 * tile (offsM m 0) w + r.val)) (320 * j + n.val)

include ho
/-- The words of the two tables at a point and at the one before. -/
theorem tile_inj (v w : Fin 24) (h : tb0 m (ix1 v) = tb0 m (ix1 w)) : tile (offsM m 0) v = tile (offsM m 0) w :=
  (tile_at m ho v).symm.trans ((congrArg BitVec.toNat h).trans (tile_at m ho w))
theorem tile_congr (v w : Fin 24) (h : tile (offsM m 0) v = tile (offsM m 0) w) : tb0 m (ix1 v) = tb0 m (ix1 w) :=
  (tb0_word m ho v).trans ((congrArg wd h).trans (tb0_word m ho w).symm)

/-- A row at or past the domain's offset is computed with its own domain's weights. -/
theorem fresh (hO : Ok m) (c : Dev nD) (t : Fin (cfgM m hO).N) (r : Fin 256) (n : Fin 320)
    (h1 : offsM m 0 (dom (offsM m 0) (grid0.coords t 1)) ≤ 256 * tile (offsM m 0) (grid0.coords t 1) + r.val)
    (h2 : 256 * tile (offsM m 0) (grid0.coords t 1) + r.val < offsM m 0 (dom (offsM m 0) (grid0.coords t 1) + 1)) :
    rowsAt m hO c t (ix2 r n) = Out m c (256 * tile (offsM m 0) (grid0.coords t 1) + r.val)
      (rowDom (offsM m 0) (256 * tile (offsM m 0) (grid0.coords t 1) + r.val)) (320 * (grid0.coords t 0).val + n.val) := by
  rw [rowsAt_apply m ho, rowDom_eq ho (dom_lt ho _) h1 h2]

theorem opens (hO : Ok m) (c : Dev nD) (t : Fin (cfgM m hO).N)
    (h : (grid0.coords t 1).val = 0 ∨ tb0 m (ix1 (grid0.coords t 1)) ≠ tb0 m (ix1 (prev24 (grid0.coords t 1)))) :
    Good m c (grid0.coords t 0) (grid0.coords t 1) (k0_pay1 (rowsAt m hO c t)) := by
  intro r n hr
  show rowsAt m hO c t (ix2 r n) = _
  refine fresh m ho hO c t r n (Nat.le_trans (new_tile ho _ ?_) (Nat.le_add_right _ _)) hr
  rcases Nat.eq_zero_or_pos (grid0.coords t 1).val with h0 | h0
  · exact .inl h0
  · refine .inr ⟨(grid0.coords t 1).val - 1, by omega, fun e => ?_⟩
    rcases h with h | h
    · omega
    · exact h (tile_congr m ho (grid0.coords t 1) (prev24 (grid0.coords t 1)) e)

theorem aft_good (hO : Ok m) (hH : Hyps m hO) (c : Dev nD) : ∀ (n : ℕ) (hn : n < (cfgM m hO).N),
    Good m c (grid0.coords ⟨n, hn⟩ 0) (grid0.coords ⟨n, hn⟩ 1) (aft m hO hH c n hn)
  | 0, hn => by
    unfold aft
    exact opens m ho hO c ⟨0, hn⟩ (.inl (coords1 ⟨0, hn⟩))
  | n + 1, hn => by
    have ih := aft_good hO hH c n (Nat.lt_of_succ_lt hn)
    unfold aft
    unfold stepAt
    by_cases h : k0_cond3 (grid0.coords ⟨n + 1, hn⟩) (wTile (grid0.coords ⟨n + 1, hn⟩) (tb0 m)) (wTileP (grid0.coords ⟨n + 1, hn⟩) (tb0 m)) = 1#1
    · rw [dif_pos h]
      have h' := h
      rw [cond3_iff, wTile_eq, wTileP_eq] at h'
      have h1 : (grid0.coords ⟨n + 1, hn⟩ 1).val ≠ 0 := fun e => h' (.inl e)
      have h2 := not_not.mp fun e => h' (.inr e)
      have e1 := coords1 ⟨n + 1, hn⟩
      have e2 := coords1 ⟨n, Nat.lt_of_succ_lt hn⟩
      have e3 := coords0 ⟨n + 1, hn⟩
      have e4 := coords0 ⟨n, Nat.lt_of_succ_lt hn⟩
      simp only at e1 e2 e3 e4
      have hw : (grid0.coords ⟨n + 1, hn⟩ 1).val = (grid0.coords ⟨n, Nat.lt_of_succ_lt hn⟩ 1).val + 1 := by omega
      have hj : (grid0.coords ⟨n + 1, hn⟩ 0).val = (grid0.coords ⟨n, Nat.lt_of_succ_lt hn⟩ 0).val := by omega
      have ht := tile_inj m ho (grid0.coords ⟨n + 1, hn⟩ 1) (prev24 (grid0.coords ⟨n + 1, hn⟩ 1)) h2
      have hp : (prev24 (grid0.coords ⟨n + 1, hn⟩ 1)).val = (grid0.coords ⟨n, Nat.lt_of_succ_lt hn⟩ 1).val := by
        show (grid0.coords ⟨n + 1, hn⟩ 1).val - 1 = _
        omega
      rw [hp] at ht
      have hd9 := dom_lt ho (grid0.coords ⟨n + 1, hn⟩ 1).val
      have ht16 := tile_lt ho (grid0.coords ⟨n + 1, hn⟩ 1).val
      have hl := o_le_last ho (show dom (offsM m 0) (grid0.coords ⟨n + 1, hn⟩ 1).val ≤ 9 by omega)
      have eT : wTile (grid0.coords ⟨n + 1, hn⟩) (tb0 m) = wd (tile (offsM m 0) (grid0.coords ⟨n + 1, hn⟩ 1)) :=
        (wTile_eq _ _).trans (tb0_word m ho _)
      have eD : (wDom (grid0.coords ⟨n + 1, hn⟩) (tb1 m)).toNat = dom (offsM m 0) (grid0.coords ⟨n + 1, hn⟩ 1) :=
        (congrArg BitVec.toNat ((wDom_eq _ _).trans (tb1_word m ho _))).trans (toNat_wd _ (by omega))
      have eO : ∀ hb, wOff (wDom (grid0.coords ⟨n + 1, hn⟩) (tb1 m)) hb (tb2 m) = wd (offsM m 0 (dom (offsM m 0) (grid0.coords ⟨n + 1, hn⟩ 1))) := fun hb =>
        (wOff_eq _ hb (tb2 m) ⟨dom (offsM m 0) (grid0.coords ⟨n + 1, hn⟩ 1), by omega⟩ eD).trans (tb2_word m ⟨dom (offsM m 0) (grid0.coords ⟨n + 1, hn⟩ 1), by omega⟩)
      intro r q hr
      rw [eT, eO]
      refine (pay1_apply _ _ _ _ (by omega) (by omega) r q).trans ?_
      by_cases hc : offsM m 0 (dom (offsM m 0) (grid0.coords ⟨n + 1, hn⟩ 1)) ≤ 256 * tile (offsM m 0) (grid0.coords ⟨n + 1, hn⟩ 1) + r.val
      · rw [if_pos hc]
        exact fresh m ho hO c ⟨n + 1, hn⟩ r q hc hr
      · rw [if_neg hc]
        have hold := old_tile ho (grid0.coords ⟨n, Nat.lt_of_succ_lt hn⟩ 1).val
        rw [← hw] at hold
        rw [ht, hj]
        rw [ht] at hc
        exact ih r q (by omega)
    · rw [dif_neg h]
      rw [cond3_iff, wTile_eq, wTileP_eq] at h
      exact opens m ho hO c ⟨n + 1, hn⟩ (not_not.mp h)

/-- At a point that writes back, every row of the block is in place. -/
theorem ends (hO : Ok m) (t : Fin (cfgM m hO).N) (hf : ((cfgM m hO).win 8).flush t = true) (r : Fin 256) :
    256 * tile (offsM m 0) (grid0.coords t 1) + r.val < offsM m 0 (dom (offsM m 0) (grid0.coords t 1) + 1) := by
  have hd := done_tile ho (grid0.coords t 1).val ?_
  · have := r.isLt
    omega
  by_contra hx
  have hx1 : (grid0.coords t 1).val ≠ 23 := fun e => hx (.inl e)
  have hx2 : tile (offsM m 0) ((grid0.coords t 1).val + 1) = tile (offsM m 0) (grid0.coords t 1) := not_not.mp fun e => hx (.inr e)
  obtain ⟨n, hn⟩ := t
  have e1 := coords1 ⟨n, hn⟩
  simp only at e1
  have hN : n < 24 := hn
  have hn' : n + 1 < (cfgM m hO).N := (show n + 1 < 24 by omega)
  have e2 := coords1 ⟨n + 1, hn'⟩
  simp only at e2
  have hw : (grid0.coords ⟨n + 1, hn'⟩ 1).val = (grid0.coords ⟨n, hn⟩ 1).val + 1 := by omega
  have hp : (prev24 (grid0.coords ⟨n + 1, hn'⟩ 1)).val = (grid0.coords ⟨n, hn⟩ 1).val := by
    show (grid0.coords ⟨n + 1, hn'⟩ 1).val - 1 = _
    omega
  have hfalse := flush_false m hO n hn' (by
    rw [cond3_iff, wTile_eq, wTileP_eq]
    rintro (h | h)
    · omega
    · refine h (tile_congr m ho (grid0.coords ⟨n + 1, hn'⟩ 1) (prev24 (grid0.coords ⟨n + 1, hn'⟩ 1)) ?_)
      rw [hw, hp, hx2])
  rw [hfalse] at hf
  exact Bool.noConfusion hf

/-- The tile's last point of a pass writes back. -/
theorem flush_true (hO : Ok m) (n : ℕ) (hn : n < (cfgM m hO).N)
    (h : (grid0.coords ⟨n, hn⟩ 1).val = 23 ∨ tile (offsM m 0) ((grid0.coords ⟨n, hn⟩ 1).val + 1) ≠ tile (offsM m 0) (grid0.coords ⟨n, hn⟩ 1)) :
    ((cfgM m hO).win 8).flush ⟨n, hn⟩ = true := by
  unfold Pipeline.Window.flush
  by_cases hl : n + 1 = 24
  · rw [decide_eq_true (show n + 1 = (cfgM m hO).grid.N from hl)]
    rfl
  have hN : n < 24 := hn
  have hn' : n + 1 < (cfgM m hO).N := (show n + 1 < 24 by omega)
  have e1 := coords1 ⟨n, hn⟩
  have e2 := coords1 ⟨n + 1, hn'⟩
  have e3 := coords0 ⟨n, hn⟩
  have e4 := coords0 ⟨n + 1, hn'⟩
  simp only at e1 e2 e3 e4
  have key : ((cfgM m hO).win 8).index ⟨n + 1, hn'⟩ ≠ ((cfgM m hO).win 8).index ⟨n, hn⟩ := by
    intro e
    have e' : cc0_transform_8 k0_off1_inb numel1_S1 (tbl m) (grid0.coords ⟨n + 1, hn'⟩) = cc0_transform_8 k0_off1_inb numel1_S1 (tbl m) (grid0.coords ⟨n, hn⟩) := e
    rw [tr8_eq, tr8_eq] at e'
    have a0 : ((tbl m 0 : S24.Idx → BitVec 32) (ix1 (grid0.coords ⟨n + 1, hn'⟩ 1))).toNat = ((tbl m 0 : S24.Idx → BitVec 32) (ix1 (grid0.coords ⟨n, hn⟩ 1))).toNat := congrFun e' 0
    have a1 : (grid0.coords ⟨n + 1, hn'⟩ 0).val = (grid0.coords ⟨n, hn⟩ 0).val := congrFun e' 1
    have b0 : tile (offsM m 0) (grid0.coords ⟨n + 1, hn'⟩ 1) = tile (offsM m 0) (grid0.coords ⟨n, hn⟩ 1) :=
      (tile_at m ho (grid0.coords ⟨n + 1, hn'⟩ 1)).symm.trans (a0.trans (tile_at m ho (grid0.coords ⟨n, hn⟩ 1)))
    rcases h with h | h
    · omega
    · refine h ?_
      rw [← b0]
      congr 1
      omega
  rw [decide_eq_true (⟨hn', key⟩ : ∃ h : n + 1 < (cfgM m hO).grid.N, ((cfgM m hO).win 8).index ⟨n + 1, h⟩ ≠ ((cfgM m hO).win 8).index ⟨n, hn⟩), Bool.or_true]
  rfl

/-- THE RESULT: entry (r, n) is the layer at row `r` with the weights of `r`'s domain. -/
theorem result (hO : Ok m) (hH : Hyps m hO) (c : Dev nD) (i : S4096x320.Idx) :
    ((dats m hO hH 0 c).arrAt 8 (cfgM m hO).N : S4096x320.Idx → EReal) i = Out m c (i 0).val (rowDom (offsM m 0) (i 0).val) (i 1).val := by
  refine (dats m hO hH 0 c).arrAt_forall_of_cover 8 (fun (i : S4096x320.Idx) (v : EReal) => v = Out m c (i 0).val (rowDom (offsM m 0) (i 0).val) (i 1).val) ?_ ?_ i
  · intro t hf (y : S256x320.Idx)
    have hy : y = (ix2 (y 0 : Fin 256) (y 1 : Fin 320) : S256x320.Idx) := eq_ix2 (n0 := 256) (n1 := 320) y
    have hg := aft_good m ho hO hH c t.val t.isLt (y 0) (y 1) (ends m ho hO t hf (y 0))
    have he := emb8 m ho hO t (y 0) (y 1)
    have hv : (dats m hO hH 0 c).flushed 8 t y = aft m hO hH c t.val t.isLt y := by
      show ((dats m hO hH 0 c).after 8 t) y = _
      rw [after0_8]
    rw [hy, he]
    refine (congrArg _ ((congrArg ((dats m hO hH 0 c).flushed 8 t) hy.symm).trans hv)).trans ?_
    refine Eq.trans ?_ hg
    show aft m hO hH c t.val t.isLt y = _
    exact congrArg (aft m hO hH c t.val t.isLt) hy
  · intro (i : S4096x320.Idx)
    have h0 : (i 0).val < 4096 := (i 0).isLt
    have h1 : (i 1).val < 320 := (i 1).isLt
    obtain ⟨w, hw, ht, hl⟩ := cover ho ((i 0).val / 256) (by omega)
    have hn : 24 * ((i 1).val / 320) + w < (cfgM m hO).N := (show 24 * ((i 1).val / 320) + w < 24 by omega)
    have e1 := coords1 ⟨24 * ((i 1).val / 320) + w, hn⟩
    have e0 := coords0 ⟨24 * ((i 1).val / 320) + w, hn⟩
    simp only at e1 e0
    have e1' : (grid0.coords ⟨24 * ((i 1).val / 320) + w, hn⟩ 1).val = w := by omega
    have e0' : (grid0.coords ⟨24 * ((i 1).val / 320) + w, hn⟩ 0).val = (i 1).val / 320 := by omega
    refine ⟨⟨24 * ((i 1).val / 320) + w, hn⟩, flush_true m ho hO _ hn (by rw [e1']; exact hl), ?_⟩
    have he := emb8 m ho hO ⟨24 * ((i 1).val / 320) + w, hn⟩ ⟨(i 0).val % 256, by omega⟩ ⟨(i 1).val % 320, by omega⟩
    have hi : (i : S4096x320.Idx) = (((cfgM m hO).win 8).blk ⟨24 * ((i 1).val / 320) + w, hn⟩).view.emb (ix2 (⟨(i 0).val % 256, by omega⟩ : Fin 256) (⟨(i 1).val % 320, by omega⟩ : Fin 320)) := by
      refine Eq.trans ?_ he.symm
      refine Shape.idx_ext₂ ?_ ?_
      · show (i 0).val = 256 * tile (offsM m 0) (grid0.coords ⟨24 * ((i 1).val / 320) + w, hn⟩ 1).val + (i 0).val % 256
        rw [e1', ht]
        omega
      · show (i 1).val = 320 * (grid0.coords ⟨24 * ((i 1).val / 320) + w, hn⟩ 0).val + (i 1).val % 320
        rw [e0']
        omega
    exact Finset.mem_map.mpr ⟨_, Finset.mem_univ _, hi.symm⟩

end Cert.ThirdIdeal.Gen

end
-- ==== Proof.ThirdRefIdeal.Host.lean ====
/-
  The reference's host operations: the domain of every row, and the rows of scales and shifts widened.
-/
module

public import proofs.«01_k».proof.Proof.Gen.ThirdRefIdeal.Frame
public import proofs.«01_k».proof.Proof.HostWords

@[expose] public section

set_option maxRecDepth 16384

noncomputable section

namespace Cert.ThirdRefIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

section
variable {F : FTy → Type} [FloatOps F] (X : Valuation τ sig (Elt F))

theorem keep0 (b : Ref sig .tc) (hb : b ∈ [main_arg4, main_arg6, main_arg7, main_arg8]) : StableHlo.after hostOps0 X b = X b := by
  refine StableHlo.after_of_forall_not_mem (b := Proc.devRef .tc b) _ _ (List.forall_iff_forall_mem.mp ?_)
  simp only [List.mem_cons, List.not_mem_nil, or_false] at hb
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep0_main_arg4 : StableHlo.after hostOps0 X main_arg4 = X main_arg4 := keep0 X _ (by simp)
theorem keep0_main_arg6 : StableHlo.after hostOps0 X main_arg6 = X main_arg6 := keep0 X _ (by simp)
theorem keep0_main_arg7 : StableHlo.after hostOps0 X main_arg7 = X main_arg7 := keep0 X _ (by simp)
theorem keep0_main_arg8 : StableHlo.after hostOps0 X main_arg8 = X main_arg8 := keep0 X _ (by simp)
theorem keep1 (b : Ref sig .tc) (hb : b ∈ [main_arg4, main_arg6, main_arg7, main_arg8]) : StableHlo.after hostOps0_1 X b = X b := by
  refine StableHlo.after_of_forall_not_mem (b := Proc.devRef .tc b) _ _ (List.forall_iff_forall_mem.mp ?_)
  simp only [List.mem_cons, List.not_mem_nil, or_false] at hb
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl <;> repeat' apply And.intro
  all_goals exact StableHlo.devRef_ne_of_ne (by decide)
theorem keep1_main_arg4 : StableHlo.after hostOps0_1 X main_arg4 = X main_arg4 := keep1 X _ (by simp)
theorem keep1_main_arg6 : StableHlo.after hostOps0_1 X main_arg6 = X main_arg6 := keep1 X _ (by simp)
theorem keep1_main_arg7 : StableHlo.after hostOps0_1 X main_arg7 = X main_arg7 := keep1 X _ (by simp)
theorem keep1_main_arg8 : StableHlo.after hostOps0_1 X main_arg8 = X main_arg8 := keep1 X _ (by simp)

theorem st0_main_v0 : StableHlo.after hostOps0 X main_v0 = extractStridedSlice S9 ![1] (X main_arg0 : IVec S10 32) slices_S10_S9_1 := by
  after_results_simp
  all_goals rfl
theorem st0_main_v1 : StableHlo.after hostOps0 X main_v1 = iotaInDim S4096 32 0 := by
  after_results_simp
  all_goals rfl
theorem st1_main_v2 : StableHlo.after hostOps0_1 X main_v2 = Host.reduce IntOp.addi (extui 32 (cmpi .sle
      (broadcastInDim S9x4096 ![0, 1] bcast_S9x1_S9x4096_0_1 (broadcastInDim S9x1 ![0] bcast_S9_S9x1_0 (X main_v0 : IVec S9 32)))
      (broadcastInDim S9x4096 ![0, 1] bcast_S1x4096_S9x4096_0_1 (broadcastInDim S1x4096 ![1] bcast_S4096_S1x4096_1 (X main_v1 : IVec S4096 32)))) natLt_1_32)
    (constantI S_ 32 0#32) reducesTo_S9x4096_S4096_d0 h_S_ := by
  after_results_simp
  simp only [StableHlo.TRef.toBuf, StableHlo.TRef.ofBuf, cast_eq]
  all_goals rfl
theorem st2_main_v3 : StableHlo.after hostOps0_2 X main_v3 = broadcastInDim S4096x1 ![0] bcast_S4096_S4096x1_0 (X main_v2 : IVec S4096 32) := by
  after_results_simp
  all_goals rfl
theorem st2_main_v4 : StableHlo.after hostOps0_2 X main_v4 = broadcastInDim S1x320 ![1] bcast_S320_S1x320_1 (X main_arg4) := by
  after_results_simp
  all_goals rfl
theorem st2_main_v6 : StableHlo.after hostOps0_2 X main_v6 = broadcastInDim S1x320 ![1] bcast_S320_S1x320_1 (X main_arg7) := by
  after_results_simp
  all_goals rfl
theorem st2_main_v5 : StableHlo.after hostOps0_2 X main_v5 = broadcastInDim S9x1x320 ![0, 2] bcast_S9x320_S9x1x320_0_2 (X main_arg6) := by
  after_results_simp
  all_goals rfl
theorem st2_main_v7 : StableHlo.after hostOps0_2 X main_v7 = broadcastInDim S9x1x320 ![0, 2] bcast_S9x320_S9x1x320_0_2 (X main_arg8) := by
  after_results_simp
  all_goals rfl
end

variable {F : FTy → Type} [FloatOps F] (m : (ℓ : Loc nD τ sig) → Buf (Elt F) ℓ) (c : Dev nD)

/-- The buffers before the last stretch. -/
def Y1 : Valuation τ sig (Elt F) := StableHlo.after hostOps0 (fun b => m (c, b))
def Y2 : Valuation τ sig (Elt F) := StableHlo.after hostOps0_1 (Y1 m c)

theorem V_eq (b : Ref sig .tc) : V m c b = StableHlo.after hostOps0_2 (Y2 m c) b := by
  unfold V
  simp only [List.flatten_cons, List.flatten_nil, List.append_nil, StableHlo.after_append]
  rfl

/-- The offsets given, as natural numbers. -/
abbrev offsR : ℕ → ℕ := offs (m ((c : Thread nD τ).loc main_arg0) : IVec S10 32)

theorem V_row (ho : Offs (offsR m c)) (r : Fin 4096) : (V m c main_v3 : IVec S4096x1 32) (ix2 r 0) = wd (rowDom (offsR m c) r) := by
  refine (congrFun ((V_eq m c main_v3).trans (st2_main_v3 (Y2 m c))) (ix2 r 0)).trans ?_
  refine (broadcastInDim_apply _ _ _ (ix2 r 0) (ix1 r) (fun a => ?_)).trans ?_
  · match a with
    | ⟨0, _⟩ => exact (if_neg (show ¬ (4096 : ℕ) = 1 by decide)).symm
  · unfold Y2
    rw [st1_main_v2]
    refine row_word bcast_S9_S9x1_0 bcast_S9x1_S9x4096_0_1 bcast_S4096_S1x4096_1 bcast_S1x4096_S9x4096_0_1 natLt_1_32 reducesTo_S9x4096_S4096_d0 h_S_ ho _ _ ?_ ?_ r
    · intro d
      unfold Y1
      rw [st0_main_v0]
      refine (Routing.slice1 1 _ slices_S10_S9_1 d (by omega)).trans ?_
      refine (offs_word _ _).trans (congrArg (fun n => wd (offsR m c n)) ?_)
      show 1 + d.val = d.val + 1
      omega
    · intro r
      unfold Y1
      rw [st0_main_v1]
      rfl
theorem V_ss (n : Fin 320) : (V m c main_v4 : S1x320.Idx → F .f32) (ix2 0 n) = (m ((c : Thread nD τ).loc main_arg4) : S320.Idx → F .f32) (ix1 n) := by
  refine (congrFun ((V_eq m c main_v4).trans (st2_main_v4 (Y2 m c))) (ix2 0 n)).trans ?_
  refine (broadcastInDim_apply _ _ _ (ix2 0 n) (ix1 n) (fun a => ?_)).trans (congrFun ((keep1_main_arg4 _).trans (keep0_main_arg4 _)) _)
  match a with
  | ⟨0, _⟩ => exact (if_neg (show ¬ (320 : ℕ) = 1 by decide)).symm
theorem V_bs (n : Fin 320) : (V m c main_v6 : S1x320.Idx → F .f32) (ix2 0 n) = (m ((c : Thread nD τ).loc main_arg7) : S320.Idx → F .f32) (ix1 n) := by
  refine (congrFun ((V_eq m c main_v6).trans (st2_main_v6 (Y2 m c))) (ix2 0 n)).trans ?_
  refine (broadcastInDim_apply _ _ _ (ix2 0 n) (ix1 n) (fun a => ?_)).trans (congrFun ((keep1_main_arg7 _).trans (keep0_main_arg7 _)) _)
  match a with
  | ⟨0, _⟩ => exact (if_neg (show ¬ (320 : ℕ) = 1 by decide)).symm
theorem V_sp (d : Fin 9) (n : Fin 320) : (V m c main_v5 : S9x1x320.Idx → F .f32) (ix3 d 0 n) = (m ((c : Thread nD τ).loc main_arg6) : S9x320.Idx → F .f32) (ix2 d n) := by
  refine (congrFun ((V_eq m c main_v5).trans (st2_main_v5 (Y2 m c))) (ix3 d 0 n)).trans ?_
  refine (broadcastInDim_apply _ _ _ (ix3 d 0 n) (ix2 d n) (fun a => ?_)).trans (congrFun ((keep1_main_arg6 _).trans (keep0_main_arg6 _)) _)
  match a with
  | ⟨0, _⟩ => exact (if_neg (show ¬ (9 : ℕ) = 1 by decide)).symm
  | ⟨1, _⟩ => exact (if_neg (show ¬ (320 : ℕ) = 1 by decide)).symm
theorem V_bp (d : Fin 9) (n : Fin 320) : (V m c main_v7 : S9x1x320.Idx → F .f32) (ix3 d 0 n) = (m ((c : Thread nD τ).loc main_arg8) : S9x320.Idx → F .f32) (ix2 d n) := by
  refine (congrFun ((V_eq m c main_v7).trans (st2_main_v7 (Y2 m c))) (ix3 d 0 n)).trans ?_
  refine (broadcastInDim_apply _ _ _ (ix3 d 0 n) (ix2 d n) (fun a => ?_)).trans (congrFun ((keep1_main_arg8 _).trans (keep0_main_arg8 _)) _)
  match a with
  | ⟨0, _⟩ => exact (if_neg (show ¬ (9 : ℕ) = 1 by decide)).symm
  | ⟨1, _⟩ => exact (if_neg (show ¬ (320 : ℕ) = 1 by decide)).symm

end Cert.ThirdRefIdeal.Gen

end
-- ==== Proof.ThirdRefIdeal.Value.lean ====
/-
  The value of the reference over the reals: its result entry by entry.
-/
module

public import proofs.«01_k».proof.Proof.ThirdRefIdeal.Host
public import proofs.«01_k».proof.Proof.Gen.ThirdRefIdeal.Value
public import proofs.«01_k».proof.Proof.Star

@[expose] public section

set_option maxRecDepth 16384

noncomputable section

namespace Cert.ThirdRefIdeal.Gen

open Idealize.ShloMosaic Idealize.ShloMosaic.TcCoe Idealize.ShloMosaic.Tactic
open Idealize.SL Idealize.SL.RA Idealize.SL.BI Idealize.SL.Sem
open Idealize.ShloMosaic.ValueIdx Cert.HostWords Cert.WorkList

variable (m : (ℓ : Loc nD τ sig) → Buf (Elt Ideal) ℓ)

/-! The program's arguments, as vectors of reals. -/
abbrev ar1 (c : Dev nD) : FVec Ideal S4096x1152 .fp8e4m3 := m ((c : Thread nD τ).loc main_arg1)
abbrev ar2 (c : Dev nD) : FVec Ideal S4096x1 .f32 := m ((c : Thread nD τ).loc main_arg2)
abbrev ar3 (c : Dev nD) : FVec Ideal S1152x320 .fp8e4m3 := m ((c : Thread nD τ).loc main_arg3)
abbrev ar4 (c : Dev nD) : FVec Ideal S320 .f32 := m ((c : Thread nD τ).loc main_arg4)
abbrev ar5 (c : Dev nD) : FVec Ideal S9x1152x320 .fp8e4m3 := m ((c : Thread nD τ).loc main_arg5)
abbrev ar6 (c : Dev nD) : FVec Ideal S9x320 .f32 := m ((c : Thread nD τ).loc main_arg6)
abbrev ar7 (c : Dev nD) : FVec Ideal S320 .f32 := m ((c : Thread nD τ).loc main_arg7)
abbrev ar8 (c : Dev nD) : FVec Ideal S9x320 .f32 := m ((c : Thread nD τ).loc main_arg8)

/-! Every block is its whole array. -/
theorem blk0 (c : Dev nD) (t : Fin cfg0.N) (y : S4096x1.Idx) : (iblk m c 0 t : S4096x1.Idx → Elt Ideal .i32) y = (V m c main_v3 : S4096x1.Idx → Elt Ideal .i32) y :=
  congrArg (V m c main_v3 : S4096x1.Idx → Elt Ideal .i32) (funext fun a => Fin.ext (win0_0.rect_emb_val_of_index_zero t a (by
    match a with
    | ⟨0, _⟩ => rfl
    | ⟨1, _⟩ => rfl
    ) y))
theorem blk1 (c : Dev nD) (t : Fin cfg0.N) (y : S4096x1152.Idx) : (iblk m c 1 t : S4096x1152.Idx → Elt Ideal .fp8e4m3) y = (V m c main_arg1 : S4096x1152.Idx → Elt Ideal .fp8e4m3) y :=
  congrArg (V m c main_arg1 : S4096x1152.Idx → Elt Ideal .fp8e4m3) (funext fun a => Fin.ext (win0_1.rect_emb_val_of_index_zero t a (by
    match a with
    | ⟨0, _⟩ => rfl
    | ⟨1, _⟩ => rfl
    ) y))
theorem blk2 (c : Dev nD) (t : Fin cfg0.N) (y : S4096x1.Idx) : (iblk m c 2 t : S4096x1.Idx → Elt Ideal .f32) y = (V m c main_arg2 : S4096x1.Idx → Elt Ideal .f32) y :=
  congrArg (V m c main_arg2 : S4096x1.Idx → Elt Ideal .f32) (funext fun a => Fin.ext (win0_2.rect_emb_val_of_index_zero t a (by
    match a with
    | ⟨0, _⟩ => rfl
    | ⟨1, _⟩ => rfl
    ) y))
theorem blk3 (c : Dev nD) (t : Fin cfg0.N) (y : S1152x320.Idx) : (iblk m c 3 t : S1152x320.Idx → Elt Ideal .fp8e4m3) y = (V m c main_arg3 : S1152x320.Idx → Elt Ideal .fp8e4m3) y :=
  congrArg (V m c main_arg3 : S1152x320.Idx → Elt Ideal .fp8e4m3) (funext fun a => Fin.ext (win0_3.rect_emb_val_of_index_zero t a (by
    match a with
    | ⟨0, _⟩ => rfl
    | ⟨1, _⟩ => rfl
    ) y))
theorem blk4 (c : Dev nD) (t : Fin cfg0.N) (y : S1x320.Idx) : (iblk m c 4 t : S1x320.Idx → Elt Ideal .f32) y = (V m c main_v4 : S1x320.Idx → Elt Ideal .f32) y :=
  congrArg (V m c main_v4 : S1x320.Idx → Elt Ideal .f32) (funext fun a => Fin.ext (win0_4.rect_emb_val_of_index_zero t a (by
    match a with
    | ⟨0, _⟩ => rfl
    | ⟨1, _⟩ => rfl
    ) y))
theorem blk5 (c : Dev nD) (t : Fin cfg0.N) (y : S9x1152x320.Idx) : (iblk m c 5 t : S9x1152x320.Idx → Elt Ideal .fp8e4m3) y = (V m c main_arg5 : S9x1152x320.Idx → Elt Ideal .fp8e4m3) y :=
  congrArg (V m c main_arg5 : S9x1152x320.Idx → Elt Ideal .fp8e4m3) (funext fun a => Fin.ext (win0_5.rect_emb_val_of_index_zero t a (by
    match a with
    | ⟨0, _⟩ => rfl
    | ⟨1, _⟩ => rfl
    | ⟨2, _⟩ => rfl
    ) y))
theorem blk6 (c : Dev nD) (t : Fin cfg0.N) (y : S9x1x320.Idx) : (iblk m c 6 t : S9x1x320.Idx → Elt Ideal .f32) y = (V m c main_v5 : S9x1x320.Idx → Elt Ideal .f32) y :=
  congrArg (V m c main_v5 : S9x1x320.Idx → Elt Ideal .f32) (funext fun a => Fin.ext (win0_6.rect_emb_val_of_index_zero t a (by
    match a with
    | ⟨0, _⟩ => rfl
    | ⟨1, _⟩ => rfl
    | ⟨2, _⟩ => rfl
    ) y))
theorem blk7 (c : Dev nD) (t : Fin cfg0.N) (y : S1x320.Idx) : (iblk m c 7 t : S1x320.Idx → Elt Ideal .f32) y = (V m c main_v6 : S1x320.Idx → Elt Ideal .f32) y :=
  congrArg (V m c main_v6 : S1x320.Idx → Elt Ideal .f32) (funext fun a => Fin.ext (win0_7.rect_emb_val_of_index_zero t a (by
    match a with
    | ⟨0, _⟩ => rfl
    | ⟨1, _⟩ => rfl
    ) y))
theorem blk8 (c : Dev nD) (t : Fin cfg0.N) (y : S9x1x320.Idx) : (iblk m c 8 t : S9x1x320.Idx → Elt Ideal .f32) y = (V m c main_v7 : S9x1x320.Idx → Elt Ideal .f32) y :=
  congrArg (V m c main_v7 : S9x1x320.Idx → Elt Ideal .f32) (funext fun a => Fin.ext (win0_8.rect_emb_val_of_index_zero t a (by
    match a with
    | ⟨0, _⟩ => rfl
    | ⟨1, _⟩ => rfl
    | ⟨2, _⟩ => rfl
    ) y))
theorem emb9 (t : Fin cfg0.N) (y : S4096x320.Idx) : ((cfg0.win 9).blk t).view.emb y = y :=
  funext fun a => Fin.ext (win0_9.rect_emb_val_of_index_zero t a (by
    match a with
    | ⟨0, _⟩ => rfl
    | ⟨1, _⟩ => rfl) y)

/-! The slab of one domain. -/
theorem ld_w (x : S9x1152x320.Idx → Elt Ideal .fp8e4m3) (off : Fin 3 → ℕ) (inb : ∀ a, off a + S1x1152x320.size a ≤ S9x1152x320.size a) (d : Fin 9)
    (h0 : off 0 = d.val) (h1 : off 1 = 0) (h2 : off 2 = 0) (k : Fin 1152) (n : Fin 320) :
    View.ld (Val := Elt Ideal) (e' := .fp8e4m3) x (Rect.unit (s := S9x1152x320) off S1x1152x320.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))
theorem ld_s (x : S9x1x320.Idx → Elt Ideal .f32) (off : Fin 3 → ℕ) (inb : ∀ a, off a + S1x1x320.size a ≤ S9x1x320.size a) (d : Fin 9)
    (h0 : off 0 = d.val) (h1 : off 1 = 0) (h2 : off 2 = 0) (k : Fin 1) (n : Fin 320) :
    View.ld (Val := Elt Ideal) (e' := .f32) x (Rect.unit (s := S9x1x320) off S1x1x320.size inb) (ix3 0 k n) = x (ix3 d k n) :=
  congrArg x (funext fun a => Fin.ext (by
    match a with
    | ⟨0, _⟩ => show off 0 + 1 * 0 = d.val; omega
    | ⟨1, _⟩ => show off 1 + 1 * k.val = k.val; omega
    | ⟨2, _⟩ => show off 2 + 1 * n.val = n.val; omega))

theorem z2 : (![0, 0] : Fin 2 → ℕ) = fun _ => 0 := funext fun a => by
  match a with
  | ⟨0, _⟩ => rfl
  | ⟨1, _⟩ => rfl

/-- One domain's rows. -/
abbrev rws (A : FVec Ideal S4096x1152 .fp8e4m3) (W : FVec Ideal S1152x320 .fp8e4m3) (Wd : FVec Ideal S1x1152x320 .fp8e4m3)
    (sx : FVec Ideal S4096x1 .f32) (ss : FVec Ideal S1x320 .f32) (sp : FVec Ideal S1x1x320 .f32) (bs : FVec Ideal S1x320 .f32) (bp : FVec Ideal S1x1x320 .f32) : FVec Ideal S4096x320 .f32 :=
  Layer.rowsV A W Wd sx ss sp bs bp bitsLt_fp8e4m3_bf16 broadcasts_S4096x1_S4096x320 broadcasts_S1x320_S4096x320 shapeCasts_S1x320_S1x320
    shapeCasts_S1x1x320_S1x320 shapeCasts_S1x1152x320_S1152x320

variable (x0 : IVec S4096x1 32) (x1 : FVec Ideal S4096x1152 .fp8e4m3) (x2 : FVec Ideal S4096x1 .f32) (x3 : FVec Ideal S1152x320 .fp8e4m3) (x4 : FVec Ideal S1x320 .f32)
  (x5 : FVec Ideal S9x1152x320 .fp8e4m3) (x6 : FVec Ideal S9x1x320 .f32) (x7 : FVec Ideal S1x320 .f32) (x8 : FVec Ideal S9x1x320 .f32)

/-- What the body leaves: the nine choices. -/
theorem out_eq : out0_9 (F := Ideal) x0 x1 x2 x3 x4 x5 x6 x7 x8
    = truncf (F := Ideal) (s := S4096x320) .bf16 (Layer.starV (View.ld (Val := Elt Ideal) (e' := .i32) x0 r0_3) shapeCasts_S4096x1_S4096x1 broadcasts_S4096x1_S4096x320
      (rws (View.ld (Val := Elt Ideal) (e' := .fp8e4m3) x1 r0_2) (View.ld (Val := Elt Ideal) (e' := .fp8e4m3) x3 r0_0) (View.ld (Val := Elt Ideal) (e' := .fp8e4m3) x5 r0_1) (View.ld (Val := Elt Ideal) (e' := .f32) x2 r0_3) (View.ld (Val := Elt Ideal) (e' := .f32) x4 r0_4) (View.ld (Val := Elt Ideal) (e' := .f32) x6 r0_5) (View.ld (Val := Elt Ideal) (e' := .f32) x7 r0_4) (View.ld (Val := Elt Ideal) (e' := .f32) x8 r0_5))
      (rws (View.ld (Val := Elt Ideal) (e' := .fp8e4m3) x1 r0_2) (View.ld (Val := Elt Ideal) (e' := .fp8e4m3) x3 r0_0) (View.ld (Val := Elt Ideal) (e' := .fp8e4m3) x5 r0_6) (View.ld (Val := Elt Ideal) (e' := .f32) x2 r0_3) (View.ld (Val := Elt Ideal) (e' := .f32) x4 r0_4) (View.ld (Val := Elt Ideal) (e' := .f32) x6 r0_7) (View.ld (Val := Elt Ideal) (e' := .f32) x7 r0_4) (View.ld (Val := Elt Ideal) (e' := .f32) x8 r0_7))
      (rws (View.ld (Val := Elt Ideal) (e' := .fp8e4m3) x1 r0_2) (View.ld (Val := Elt Ideal) (e' := .fp8e4m3) x3 r0_0) (View.ld (Val := Elt Ideal) (e' := .fp8e4m3) x5 r0_8) (View.ld (Val := Elt Ideal) (e' := .f32) x2 r0_3) (View.ld (Val := Elt Ideal) (e' := .f32) x4 r0_4) (View.ld (Val := Elt Ideal) (e' := .f32) x6 r0_9) (View.ld (Val := Elt Ideal) (e' := .f32) x7 r0_4) (View.ld (Val := Elt Ideal) (e' := .f32) x8 r0_9))
      (rws (View.ld (Val := Elt Ideal) (e' := .fp8e4m3) x1 r0_2) (View.ld (Val := Elt Ideal) (e' := .fp8e4m3) x3 r0_0) (View.ld (Val := Elt Ideal) (e' := .fp8e4m3) x5 r0_10) (View.ld (Val := Elt Ideal) (e' := .f32) x2 r0_3) (View.ld (Val := Elt Ideal) (e' := .f32) x4 r0_4) (View.ld (Val := Elt Ideal) (e' := .f32) x6 r0_11) (View.ld (Val := Elt Ideal) (e' := .f32) x7 r0_4) (View.ld (Val := Elt Ideal) (e' := .f32) x8 r0_11))
      (rws (View.ld (Val := Elt Ideal) (e' := .fp8e4m3) x1 r0_2) (View.ld (Val := Elt Ideal) (e' := .fp8e4m3) x3 r0_0) (View.ld (Val := Elt Ideal) (e' := .fp8e4m3) x5 r0_12) (View.ld (Val := Elt Ideal) (e' := .f32) x2 r0_3) (View.ld (Val := Elt Ideal) (e' := .f32) x4 r0_4) (View.ld (Val := Elt Ideal) (e' := .f32) x6 r0_13) (View.ld (Val := Elt Ideal) (e' := .f32) x7 r0_4) (View.ld (Val := Elt Ideal) (e' := .f32) x8 r0_13))
      (rws (View.ld (Val := Elt Ideal) (e' := .fp8e4m3) x1 r0_2) (View.ld (Val := Elt Ideal) (e' := .fp8e4m3) x3 r0_0) (View.ld (Val := Elt Ideal) (e' := .fp8e4m3) x5 r0_14) (View.ld (Val := Elt Ideal) (e' := .f32) x2 r0_3) (View.ld (Val := Elt Ideal) (e' := .f32) x4 r0_4) (View.ld (Val := Elt Ideal) (e' := .f32) x6 r0_15) (View.ld (Val := Elt Ideal) (e' := .f32) x7 r0_4) (View.ld (Val := Elt Ideal) (e' := .f32) x8 r0_15))
      (rws (View.ld (Val := Elt Ideal) (e' := .fp8e4m3) x1 r0_2) (View.ld (Val := Elt Ideal) (e' := .fp8e4m3) x3 r0_0) (View.ld (Val := Elt Ideal) (e' := .fp8e4m3) x5 r0_16) (View.ld (Val := Elt Ideal) (e' := .f32) x2 r0_3) (View.ld (Val := Elt Ideal) (e' := .f32) x4 r0_4) (View.ld (Val := Elt Ideal) (e' := .f32) x6 r0_17) (View.ld (Val := Elt Ideal) (e' := .f32) x7 r0_4) (View.ld (Val := Elt Ideal) (e' := .f32) x8 r0_17))
      (rws (View.ld (Val := Elt Ideal) (e' := .fp8e4m3) x1 r0_2) (View.ld (Val := Elt Ideal) (e' := .fp8e4m3) x3 r0_0) (View.ld (Val := Elt Ideal) (e' := .fp8e4m3) x5 r0_18) (View.ld (Val := Elt Ideal) (e' := .f32) x2 r0_3) (View.ld (Val := Elt Ideal) (e' := .f32) x4 r0_4) (View.ld (Val := Elt Ideal) (e' := .f32) x6 r0_19) (View.ld (Val := Elt Ideal) (e' := .f32) x7 r0_4) (View.ld (Val := Elt Ideal) (e' := .f32) x8 r0_19))
      (rws (View.ld (Val := Elt Ideal) (e' := .fp8e4m3) x1 r0_2) (View.ld (Val := Elt Ideal) (e' := .fp8e4m3) x3 r0_0) (View.ld (Val := Elt Ideal) (e' := .fp8e4m3) x5 r0_20) (View.ld (Val := Elt Ideal) (e' := .f32) x2 r0_3) (View.ld (Val := Elt Ideal) (e' := .f32) x4 r0_4) (View.ld (Val := Elt Ideal) (e' := .f32) x6 r0_21) (View.ld (Val := Elt Ideal) (e' := .f32) x7 r0_4) (View.ld (Val := Elt Ideal) (e' := .f32) x8 r0_21))) bitsLt_bf16_f32 := by
  unfold out0_9
  refine (View.canon_unit_zero (Val := Elt Ideal) (e := .bf16) (S := S4096x320) z2 inb_S4096x320_S4096x320_0_0 _).trans ?_
  rfl

/-- The layer at a row, with the weights of one domain. -/
def Hr (c : Dev nD) (r : Fin 4096) (d : Fin 9) (n : Fin 320) : EReal :=
  Layer.H (ar1 m c) (ar2 m c) (ar3 m c) (ar4 m c) (ar5 m c) (ar6 m c) (ar7 m c) (ar8 m c) r d n

theorem rws_H (c : Dev nD) (t : Fin cfg0.N) (r : Fin 4096) (d : Fin 9) (n : Fin 320)
    (offw : Fin 3 → ℕ) (inbw : ∀ a, offw a + S1x1152x320.size a ≤ S9x1152x320.size a) (offs : Fin 3 → ℕ) (inbs : ∀ a, offs a + S1x1x320.size a ≤ S9x1x320.size a)
    (h0 : offw 0 = d.val) (h1 : offw 1 = 0) (h2 : offw 2 = 0) (g0 : offs 0 = d.val) (g1 : offs 1 = 0) (g2 : offs 2 = 0) :
    rws (View.ld (Val := Elt Ideal) (e' := .fp8e4m3) (iblk m c 1 t : S4096x1152.Idx → Elt Ideal .fp8e4m3) r0_2)
      (View.ld (Val := Elt Ideal) (e' := .fp8e4m3) (iblk m c 3 t : S1152x320.Idx → Elt Ideal .fp8e4m3) r0_0)
      (View.ld (Val := Elt Ideal) (e' := .fp8e4m3) (iblk m c 5 t : S9x1152x320.Idx → Elt Ideal .fp8e4m3) (Rect.unit (s := S9x1152x320) offw S1x1152x320.size inbw))
      (View.ld (Val := Elt Ideal) (e' := .f32) (iblk m c 2 t : S4096x1.Idx → Elt Ideal .f32) r0_3)
      (View.ld (Val := Elt Ideal) (e' := .f32) (iblk m c 4 t : S1x320.Idx → Elt Ideal .f32) r0_4)
      (View.ld (Val := Elt Ideal) (e' := .f32) (iblk m c 6 t : S9x1x320.Idx → Elt Ideal .f32) (Rect.unit (s := S9x1x320) offs S1x1x320.size inbs))
      (View.ld (Val := Elt Ideal) (e' := .f32) (iblk m c 7 t : S1x320.Idx → Elt Ideal .f32) r0_4)
      (View.ld (Val := Elt Ideal) (e' := .f32) (iblk m c 8 t : S9x1x320.Idx → Elt Ideal .f32) (Rect.unit (s := S9x1x320) offs S1x1x320.size inbs)) (ix2 r n)
    = Hr m c r d n := by
  refine Layer.rowsV_H _ _ _ _ _ _ _ _ _ _ _ _ _ _ (ar1 m c) (ar2 m c) (ar3 m c) (ar4 m c) (ar5 m c) (ar6 m c) (ar7 m c) (ar8 m c) r d n
    (fun k => ?_) (fun k => ?_) (fun k => ?_) ?_ ?_ ?_ ?_ ?_
  · exact (congrFun (View.ld_unit_zero (Val := Elt Ideal) (e := .fp8e4m3) (S := S4096x1152) z2 inb_S4096x1152_S4096x1152_0_0 _) (ix2 r k)).trans ((blk1 m c t _).trans (congrFun (V_main_arg1 m c) _))
  · exact (congrFun (View.ld_unit_zero (Val := Elt Ideal) (e := .fp8e4m3) (S := S1152x320) z2 inb_S1152x320_S1152x320_0_0 _) (ix2 k n)).trans ((blk3 m c t _).trans (congrFun (V_main_arg3 m c) _))
  · exact (ld_w _ offw inbw d h0 h1 h2 k n).trans ((blk5 m c t _).trans (congrFun (V_main_arg5 m c) _))
  · exact (congrFun (View.ld_unit_zero (Val := Elt Ideal) (e := .f32) (S := S4096x1) z2 inb_S4096x1_S4096x1_0_0 _) (ix2 r 0)).trans ((blk2 m c t _).trans (congrFun (V_main_arg2 m c) _))
  · exact (congrFun (View.ld_unit_zero (Val := Elt Ideal) (e := .f32) (S := S1x320) z2 inb_S1x320_S1x320_0_0 _) (ix2 0 n)).trans ((blk4 m c t _).trans (V_ss m c n))
  · exact (ld_s _ offs inbs d g0 g1 g2 0 n).trans ((blk6 m c t _).trans (V_sp m c d n))
  · exact (congrFun (View.ld_unit_zero (Val := Elt Ideal) (e := .f32) (S := S1x320) z2 inb_S1x320_S1x320_0_0 _) (ix2 0 n)).trans ((blk7 m c t _).trans (V_bs m c n))
  · exact (ld_s _ offs inbs d g0 g1 g2 0 n).trans ((blk8 m c t _).trans (V_bp m c d n))

abbrev t0 : Fin cfg0.N := ⟨0, by decide⟩

/-- THE RESULT, entry by entry. -/
theorem result (c : Dev nD) (ho : Offs (offsR m c)) (r : Fin 4096) (n : Fin 320) :
    ((dats m 0 c).arrAt 9 cfg0.N : S4096x320.Idx → EReal) (ix2 r n) = Hr m c r ⟨rowDom (offsR m c) r, rowDom_lt ho r⟩ n := by
  have b := congrFun (Cert.ThirdRefIdeal.Value.blocks9 m c t0 (flush0_9 t0)) (ix2 r n)
  rw [Cert.ThirdRefIdeal.Value.flushed9] at b
  have b' : ((dats m 0 c).arrAt 9 cfg0.N : S4096x320.Idx → EReal) (((cfg0.win 9).blk t0).view.emb (ix2 r n))
      = (out0_9 (F := Ideal) (iblk m c 0 t0) (iblk m c 1 t0) (iblk m c 2 t0) (iblk m c 3 t0) (iblk m c 4 t0) (iblk m c 5 t0) (iblk m c 6 t0) (iblk m c 7 t0) (iblk m c 8 t0) : S4096x320.Idx → EReal) (ix2 r n) := b
  rw [emb9] at b'
  refine b'.trans ((congrFun (out_eq _ _ _ _ _ _ _ _ _) (ix2 r n)).trans ?_)
  refine (show _ = _ from truncf_apply (s := S4096x320) (φ := .f32) (ψ := .bf16) _ bitsLt_bf16_f32 (ix2 r n)).trans ?_
  refine Layer.starV_apply _ _ _ _ _ _ _ _ _ _ _ _ r n ⟨rowDom (offsR m c) r, rowDom_lt ho r⟩ ?_ (fun d => Hr m c r d n) ?_ ?_ ?_ ?_ ?_ ?_ ?_ ?_ ?_
  · exact (congrFun (View.ld_unit_zero (Val := Elt Ideal) (e := .i32) (S := S4096x1) z2 inb_S4096x1_S4096x1_0_0 _) (ix2 r 0)).trans ((blk0 m c t0 _).trans (V_row m c ho r))
  · exact rws_H m c t0 r 0 n _ _ _ _ rfl rfl rfl rfl rfl rfl
  · exact rws_H m c t0 r 1 n _ _ _ _ rfl rfl rfl rfl rfl rfl
  · exact rws_H m c t0 r 2 n _ _ _ _ rfl rfl rfl rfl rfl rfl
  · exact rws_H m c t0 r 3 n _ _ _ _ rfl rfl rfl rfl rfl rfl
  · exact rws_H m c t0 r 4 n _ _ _ _ rfl rfl rfl rfl rfl rfl
  · exact rws_H m c t0 r 5 n _ _ _ _ rfl rfl rfl rfl rfl rfl
  · exact rws_H m c t0 r 6 n _ _ _ _ rfl rfl rfl rfl rfl rfl
  · exact rws_H m c t0 r 7 n _ _ _ _ rfl rfl rfl rfl rfl rfl
  · exact rws_H m c t0 r 8 n _ _ _ _ rfl rfl rfl rfl rfl rfl

end Cert.ThirdRefIdeal.Gen

end
-- ==== Proof.ThirdAlgebraic.lean ====
module

public import proofs.«01_k».proof.Proof.ThirdIdeal.Frame
public import proofs.«01_k».proof.Proof.ThirdIdeal.Value
public import proofs.«01_k».proof.Proof.ThirdRefIdeal.Value

/-!
# The kernel computes the layer

Over the reals both programs leave, at row `r` and column `n`, the formula of the layer with the weights of the row's
domain: the two results are equal entry by entry.
-/

@[expose] public section

set_option maxRecDepth 16384

noncomputable section

namespace Cert.ThirdAlgebraic

open Idealize.ShloMosaic Idealize.ShloMosaic.ValueIdx Idealize.SL.Sem Cert.HostWords Cert.WorkList

/-- The two formulas from equal arguments. -/
theorem formula (m : (ℓ : Loc Cert.ThirdIdeal.nD Cert.ThirdIdeal.τ Cert.ThirdIdeal.sig) → Buf (Elt Ideal) ℓ)
    (m' : (ℓ : Loc Cert.ThirdRefIdeal.nD Cert.ThirdRefIdeal.τ Cert.ThirdRefIdeal.sig) → Buf (Elt Ideal) ℓ) (c : Dev Cert.ThirdIdeal.nD)
    (e1 : ThirdRefIdeal.Gen.ar1 m' c = ThirdIdeal.Gen.ar1 m c) (e2 : ThirdRefIdeal.Gen.ar2 m' c = ThirdIdeal.Gen.ar2 m c)
    (e3 : ThirdRefIdeal.Gen.ar3 m' c = ThirdIdeal.Gen.ar3 m c) (e4 : ThirdRefIdeal.Gen.ar4 m' c = ThirdIdeal.Gen.ar4 m c)
    (e5 : ThirdRefIdeal.Gen.ar5 m' c = ThirdIdeal.Gen.ar5 m c) (e6 : ThirdRefIdeal.Gen.ar6 m' c = ThirdIdeal.Gen.ar6 m c)
    (e7 : ThirdRefIdeal.Gen.ar7 m' c = ThirdIdeal.Gen.ar7 m c) (e8 : ThirdRefIdeal.Gen.ar8 m' c = ThirdIdeal.Gen.ar8 m c)
    (r : Fin 4096) (d : Fin 9) (n : Fin 320) :
    ThirdRefIdeal.Gen.Hr m' c r d n = ThirdIdeal.Gen.Hm m c r d n := by
  unfold ThirdRefIdeal.Gen.Hr ThirdIdeal.Gen.Hm
  rw [e1, e2, e3, e4, e5, e6, e7, e8]

theorem algebraic : @Cert.algebraic_ThirdIdeal_ThirdRefIdeal Cert.ThirdIdeal.Gen.facts Cert.ThirdRefIdeal.Gen.facts Cert.Pre_offsets_cover_3.Gen.facts := by
  intro m g m' g' hp ha
  have ho := Cert.Frames.offs_ThirdIdeal m hp 0
  have hO := Cert.ThirdIdeal.Gen.blocks_ok m ho
  have hH := Cert.ThirdIdeal.Gen.side_ok m ho hO
  refine ⟨fun c => (Cert.ThirdIdeal.Gen.dats m hO hH 0 c).arrAt 8 (Cert.ThirdIdeal.Gen.cfgM m hO).N,
    (θ_run _ _ _).mono (fun _ h => h.1) (Cert.ThirdIdeal.Gen.run_result m g hO hH), ?_⟩
  refine (θ_run _ _ _).mono (fun _ h c => ⟨(h c).1.trans ?_, (h c).2⟩) (Cert.ThirdRefIdeal.Value.run_blocks m' g')
  obtain ⟨a0, a1, a2, a3, a4, a5, a6, a7, a8⟩ := ha c
  have hc : c = 0 := Subsingleton.elim (α := Fin 1) c 0
  have eo : ThirdRefIdeal.Gen.offsR m' c = ThirdIdeal.Gen.offsM m 0 := by
    rw [← hc]
    exact congrArg offs a0
  have ho' : Offs (ThirdRefIdeal.Gen.offsR m' c) := by rw [eo]; exact ho
  refine funext fun (i : Cert.ThirdIdeal.S4096x320.Idx) => ?_
  have hi : i = (ix2 (i 0 : Fin 4096) (i 1 : Fin 320) : Cert.ThirdIdeal.S4096x320.Idx) := eq_ix2 (n0 := 4096) (n1 := 320) i
  have hk := Cert.ThirdIdeal.Gen.result m ho hO hH c i
  have hr := Cert.ThirdRefIdeal.Gen.result m' c ho' (i 0) (i 1)
  rw [← hi] at hr
  refine hr.trans (Eq.trans ?_ hk.symm)
  refine (formula m m' c a1 a2 a3 a4 a5 a6 a7 a8 (i 0) _ (i 1)).trans ?_
  rw [← eo]
  exact (Cert.ThirdIdeal.Gen.Out_eq m c (i 0) ⟨rowDom (ThirdRefIdeal.Gen.offsR m' c) (i 0).val, rowDom_lt ho' (i 0)⟩ (i 1)).symm

end Cert.ThirdAlgebraic

end
-- ==== Proof.QuantRow.lean ====
/-
  One row of the quantiser, on machine words: the largest magnitude of the row, and the scale that it gives, as the kernel
  forms it from the exponent field of a float and as the reference forms it by splitting a float and building one.
-/
module

public import Idealize.ShloMosaic.PureOps.BitExact
public import Idealize.ShloMosaic.PureOps.BitExact.Laws
public import Idealize.ShloMosaic.PureOps.Reduce
public import Idealize.ShloMosaic.Lib.Pipeline.Value
public import Idealize.ShloMosaic.Lib.ValueIdxCore
public import Idealize.ShloMosaic.Lib.ValueIdxRank1

@[expose] public section

noncomputable section

namespace Cert.QuantRow

open Idealize.ShloMosaic Idealize.ShloMosaic.ValueIdx

variable {M N : ℕ}

/-- The largest magnitude of a row. -/
def amax (row : Fin N → Bits .f32) : Bits .f32 :=
  (Finset.univ : Finset (Fin N)).fold FloatOps.maximumf (FloatOps.ofBits .f32 0xFF800000#32) fun k => FloatOps.absf (row k)

/-- The source index over row `i` at column `k`. -/
theorem lift_eq (h : (⟨2, ![M, N]⟩ : Shape).Reduces [1] ⟨1, ![M]⟩) (i : Fin M) (k : Fin N) :
    h.lift (a := (1 : Fin 2)) (ix1 i) k = ix2 i k := by
  funext a
  match a with
  | ⟨0, _⟩ => rfl
  | ⟨1, _⟩ => rfl

/-- The maximum over a block's columns, at row `i`. -/
theorem amax_block (x : FVec Bits ⟨2, ![M, N]⟩ .f32) (h : (⟨2, ![M, N]⟩ : Shape).Reduces [1] ⟨1, ![M]⟩) (hφ : FKind.Formats .f32)
    (hacc : 0xFF800000#32 = FKind.maximumf.neutral .f32 hφ) (i : Fin M) :
    multiReduction .maximumf [1] ⟨1, ![M]⟩ (absf x) 0xFF800000#32 h hφ hacc (ix1 i) = amax fun k => x (ix2 i k) := by
  rw [multiReduction_maximumf_eq_fold]
  refine (h.fold_filter_drop_single (a := (1 : Fin 2)) (FloatOps.maximumf (F := Bits) (φ := .f32)) _ (absf x) (ix1 i)).trans ?_
  exact congrArg (fun f => (Finset.univ : Finset (Fin N)).fold FloatOps.maximumf (FloatOps.ofBits .f32 0xFF800000#32) f)
    (funext fun k => congrArg (absf x) (lift_eq h i k))

/-- The same maximum, as the condition on the arguments takes it. -/
theorem amax_whole {u : Shape} (x : FVec Bits ⟨2, ![M, N]⟩ .f32) (init : FVec Bits u .f32) (h' : (⟨2, ![M, N]⟩ : Shape).ReducesTo [1] ⟨1, ![M]⟩)
    (h : (⟨2, ![M, N]⟩ : Shape).Reduces [1] ⟨1, ![M]⟩) (hu : 0 < u.numel)
    (hi : init (Shape.Idx.first hu) = FloatOps.ofBits .f32 0xFF800000#32) (i : Fin M) :
    Host.reduce FloatOps.maximumf (Host.absf x) init h' hu (ix1 i) = amax fun k => x (ix2 i k) := by
  refine (Host.reduce_eq_fold_single (a := (1 : Fin 2)) (FloatOps.maximumf (F := Bits) (φ := .f32)) (Host.absf x) init h' h hu (ix1 i)).trans ?_
  rw [hi]
  exact congrArg (fun f => (Finset.univ : Finset (Fin N)).fold FloatOps.maximumf (FloatOps.ofBits .f32 0xFF800000#32) f)
    (funext fun k => congrArg (Host.absf x) (lift_eq h i k))

/-- The word of a 448th of the maximum, and its exponent field. -/
def word (a : Bits .f32) : BitVec 32 := BitOps.toBits (FloatOps.mulf a (Scalar.ofBits .f32 0x3B124925#32))
def field (w : BitVec 32) : BitVec 32 := (w >>> 23) &&& 255#32
/-- Whether the maximum is zero. -/
def zero (a : Bits .f32) : BitVec 1 := FloatOps.cmpf .oeq a (Scalar.ofBits .f32 0x00000000#32)

/-- The maximum is zero, or a 448th of it is a normal number below 2^127. -/
def Good (a : Bits .f32) : Prop := zero a = 1#1 ∨ 1 ≤ (field (word a)).toNat ∧ (field (word a)).toNat ≤ 253

/-! The kernel's exponent and its two scales. -/
def kexp (a : Bits .f32) : BitVec 32 :=
  Scalar.select (zero a) 0#32 (IntOp.subi (IntOp.andi (IntOp.shrsi .vector (word a) 23#32) 255#32) 126#32)
def kup (e : BitVec 32) : BitVec 32 := IntOp.shli .vector (IntOp.addi e 127#32) 23#32
def kdown (e : BitVec 32) : BitVec 32 := IntOp.shli .vector (IntOp.subi 127#32 e) 23#32

/-! The reference's: a subnormal counts as zero, the exponent of a zero or of a number that is not finite is 0. -/
def flushed (w : BitVec 32) : BitVec 32 :=
  Scalar.select (IntOp.cmpi .eq (IntOp.andi w 2139095040#32) 0#32) (IntOp.andi w 2147483648#32) w
def rfield (w : BitVec 32) : BitVec 32 := IntOp.andi (IntOp.shrui .vector (flushed w) 23#32) 255#32
def rexp (a : Bits .f32) : BitVec 32 :=
  Scalar.select (zero a) 0#32 (Scalar.select (IntOp.ori (IntOp.cmpi .eq (rfield (word a)) 255#32) (IntOp.cmpi .eq (rfield (word a)) 0#32))
    0#32 (IntOp.subi (rfield (word a)) 126#32))
/-- The word of 1.0 times two to the power `e`. -/
def build (e : BitVec 32) : BitVec 32 :=
  let one := flushed 0x3F800000#32
  let s := IntOp.andi one 2147483648#32
  let x := IntOp.andi (IntOp.shrui .vector one 23#32) 255#32
  let y := IntOp.addi x (IntOp.minsi (IntOp.maxsi e 4294966784#32) 512#32)
  Scalar.select (IntOp.cmpi .eq x 255#32) one (Scalar.select (IntOp.cmpi .eq x 0#32) s (Scalar.select (IntOp.cmpi .sle y 0#32) s
    (Scalar.select (IntOp.cmpi .sge y 255#32) (IntOp.ori s 2139095040#32)
      (IntOp.ori (IntOp.ori s (IntOp.shli .vector y 23#32)) (IntOp.andi one 8388607#32)))))

theorem shrsi_field (w : BitVec 32) : IntOp.andi (IntOp.shrsi .vector w 23#32) 255#32 = field w := by
  show (if (23#32).toNat < 32 then w.sshiftRight' 23#32 else _) &&& 255#32 = _
  rw [if_pos (by decide)]
  apply BitVec.eq_of_getLsbD_eq
  intro i hi
  unfold field
  simp only [BitVec.sshiftRight', BitVec.getLsbD_and, BitVec.getLsbD_sshiftRight, BitVec.getLsbD_ushiftRight]
  by_cases h8 : i < 8
  · have h32 : 23 + i < 32 := by omega
    simp [h32, hi, show (23 : ℕ) % 32 = 23 from rfl, show ¬ 32 ≤ i by omega]
  · have : (255#32).getLsbD i = false := by
      have : 255 < 2 ^ i := lt_of_lt_of_le (by norm_num : 255 < 2 ^ 8) (Nat.pow_le_pow_right (by norm_num) (by omega))
      rw [BitVec.getLsbD_ofNat, Nat.testBit_lt_two_pow this, Bool.and_false]
    rw [this, Bool.and_false, Bool.and_false]

theorem shrui_field (w : BitVec 32) : IntOp.andi (IntOp.shrui .vector w 23#32) 255#32 = field w := by
  show (if (23#32).toNat < 32 then w >>> 23#32 else _) &&& 255#32 = _
  rw [if_pos (by decide)]
  rfl

/-- A word with a nonzero exponent field is not flushed. -/
theorem flushed_eq (w : BitVec 32) (h : 1 ≤ (field w).toNat) : flushed w = w := by
  have hne : w &&& 2139095040#32 ≠ 0#32 := fun h0 => by
    have e : (w &&& 2139095040#32) >>> 23 = field w := by
      rw [BitVec.ushiftRight_and_distrib]; rfl
    rw [h0] at e
    rw [← e] at h
    exact absurd h (by decide)
  show Scalar.select (BitVec.ofBool (w &&& 2139095040#32 == 0#32)) _ w = w
  rw [beq_eq_false_iff_ne.2 hne]
  rfl

/-- Both exponents are the same. -/
theorem rexp_eq {a : Bits .f32} (h : Good a) : rexp a = kexp a := by
  unfold rexp kexp
  rcases h with h | ⟨h1, h2⟩
  · rw [h]; rfl
  · have hr : rfield (word a) = field (word a) := by
      unfold rfield; rw [flushed_eq _ h1, shrui_field]
    have n0 : field (word a) ≠ 0#32 := fun e => by rw [e] at h1; exact absurd h1 (by decide)
    have n5 : field (word a) ≠ 255#32 := fun e => by rw [e] at h2; exact absurd h2 (by decide)
    rw [hr, shrsi_field]
    congr 1
    show Scalar.select (BitVec.ofBool (field (word a) == 255#32) ||| BitVec.ofBool (field (word a) == 0#32)) _ _ = _
    rw [beq_eq_false_iff_ne.2 n0, beq_eq_false_iff_ne.2 n5]
    rfl

theorem words : ∀ n : Fin 254, 1 ≤ n.val → build (BitVec.ofNat 32 n.val - 126#32) = kup (BitVec.ofNat 32 n.val - 126#32)
    ∧ build (IntOp.subi 0#32 (BitVec.ofNat 32 n.val - 126#32)) = kdown (BitVec.ofNat 32 n.val - 126#32) := by
  decide +kernel

/-- Both scales and both inverse scales are the same words. -/
theorem scales {a : Bits .f32} (h : Good a) : build (rexp a) = kup (kexp a) ∧ build (IntOp.subi 0#32 (rexp a)) = kdown (kexp a) := by
  rw [rexp_eq h]
  rcases h with h | ⟨h1, h2⟩
  · have e : kexp a = 0#32 := by unfold kexp; rw [h]; rfl
    rw [e]
    decide +kernel
  · by_cases hz : zero a = 1#1
    · have e : kexp a = 0#32 := by unfold kexp; rw [hz]; rfl
      rw [e]
      decide +kernel
    · have e : kexp a = BitVec.ofNat 32 (field (word a)).toNat - 126#32 := by
        unfold kexp
        rw [shrsi_field, BitVec.ofNat_toNat, BitVec.setWidth_eq]
        exact if_neg hz
      rw [e]
      exact words ⟨(field (word a)).toNat, by omega⟩ h1

end Cert.QuantRow

end
-- ==== Proof.QuantBlock.lean ====
/-
  The quantiser's two results as functions of the whole input, one element at a time, and the reading of the layout operations
  by which both programs form a column of row maxima and spread it over the columns.
-/
module

public import proofs.«01_k».proof.Proof.QuantRow

@[expose] public section

noncomputable section

namespace Cert.QuantRow

open Idealize.ShloMosaic Idealize.ShloMosaic.ValueIdx

variable {M N : ℕ}

/-- The largest magnitude of row `i`. -/
def rowMax (h : FVec Bits ⟨2, ![M, N]⟩ .f32) (i : Fin M) : Bits .f32 := amax fun k => h (ix2 i k)

/-- The column of row maxima, as the programs form it. -/
theorem col (x : FVec Bits ⟨2, ![M, N]⟩ .f32) (h : (⟨2, ![M, N]⟩ : Shape).Reduces [1] ⟨1, ![M]⟩) (hφ : FKind.Formats .f32)
    (hacc : 0xFF800000#32 = FKind.maximumf.neutral .f32 hφ) (hs : (⟨1, ![M]⟩ : Shape).ShapeCasts ⟨2, ![M, 1]⟩) (i : Fin M) (z : Fin 1) :
    shapeCast ⟨2, ![M, 1]⟩ (multiReduction .maximumf [1] ⟨1, ![M]⟩ (absf x) 0xFF800000#32 h hφ hacc) hs (ix2 i z) = rowMax x i := by
  refine (shapeCast_apply _ hs (ix2 i z) (ix1 i) ?_).trans (amax_block x h hφ hacc i)
  rw [Shape.rowMajor_val_one, Shape.rowMajor_val_two]
  show i.val = i.val * 1 + z.val
  omega

/-- A column spread over the columns. -/
theorem spread {α : Type} (v : (⟨2, ![M, 1]⟩ : Shape).Idx → α) (h : (⟨2, ![M, 1]⟩ : Shape).Broadcasts ⟨2, ![M, N]⟩) (i : Fin M) (k : Fin N) :
    broadcastTo ⟨2, ![M, N]⟩ v h (ix2 i k) = v (ix2 i 0) :=
  broadcastTo_apply v h (ix2 i k) (ix2 i 0) fun a => match a with
    | ⟨0, _⟩ => by
      show i.val = if M = 1 then 0 else i.val
      by_cases hM : M = 1
      · rw [if_pos hM]; have := i.isLt; omega
      · rw [if_neg hM]
    | ⟨1, _⟩ => rfl

/-- A scaled element clipped to the codes' range and converted. -/
def clip (x w : Bits .f32) : Bits .fp8e4m3 :=
  FloatOps.truncf .fp8e4m3 (by decide) (FloatOps.minimumf (Scalar.ofBits .f32 0x43E00000#32) (FloatOps.maximumf (Scalar.ofBits .f32 0xC3E00000#32) (FloatOps.mulf x w)))

/-- The codes and the scales. -/
def codes (h : FVec Bits ⟨2, ![M, N]⟩ .f32) (i : Fin M) (k : Fin N) : Bits .fp8e4m3 :=
  clip (h (ix2 i k)) (FloatOps.ofBits .f32 (kdown (kexp (rowMax h i))))
def scale (h : FVec Bits ⟨2, ![M, N]⟩ .f32) (i : Fin M) : Bits .f32 := FloatOps.ofBits .f32 (kup (kexp (rowMax h i)))

theorem bounds : ∀ n : Fin 256, IntOp.andi (IntOp.cmpi .sge (BitVec.ofNat 32 n.val) 1#32) (IntOp.cmpi .sle (BitVec.ofNat 32 n.val) 253#32) = 1#1 →
    1 ≤ n.val ∧ n.val ≤ 253 := by decide +kernel

theorem one_or : ∀ b c : BitVec 1, IntOp.ori b c = 1#1 → b = 1#1 ∨ c = 1#1 := by decide

theorem good_of {a : Bits .f32} (e : IntOp.ori (zero a) (IntOp.andi (IntOp.cmpi .sge (field (word a)) 1#32) (IntOp.cmpi .sle (field (word a)) 253#32)) = 1#1) :
    Good a := by
  rcases one_or _ _ e with h | h
  · exact .inl h
  · have hb : (field (word a)).toNat < 256 := by
      unfold field
      rw [BitVec.toNat_and]
      exact lt_of_le_of_lt Nat.and_le_right (by decide)
    have hw : field (word a) = BitVec.ofNat 32 (field (word a)).toNat := by rw [BitVec.ofNat_toNat, BitVec.setWidth_eq]
    rw [hw] at h
    exact .inr (bounds ⟨_, hb⟩ h)

end Cert.QuantRow

end
-- ==== Proof.QuantValue.lean ====
/-
  The quantiser's kernel at width 1792: a grid point leaves its block of codes and its column of scales, and the blocks tile
  both results.
-/
module

public import proofs.«01_k».proof.Proof.Gen.Quant.Frame
public import Idealize.ShloMosaic.Lib.Pipeline.Value
public import proofs.«01_k».proof.Proof.QuantBlock

@[expose] public section

noncomputable section

namespace Cert.Quant.Hand

open Cert.Quant Cert.Quant.Gen Idealize.ShloMosaic Idealize.ShloMosaic.TcCoe Idealize.SL.Sem Idealize.ShloMosaic.ValueIdx
open Cert.QuantRow

variable (m : (ℓ : Loc nD τ sig) → Buf (Elt Bits) ℓ) (ρ : Dev nD → PrngReg)

/-! ## One block -/

theorem pay1_at (x : Vec Bits S256x1792 .f32) (i : Fin 256) (z : Fin 1) : k0_pay1 (F := Bits) x (ix2 i z) = kexp (rowMax x i) := by
  rw [← col x reduces_S256x1792_S256 (.inl rfl) rfl shapeCasts_S256_S256x1 i z]
  rfl

theorem pay2_at (x : Vec Bits S256x1792 .f32) (i : Fin 256) (z : Fin 1) : k0_pay2 (F := Bits) x (ix2 i z) = scale x i := by
  unfold scale
  rw [← pay1_at x i z]
  rfl

theorem pay3_at (x : Vec Bits S256x1792 .f32) (i : Fin 256) (k : Fin 1792) : k0_pay3 (F := Bits) x (ix2 i k) = codes x i k := by
  unfold codes
  rw [← pay1_at x i 0]
  exact congrArg (clip (x (ix2 i k))) (spread (bitcastToFloat (F := Bits) .f32 (shli (subi (broadcast S256x1 127#32) (k0_pay1 (F := Bits) x)) (broadcast S256x1 23#32)))
    broadcasts_S256x1_S256x1792 i k)

theorem hz : (![0, 0] : Fin 2 → Nat) = fun _ => 0 := funext fun a => by fin_cases a <;> rfl

theorem out1_eq (x : Vec Bits S256x1792 .f32) : out0_1 x = k0_pay3 x := by
  unfold out0_1
  rw [View.canon_unit_zero hz, View.ld_unit_zero (S := S256x1792) hz _ x]

theorem out2_eq (x : Vec Bits S256x1792 .f32) : out0_2 x = k0_pay2 x := by
  unfold out0_2
  rw [View.canon_unit_zero hz, View.ld_unit_zero (S := S256x1792) hz _ x]

/-! ## The blocks in the arrays -/

theorem idx_val : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0) :=
  (by decide +kernel : ∀ t : Fin grid0.N, _)

theorem lt16 (t : Fin cfg0.N) : t.val < 16 := lt_of_lt_of_eq t.isLt N_0

/-- Row `i` of block `t` in the whole array. -/
def rowOf (t : Fin cfg0.N) (i : Fin 256) : Fin 4096 := ⟨t.val * 256 + i.val, by have := lt16 t; have := i.isLt; omega⟩

theorem emb0 (t : Fin cfg0.N) (i : Fin 256) (k : Fin 1792) : ((cfg0.win 0).blk t).view.emb (ix2 i k) = (ix2 (rowOf t i) k : S4096x1792.Idx) := by
  obtain ⟨⟨e0, e1⟩, -⟩ := idx_val t
  funext a; apply Fin.ext
  match a with
  | ⟨0, _⟩ => show win0_0.index t (0 : Fin 2) * 256 + 1 * i.val = t.val * 256 + i.val; omega
  | ⟨1, _⟩ => show win0_0.index t (1 : Fin 2) * 1792 + 1 * k.val = k.val; omega

theorem emb1 (t : Fin cfg0.N) (i : Fin 256) (k : Fin 1792) : ((cfg0.win 1).blk t).view.emb (ix2 i k) = (ix2 (rowOf t i) k : S4096x1792.Idx) := by
  obtain ⟨-, ⟨e0, e1⟩, -⟩ := idx_val t
  funext a; apply Fin.ext
  match a with
  | ⟨0, _⟩ => show win0_1.index t (0 : Fin 2) * 256 + 1 * i.val = t.val * 256 + i.val; omega
  | ⟨1, _⟩ => show win0_1.index t (1 : Fin 2) * 1792 + 1 * k.val = k.val; omega

theorem emb2 (t : Fin cfg0.N) (i : Fin 256) (z : Fin 1) : ((cfg0.win 2).blk t).view.emb (ix2 i z) = (ix2 (rowOf t i) z : S4096x1.Idx) := by
  obtain ⟨-, -, e0, e1⟩ := idx_val t
  funext a; apply Fin.ext
  match a with
  | ⟨0, _⟩ => show win0_2.index t (0 : Fin 2) * 256 + 1 * i.val = t.val * 256 + i.val; omega
  | ⟨1, _⟩ => show win0_2.index t (1 : Fin 2) * 1 + 1 * z.val = z.val; omega

theorem blk_at (c : Dev nD) (t : Fin cfg0.N) (i : Fin 256) (k : Fin 1792) :
    (iblk m c 0 t : Vec Bits S256x1792 .f32) (ix2 i k) = (m ((c : Thread nD τ).loc main_arg0) : Vec Bits S4096x1792 .f32) (ix2 (rowOf t i) k) :=
  (show _ = (V m c main_arg0 : Vec Bits S4096x1792 .f32) _ from congrArg (V m c main_arg0) (emb0 t i k)).trans rfl

theorem rowMax_blk (c : Dev nD) (t : Fin cfg0.N) (i : Fin 256) :
    rowMax (M := 256) (N := 1792) (iblk m c 0 t) i = rowMax (M := 4096) (N := 1792) (m ((c : Thread nD τ).loc main_arg0)) (rowOf t i) :=
  congrArg amax (funext fun k => blk_at m c t i k)

/-! ## The arrays after the run -/

/-- The two results as arrays. -/
def C (h : Vec Bits S4096x1792 .f32) : Vec Bits S4096x1792 .fp8e4m3 := fun j => codes (M := 4096) (N := 1792) h (j 0) (j 1)
def S (h : Vec Bits S4096x1792 .f32) : Vec Bits S4096x1 .f32 := fun j => scale (M := 4096) (N := 1792) h (j 0)

theorem flushed1 (c : Dev nD) (t : Fin cfg0.N) :
    (dats m 0 c).flushed 1 t = ((cfg0.win 1).blk t).view.read (Elt Bits) (C (m ((c : Thread nD τ).loc main_arg0))) := by
  show (cfg0.win 1).cut (grid0.coords t) ((dats m 0 c).after 1 t) = _
  rw [after0_1, out1_eq]
  funext j
  obtain ⟨i, k, rfl⟩ : ∃ (i : Fin 256) (k : Fin 1792), j = ix2 i k := ⟨_, _, eq_ix2 j⟩
  refine (show _ = k0_pay3 (F := Bits) (iblk m c 0 t) (ix2 i k) from rfl).trans ((pay3_at _ i k).trans (Eq.trans ?_
    (congrArg (C (m ((c : Thread nD τ).loc main_arg0))) (emb1 t i k)).symm))
  show clip _ (FloatOps.ofBits .f32 (kdown (kexp (rowMax (M := 256) (N := 1792) (iblk m c 0 t) i)))) = clip _ (FloatOps.ofBits .f32 (kdown (kexp (rowMax (M := 4096) (N := 1792) _ (rowOf t i)))))
  rw [rowMax_blk, blk_at]

theorem flushed2 (c : Dev nD) (t : Fin cfg0.N) :
    (dats m 0 c).flushed 2 t = ((cfg0.win 2).blk t).view.read (Elt Bits) (S (m ((c : Thread nD τ).loc main_arg0))) := by
  show (cfg0.win 2).cut (grid0.coords t) ((dats m 0 c).after 2 t) = _
  rw [after0_2, out2_eq]
  funext j
  obtain ⟨i, z, rfl⟩ : ∃ (i : Fin 256) (z : Fin 1), j = ix2 i z := ⟨_, _, eq_ix2 j⟩
  refine (show _ = k0_pay2 (F := Bits) (iblk m c 0 t) (ix2 i z) from rfl).trans ((pay2_at _ i z).trans (Eq.trans ?_
    (congrArg (S (m ((c : Thread nD τ).loc main_arg0))) (emb2 t i z)).symm))
  show FloatOps.ofBits .f32 (kup (kexp (rowMax (M := 256) (N := 1792) (iblk m c 0 t) i))) = FloatOps.ofBits .f32 (kup (kexp (rowMax (M := 4096) (N := 1792) _ (rowOf t i))))
  rw [rowMax_blk]

/-- The point and the row in it of a row of the array. -/
def ptOf (r : Fin 4096) : Fin cfg0.N := ⟨r.val / 256, lt_of_lt_of_eq (by have := r.isLt; omega : r.val / 256 < 16) N_0.symm⟩
theorem rowOf_pt (r : Fin 4096) : rowOf (ptOf r) ⟨r.val % 256, by omega⟩ = r := Fin.ext (by show r.val / 256 * 256 + r.val % 256 = r.val; omega)

theorem covered1 (j : S4096x1792.Idx) : ∃ t : Fin cfg0.N, (cfg0.win 1).flush t = true ∧ j ∈ ((cfg0.win 1).blk t).view.set := by
  obtain ⟨r, k, rfl⟩ : ∃ (r : Fin 4096) (k : Fin 1792), j = ix2 r k := ⟨_, _, eq_ix2 j⟩
  refine ⟨ptOf r, flush0_1 _, ?_⟩
  have h := ((cfg0.win 1).blk (ptOf r)).view.emb_mem_set (ix2 (⟨r.val % 256, by omega⟩ : Fin 256) k)
  rwa [emb1, rowOf_pt] at h

theorem covered2 (j : S4096x1.Idx) : ∃ t : Fin cfg0.N, (cfg0.win 2).flush t = true ∧ j ∈ ((cfg0.win 2).blk t).view.set := by
  obtain ⟨r, z, rfl⟩ : ∃ (r : Fin 4096) (z : Fin 1), j = ix2 r z := ⟨_, _, eq_ix2 j⟩
  refine ⟨ptOf r, flush0_2 _, ?_⟩
  have h := ((cfg0.win 2).blk (ptOf r)).view.emb_mem_set (ix2 (⟨r.val % 256, by omega⟩ : Fin 256) z)
  rwa [emb2, rowOf_pt] at h

/-- The run: both results as functions of the argument, the argument unchanged. -/
theorem run : θ_run defs (onTc (τ := τ) (main (F := Bits))) ⟨m, fun _ => 0, ρ⟩ fun r => ∀ c : Dev nD,
      r.2.mem ((c : Thread nD τ).loc main_v0_0) = C (m ((c : Thread nD τ).loc main_arg0))
      ∧ r.2.mem ((c : Thread nD τ).loc main_v0_1) = S (m ((c : Thread nD τ).loc main_arg0))
      ∧ r.2.mem ((c : Thread nD τ).loc main_arg0) = m ((c : Thread nD τ).loc main_arg0) :=
  (θ_run defs _ _).mono (fun _ h c => ⟨((h c).1 1).trans ((dats m 0 c).arrAt_eq_of_cover 1 _ (fun t _ => flushed1 m c t) covered1),
      ((h c).1 2).trans ((dats m 0 c).arrAt_eq_of_cover 2 _ (fun t _ => flushed2 m c t) covered2),
      ((h c).1 0).trans (((dats m 0 c).arrAt_in 0 rfl _).trans ((A_eq m c 0).trans (V_main_arg0 m c)))⟩)
    (run_main m ρ)

end Cert.Quant.Hand

end
-- ==== Proof.QuantRefValue.lean ====
/-
  The quantiser's reference at width 1792: where every row's largest magnitude is zero or gives a normal 448th, its results are
  the kernel's words.
-/
module

public import proofs.«01_k».proof.Proof.Gen.QuantRef.Value
public import proofs.«01_k».proof.Proof.Gen.Pre_row_maxima_normal
public import proofs.«01_k».proof.Proof.QuantBlock

@[expose] public section

noncomputable section

namespace Cert.QuantRef.Hand

open Cert.QuantRef Cert.QuantRef.Gen Idealize.ShloMosaic Idealize.ShloMosaic.ValueIdx
open Cert.QuantRow

/-- The condition on the arguments, at a row. -/
theorem good (h : Vec Bits S4096x1792 .f32) (hp : Cert.Pre_row_maxima_normal.fn (F := Bits) h = fun _ => 1#1) (i : Fin 4096) : Good (rowMax (M := 4096) (N := 1792) h i) := by
  have e := congrFun hp (ix1 i)
  have r := amax_whole (M := 4096) (N := 1792) h (constant (F := Bits) Cert.Pre_row_maxima_normal.S_ .f32 0xFF800000#32) Cert.Pre_row_maxima_normal.Facts.reducesTo_S4096x1792_S4096_d1
    reduces_S4096x1792_S4096 Cert.Pre_row_maxima_normal.Facts.h_S_ rfl i
  refine good_of ?_
  unfold rowMax
  rw [← r]
  exact e

theorem hz : (![0, 0] : Fin 2 → Nat) = fun _ => 0 := funext fun a => by fin_cases a <;> rfl

theorem pay2_at (x : Vec Bits S4096x1792 .f32) (i : Fin 4096) (z : Fin 1) : k0_pay2 (F := Bits) x (ix2 i z) = rowMax x i :=
  col x reduces_S4096x1792_S4096 (.inl rfl) rfl shapeCasts_S4096_S4096x1 i z

/-- The exponent. -/
theorem exp_at (x : Vec Bits S4096x1792 .f32) (i : Fin 4096) (z : Fin 1) : k0_pay20 (F := Bits) x (ix2 i z) = rexp (rowMax x i) := by
  unfold k0_pay20 k0_pay19 k0_pay18 k0_pay17
  rw [View.ld_unit_zero (S := S4096x1792) hz _ x, ← pay2_at x i z]
  rfl

theorem pay7_at (a : IVec S4096x1 32) (b : IVec S4096x1 1) (c : IVec S4096x1 32) (j : S4096x1.Idx) :
    k0_pay7 (F := Bits) a b c j = FloatOps.ofBits .f32 (build (k0_pay6 a b c j)) := by
  unfold k0_pay7 build
  generalize k0_pay6 a b c = e
  generalize 0x3F800000#32 = w
  rfl

theorem scale_at (x : Vec Bits S4096x1792 .f32) (i : Fin 4096) (z : Fin 1) (hg : Good (rowMax x i)) : Value.G2 (F := Bits) x (ix2 i z) = scale x i := by
  unfold scale
  rw [← (scales hg).1, ← exp_at x i z]
  exact pay7_at _ _ _ _

theorem one_eq : k0_pay8 (F := Bits) = fun _ => flushed 0x3F800000#32 := by
  unfold k0_pay8
  generalize 0x3F800000#32 = w
  rfl

/-- The word that multiplies a row. -/
def inv (e : IVec S4096x1 32) : IVec S4096x1 32 :=
  select (k0_pay12 (F := Bits)) (k0_pay8 (F := Bits)) (select (k0_pay11 (F := Bits)) (k0_pay9 (F := Bits))
    (select (cmpi .sle (k0_pay13 (F := Bits) e) k0_pay16) (k0_pay9 (F := Bits)) (select (cmpi .sge (k0_pay13 (F := Bits) e) (broadcast S4096x1 255#32))
      (k0_pay14 (F := Bits)) (k0_pay15 (F := Bits) e))))

theorem inv_at (e : IVec S4096x1 32) (j : S4096x1.Idx) : inv e j = build (IntOp.subi 0#32 (e j)) := by
  unfold inv k0_pay12 k0_pay11 k0_pay15 k0_pay13 k0_pay14 k0_pay16 k0_pay9 k0_pay10 build
  rw [one_eq]
  generalize flushed 0x3F800000#32 = w
  dsimp only [select, cmpi, andi, ori, addi, subi, maxsi, minsi, shli, shrui, broadcast]

theorem codes_at (x : Vec Bits S4096x1792 .f32) (i : Fin 4096) (k : Fin 1792) (hg : Good (rowMax x i)) : Value.G1 (F := Bits) x (ix2 i k) = codes x i k := by
  unfold codes
  rw [← (scales hg).2, ← exp_at x i 0, ← inv_at]
  exact congrArg (clip (x (ix2 i k))) (spread (bitcastToFloat (F := Bits) .f32 (inv (k0_pay20 x))) broadcasts_S4096x1_S4096x1792 i k)

end Cert.QuantRef.Hand

end
-- ==== Proof.Quant2Value.lean ====
/-
  The quantiser's kernel at width 1152: a grid point leaves its block of codes and its column of scales, and the blocks tile
  both results.
-/
module

public import proofs.«01_k».proof.Proof.Gen.Quant2.Frame
public import Idealize.ShloMosaic.Lib.Pipeline.Value
public import proofs.«01_k».proof.Proof.QuantBlock

@[expose] public section

noncomputable section

namespace Cert.Quant2.Hand

open Cert.Quant2 Cert.Quant2.Gen Idealize.ShloMosaic Idealize.ShloMosaic.TcCoe Idealize.SL.Sem Idealize.ShloMosaic.ValueIdx
open Cert.QuantRow

variable (m : (ℓ : Loc nD τ sig) → Buf (Elt Bits) ℓ) (ρ : Dev nD → PrngReg)

/-! ## One block -/

theorem pay1_at (x : Vec Bits S256x1152 .f32) (i : Fin 256) (z : Fin 1) : k0_pay1 (F := Bits) x (ix2 i z) = kexp (rowMax x i) := by
  rw [← col x reduces_S256x1152_S256 (.inl rfl) rfl shapeCasts_S256_S256x1 i z]
  rfl

theorem pay2_at (x : Vec Bits S256x1152 .f32) (i : Fin 256) (z : Fin 1) : k0_pay2 (F := Bits) x (ix2 i z) = scale x i := by
  unfold scale
  rw [← pay1_at x i z]
  rfl

theorem pay3_at (x : Vec Bits S256x1152 .f32) (i : Fin 256) (k : Fin 1152) : k0_pay3 (F := Bits) x (ix2 i k) = codes x i k := by
  unfold codes
  rw [← pay1_at x i 0]
  exact congrArg (clip (x (ix2 i k))) (spread (bitcastToFloat (F := Bits) .f32 (shli (subi (broadcast S256x1 127#32) (k0_pay1 (F := Bits) x)) (broadcast S256x1 23#32)))
    broadcasts_S256x1_S256x1152 i k)

theorem hz : (![0, 0] : Fin 2 → Nat) = fun _ => 0 := funext fun a => by fin_cases a <;> rfl

theorem out1_eq (x : Vec Bits S256x1152 .f32) : out0_1 x = k0_pay3 x := by
  unfold out0_1
  rw [View.canon_unit_zero hz, View.ld_unit_zero (S := S256x1152) hz _ x]

theorem out2_eq (x : Vec Bits S256x1152 .f32) : out0_2 x = k0_pay2 x := by
  unfold out0_2
  rw [View.canon_unit_zero hz, View.ld_unit_zero (S := S256x1152) hz _ x]

/-! ## The blocks in the arrays -/

theorem idx_val : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0) :=
  (by decide +kernel : ∀ t : Fin grid0.N, _)

theorem lt16 (t : Fin cfg0.N) : t.val < 16 := lt_of_lt_of_eq t.isLt N_0

/-- Row `i` of block `t` in the whole array. -/
def rowOf (t : Fin cfg0.N) (i : Fin 256) : Fin 4096 := ⟨t.val * 256 + i.val, by have := lt16 t; have := i.isLt; omega⟩

theorem emb0 (t : Fin cfg0.N) (i : Fin 256) (k : Fin 1152) : ((cfg0.win 0).blk t).view.emb (ix2 i k) = (ix2 (rowOf t i) k : S4096x1152.Idx) := by
  obtain ⟨⟨e0, e1⟩, -⟩ := idx_val t
  funext a; apply Fin.ext
  match a with
  | ⟨0, _⟩ => show win0_0.index t (0 : Fin 2) * 256 + 1 * i.val = t.val * 256 + i.val; omega
  | ⟨1, _⟩ => show win0_0.index t (1 : Fin 2) * 1152 + 1 * k.val = k.val; omega

theorem emb1 (t : Fin cfg0.N) (i : Fin 256) (k : Fin 1152) : ((cfg0.win 1).blk t).view.emb (ix2 i k) = (ix2 (rowOf t i) k : S4096x1152.Idx) := by
  obtain ⟨-, ⟨e0, e1⟩, -⟩ := idx_val t
  funext a; apply Fin.ext
  match a with
  | ⟨0, _⟩ => show win0_1.index t (0 : Fin 2) * 256 + 1 * i.val = t.val * 256 + i.val; omega
  | ⟨1, _⟩ => show win0_1.index t (1 : Fin 2) * 1152 + 1 * k.val = k.val; omega

theorem emb2 (t : Fin cfg0.N) (i : Fin 256) (z : Fin 1) : ((cfg0.win 2).blk t).view.emb (ix2 i z) = (ix2 (rowOf t i) z : S4096x1.Idx) := by
  obtain ⟨-, -, e0, e1⟩ := idx_val t
  funext a; apply Fin.ext
  match a with
  | ⟨0, _⟩ => show win0_2.index t (0 : Fin 2) * 256 + 1 * i.val = t.val * 256 + i.val; omega
  | ⟨1, _⟩ => show win0_2.index t (1 : Fin 2) * 1 + 1 * z.val = z.val; omega

theorem blk_at (c : Dev nD) (t : Fin cfg0.N) (i : Fin 256) (k : Fin 1152) :
    (iblk m c 0 t : Vec Bits S256x1152 .f32) (ix2 i k) = (m ((c : Thread nD τ).loc main_arg0) : Vec Bits S4096x1152 .f32) (ix2 (rowOf t i) k) :=
  (show _ = (V m c main_arg0 : Vec Bits S4096x1152 .f32) _ from congrArg (V m c main_arg0) (emb0 t i k)).trans rfl

theorem rowMax_blk (c : Dev nD) (t : Fin cfg0.N) (i : Fin 256) :
    rowMax (M := 256) (N := 1152) (iblk m c 0 t) i = rowMax (M := 4096) (N := 1152) (m ((c : Thread nD τ).loc main_arg0)) (rowOf t i) :=
  congrArg amax (funext fun k => blk_at m c t i k)

/-! ## The arrays after the run -/

/-- The two results as arrays. -/
def C (h : Vec Bits S4096x1152 .f32) : Vec Bits S4096x1152 .fp8e4m3 := fun j => codes (M := 4096) (N := 1152) h (j 0) (j 1)
def S (h : Vec Bits S4096x1152 .f32) : Vec Bits S4096x1 .f32 := fun j => scale (M := 4096) (N := 1152) h (j 0)

theorem flushed1 (c : Dev nD) (t : Fin cfg0.N) :
    (dats m 0 c).flushed 1 t = ((cfg0.win 1).blk t).view.read (Elt Bits) (C (m ((c : Thread nD τ).loc main_arg0))) := by
  show (cfg0.win 1).cut (grid0.coords t) ((dats m 0 c).after 1 t) = _
  rw [after0_1, out1_eq]
  funext j
  obtain ⟨i, k, rfl⟩ : ∃ (i : Fin 256) (k : Fin 1152), j = ix2 i k := ⟨_, _, eq_ix2 j⟩
  refine (show _ = k0_pay3 (F := Bits) (iblk m c 0 t) (ix2 i k) from rfl).trans ((pay3_at _ i k).trans (Eq.trans ?_
    (congrArg (C (m ((c : Thread nD τ).loc main_arg0))) (emb1 t i k)).symm))
  show clip _ (FloatOps.ofBits .f32 (kdown (kexp (rowMax (M := 256) (N := 1152) (iblk m c 0 t) i)))) = clip _ (FloatOps.ofBits .f32 (kdown (kexp (rowMax (M := 4096) (N := 1152) _ (rowOf t i)))))
  rw [rowMax_blk, blk_at]

theorem flushed2 (c : Dev nD) (t : Fin cfg0.N) :
    (dats m 0 c).flushed 2 t = ((cfg0.win 2).blk t).view.read (Elt Bits) (S (m ((c : Thread nD τ).loc main_arg0))) := by
  show (cfg0.win 2).cut (grid0.coords t) ((dats m 0 c).after 2 t) = _
  rw [after0_2, out2_eq]
  funext j
  obtain ⟨i, z, rfl⟩ : ∃ (i : Fin 256) (z : Fin 1), j = ix2 i z := ⟨_, _, eq_ix2 j⟩
  refine (show _ = k0_pay2 (F := Bits) (iblk m c 0 t) (ix2 i z) from rfl).trans ((pay2_at _ i z).trans (Eq.trans ?_
    (congrArg (S (m ((c : Thread nD τ).loc main_arg0))) (emb2 t i z)).symm))
  show FloatOps.ofBits .f32 (kup (kexp (rowMax (M := 256) (N := 1152) (iblk m c 0 t) i))) = FloatOps.ofBits .f32 (kup (kexp (rowMax (M := 4096) (N := 1152) _ (rowOf t i))))
  rw [rowMax_blk]

/-- The point and the row in it of a row of the array. -/
def ptOf (r : Fin 4096) : Fin cfg0.N := ⟨r.val / 256, lt_of_lt_of_eq (by have := r.isLt; omega : r.val / 256 < 16) N_0.symm⟩
theorem rowOf_pt (r : Fin 4096) : rowOf (ptOf r) ⟨r.val % 256, by omega⟩ = r := Fin.ext (by show r.val / 256 * 256 + r.val % 256 = r.val; omega)

theorem covered1 (j : S4096x1152.Idx) : ∃ t : Fin cfg0.N, (cfg0.win 1).flush t = true ∧ j ∈ ((cfg0.win 1).blk t).view.set := by
  obtain ⟨r, k, rfl⟩ : ∃ (r : Fin 4096) (k : Fin 1152), j = ix2 r k := ⟨_, _, eq_ix2 j⟩
  refine ⟨ptOf r, flush0_1 _, ?_⟩
  have h := ((cfg0.win 1).blk (ptOf r)).view.emb_mem_set (ix2 (⟨r.val % 256, by omega⟩ : Fin 256) k)
  rwa [emb1, rowOf_pt] at h

theorem covered2 (j : S4096x1.Idx) : ∃ t : Fin cfg0.N, (cfg0.win 2).flush t = true ∧ j ∈ ((cfg0.win 2).blk t).view.set := by
  obtain ⟨r, z, rfl⟩ : ∃ (r : Fin 4096) (z : Fin 1), j = ix2 r z := ⟨_, _, eq_ix2 j⟩
  refine ⟨ptOf r, flush0_2 _, ?_⟩
  have h := ((cfg0.win 2).blk (ptOf r)).view.emb_mem_set (ix2 (⟨r.val % 256, by omega⟩ : Fin 256) z)
  rwa [emb2, rowOf_pt] at h

/-- The run: both results as functions of the argument, the argument unchanged. -/
theorem run : θ_run defs (onTc (τ := τ) (main (F := Bits))) ⟨m, fun _ => 0, ρ⟩ fun r => ∀ c : Dev nD,
      r.2.mem ((c : Thread nD τ).loc main_v0_0) = C (m ((c : Thread nD τ).loc main_arg0))
      ∧ r.2.mem ((c : Thread nD τ).loc main_v0_1) = S (m ((c : Thread nD τ).loc main_arg0))
      ∧ r.2.mem ((c : Thread nD τ).loc main_arg0) = m ((c : Thread nD τ).loc main_arg0) :=
  (θ_run defs _ _).mono (fun _ h c => ⟨((h c).1 1).trans ((dats m 0 c).arrAt_eq_of_cover 1 _ (fun t _ => flushed1 m c t) covered1),
      ((h c).1 2).trans ((dats m 0 c).arrAt_eq_of_cover 2 _ (fun t _ => flushed2 m c t) covered2),
      ((h c).1 0).trans (((dats m 0 c).arrAt_in 0 rfl _).trans ((A_eq m c 0).trans (V_main_arg0 m c)))⟩)
    (run_main m ρ)

end Cert.Quant2.Hand

end
-- ==== Proof.Quant2RefValue.lean ====
/-
  The quantiser's reference at width 1152: where every row's largest magnitude is zero or gives a normal 448th, its results are
  the kernel's words.
-/
module

public import proofs.«01_k».proof.Proof.Gen.QuantRef2.Value
public import proofs.«01_k».proof.Proof.Gen.Pre_row_maxima_normal_2
public import proofs.«01_k».proof.Proof.QuantBlock

@[expose] public section

noncomputable section

namespace Cert.QuantRef2.Hand

open Cert.QuantRef2 Cert.QuantRef2.Gen Idealize.ShloMosaic Idealize.ShloMosaic.ValueIdx
open Cert.QuantRow

/-- The condition on the arguments, at a row. -/
theorem good (h : Vec Bits S4096x1152 .f32) (hp : Cert.Pre_row_maxima_normal_2.fn (F := Bits) h = fun _ => 1#1) (i : Fin 4096) : Good (rowMax (M := 4096) (N := 1152) h i) := by
  have e := congrFun hp (ix1 i)
  have r := amax_whole (M := 4096) (N := 1152) h (constant (F := Bits) Cert.Pre_row_maxima_normal_2.S_ .f32 0xFF800000#32) Cert.Pre_row_maxima_normal_2.Facts.reducesTo_S4096x1152_S4096_d1
    reduces_S4096x1152_S4096 Cert.Pre_row_maxima_normal_2.Facts.h_S_ rfl i
  refine good_of ?_
  unfold rowMax
  rw [← r]
  exact e

theorem hz : (![0, 0] : Fin 2 → Nat) = fun _ => 0 := funext fun a => by fin_cases a <;> rfl

theorem pay2_at (x : Vec Bits S4096x1152 .f32) (i : Fin 4096) (z : Fin 1) : k0_pay2 (F := Bits) x (ix2 i z) = rowMax x i :=
  col x reduces_S4096x1152_S4096 (.inl rfl) rfl shapeCasts_S4096_S4096x1 i z

/-- The exponent. -/
theorem exp_at (x : Vec Bits S4096x1152 .f32) (i : Fin 4096) (z : Fin 1) : k0_pay20 (F := Bits) x (ix2 i z) = rexp (rowMax x i) := by
  unfold k0_pay20 k0_pay19 k0_pay18 k0_pay17
  rw [View.ld_unit_zero (S := S4096x1152) hz _ x, ← pay2_at x i z]
  rfl

theorem pay7_at (a : IVec S4096x1 32) (b : IVec S4096x1 1) (c : IVec S4096x1 32) (j : S4096x1.Idx) :
    k0_pay7 (F := Bits) a b c j = FloatOps.ofBits .f32 (build (k0_pay6 a b c j)) := by
  unfold k0_pay7 build
  generalize k0_pay6 a b c = e
  generalize 0x3F800000#32 = w
  rfl

theorem scale_at (x : Vec Bits S4096x1152 .f32) (i : Fin 4096) (z : Fin 1) (hg : Good (rowMax x i)) : Value.G2 (F := Bits) x (ix2 i z) = scale x i := by
  unfold scale
  rw [← (scales hg).1, ← exp_at x i z]
  exact pay7_at _ _ _ _

theorem one_eq : k0_pay8 (F := Bits) = fun _ => flushed 0x3F800000#32 := by
  unfold k0_pay8
  generalize 0x3F800000#32 = w
  rfl

/-- The word that multiplies a row. -/
def inv (e : IVec S4096x1 32) : IVec S4096x1 32 :=
  select (k0_pay12 (F := Bits)) (k0_pay8 (F := Bits)) (select (k0_pay11 (F := Bits)) (k0_pay9 (F := Bits))
    (select (cmpi .sle (k0_pay13 (F := Bits) e) k0_pay16) (k0_pay9 (F := Bits)) (select (cmpi .sge (k0_pay13 (F := Bits) e) (broadcast S4096x1 255#32))
      (k0_pay14 (F := Bits)) (k0_pay15 (F := Bits) e))))

theorem inv_at (e : IVec S4096x1 32) (j : S4096x1.Idx) : inv e j = build (IntOp.subi 0#32 (e j)) := by
  unfold inv k0_pay12 k0_pay11 k0_pay15 k0_pay13 k0_pay14 k0_pay16 k0_pay9 k0_pay10 build
  rw [one_eq]
  generalize flushed 0x3F800000#32 = w
  dsimp only [select, cmpi, andi, ori, addi, subi, maxsi, minsi, shli, shrui, broadcast]

theorem codes_at (x : Vec Bits S4096x1152 .f32) (i : Fin 4096) (k : Fin 1152) (hg : Good (rowMax x i)) : Value.G1 (F := Bits) x (ix2 i k) = codes x i k := by
  unfold codes
  rw [← (scales hg).2, ← exp_at x i 0, ← inv_at]
  exact congrArg (clip (x (ix2 i k))) (spread (bitcastToFloat (F := Bits) .f32 (inv (k0_pay20 x))) broadcasts_S4096x1_S4096x1152 i k)

end Cert.QuantRef2.Hand

end
-- ==== Proof.QuantExact.lean ====
/-
  The quantiser of both widths: the kernel's results are the reference's, word for word.
-/
module

public import proofs.«01_k».proof.Defs
public import proofs.«01_k».proof.Proof.QuantValue
public import proofs.«01_k».proof.Proof.QuantRefValue
public import proofs.«01_k».proof.Proof.Quant2Value
public import proofs.«01_k».proof.Proof.Quant2RefValue

@[expose] public section

noncomputable section

namespace Cert.QuantExact

open Idealize.ShloMosaic Idealize.ShloMosaic.TcCoe Idealize.SL.Sem Idealize.ShloMosaic.ValueIdx

theorem codes_eq (h : Vec Bits Cert.Quant.S4096x1792 .f32) (hp : Cert.Pre_row_maxima_normal.fn (F := Bits) h = fun _ => 1#1) : Cert.QuantRef.Value.G1 (F := Bits) h = Cert.Quant.Hand.C h := by
  funext j
  obtain ⟨i, k, rfl⟩ : ∃ (i : Fin 4096) (k : Fin 1792), j = ix2 i k := ⟨_, _, eq_ix2 j⟩
  exact Cert.QuantRef.Hand.codes_at h i k (Cert.QuantRef.Hand.good h hp i)

theorem scale_eq (h : Vec Bits Cert.Quant.S4096x1792 .f32) (hp : Cert.Pre_row_maxima_normal.fn (F := Bits) h = fun _ => 1#1) : Cert.QuantRef.Value.G2 (F := Bits) h = Cert.Quant.Hand.S h := by
  funext j
  obtain ⟨i, z, rfl⟩ : ∃ (i : Fin 4096) (z : Fin 1), j = ix2 i z := ⟨_, _, eq_ix2 j⟩
  exact Cert.QuantRef.Hand.scale_at h i z (Cert.QuantRef.Hand.good h hp i)

theorem exact : Cert.bitexact_Quant_QuantRef := fun m g m' g' hp ha =>
  ⟨fun c => Cert.Quant.Hand.C (m ((c : Thread Cert.Quant.nD Cert.Quant.τ).loc Cert.Quant.main_arg0)),
    fun c => Cert.Quant.Hand.S (m ((c : Thread Cert.Quant.nD Cert.Quant.τ).loc Cert.Quant.main_arg0)),
    Cert.Quant.Hand.run m g,
    (θ_run Cert.QuantRef.defs _ _).mono (fun _ h c =>
      ⟨(h c).1.trans ((congrArg (Cert.QuantRef.Value.G1 (F := Bits)) (ha c)).trans (codes_eq _ (hp c))),
        (h c).2.1.trans ((congrArg (Cert.QuantRef.Value.G2 (F := Bits)) (ha c)).trans (scale_eq _ (hp c))), (h c).2.2⟩)
      (Cert.QuantRef.Value.run m' g')⟩

theorem codes_eq2 (h : Vec Bits Cert.Quant2.S4096x1152 .f32) (hp : Cert.Pre_row_maxima_normal_2.fn (F := Bits) h = fun _ => 1#1) : Cert.QuantRef2.Value.G1 (F := Bits) h = Cert.Quant2.Hand.C h := by
  funext j
  obtain ⟨i, k, rfl⟩ : ∃ (i : Fin 4096) (k : Fin 1152), j = ix2 i k := ⟨_, _, eq_ix2 j⟩
  exact Cert.QuantRef2.Hand.codes_at h i k (Cert.QuantRef2.Hand.good h hp i)

theorem scale_eq2 (h : Vec Bits Cert.Quant2.S4096x1152 .f32) (hp : Cert.Pre_row_maxima_normal_2.fn (F := Bits) h = fun _ => 1#1) : Cert.QuantRef2.Value.G2 (F := Bits) h = Cert.Quant2.Hand.S h := by
  funext j
  obtain ⟨i, z, rfl⟩ : ∃ (i : Fin 4096) (z : Fin 1), j = ix2 i z := ⟨_, _, eq_ix2 j⟩
  exact Cert.QuantRef2.Hand.scale_at h i z (Cert.QuantRef2.Hand.good h hp i)

theorem exact2 : Cert.bitexact_Quant2_QuantRef2 := fun m g m' g' hp ha =>
  ⟨fun c => Cert.Quant2.Hand.C (m ((c : Thread Cert.Quant2.nD Cert.Quant2.τ).loc Cert.Quant2.main_arg0)),
    fun c => Cert.Quant2.Hand.S (m ((c : Thread Cert.Quant2.nD Cert.Quant2.τ).loc Cert.Quant2.main_arg0)),
    Cert.Quant2.Hand.run m g,
    (θ_run Cert.QuantRef2.defs _ _).mono (fun _ h c =>
      ⟨(h c).1.trans ((congrArg (Cert.QuantRef2.Value.G1 (F := Bits)) (ha c)).trans (codes_eq2 _ (hp c))),
        (h c).2.1.trans ((congrArg (Cert.QuantRef2.Value.G2 (F := Bits)) (ha c)).trans (scale_eq2 _ (hp c))), (h c).2.2⟩)
      (Cert.QuantRef2.Value.run m' g')⟩

end Cert.QuantExact

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_offsets_cover
public import Idealize.ShloMosaic.Adequacy
public import Idealize.ShloMosaic.Init
public import proofs.«01_k».proof.Proof.Gen.Second
public import proofs.«01_k».proof.Proof.Gen.Second.Skeleton
public import proofs.«01_k».proof.Proof.Gen.Second.Launch
public import proofs.«01_k».proof.Proof.Gen.Second.Flash
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Flash
public import proofs.«01_k».proof.Proof.Gen.SecondRefIdeal
public import proofs.«01_k».proof.Proof.Gen.SecondRefIdeal.Skeleton
public import proofs.«01_k».proof.Proof.Gen.SecondRefIdeal.Launch
public import proofs.«01_k».proof.Proof.Gen.SecondRefIdeal.Points
public import proofs.«01_k».proof.Proof.Gen.SecondRefIdeal.Frame
public import proofs.«01_k».proof.Proof.Gen.SecondRefIdeal.Value
public import proofs.«01_k».proof.Proof.Gen.Pre_offsets_cover_2
public import proofs.«01_k».proof.Proof.Gen.Third
public import proofs.«01_k».proof.Proof.Gen.Third.Skeleton
public import proofs.«01_k».proof.Proof.Gen.Third.Launch
public import proofs.«01_k».proof.Proof.Gen.Third.Flash
public import proofs.«01_k».proof.Proof.Gen.ThirdIdeal
public import proofs.«01_k».proof.Proof.Gen.ThirdIdeal.Skeleton
public import proofs.«01_k».proof.Proof.Gen.ThirdIdeal.Launch
public import proofs.«01_k».proof.Proof.Gen.ThirdIdeal.Flash
public import proofs.«01_k».proof.Proof.Gen.ThirdRefIdeal
public import proofs.«01_k».proof.Proof.Gen.ThirdRefIdeal.Skeleton
public import proofs.«01_k».proof.Proof.Gen.ThirdRefIdeal.Launch
public import proofs.«01_k».proof.Proof.Gen.ThirdRefIdeal.Points
public import proofs.«01_k».proof.Proof.Gen.ThirdRefIdeal.Frame
public import proofs.«01_k».proof.Proof.Gen.ThirdRefIdeal.Value
public import proofs.«01_k».proof.Proof.Gen.Pre_offsets_cover_3
public import proofs.«01_k».proof.Proof.KernelIdeal.Frame
public import proofs.«01_k».proof.Proof.SecondIdeal.Frame
public import proofs.«01_k».proof.Proof.ThirdIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantRef
public import proofs.«01_k».proof.Proof.Gen.QuantRef.Skeleton
public import proofs.«01_k».proof.Proof.Gen.QuantRef.Launch
public import proofs.«01_k».proof.Proof.Gen.QuantRef.Points
public import proofs.«01_k».proof.Proof.Gen.QuantRef.Frame
public import proofs.«01_k».proof.Proof.Gen.QuantRef.Value
public import proofs.«01_k».proof.Proof.Gen.Quant2
public import proofs.«01_k».proof.Proof.Gen.Quant2.Skeleton
public import proofs.«01_k».proof.Proof.Gen.Quant2.Launch
public import proofs.«01_k».proof.Proof.Gen.Quant2.Points
public import proofs.«01_k».proof.Proof.Gen.Quant2.Frame
public import proofs.«01_k».proof.Proof.Gen.QuantRef2
public import proofs.«01_k».proof.Proof.Gen.QuantRef2.Skeleton
public import proofs.«01_k».proof.Proof.Gen.QuantRef2.Launch
public import proofs.«01_k».proof.Proof.Gen.QuantRef2.Points
public import proofs.«01_k».proof.Proof.Gen.QuantRef2.Frame
public import proofs.«01_k».proof.Proof.Gen.QuantRef2.Value
public import proofs.«01_k».proof.Proof.Gen.Pre_row_maxima_normal
public import proofs.«01_k».proof.Proof.Gen.Pre_row_maxima_normal_2
public import proofs.«01_k».proof.Proof.Algebraic
public import proofs.«01_k».proof.Proof.SecondAlgebraic
public import proofs.«01_k».proof.Proof.ThirdAlgebraic
public import proofs.«01_k».proof.Proof.QuantExact

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Second.Gen.facts, Cert.SecondIdeal.Gen.facts, Cert.SecondRefIdeal.Gen.facts,
  Cert.Third.Gen.facts, Cert.ThirdIdeal.Gen.facts, Cert.ThirdRefIdeal.Gen.facts,
  Cert.Quant.Gen.facts, Cert.QuantRef.Gen.facts, Cert.Quant2.Gen.facts, Cert.QuantRef2.Gen.facts,
  Cert.Pre_offsets_cover.Gen.facts, Cert.Pre_offsets_cover_2.Gen.facts, Cert.Pre_offsets_cover_3.Gen.facts,
  Cert.Pre_row_maxima_normal.Gen.facts, Cert.Pre_row_maxima_normal_2.Gen.facts,
  Cert.Frames.frame_Kernel, Cert.Frames.frame_KernelIdeal, fun m g _ => Cert.ReferenceIdeal.Gen.frame m g, fun m g _ => Cert.ReferenceIdeal.Gen.frame m g,
  Cert.Frames.frame_Second, Cert.Frames.frame_SecondIdeal, fun m g _ => Cert.SecondRefIdeal.Gen.frame m g, fun m g _ => Cert.SecondRefIdeal.Gen.frame m g,
  Cert.Frames.frame_Third, Cert.Frames.frame_ThirdIdeal, fun m g _ => Cert.ThirdRefIdeal.Gen.frame m g, fun m g _ => Cert.ThirdRefIdeal.Gen.frame m g,
  fun m g _ => Cert.Quant.Gen.frame m g, fun m g _ => Cert.QuantRef.Gen.frame m g,
  fun m g _ => Cert.Quant2.Gen.frame m g, fun m g _ => Cert.QuantRef2.Gen.frame m g,
  trivial, Cert.Algebraic.algebraic, trivial, Cert.SecondAlgebraic.algebraic, trivial, Cert.ThirdAlgebraic.algebraic,
  Cert.QuantExact.exact, Cert.QuantExact.exact2⟩

end Cert.Proof

end
